-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)) (v6 : (c : Dev Cert.KernelIdeal.nD) → Buf (Elt Ideal) ((c.tc : Thread Cert.KernelIdeal.nD Cert.KernelIdeal.τ).loc Cert.KernelIdeal.main_v8_6)) (v7 : (c : Dev Cert.KernelIdeal.nD) → Buf (Elt Ideal) ((c.tc : Thread Cert.KernelIdeal.nD Cert.KernelIdeal.τ).loc Cert.KernelIdeal.main_v8_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_v8_6) = v6 c
          ∧ r.2.mem ((c.tc : Thread Cert.KernelIdeal.nD Cert.KernelIdeal.τ).loc Cert.KernelIdeal.main_v8_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v118) = v3 c
          ∧ r.2.mem ((c.tc : Thread Cert.ReferenceIdeal.nD Cert.ReferenceIdeal.τ).loc Cert.ReferenceIdeal.main_v119) = v4 c
          ∧ r.2.mem ((c.tc : Thread Cert.ReferenceIdeal.nD Cert.ReferenceIdeal.τ).loc Cert.ReferenceIdeal.main_v109) = v5 c
          ∧ r.2.mem ((c.tc : Thread Cert.ReferenceIdeal.nD Cert.ReferenceIdeal.τ).loc Cert.ReferenceIdeal.main_v85) = v6 c
          ∧ r.2.mem ((c.tc : Thread Cert.ReferenceIdeal.nD Cert.ReferenceIdeal.τ).loc Cert.ReferenceIdeal.main_v120) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v29_0)) (v1 : (c : Dev Cert.Kernel2Ideal.nD) → Buf (Elt Ideal) ((c.tc : Thread Cert.Kernel2Ideal.nD Cert.Kernel2Ideal.τ).loc Cert.Kernel2Ideal.main_v29_1)) (v2 : (c : Dev Cert.Kernel2Ideal.nD) → Buf (Elt Ideal) ((c.tc : Thread Cert.Kernel2Ideal.nD Cert.Kernel2Ideal.τ).loc Cert.Kernel2Ideal.main_v29_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29_0) = v0 c
          ∧ r.2.mem ((c.tc : Thread Cert.Kernel2Ideal.nD Cert.Kernel2Ideal.τ).loc Cert.Kernel2Ideal.main_v29_1) = v1 c
          ∧ r.2.mem ((c.tc : Thread Cert.Kernel2Ideal.nD Cert.Kernel2Ideal.τ).loc Cert.Kernel2Ideal.main_v29_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_v42) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v13)) (v3 : (c : Dev Cert.Kernel4Ideal.nD) → Buf (Elt Ideal) ((c.tc : Thread Cert.Kernel4Ideal.nD Cert.Kernel4Ideal.τ).loc Cert.Kernel4Ideal.main_v16)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v13) = v2 c
          ∧ r.2.mem ((c.tc : Thread Cert.Kernel4Ideal.nD Cert.Kernel4Ideal.τ).loc Cert.Kernel4Ideal.main_v16) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v87) = v0 c
          ∧ r.2.mem ((c.tc : Thread Cert.Reference4Ideal.nD Cert.Reference4Ideal.τ).loc Cert.Reference4Ideal.main_v89) = v1 c
          ∧ r.2.mem ((c.tc : Thread Cert.Reference4Ideal.nD Cert.Reference4Ideal.τ).loc Cert.Reference4Ideal.main_v84) = v2 c
          ∧ r.2.mem ((c.tc : Thread Cert.Reference4Ideal.nD Cert.Reference4Ideal.τ).loc Cert.Reference4Ideal.main_v62) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hPre_finite : Cert.Pre_finite.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
-- ==== Pre_finite.lean ====
abbrev S2x4096x1024 : Shape := ⟨3, ![2, 4096, 1024]⟩
abbrev S2x4096x6672 : Shape := ⟨3, ![2, 4096, 6672]⟩
abbrev S1x1024 : Shape := ⟨2, ![1, 1024]⟩
abbrev S1x2048x1024 : Shape := ⟨3, ![1, 2048, 1024]⟩
abbrev S_ : Shape := ⟨0, ![]⟩

class Facts : Prop where
  bcast_S_S2x4096x1024 : S_.BroadcastsInDim S2x4096x1024 (![] : Fin 0 → Fin S2x4096x1024.rank)
  bcast_S_S2x4096x6672 : S_.BroadcastsInDim S2x4096x6672 (![] : Fin 0 → Fin S2x4096x6672.rank)
  bcast_S_S1x1024 : S_.BroadcastsInDim S1x1024 (![] : Fin 0 → Fin S1x1024.rank)
  bcast_S_S1x2048x1024 : S_.BroadcastsInDim S1x2048x1024 (![] : Fin 0 → Fin S1x2048x1024.rank)

variable [Facts]

def fn_part1 {F : FTy → Type} [FloatOps F] (main_arg6 : FVec F S1x1024 .f32) (main_arg7 : FVec F S1x2048x1024 .f32) (main_v2 : IVec S2x4096x1024 1) (main_v5 : IVec S2x4096x1024 1) (main_v8 : IVec S2x4096x6672 1) (main_v11 : IVec S2x4096x1024 1) (main_v14 : IVec S2x4096x1024 1) (main_v17 : IVec S1x1024 1) : IVec S2x4096x1024 1 × IVec S2x4096x1024 1 × IVec S2x4096x6672 1 × IVec S2x4096x1024 1 × IVec S2x4096x1024 1 × IVec S1x1024 1 × IVec S1x1024 1 × IVec S1x2048x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x2048x1024 .f32 := Host.absf main_arg7
  let main_cst_6 : FVec F S_ .f32 := constant S_ .f32 0x7F800000#32
  let main_v22 : FVec F S1x2048x1024 .f32 := broadcastInDim S1x2048x1024 ![] bcast_S_S1x2048x1024 main_cst_6
  let main_v23 : IVec S1x2048x1024 1 := cmpf .olt main_v21 main_v22
  (main_v2, main_v5, main_v8, main_v11, main_v14, main_v17, main_v20, main_v23)

def fn {F : FTy → Type} [FloatOps F] (main_arg0 : FVec F S2x4096x1024 .f32) (main_arg1 : FVec F S2x4096x1024 .f32) (main_arg2 : FVec F S2x4096x6672 .f32) (main_arg3 : FVec F S2x4096x1024 .f32) (main_arg4 : FVec F S2x4096x1024 .f32) (main_arg5 : FVec F S1x1024 .f32) (main_arg6 : FVec F S1x1024 .f32) (main_arg7 : FVec F S1x2048x1024 .f32) : IVec S2x4096x1024 1 × IVec S2x4096x1024 1 × IVec S2x4096x6672 1 × IVec S2x4096x1024 1 × IVec S2x4096x1024 1 × IVec S1x1024 1 × IVec S1x1024 1 × IVec S1x2048x1024 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S2x4096x1024 .f32 := Host.absf main_arg1
  let main_cst_0 : FVec F S_ .f32 := constant S_ .f32 0x7F800000#32
  let main_v4 : FVec F S2x4096x1024 .f32 := broadcastInDim S2x4096x1024 ![] bcast_S_S2x4096x1024 main_cst_0
  let main_v5 : IVec S2x4096x1024 1 := cmpf .olt main_v3 main_v4
  let main_v6 : FVec F S2x4096x6672 .f32 := Host.absf main_arg2
  let main_cst_1 : FVec F S_ .f32 := constant S_ .f32 0x7F800000#32
  let main_v7 : FVec F S2x4096x6672 .f32 := broadcastInDim S2x4096x6672 ![] bcast_S_S2x4096x6672 main_cst_1
  let main_v8 : IVec S2x4096x6672 1 := cmpf .olt main_v6 main_v7
  let main_v9 : FVec F S2x4096x1024 .f32 := Host.absf main_arg3
  let main_cst_2 : FVec F S_ .f32 := constant S_ .f32 0x7F800000#32
  let main_v10 : FVec F S2x4096x1024 .f32 := broadcastInDim S2x4096x1024 ![] bcast_S_S2x4096x1024 main_cst_2
  let main_v11 : IVec S2x4096x1024 1 := cmpf .olt main_v9 main_v10
  let main_v12 : FVec F S2x4096x1024 .f32 := Host.absf main_arg4
  let main_cst_3 : FVec F S_ .f32 := constant S_ .f32 0x7F800000#32
  let main_v13 : FVec F S2x4096x1024 .f32 := broadcastInDim S2x4096x1024 ![] bcast_S_S2x4096x1024 main_cst_3
  let main_v14 : IVec S2x4096x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_v2 main_v5 main_v8 main_v11 main_v14 main_v17
-- ==== Pre_finite2.lean ====
abbrev S2x4096x16x64 : Shape := ⟨4, ![2, 4096, 16, 64]⟩
abbrev S_ : Shape := ⟨0, ![]⟩

class Facts : Prop where
  bcast_S_S2x4096x16x64 : S_.BroadcastsInDim S2x4096x16x64 (![] : Fin 0 → Fin S2x4096x16x64.rank)

variable [Facts]

def fn {F : FTy → Type} [FloatOps F] (main_arg0 : FVec F S2x4096x16x64 .f32) (main_arg1 : FVec F S2x4096x16x64 .f32) (main_arg2 : FVec F S2x4096x16x64 .f32) (main_arg3 : FVec F S2x4096x16x64 .f32) : IVec S2x4096x16x64 1 × IVec S2x4096x16x64 1 × IVec S2x4096x16x64 1 × IVec S2x4096x16x64 1 :=
  let main_v0 : FVec F S2x4096x16x64 .f32 := Host.absf main_arg0
  let main_cst : FVec F S_ .f32 := constant S_ .f32 0x7F800000#32
  let main_v1 : FVec F S2x4096x16x64 .f32 := broadcastInDim S2x4096x16x64 ![] bcast_S_S2x4096x16x64 main_cst
  let main_v2 : IVec S2x4096x16x64 1 := cmpf .olt main_v0 main_v1
  let main_v3 : FVec F S2x4096x16x64 .f32 := Host.absf main_arg1
  let main_cst_0 : FVec F S_ .f32 := constant S_ .f32 0x7F800000#32
  let main_v4 : FVec F S2x4096x16x64 .f32 := broadcastInDim S2x4096x16x64 ![] bcast_S_S2x4096x16x64 main_cst_0
  let main_v5 : IVec S2x4096x16x64 1 := cmpf .olt main_v3 main_v4
  let main_v6 : FVec F S2x4096x16x64 .f32 := Host.absf main_arg2
  let main_cst_1 : FVec F S_ .f32 := constant S_ .f32 0x7F800000#32
  let main_v7 : FVec F S2x4096x16x64 .f32 := broadcastInDim S2x4096x16x64 ![] bcast_S_S2x4096x16x64 main_cst_1
  let main_v8 : IVec S2x4096x16x64 1 := cmpf .olt main_v6 main_v7
  let main_v9 : FVec F S2x4096x16x64 .f32 := Host.absf main_arg3
  let main_cst_2 : FVec F S_ .f32 := constant S_ .f32 0x7F800000#32
  let main_v10 : FVec F S2x4096x16x64 .f32 := broadcastInDim S2x4096x16x64 ![] bcast_S_S2x4096x16x64 main_cst_2
  let main_v11 : IVec S2x4096x16x64 1 := cmpf .olt main_v9 main_v10
  (main_v2, main_v5, main_v8, main_v11)
-- ==== Pre_finite3.lean ====
abbrev S2x4096x1024 : Shape := ⟨3, ![2, 4096, 1024]⟩
abbrev S1x1024 : Shape := ⟨2, ![1, 1024]⟩
abbrev S1x1024x6672 : Shape := ⟨3, ![1, 1024, 6672]⟩
abbrev S2x4096x6672 : Shape := ⟨3, ![2, 4096, 6672]⟩
abbrev S_ : Shape := ⟨0, ![]⟩

class Facts : Prop where
  bcast_S_S2x4096x1024 : S_.BroadcastsInDim S2x4096x1024 (![] : Fin 0 → Fin S2x4096x1024.rank)
  bcast_S_S1x1024 : S_.BroadcastsInDim S1x1024 (![] : Fin 0 → Fin S1x1024.rank)
  bcast_S_S1x1024x6672 : S_.BroadcastsInDim S1x1024x6672 (![] : Fin 0 → Fin S1x1024x6672.rank)
  bcast_S_S2x4096x6672 : S_.BroadcastsInDim S2x4096x6672 (![] : Fin 0 → Fin S2x4096x6672.rank)

variable [Facts]

def fn {F : FTy → Type} [FloatOps F] (main_arg0 : FVec F S2x4096x1024 .f32) (main_arg1 : FVec F S1x1024 .f32) (main_arg2 : FVec F S1x1024x6672 .f32) (main_arg3 : FVec F S2x4096x6672 .f32) (main_arg4 : FVec F S2x4096x1024 .f32) : IVec S2x4096x1024 1 × IVec S1x1024 1 × IVec S1x1024x6672 1 × IVec S2x4096x6672 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x6672 .f32 := Host.absf main_arg2
  let main_cst_1 : FVec F S_ .f32 := constant S_ .f32 0x7F800000#32
  let main_v7 : FVec F S1x1024x6672 .f32 := broadcastInDim S1x1024x6672 ![] bcast_S_S1x1024x6672 main_cst_1
  let main_v8 : IVec S1x1024x6672 1 := cmpf .olt main_v6 main_v7
  let main_v9 : FVec F S2x4096x6672 .f32 := Host.absf main_arg3
  let main_cst_2 : FVec F S_ .f32 := constant S_ .f32 0x7F800000#32
  let main_v10 : FVec F S2x4096x6672 .f32 := broadcastInDim S2x4096x6672 ![] bcast_S_S2x4096x6672 main_cst_2
  let main_v11 : IVec S2x4096x6672 1 := cmpf .olt main_v9 main_v10
  (main_v2, main_v5, main_v8, main_v11)
-- ==== Pre_finite4.lean ====
abbrev S2x4096x6672 : Shape := ⟨3, ![2, 4096, 6672]⟩
abbrev S1x64 : Shape := ⟨2, ![1, 64]⟩
abbrev S2x4096x16x64 : Shape := ⟨4, ![2, 4096, 16, 64]⟩
abbrev S_ : Shape := ⟨0, ![]⟩

class Facts : Prop where
  bcast_S_S2x4096x6672 : S_.BroadcastsInDim S2x4096x6672 (![] : Fin 0 → Fin S2x4096x6672.rank)
  bcast_S_S1x64 : S_.BroadcastsInDim S1x64 (![] : Fin 0 → Fin S1x64.rank)
  bcast_S_S2x4096x16x64 : S_.BroadcastsInDim S2x4096x16x64 (![] : Fin 0 → Fin S2x4096x16x64.rank)

variable [Facts]

def fn {F : FTy → Type} [FloatOps F] (main_arg0 : FVec F S2x4096x6672 .f32) (main_arg1 : FVec F S1x64 .f32) (main_arg2 : FVec F S1x64 .f32) (main_arg3 : FVec F S2x4096x16x64 .f32) (main_arg4 : FVec F S2x4096x16x64 .f32) : IVec S2x4096x6672 1 × IVec S1x64 1 × IVec S1x64 1 × IVec S2x4096x16x64 1 × IVec S2x4096x16x64 1 :=
  let main_v0 : FVec F S2x4096x6672 .f32 := Host.absf main_arg0
  let main_cst : FVec F S_ .f32 := constant S_ .f32 0x7F800000#32
  let main_v1 : FVec F S2x4096x6672 .f32 := broadcastInDim S2x4096x6672 ![] bcast_S_S2x4096x6672 main_cst
  let main_v2 : IVec S2x4096x6672 1 := cmpf .olt main_v0 main_v1
  let main_v3 : FVec F S1x64 .f32 := Host.absf main_arg1
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S2x4096x16x64 .f32 := Host.absf main_arg3
  let main_cst_2 : FVec F S_ .f32 := constant S_ .f32 0x7F800000#32
  let main_v10 : FVec F S2x4096x16x64 .f32 := broadcastInDim S2x4096x16x64 ![] bcast_S_S2x4096x16x64 main_cst_2
  let main_v11 : IVec S2x4096x16x64 1 := cmpf .olt main_v9 main_v10
  let main_v12 : FVec F S2x4096x16x64 .f32 := Host.absf main_arg4
  let main_cst_3 : FVec F S_ .f32 := constant S_ .f32 0x7F800000#32
  let main_v13 : FVec F S2x4096x16x64 .f32 := broadcastInDim S2x4096x16x64 ![] bcast_S_S2x4096x16x64 main_cst_3
  let main_v14 : IVec S2x4096x16x64 1 := cmpf .olt main_v12 main_v13
  (main_v2, main_v5, main_v8, main_v11, main_v14)
-- ==== Kernel.lean ====
abbrev S2x4096x1024 : Shape := ⟨3, ![2, 4096, 1024]⟩
abbrev S2x4096x6672 : Shape := ⟨3, ![2, 4096, 6672]⟩
abbrev S1x1024 : Shape := ⟨2, ![1, 1024]⟩
abbrev S1x2048x1024 : Shape := ⟨3, ![1, 2048, 1024]⟩
abbrev S8192x6672 : Shape := ⟨2, ![8192, 6672]⟩
abbrev S_ : Shape := ⟨0, ![]⟩
abbrev S8192x7168 : Shape := ⟨2, ![8192, 7168]⟩
abbrev S8192x1024 : Shape := ⟨2, ![8192, 1024]⟩
abbrev S2048x1024 : Shape := ⟨2, ![2048, 1024]⟩
abbrev S8192x2048 : Shape := ⟨2, ![8192, 2048]⟩
abbrev S1x128 : Shape := ⟨2, ![1, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x1024 : Shape := ⟨2, ![1024, 1024]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 26
  | .vmem => 27
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S2x4096x6672, .f32⟩
  | .hbm, ⟨3, _⟩ => ⟨S2x4096x1024, .f32⟩
  | .hbm, ⟨4, _⟩ => ⟨S2x4096x1024, .f32⟩
  | .hbm, ⟨5, _⟩ => ⟨S1x1024, .f32⟩
  | .hbm, ⟨6, _⟩ => ⟨S1x1024, .f32⟩
  | .hbm, ⟨7, _⟩ => ⟨S1x2048x1024, .f32⟩
  | .hbm, ⟨8, _⟩ => ⟨S8192x6672, .f32⟩
  | .hbm, ⟨9, _⟩ => ⟨S_, .i32⟩
  | .hbm, ⟨10, _⟩ => ⟨S_, .f32⟩
  | .hbm, ⟨11, _⟩ => ⟨S8192x7168, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S2048x1024, .f32⟩
  | .hbm, ⟨17, _⟩ => ⟨S2048x1024, .bf16⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2048, .bf16⟩
  | .hbm, ⟨22, _⟩ => ⟨S2048x1024, .f32⟩
  | .hbm, ⟨23, _⟩ => ⟨S1x1024, .f32⟩
  | .hbm, ⟨24, _⟩ => ⟨S1x1024, .f32⟩
  | .hbm, ⟨25, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S2048x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x2048, .bf16⟩
  | .local _ .vmem, ⟨22, _⟩ => ⟨S256x2048, .bf16⟩
  | .local _ .vmem, ⟨23, _⟩ => ⟨S2048x1024, .f32⟩
  | .local _ .vmem, ⟨24, _⟩ => ⟨S1x1024, .f32⟩
  | .local _ .vmem, ⟨25, _⟩ => ⟨S1x1024, .f32⟩
  | .local _ .vmem, ⟨26, _⟩ => ⟨S1x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v8_4 : Ref sig .tc := ⟨.hbm, 22, rfl⟩
abbrev main_v8_5 : Ref sig .tc := ⟨.hbm, 23, rfl⟩
abbrev main_v8_6 : Ref sig .tc := ⟨.hbm, 24, rfl⟩
abbrev main_v8_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2048x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S2x4096x1024 : Shape := ⟨3, ![2, 4096, 1024]⟩
abbrev S2x4096x6672 : Shape := ⟨3, ![2, 4096, 6672]⟩
abbrev S1x1024 : Shape := ⟨2, ![1, 1024]⟩
abbrev S1x2048x1024 : Shape := ⟨3, ![1, 2048, 1024]⟩
abbrev S_ : Shape := ⟨0, ![]⟩
abbrev S1024 : Shape := ⟨1, ![1024]⟩
abbrev S2x4096 : Shape := ⟨2, ![2, 4096]⟩
abbrev S2x4096x1 : Shape := ⟨3, ![2, 4096, 1]⟩
abbrev S1x1x1024 : Shape := ⟨3, ![1, 1, 1024]⟩
abbrev S2x4096x2048 : Shape := ⟨3, ![2, 4096, 2048]⟩
abbrev S2048x1024 : Shape := ⟨2, ![2048, 1024]⟩
abbrev S1024x2048 : Shape := ⟨2, ![1024, 2048]⟩
abbrev S8192x1024 : Shape := ⟨2, ![8192, 1024]⟩
abbrev S8192x2048 : Shape := ⟨2, ![8192, 2048]⟩
abbrev S1x128 : Shape := ⟨2, ![1, 128]⟩

abbrev nBuf : Space → Nat
  | .hbm => 185
  | .vmem => 0
  | .smem => 0
  | _ => 0

abbrev hbmTy0_0 (i : Nat) : BufTy := match i % 128 with
  | 0 => ⟨S2x4096x1024, .f32⟩
  | 1 => ⟨S2x4096x1024, .f32⟩
  | 2 => ⟨S2x4096x6672, .f32⟩
  | 3 => ⟨S2x4096x1024, .f32⟩
  | 4 => ⟨S2x4096x1024, .f32⟩
  | 5 => ⟨S1x1024, .f32⟩
  | 6 => ⟨S1x1024, .f32⟩
  | 7 => ⟨S1x2048x1024, .f32⟩
  | 8 => ⟨S2x4096x1024, .f32⟩
  | 9 => ⟨S2x4096x1024, .f32⟩
  | 10 => ⟨S2x4096x1024, .f32⟩
  | 11 => ⟨S2x4096x1024, .f32⟩
  | 12 => ⟨S_, .f32⟩
  | 13 => ⟨S2x4096x1024, .f32⟩
  | 14 => ⟨S2x4096x1024, .f32⟩
  | 15 => ⟨S_, .f32⟩
  | 16 => ⟨S2x4096x1024, .f32⟩
  | 17 => ⟨S2x4096x1024, .f32⟩
  | 18 => ⟨S_, .f32⟩
  | 19 => ⟨S2x4096x1024, .f32⟩
  | 20 => ⟨S2x4096x1024, .f32⟩
  | 21 => ⟨S2x4096x1024, .f32⟩
  | 22 => ⟨S2x4096x1024, .f32⟩
  | 23 => ⟨S2x4096x1024, .f32⟩
  | 24 => ⟨S1024, .f32⟩
  | 25 => ⟨S2x4096x1024, .f32⟩
  | 26 => ⟨S_, .f32⟩
  | 27 => ⟨S2x4096, .f32⟩
  | 28 => ⟨S2x4096x1, .f32⟩
  | 29 => ⟨S_, .f32⟩
  | 30 => ⟨S2x4096x1, .f32⟩
  | 31 => ⟨S2x4096x1, .f32⟩
  | 32 => ⟨S_, .f32⟩
  | 33 => ⟨S2x4096x1, .f32⟩
  | 34 => ⟨S2x4096x1, .f32⟩
  | 35 => ⟨S2x4096x1, .f32⟩
  | 36 => ⟨S2x4096x1, .f32⟩
  | 37 => ⟨S_, .f32⟩
  | 38 => ⟨S2x4096x1, .f32⟩
  | 39 => ⟨S2x4096x1, .f32⟩
  | 40 => ⟨S2x4096x1024, .f32⟩
  | 41 => ⟨S2x4096x1024, .f32⟩
  | 42 => ⟨S1x1x1024, .f32⟩
  | 43 => ⟨S2x4096x1024, .f32⟩
  | 44 => ⟨S2x4096x1024, .f32⟩
  | 45 => ⟨S2x4096x1024, .f32⟩
  | 46 => ⟨S2x4096x1024, .f32⟩
  | 47 => ⟨S_, .f32⟩
  | 48 => ⟨S2x4096x1024, .f32⟩
  | 49 => ⟨S2x4096x1024, .f32⟩
  | 50 => ⟨S_, .f32⟩
  | 51 => ⟨S2x4096x1024, .f32⟩
  | 52 => ⟨S2x4096x1024, .f32⟩
  | 53 => ⟨S_, .f32⟩
  | 54 => ⟨S2x4096x1024, .f32⟩
  | 55 => ⟨S2x4096x1024, .f32⟩
  | 56 => ⟨S2x4096x1024, .f32⟩
  | 57 => ⟨S2x4096x1024, .f32⟩
  | 58 => ⟨S2x4096x1024, .f32⟩
  | 59 => ⟨S1024, .f32⟩
  | 60 => ⟨S2x4096x1024, .f32⟩
  | 61 => ⟨S_, .f32⟩
  | 62 => ⟨S2x4096, .f32⟩
  | 63 => ⟨S2x4096x1, .f32⟩
  | 64 => ⟨S_, .f32⟩
  | 65 => ⟨S2x4096x1, .f32⟩
  | 66 => ⟨S2x4096x1, .f32⟩
  | 67 => ⟨S_, .f32⟩
  | 68 => ⟨S2x4096x1, .f32⟩
  | 69 => ⟨S2x4096x1, .f32⟩
  | 70 => ⟨S2x4096x1, .f32⟩
  | 71 => ⟨S2x4096x1, .f32⟩
  | 72 => ⟨S_, .f32⟩
  | 73 => ⟨S2x4096x1, .f32⟩
  | 74 => ⟨S2x4096x1, .f32⟩
  | 75 => ⟨S2x4096x1024, .f32⟩
  | 76 => ⟨S2x4096x1024, .f32⟩
  | 77 => ⟨S1x1x1024, .f32⟩
  | 78 => ⟨S2x4096x1024, .f32⟩
  | 79 => ⟨S2x4096x1024, .f32⟩
  | 80 => ⟨S2x4096x2048, .f32⟩
  | 81 => ⟨S2048x1024, .f32⟩
  | 82 => ⟨S2x4096x1024, .f32⟩
  | 83 => ⟨S2x4096x1024, .f32⟩
  | 84 => ⟨S2x4096x1024, .f32⟩
  | 85 => ⟨S2x4096x1024, .f32⟩
  | 86 => ⟨S_, .f32⟩
  | 87 => ⟨S2x4096x1024, .f32⟩
  | 88 => ⟨S2x4096x1024, .f32⟩
  | 89 => ⟨S_, .f32⟩
  | 90 => ⟨S2x4096, .f32⟩
  | 91 => ⟨S_, .f32⟩
  | 92 => ⟨S2x4096, .f32⟩
  | 93 => ⟨S2x4096, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S2x4096, .f32⟩
  | 102 => ⟨S_, .f32⟩
  | 103 => ⟨S2x4096, .f32⟩
  | 104 => ⟨S2x4096, .f32⟩
  | 105 => ⟨S2x4096x1024, .f32⟩
  | 106 => ⟨S2x4096x1024, .f32⟩
  | 107 => ⟨S1024x2048, .f32⟩
  | 108 => ⟨S2048x1024, .f32⟩
  | 109 => ⟨S2x4096x2048, .f32⟩
  | 110 => ⟨S1x2048x1024, .f32⟩
  | 111 => ⟨S2x4096x1024, .f32⟩
  | 112 => ⟨S2x4096x1024, .f32⟩
  | 113 => ⟨S2x4096x1024, .f32⟩
  | 114 => ⟨S_, .f32⟩
  | 115 => ⟨S1024, .f32⟩
  | 116 => ⟨S1x1x1024, .f32⟩
  | 117 => ⟨S2x4096x1024, .f32⟩
  | 118 => ⟨S2x4096x1024, .f32⟩
  | 119 => ⟨S_, .f32⟩
  | 120 => ⟨S1024, .f32⟩
  | 121 => ⟨S2x4096x1024, .f32⟩
  | 122 => ⟨S_, .f32⟩
  | 123 => ⟨S2x4096, .f32⟩
  | 124 => ⟨S2x4096x1, .f32⟩
  | 125 => ⟨S2x4096x1024, .f32⟩
  | 126 => ⟨S2x4096x1024, .f32⟩
  | 127 => ⟨S2x4096x1, .f32⟩
  | _ => ⟨S2x4096x1024, .f32⟩

abbrev hbmTy0_1 (i : Nat) : BufTy := match i % 128 with
  | 0 => ⟨S_, .f32⟩
  | 1 => ⟨S2x4096x1, .f32⟩
  | 2 => ⟨S2x4096x1, .f32⟩
  | 3 => ⟨S_, .f32⟩
  | 4 => ⟨S2x4096, .f32⟩
  | 5 => ⟨S2x4096x1024, .f32⟩
  | 6 => ⟨S2x4096x1024, .f32⟩
  | 7 => ⟨S2x4096x1024, .f32⟩
  | 8 => ⟨S2x4096x1024, .f32⟩
  | 9 => ⟨S2x4096x1024, .f32⟩
  | 10 => ⟨S1x1024, .f32⟩
  | 11 => ⟨S2x4096x1024, .f32⟩
  | 12 => ⟨S2x4096x1024, .f32⟩
  | 13 => ⟨S2x4096x1024, .f32⟩
  | 14 => ⟨S2x4096x1024, .f32⟩
  | 15 => ⟨S2x4096x1024, .f32⟩
  | 16 => ⟨S2x4096x1024, .f32⟩
  | 17 => ⟨S2x4096x1024, .f32⟩
  | 18 => ⟨S_, .f32⟩
  | 19 => ⟨S1024, .f32⟩
  | 20 => ⟨S1x1x1024, .f32⟩
  | 21 => ⟨S2x4096x1024, .f32⟩
  | 22 => ⟨S2x4096x1024, .f32⟩
  | 23 => ⟨S_, .f32⟩
  | 24 => ⟨S1024, .f32⟩
  | 25 => ⟨S2x4096x1024, .f32⟩
  | 26 => ⟨S_, .f32⟩
  | 27 => ⟨S2x4096, .f32⟩
  | 28 => ⟨S2x4096x1, .f32⟩
  | 29 => ⟨S2x4096x1024, .f32⟩
  | 30 => ⟨S2x4096x1024, .f32⟩
  | 31 => ⟨S2x4096x1, .f32⟩
  | 32 => ⟨S_, .f32⟩
  | 33 => ⟨S2x4096x1, .f32⟩
  | 34 => ⟨S2x4096x1, .f32⟩
  | 35 => ⟨S_, .f32⟩
  | 36 => ⟨S2x4096, .f32⟩
  | 37 => ⟨S2x4096x1024, .f32⟩
  | 38 => ⟨S2x4096x1024, .f32⟩
  | 39 => ⟨S2x4096x1024, .f32⟩
  | 40 => ⟨S2x4096x1024, .f32⟩
  | 41 => ⟨S2x4096x1024, .f32⟩
  | 42 => ⟨S1x1024, .f32⟩
  | 43 => ⟨S2x4096x1024, .f32⟩
  | 44 => ⟨S2x4096x1024, .f32⟩
  | 45 => ⟨S2x4096x1024, .f32⟩
  | 46 => ⟨S2x4096x1024, .f32⟩
  | 47 => ⟨S2x4096x1024, .f32⟩
  | 48 => ⟨S2x4096x1024, .f32⟩
  | 49 => ⟨S8192x1024, .f32⟩
  | 50 => ⟨S8192x1024, .f32⟩
  | 51 => ⟨S8192x1024, .f32⟩
  | 52 => ⟨S2x4096x2048, .f32⟩
  | 53 => ⟨S8192x2048, .f32⟩
  | 54 => ⟨S8192x2048, .bf16⟩
  | 55 => ⟨S2048x1024, .f32⟩
  | 56 => ⟨S1x128, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v2_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v2_1 : Ref sig .tc := ⟨.hbm, 21, rfl⟩
abbrev main_v2_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst : Ref sig .tc := ⟨.hbm, 26, rfl⟩
abbrev main_v6 : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_cst_1 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_v21_2 : Ref sig .tc := ⟨.hbm, 52, rfl⟩
abbrev main_call1_cst_1 : Ref sig .tc := ⟨.hbm, 53, rfl⟩
abbrev main_call1_v6 : Ref sig .tc := ⟨.hbm, 54, rfl⟩
abbrev main_call1_v7 : Ref sig .tc := ⟨.hbm, 55, rfl⟩
abbrev main_v21_1 : Ref sig .tc := ⟨.hbm, 56, rfl⟩
abbrev main_v21_0 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_3 : Ref sig .tc := ⟨.hbm, 61, rfl⟩
abbrev main_v25 : Ref sig .tc := ⟨.hbm, 62, rfl⟩
abbrev main_v26 : Ref sig .tc := ⟨.hbm, 63, rfl⟩
abbrev main_cst_4 : Ref sig .tc := ⟨.hbm, 64, rfl⟩
abbrev main_v27 : Ref sig .tc := ⟨.hbm, 65, rfl⟩
abbrev main_v28 : Ref sig .tc := ⟨.hbm, 66, rfl⟩
abbrev main_cst_5 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_6 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_7 : Ref sig .tc := ⟨.hbm, 86, rfl⟩
abbrev main_v46 : Ref sig .tc := ⟨.hbm, 87, rfl⟩
abbrev main_v47 : Ref sig .tc := ⟨.hbm, 88, rfl⟩
abbrev main_cst_8 : Ref sig .tc := ⟨.hbm, 89, rfl⟩
abbrev main_v48 : Ref sig .tc := ⟨.hbm, 90, rfl⟩
abbrev main_cst_9 : Ref sig .tc := ⟨.hbm, 91, rfl⟩
abbrev main_v49 : Ref sig .tc := ⟨.hbm, 92, rfl⟩
abbrev main_v50 : Ref sig .tc := ⟨.hbm, 93, rfl⟩
abbrev main_cst_10 : Ref sig .tc := ⟨.hbm, 94, rfl⟩
abbrev main_v51 : Ref sig .tc := ⟨.hbm, 95, rfl⟩
abbrev main_cst_11 : Ref sig .tc := ⟨.hbm, 96, rfl⟩
abbrev main_v52 : Ref sig .tc := ⟨.hbm, 97, rfl⟩
abbrev main_cst_12 : Ref sig .tc := ⟨.hbm, 98, rfl⟩
abbrev main_cst_13 : Ref sig .tc := ⟨.hbm, 99, rfl⟩
abbrev main_v53 : Ref sig .tc := ⟨.hbm, 100, rfl⟩
abbrev main_v54 : Ref sig .tc := ⟨.hbm, 101, rfl⟩
abbrev main_cst_14 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_15 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_16 : Ref sig .tc := ⟨.hbm, 119, rfl⟩
abbrev main_v70 : Ref sig .tc := ⟨.hbm, 120, rfl⟩
abbrev main_v71 : Ref sig .tc := ⟨.hbm, 121, rfl⟩
abbrev main_cst_17 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_18 : Ref sig .tc := ⟨.hbm, 128, rfl⟩
abbrev main_v77 : Ref sig .tc := ⟨.hbm, 129, rfl⟩
abbrev main_v78 : Ref sig .tc := ⟨.hbm, 130, rfl⟩
abbrev main_cst_19 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_call2_v0 : Ref sig .tc := ⟨.hbm, 141, rfl⟩
abbrev main_call2_v1 : Ref sig .tc := ⟨.hbm, 142, rfl⟩
abbrev main_call2_v2 : Ref sig .tc := ⟨.hbm, 143, rfl⟩
abbrev main_v88 : Ref sig .tc := ⟨.hbm, 144, rfl⟩
abbrev main_v89 : Ref sig .tc := ⟨.hbm, 145, rfl⟩
abbrev main_cst_20 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_21 : Ref sig .tc := ⟨.hbm, 151, rfl⟩
abbrev main_v94 : Ref sig .tc := ⟨.hbm, 152, rfl⟩
abbrev main_v95 : Ref sig .tc := ⟨.hbm, 153, rfl⟩
abbrev main_cst_22 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_cst_23 : Ref sig .tc := ⟨.hbm, 160, rfl⟩
abbrev main_v101 : Ref sig .tc := ⟨.hbm, 161, rfl⟩
abbrev main_v102 : Ref sig .tc := ⟨.hbm, 162, rfl⟩
abbrev main_cst_24 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_call3_v0 : Ref sig .tc := ⟨.hbm, 173, rfl⟩
abbrev main_call3_v1 : Ref sig .tc := ⟨.hbm, 174, rfl⟩
abbrev main_call3_v2 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩

abbrev nD : Nat := 1
abbrev τ : Topo := Topo.v7x

variable {F : FTy → Type} [FloatOps F]
-- ==== Kernel2.lean ====
abbrev S2x4096x16x64 : Shape := ⟨4, ![2, 4096, 16, 64]⟩
abbrev S_ : Shape := ⟨0, ![]⟩
abbrev S8192x1024 : Shape := ⟨2, ![8192, 1024]⟩
abbrev S2x4096x8x128 : Shape := ⟨4, ![2, 4096, 8, 128]⟩
abbrev S2x8x128x4096 : Shape := ⟨4, ![2, 8, 128, 4096]⟩
abbrev S2x16x4096x4096 : Shape := ⟨4, ![2, 16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x4096 : Shape := ⟨3, ![2, 16, 4096]⟩
abbrev S2x16x16x1x256 : Shape := ⟨5, ![2, 16, 16, 1, 256]⟩
abbrev S2x16x16x8x256 : Shape := ⟨5, ![2, 16, 16, 8, 256]⟩
abbrev S8x16 : Shape := ⟨2, ![8, 16]⟩
abbrev S256x256 : Shape := ⟨2, ![256, 256]⟩
abbrev S4096x256 : Shape := ⟨2, ![4096, 256]⟩
abbrev S1x2x128x4096 : Shape := ⟨4, ![1, 2, 128, 4096]⟩
abbrev S1x4x1x8x256 : Shape := ⟨5, ![1, 4, 1, 8, 256]⟩
abbrev S1x1x1x8x256 : Shape := ⟨5, ![1, 1, 1, 8, 256]⟩
abbrev S8x256 : Shape := ⟨2, ![8, 256]⟩
abbrev S1x256 : Shape := ⟨2, ![1, 256]⟩
abbrev S64x256 : Shape := ⟨2, ![64, 256]⟩
abbrev S1x1 : Shape := ⟨2, ![1, 1]⟩
abbrev S1x1x64x256 : Shape := ⟨4, ![1, 1, 64, 256]⟩

abbrev nBuf : Space → Nat
  | .hbm => 59
  | .vmem => 19
  | .smem => 1
  | _ => 0

abbrev bufTy : (tb : Table) → Fin (tcTables nBuf tb) → BufTy
  | .hbm, ⟨0, _⟩ => ⟨S2x4096x16x64, .f32⟩
  | .hbm, ⟨1, _⟩ => ⟨S2x4096x16x64, .f32⟩
  | .hbm, ⟨2, _⟩ => ⟨S2x4096x16x64, .f32⟩
  | .hbm, ⟨3, _⟩ => ⟨S2x4096x16x64, .f32⟩
  | .hbm, ⟨4, _⟩ => ⟨S_, .f32⟩
  | .hbm, ⟨5, _⟩ => ⟨S2x4096x16x64, .f32⟩
  | .hbm, ⟨6, _⟩ => ⟨S2x4096x16x64, .f32⟩
  | .hbm, ⟨7, _⟩ => ⟨S8192x1024, .f32⟩
  | .hbm, ⟨8, _⟩ => ⟨S8192x1024, .bf16⟩
  | .hbm, ⟨9, _⟩ => ⟨S2x4096x8x128, .f32⟩
  | .hbm, ⟨10, _⟩ => ⟨S2x8x128x4096, .f32⟩
  | .hbm, ⟨11, _⟩ => ⟨S2x8x128x4096, .bf16⟩
  | .hbm, ⟨12, _⟩ => ⟨S2x16x4096x4096, .f32⟩
  | .hbm, ⟨13, _⟩ => ⟨S_, .f32⟩
  | .hbm, ⟨14, _⟩ => ⟨S2x16x4096x4096, .f32⟩
  | .hbm, ⟨15, _⟩ => ⟨S2x16x4096x4096, .f32⟩
  | .hbm, ⟨16, _⟩ => ⟨S4096, .i32⟩
  | .hbm, ⟨17, _⟩ => ⟨S1x4096, .i32⟩
  | .hbm, ⟨18, _⟩ => ⟨S4096, .i32⟩
  | .hbm, ⟨19, _⟩ => ⟨S4096x1, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S2x16x4096x4096, .f32⟩
  | .hbm, ⟨24, _⟩ => ⟨S2x16x4096x4096, .f32⟩
  | .hbm, ⟨25, _⟩ => ⟨S_, .f32⟩
  | .hbm, ⟨26, _⟩ => ⟨S2x16x4096x4096, .f32⟩
  | .hbm, ⟨27, _⟩ => ⟨S2x16x4096x4096, .f32⟩
  | .hbm, ⟨28, _⟩ => ⟨S2x16x4096x4096, .f32⟩
  | .hbm, ⟨29, _⟩ => ⟨S2x16x4096x4096, .f32⟩
  | .hbm, ⟨30, _⟩ => ⟨S2x16x4096x4096, .i1⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .f32⟩
  | .hbm, ⟨35, _⟩ => ⟨S2x16x4096x4096, .f32⟩
  | .hbm, ⟨36, _⟩ => ⟨S2x16x4096x4096, .f32⟩
  | .hbm, ⟨37, _⟩ => ⟨S2x16x4096x4096, .f32⟩
  | .hbm, ⟨38, _⟩ => ⟨S2x16x4096x4096, .f32⟩
  | .hbm, ⟨39, _⟩ => ⟨S2x16x4096x4096, .f32⟩
  | .hbm, ⟨40, _⟩ => ⟨S_, .f32⟩
  | .hbm, ⟨41, _⟩ => ⟨S_, .f32⟩
  | .hbm, ⟨42, _⟩ => ⟨S2x16x4096x4096, .i1⟩
  | .hbm, ⟨43, _⟩ => ⟨S2x16x4096x4096, .f32⟩
  | .hbm, ⟨44, _⟩ => ⟨S2x16x4096x4096, .f32⟩
  | .hbm, ⟨45, _⟩ => ⟨S_, .f32⟩
  | .hbm, ⟨46, _⟩ => ⟨S2x16x4096, .f32⟩
  | .hbm, ⟨47, _⟩ => ⟨S2x16x16x1x256, .f32⟩
  | .hbm, ⟨48, _⟩ => ⟨S2x16x16x8x256, .f32⟩
  | .hbm, ⟨49, _⟩ => ⟨S_, .f32⟩
  | .hbm, ⟨50, _⟩ => ⟨S8x16, .f32⟩
  | .hbm, ⟨51, _⟩ => ⟨S8192x1024, .f32⟩
  | .hbm, ⟨52, _⟩ => ⟨S8192x1024, .bf16⟩
  | .hbm, ⟨53, _⟩ => ⟨S8192x1024, .f32⟩
  | .hbm, ⟨54, _⟩ => ⟨S8192x1024, .bf16⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .bf16⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S1x2x128x4096, .bf16⟩
  | .local _ .vmem, ⟨5, _⟩ => ⟨S1x2x128x4096, .bf16⟩
  | .local _ .vmem, ⟨6, _⟩ => ⟨S4096x256, .bf16⟩
  | .local _ .vmem, ⟨7, _⟩ => ⟨S4096x256, .bf16⟩
  | .local _ .vmem, ⟨8, _⟩ => ⟨S1x4x1x8x256, .f32⟩
  | .local _ .vmem, ⟨9, _⟩ => ⟨S1x4x1x8x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S4096x256, .f32⟩
  | .local _ .vmem, ⟨15, _⟩ => ⟨S4096x256, .f32⟩
  | .local _ .vmem, ⟨16, _⟩ => ⟨S4096x256, .bf16⟩
  | .local _ .vmem, ⟨17, _⟩ => ⟨S4096x256, .bf16⟩
  | .local _ .vmem, ⟨18, _⟩ => ⟨S4096x256, .f32⟩
  | .local _ .smem, ⟨0, _⟩ => ⟨S8x16, .f32⟩
  | _, _ => ⟨S2x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v18 : Ref sig .tc := ⟨.hbm, 39, rfl⟩
abbrev main_cst_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29_0 : Ref sig .tc := ⟨.hbm, 56, rfl⟩
abbrev main_v29_1 : Ref sig .tc := ⟨.hbm, 57, rfl⟩
abbrev main_v29_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 4, 16], ![false, false, false]⟩

def k0_off1 (i : grid0.Coords) : Fin 2 → Nat :=
  let arg0 : BitVec 32 := BitVec.ofNat 32 (i 0).val
  let c4_i32 : BitVec 32 := 4#32
  let v114 : BitVec 32 := Scalar.muli arg0 c4_i32
  let arg1 : BitVec 32 := BitVec.ofNat 32 (i 1).val
  let v115 : BitVec 32 := Scalar.addi v114 arg1
  let v116 : Index := Scalar.indexCast v115
  let arg2 : BitVec 32 := BitVec.ofNat 32 (i 2).val
  let v117 : Index := Scalar.indexCast arg2
  ![v116.toNat, v117.toNat]
def k0_mult1 (arg14 : BitVec 32) : BitVec 32 :=
  let c256_i32_232 : BitVec 32 := 256#32
  let v621 : BitVec 32 := Scalar.muli arg14 c256_i32_232
  v621

def k0_mult2 (arg14 : BitVec 32) : BitVec 32 :=
  let c1_i32_229 : BitVec 32 := 1#32
  let v617 : BitVec 32 := Scalar.addi arg14 c1_i32_229
  let c256_i32_233 : BitVec 32 := 256#32
  let v623 : BitVec 32 := Scalar.muli v617 c256_i32_233
  v623
def k0_off2 (arg14 : BitVec 32) : Fin 2 → Nat :=
  let c256_i32_232 : BitVec 32 := 256#32
  let v621 : BitVec 32 := Scalar.muli arg14 c256_i32_232
  let v622 : BitVec 32 := v621
  let v625 : Index := Scalar.indexCast v622
  let c0_234 : Index := 0#32
  ![v625.toNat, 0]
def k0_off3 (arg14 : BitVec 32) : Fin 2 → Nat :=
  let c1_i32_229 : BitVec 32 := 1#32
  let v617 : BitVec 32 := Scalar.addi arg14 c1_i32_229
  let c256_i32_233 : BitVec 32 := 256#32
  let v623 : BitVec 32 := Scalar.muli v617 c256_i32_233
  let v624 : BitVec 32 := v623
  let v641 : Index := Scalar.indexCast v624
  let c0_242 : Index := 0#32
  ![v641.toNat, 0]
def k0_off4 (arg14 : BitVec 32) : Fin 4 → Nat :=
  let c0_330 : Index := 0#32
  let c0_331 : Index := 0#32
  let c0_332 : Index := 0#32
  let c256_i32_232 : BitVec 32 := 256#32
  let v621 : BitVec 32 := Scalar.muli arg14 c256_i32_232
  let v622 : BitVec 32 := v621
  let v980 : Index := Scalar.indexCast v622
  ![0, 0, 0, v980.toNat]
def k0_off5 (arg14 : BitVec 32) : Fin 4 → Nat :=
  let c0_334 : Index := 0#32
  let c0_335 : Index := 0#32
  let c64_336 : Index := 64#32
  let c256_i32_232 : BitVec 32 := 256#32
  let v621 : BitVec 32 := Scalar.muli arg14 c256_i32_232
  let v622 : BitVec 32 := v621
  let v985 : Index := Scalar.indexCast v622
  ![0, 0, 64, v985.toNat]
def k0_off6 (arg14 : BitVec 32) : Fin 4 → Nat :=
  let c0_338 : Index := 0#32
  let c1_339 : Index := 1#32
  let c0_340 : Index := 0#32
  let c256_i32_232 : BitVec 32 := 256#32
  let v621 : BitVec 32 := Scalar.muli arg14 c256_i32_232
  let v622 : BitVec 32 := v621
  let v990 : Index := Scalar.indexCast v622
  ![0, 1, 0, v990.toNat]
def k0_off7 (arg14 : BitVec 32) : Fin 4 → Nat :=
  let c0_342 : Index := 0#32
  let c1_343 : Index := 1#32
  let c64_344 : Index := 64#32
  let c256_i32_232 : BitVec 32 := 256#32
  let v621 : BitVec 32 := Scalar.muli arg14 c256_i32_232
  let v622 : BitVec 32 := v621
  let v995 : Index := Scalar.indexCast v622
  ![0, 1, 64, v995.toNat]
def k0_off8 (arg14 : BitVec 32) : Fin 4 → Nat :=
  let c0_364 : Index := 0#32
  let c0_365 : Index := 0#32
  let c0_366 : Index := 0#32
  let c1_i32_229 : BitVec 32 := 1#32
  let v617 : BitVec 32 := Scalar.addi arg14 c1_i32_229
  let c256_i32_233 : BitVec 32 := 256#32
  let v623 : BitVec 32 := Scalar.muli v617 c256_i32_233
  let v624 : BitVec 32 := v623
  let v1079 : Index := Scalar.indexCast v624
  ![0, 0, 0, v1079.toNat]
def k0_off9 (arg14 : BitVec 32) : Fin 4 → Nat :=
  let c0_369 : Index := 0#32
  let c0_370 : Index := 0#32
  let c64_371 : Index := 64#32
  let c1_i32_229 : BitVec 32 := 1#32
  let v617 : BitVec 32 := Scalar.addi arg14 c1_i32_229
  let c256_i32_233 : BitVec 32 := 256#32
  let v623 : BitVec 32 := Scalar.muli v617 c256_i32_233
  let v624 : BitVec 32 := v623
  let v1086 : Index := Scalar.indexCast v624
  ![0, 0, 64, v1086.toNat]
def k0_off10 (arg14 : BitVec 32) : Fin 4 → Nat :=
  let c0_374 : Index := 0#32
  let c1_375 : Index := 1#32
  let c0_376 : Index := 0#32
  let c1_i32_229 : BitVec 32 := 1#32
  let v617 : BitVec 32 := Scalar.addi arg14 c1_i32_229
  let c256_i32_233 : BitVec 32 := 256#32
  let v623 : BitVec 32 := Scalar.muli v617 c256_i32_233
  let v624 : BitVec 32 := v623
  let v1093 : Index := Scalar.indexCast v624
  ![0, 1, 0, v1093.toNat]
def k0_off11 (arg14 : BitVec 32) : Fin 4 → Nat :=
  let c0_379 : Index := 0#32
  let c1_380 : Index := 1#32
  let c64_381 : Index := 64#32
  let c1_i32_229 : BitVec 32 := 1#32
  let v617 : BitVec 32 := Scalar.addi arg14 c1_i32_229
  let c256_i32_233 : BitVec 32 := 256#32
  let v623 : BitVec 32 := Scalar.muli v617 c256_i32_233
  let v624 : BitVec 32 := v623
  let v1100 : Index := Scalar.indexCast v624
  ![0, 1, 64, v1100.toNat]

def k0_chk1 (arg14 : BitVec 32) : Prop :=
  (256 ∣ (k0_mult1 arg14).toNat) ∧
  (256 ∣ (k0_mult2 arg14).toNat) ∧
  (∀ a, (k0_off2 arg14) a + S256x256.size a ≤ S4096x256.size a) ∧
  (∀ a, (k0_off3 arg14) a + S256x256.size a ≤ S4096x256.size a) ∧
  (∀ a, (k0_off4 arg14) a + S1x1x64x256.size a ≤ S1x2x128x4096.size a) ∧
  (∀ a, (k0_off5 arg14) a + S1x1x64x256.size a ≤ S1x2x128x4096.size a) ∧
  (∀ a, (k0_off6 arg14) a + S1x1x64x256.size a ≤ S1x2x128x4096.size a) ∧
  (∀ a, (k0_off7 arg14) a + S1x1x64x256.size a ≤ S1x2x128x4096.size a) ∧
  (∀ a, (k0_off8 arg14) a + S1x1x64x256.size a ≤ S1x2x128x4096.size a) ∧
  (∀ a, (k0_off9 arg14) a + S1x1x64x256.size a ≤ S1x2x128x4096.size a) ∧
  (∀ a, (k0_off10 arg14) a + S1x1x64x256.size a ≤ S1x2x128x4096.size a) ∧
  (∀ a, (k0_off11 arg14) a + S1x1x64x256.size a ≤ S1x2x128x4096.size a)
theorem k0_mult1_dvd : ∀ (arg14 : BitVec 32) (k0_hw1 : k0_chk1 arg14), 256 ∣ (k0_mult1 arg14).toNat := fun arg14 k0_hw1 => k0_hw1.1
theorem k0_mult2_dvd : ∀ (arg14 : BitVec 32) (k0_hw1 : k0_chk1 arg14), 256 ∣ (k0_mult2 arg14).toNat := fun arg14 k0_hw1 => k0_hw1.2.1
theorem k0_off2_inb : ∀ (arg14 : BitVec 32) (k0_hw1 : k0_chk1 arg14), ∀ a, (k0_off2 arg14) a + S256x256.size a ≤ S4096x256.size a := fun arg14 k0_hw1 => k0_hw1.2.2.1
theorem k0_off3_inb : ∀ (arg14 : BitVec 32) (k0_hw1 : k0_chk1 arg14), ∀ a, (k0_off3 arg14) a + S256x256.size a ≤ S4096x256.size a := fun arg14 k0_hw1 => k0_hw1.2.2.2.1
theorem k0_off4_inb : ∀ (arg14 : BitVec 32) (k0_hw1 : k0_chk1 arg14), ∀ a, (k0_off4 arg14) a + S1x1x64x256.size a ≤ S1x2x128x4096.size a := fun arg14 k0_hw1 => k0_hw1.2.2.2.2.1
theorem k0_off5_inb : ∀ (arg14 : BitVec 32) (k0_hw1 : k0_chk1 arg14), ∀ a, (k0_off5 arg14) a + S1x1x64x256.size a ≤ S1x2x128x4096.size a := fun arg14 k0_hw1 => k0_hw1.2.2.2.2.2.1
theorem k0_off6_inb : ∀ (arg14 : BitVec 32) (k0_hw1 : k0_chk1 arg14), ∀ a, (k0_off6 arg14) a + S1x1x64x256.size a ≤ S1x2x128x4096.size a := fun arg14 k0_hw1 => k0_hw1.2.2.2.2.2.2.1
theorem k0_off7_inb : ∀ (arg14 : BitVec 32) (k0_hw1 : k0_chk1 arg14), ∀ a, (k0_off7 arg14) a + S1x1x64x256.size a ≤ S1x2x128x4096.size a := fun arg14 k0_hw1 => k0_hw1.2.2.2.2.2.2.2.1
theorem k0_off8_inb : ∀ (arg14 : BitVec 32) (k0_hw1 : k0_chk1 arg14), ∀ a, (k0_off8 arg14) a + S1x1x64x256.size a ≤ S1x2x128x4096.size a := fun arg14 k0_hw1 => k0_hw1.2.2.2.2.2.2.2.2.1
theorem k0_off9_inb : ∀ (arg14 : BitVec 32) (k0_hw1 : k0_chk1 arg14), ∀ a, (k0_off9 arg14) a + S1x1x64x256.size a ≤ S1x2x128x4096.size a := fun arg14 k0_hw1 => k0_hw1.2.2.2.2.2.2.2.2.2.1
theorem k0_off10_inb : ∀ (arg14 : BitVec 32) (k0_hw1 : k0_chk1 arg14), ∀ a, (k0_off10 arg14) a + S1x1x64x256.size a ≤ S1x2x128x4096.size a := fun arg14 k0_hw1 => k0_hw1.2.2.2.2.2.2.2.2.2.2.1
theorem k0_off11_inb : ∀ (arg14 : BitVec 32) (k0_hw1 : k0_chk1 arg14), ∀ a, (k0_off11 arg14) a + S1x1x64x256.size a ≤ S1x2x128x4096.size a := fun arg14 k0_hw1 => k0_hw1.2.2.2.2.2.2.2.2.2.2.2

def k0_mult3 (i : grid0.Coords) : BitVec 32 :=
  let arg2 : BitVec 32 := BitVec.ofNat 32 (i 2).val
  let c1_i32_60 : BitVec 32 := 1#32
  let v125 : BitVec 32 := Scalar.subi arg2 c1_i32_60
  let c0_i32_61 : BitVec 32 := 0#32
  let v126 : BitVec 32 := Scalar.maxsi v125 c0_i32_61
  let c256_i32_63 : BitVec 32 := 256#32
  let v128 : BitVec 32 := Scalar.muli v126 c256_i32_63
  v128
def k0_mult4 (i : grid0.Coords) : BitVec 32 :=
  let arg2 : BitVec 32 := BitVec.ofNat 32 (i 2).val
  let c256_i32_64 : BitVec 32 := 256#32
  let v130 : BitVec 32 := Scalar.muli arg2 c256_i32_64
  v130
def k0_off12 (i : grid0.Coords) : Fin 2 → Nat :=
  let arg2 : BitVec 32 := BitVec.ofNat 32 (i 2).val
  let c1_i32_60 : BitVec 32 := 1#32
  let v125 : BitVec 32 := Scalar.subi arg2 c1_i32_60
  let c0_i32_61 : BitVec 32 := 0#32
  let v126 : BitVec 32 := Scalar.maxsi v125 c0_i32_61
  let c256_i32_63 : BitVec 32 := 256#32
  let v128 : BitVec 32 := Scalar.muli v126 c256_i32_63
  let v129 : BitVec 32 := v128
  let v132 : Index := Scalar.indexCast v129
  let c0_65 : Index := 0#32
  ![v132.toNat, 0]
def k0_off13 (i : grid0.Coords) : Fin 2 → Nat :=
  let arg2 : BitVec 32 := BitVec.ofNat 32 (i 2).val
  let c256_i32_64 : BitVec 32 := 256#32
  let v130 : BitVec 32 := Scalar.muli arg2 c256_i32_64
  let v131 : BitVec 32 := v130
  let v148 : Index := Scalar.indexCast v131
  let c0_73 : Index := 0#32
  ![v148.toNat, 0]
def k0_off14 (i : grid0.Coords) : Fin 4 → Nat :=
  let c0_175 : Index := 0#32
  let c0_176 : Index := 0#32
  let c0_177 : Index := 0#32
  let arg2 : BitVec 32 := BitVec.ofNat 32 (i 2).val
  let c1_i32_60 : BitVec 32 := 1#32
  let v125 : BitVec 32 := Scalar.subi arg2 c1_i32_60
  let c0_i32_61 : BitVec 32 := 0#32
  let v126 : BitVec 32 := Scalar.maxsi v125 c0_i32_61
  let c256_i32_63 : BitVec 32 := 256#32
  let v128 : BitVec 32 := Scalar.muli v126 c256_i32_63
  let v129 : BitVec 32 := v128
  let v495 : Index := Scalar.indexCast v129
  ![0, 0, 0, v495.toNat]
def k0_off15 (i : grid0.Coords) : Fin 4 → Nat :=
  let c0_180 : Index := 0#32
  let c0_181 : Index := 0#32
  let c64 : Index := 64#32
  let arg2 : BitVec 32 := BitVec.ofNat 32 (i 2).val
  let c1_i32_60 : BitVec 32 := 1#32
  let v125 : BitVec 32 := Scalar.subi arg2 c1_i32_60
  let c0_i32_61 : BitVec 32 := 0#32
  let v126 : BitVec 32 := Scalar.maxsi v125 c0_i32_61
  let c256_i32_63 : BitVec 32 := 256#32
  let v128 : BitVec 32 := Scalar.muli v126 c256_i32_63
  let v129 : BitVec 32 := v128
  let v502 : Index := Scalar.indexCast v129
  ![0, 0, 64, v502.toNat]
def k0_off16 (i : grid0.Coords) : Fin 4 → Nat :=
  let c0_184 : Index := 0#32
  let c1_185 : Index := 1#32
  let c0_186 : Index := 0#32
  let arg2 : BitVec 32 := BitVec.ofNat 32 (i 2).val
  let c1_i32_60 : BitVec 32 := 1#32
  let v125 : BitVec 32 := Scalar.subi arg2 c1_i32_60
  let c0_i32_61 : BitVec 32 := 0#32
  let v126 : BitVec 32 := Scalar.maxsi v125 c0_i32_61
  let c256_i32_63 : BitVec 32 := 256#32
  let v128 : BitVec 32 := Scalar.muli v126 c256_i32_63
  let v129 : BitVec 32 := v128
  let v509 : Index := Scalar.indexCast v129
  ![0, 1, 0, v509.toNat]
def k0_off17 (i : grid0.Coords) : Fin 4 → Nat :=
  let c0_189 : Index := 0#32
  let c1_190 : Index := 1#32
  let c64_191 : Index := 64#32
  let arg2 : BitVec 32 := BitVec.ofNat 32 (i 2).val
  let c1_i32_60 : BitVec 32 := 1#32
  let v125 : BitVec 32 := Scalar.subi arg2 c1_i32_60
  let c0_i32_61 : BitVec 32 := 0#32
  let v126 : BitVec 32 := Scalar.maxsi v125 c0_i32_61
  let c256_i32_63 : BitVec 32 := 256#32
  let v128 : BitVec 32 := Scalar.muli v126 c256_i32_63
  let v129 : BitVec 32 := v128
  let v516 : Index := Scalar.indexCast v129
  ![0, 1, 64, v516.toNat]
def k0_off18 (i : grid0.Coords) : Fin 4 → Nat :=
  let c0_210 : Index := 0#32
  let c0_211 : Index := 0#32
  let c0_212 : Index := 0#32
  let arg2 : BitVec 32 := BitVec.ofNat 32 (i 2).val
  let c256_i32_64 : BitVec 32 := 256#32
  let v130 : BitVec 32 := Scalar.muli arg2 c256_i32_64
  let v131 : BitVec 32 := v130
  let v590 : Index := Scalar.indexCast v131
  ![0, 0, 0, v590.toNat]
def k0_off19 (i : grid0.Coords) : Fin 4 → Nat :=
  let c0_214 : Index := 0#32
  let c0_215 : Index := 0#32
  let c64_216 : Index := 64#32
  let arg2 : BitVec 32 := BitVec.ofNat 32 (i 2).val
  let c256_i32_64 : BitVec 32 := 256#32
  let v130 : BitVec 32 := Scalar.muli arg2 c256_i32_64
  let v131 : BitVec 32 := v130
  let v595 : Index := Scalar.indexCast v131
  ![0, 0, 64, v595.toNat]
def k0_off20 (i : grid0.Coords) : Fin 4 → Nat :=
  let c0_218 : Index := 0#32
  let c1_219 : Index := 1#32
  let c0_220 : Index := 0#32
  let arg2 : BitVec 32 := BitVec.ofNat 32 (i 2).val
  let c256_i32_64 : BitVec 32 := 256#32
  let v130 : BitVec 32 := Scalar.muli arg2 c256_i32_64
  let v131 : BitVec 32 := v130
  let v600 : Index := Scalar.indexCast v131
  ![0, 1, 0, v600.toNat]
def k0_off21 (i : grid0.Coords) : Fin 4 → Nat :=
  let c0_222 : Index := 0#32
  let c1_223 : Index := 1#32
  let c64_224 : Index := 64#32
  let arg2 : BitVec 32 := BitVec.ofNat 32 (i 2).val
  let c256_i32_64 : BitVec 32 := 256#32
  let v130 : BitVec 32 := Scalar.muli arg2 c256_i32_64
  let v131 : BitVec 32 := v130
  let v605 : Index := Scalar.indexCast v131
  ![0, 1, 64, v605.toNat]
def k0_cond2 (i : grid0.Coords) : BitVec 1 :=
  let arg2 : BitVec 32 := BitVec.ofNat 32 (i 2).val
  let c15_i32 : BitVec 32 := 15#32
  let v613 : BitVec 1 := Scalar.cmpi .eq arg2 c15_i32
  let v614 : BitVec 32 := Scalar.extui v613
  let c0_i32_228 : BitVec 32 := 0#32
  let v615 : BitVec 1 := Scalar.cmpi .ne v614 c0_i32_228
  v615

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4x1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .smem S8x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4096x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S4096x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference2Ideal.lean ====
abbrev S2x4096x16x64 : Shape := ⟨4, ![2, 4096, 16, 64]⟩
abbrev S_ : Shape := ⟨0, ![]⟩
abbrev S2x16x4096x4096 : Shape := ⟨4, ![2, 16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x16x64x4096 : Shape := ⟨4, ![2, 16, 64, 4096]⟩
abbrev S2x16x4096x64 : Shape := ⟨4, ![2, 16, 4096, 64]⟩
abbrev S8192x1024 : Shape := ⟨2, ![8192, 1024]⟩

abbrev nBuf : Space → Nat
  | .hbm => 166
  | .vmem => 0
  | .smem => 0
  | _ => 0

abbrev hbmTy0_0 (i : Nat) : BufTy := match i % 128 with
  | 0 => ⟨S2x4096x16x64, .f32⟩
  | 1 => ⟨S2x4096x16x64, .f32⟩
  | 2 => ⟨S2x4096x16x64, .f32⟩
  | 3 => ⟨S2x4096x16x64, .f32⟩
  | 4 => ⟨S_, .f32⟩
  | 5 => ⟨S2x4096x16x64, .f32⟩
  | 6 => ⟨S2x4096x16x64, .f32⟩
  | 7 => ⟨S2x16x4096x4096, .f32⟩
  | 8 => ⟨S4096, .i32⟩
  | 9 => ⟨S1x4096, .i32⟩
  | 10 => ⟨S4096, .i32⟩
  | 11 => ⟨S4096x1, .i32⟩
  | 12 => ⟨S4096x4096, .i32⟩
  | 13 => ⟨S4096x4096, .i32⟩
  | 14 => ⟨S4096x4096, .i1⟩
  | 15 => ⟨S2x16x4096x4096, .f32⟩
  | 16 => ⟨S2x16x4096x4096, .f32⟩
  | 17 => ⟨S_, .f32⟩
  | 18 => ⟨S2x16x4096x4096, .f32⟩
  | 19 => ⟨S2x16x4096x4096, .f32⟩
  | 20 => ⟨S2x16x4096x4096, .f32⟩
  | 21 => ⟨S2x16x4096x4096, .f32⟩
  | 22 => ⟨S2x16x4096x4096, .i1⟩
  | 23 => ⟨S2x16x4096x4096, .f32⟩
  | 24 => ⟨S2x16x4096x4096, .f32⟩
  | 25 => ⟨S2x16x4096x4096, .f32⟩
  | 26 => ⟨S2x16x4096x4096, .f32⟩
  | 27 => ⟨S2x16x4096x4096, .f32⟩
  | 28 => ⟨S2x16x4096x4096, .f32⟩
  | 29 => ⟨S2x16x4096x4096, .f32⟩
  | 30 => ⟨S2x16x4096x4096, .f32⟩
  | 31 => ⟨S_, .f32⟩
  | 32 => ⟨S2x16x4096x4096, .f32⟩
  | 33 => ⟨S2x16x4096x4096, .i1⟩
  | 34 => ⟨S_, .f32⟩
  | 35 => ⟨S2x16x4096x4096, .f32⟩
  | 36 => ⟨S2x16x4096x4096, .f32⟩
  | 37 => ⟨S_, .f32⟩
  | 38 => ⟨S2x16x4096x4096, .f32⟩
  | 39 => ⟨S2x16x4096x4096, .i1⟩
  | 40 => ⟨S_, .f32⟩
  | 41 => ⟨S2x16x4096x4096, .f32⟩
  | 42 => ⟨S2x16x4096x4096, .f32⟩
  | 43 => ⟨S2x16x4096x4096, .f32⟩
  | 44 => ⟨S2x16x4096x4096, .f32⟩
  | 45 => ⟨S_, .f32⟩
  | 46 => ⟨S_, .f32⟩
  | 47 => ⟨S_, .i1⟩
  | 48 => ⟨S_, .f32⟩
  | 49 => ⟨S_, .f32⟩
  | 50 => ⟨S_, .f32⟩
  | 51 => ⟨S_, .f32⟩
  | 52 => ⟨S2x16x4096x4096, .f32⟩
  | 53 => ⟨S2x16x4096x4096, .i1⟩
  | 54 => ⟨S_, .f32⟩
  | 55 => ⟨S2x16x4096x4096, .f32⟩
  | 56 => ⟨S2x16x4096x4096, .f32⟩
  | 57 => ⟨S2x16x4096x4096, .f32⟩
  | 58 => ⟨S2x16x4096x4096, .f32⟩
  | 59 => ⟨S2x16x4096x4096, .f32⟩
  | 60 => ⟨S_, .f32⟩
  | 61 => ⟨S2x16x4096x4096, .f32⟩
  | 62 => ⟨S2x16x4096x4096, .f32⟩
  | 63 => ⟨S2x16x4096x4096, .f32⟩
  | 64 => ⟨S_, .f32⟩
  | 65 => ⟨S_, .f32⟩
  | 66 => ⟨S2x16x4096x4096, .i1⟩
  | 67 => ⟨S2x16x4096x4096, .f32⟩
  | 68 => ⟨S2x16x4096x4096, .f32⟩
  | 69 => ⟨S_, .f32⟩
  | 70 => ⟨S2x16x4096x4096, .f32⟩
  | 71 => ⟨S_, .f32⟩
  | 72 => ⟨S_, .f32⟩
  | 73 => ⟨S2x16x4096x4096, .f32⟩
  | 74 => ⟨S2x16x4096x4096, .f32⟩
  | 75 => ⟨S2x16x4096x4096, .f32⟩
  | 76 => ⟨S_, .f32⟩
  | 77 => ⟨S2x16x4096x4096, .f32⟩
  | 78 => ⟨S2x16x4096x4096, .f32⟩
  | 79 => ⟨S2x16x4096x4096, .f32⟩
  | 80 => ⟨S2x16x4096x4096, .f32⟩
  | 81 => ⟨S2x16x4096x4096, .i1⟩
  | 82 => ⟨S2x16x4096x4096, .f32⟩
  | 83 => ⟨S2x16x4096x4096, .f32⟩
  | 84 => ⟨S2x16x4096x4096, .f32⟩
  | 85 => ⟨S2x16x4096x4096, .f32⟩
  | 86 => ⟨S2x16x4096x4096, .f32⟩
  | 87 => ⟨S2x16x4096x4096, .f32⟩
  | 88 => ⟨S2x16x4096x4096, .f32⟩
  | 89 => ⟨S2x16x4096x4096, .f32⟩
  | 90 => ⟨S_, .f32⟩
  | 91 => ⟨S2x16x4096x4096, .f32⟩
  | 92 => ⟨S2x16x4096x4096, .i1⟩
  | 93 => ⟨S_, .f32⟩
  | 94 => ⟨S2x16x4096x4096, .f32⟩
  | 95 => ⟨S2x16x4096x4096, .f32⟩
  | 96 => ⟨S_, .f32⟩
  | 97 => ⟨S2x16x4096x4096, .f32⟩
  | 98 => ⟨S2x16x4096x4096, .i1⟩
  | 99 => ⟨S_, .f32⟩
  | 100 => ⟨S2x16x4096x4096, .f32⟩
  | 101 => ⟨S2x16x4096x4096, .f32⟩
  | 102 => ⟨S2x16x4096x4096, .f32⟩
  | 103 => ⟨S2x16x4096x4096, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S2x16x4096x4096, .f32⟩
  | 112 => ⟨S2x16x4096x4096, .i1⟩
  | 113 => ⟨S_, .f32⟩
  | 114 => ⟨S2x16x4096x4096, .f32⟩
  | 115 => ⟨S2x16x4096x4096, .f32⟩
  | 116 => ⟨S2x16x4096x4096, .f32⟩
  | 117 => ⟨S2x16x4096x4096, .f32⟩
  | 118 => ⟨S2x16x4096x4096, .f32⟩
  | 119 => ⟨S_, .f32⟩
  | 120 => ⟨S2x16x4096x4096, .f32⟩
  | 121 => ⟨S2x16x4096x4096, .f32⟩
  | 122 => ⟨S2x16x4096x4096, .f32⟩
  | 123 => ⟨S2x16x4096x4096, .f32⟩
  | 124 => ⟨S2x16x4096x4096, .f32⟩
  | 125 => ⟨S_, .f32⟩
  | 126 => ⟨S_, .f32⟩
  | 127 => ⟨S2x16x4096x4096, .i1⟩
  | _ => ⟨S2x4096x16x64, .f32⟩

abbrev hbmTy0_1 (i : Nat) : BufTy := match i % 128 with
  | 0 => ⟨S2x16x4096x4096, .f32⟩
  | 1 => ⟨S2x16x4096x4096, .f32⟩
  | 2 => ⟨S_, .f32⟩
  | 3 => ⟨S2x16x4096x4096, .f32⟩
  | 4 => ⟨S2x16x64x4096, .f32⟩
  | 5 => ⟨S2x4096x16x64, .f32⟩
  | 6 => ⟨S2x16x64x4096, .f32⟩
  | 7 => ⟨S2x16x4096x4096, .f32⟩
  | 8 => ⟨S2x16x64x4096, .f32⟩
  | 9 => ⟨S2x4096x16x64, .f32⟩
  | 10 => ⟨S_, .f32⟩
  | 11 => ⟨S2x16x4096x4096, .f32⟩
  | 12 => ⟨S2x16x4096x4096, .f32⟩
  | 13 => ⟨S2x16x4096x4096, .f32⟩
  | 14 => ⟨S2x16x4096x4096, .f32⟩
  | 15 => ⟨S2x16x4096x4096, .f32⟩
  | 16 => ⟨S2x16x4096x4096, .f32⟩
  | 17 => ⟨S2x16x4096x4096, .f32⟩
  | 18 => ⟨S_, .f32⟩
  | 19 => ⟨S_, .f32⟩
  | 20 => ⟨S2x16x4096x4096, .f32⟩
  | 21 => ⟨S2x16x4096x4096, .f32⟩
  | 22 => ⟨S_, .f32⟩
  | 23 => ⟨S2x16x4096x4096, .f32⟩
  | 24 => ⟨S2x16x4096x4096, .f32⟩
  | 25 => ⟨S2x16x4096x4096, .f32⟩
  | 26 => ⟨S2x16x4096x4096, .f32⟩
  | 27 => ⟨S2x16x4096x4096, .f32⟩
  | 28 => ⟨S2x16x4096x4096, .f32⟩
  | 29 => ⟨S2x16x4096x4096, .f32⟩
  | 30 => ⟨S2x16x4096x64, .f32⟩
  | 31 => ⟨S2x4096x16x64, .f32⟩
  | 32 => ⟨S2x16x4096x64, .f32⟩
  | 33 => ⟨S2x4096x16x64, .f32⟩
  | 34 => ⟨S8192x1024, .f32⟩
  | 35 => ⟨S8192x1024, .f32⟩
  | 36 => ⟨S8192x1024, .f32⟩
  | 37 => ⟨S8192x1024, .bf16⟩
  | _ => ⟨S2x4096x16x64, .f32⟩

abbrev hbmTy (i : Nat) : BufTy := match i / 128 with
  | 0 => hbmTy0_0 i
  | 1 => hbmTy0_1 i
  | _ => ⟨S2x4096x16x64, .f32⟩

abbrev bufTy : (tb : Table) → Fin (tcTables nBuf tb) → BufTy
  | .hbm, ⟨i, _⟩ => hbmTy i
  | _, _ => ⟨S2x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1_0 : Ref sig .tc := ⟨.hbm, 30, rfl⟩
abbrev main_call0_call0_cst_0 : Ref sig .tc := ⟨.hbm, 31, rfl⟩
abbrev main_call0_call0_v13 : Ref sig .tc := ⟨.hbm, 32, rfl⟩
abbrev main_call0_call0_v14 : Ref sig .tc := ⟨.hbm, 33, rfl⟩
abbrev main_call0_call0_cst_1 : Ref sig .tc := ⟨.hbm, 34, rfl⟩
abbrev main_call0_call0_v15 : Ref sig .tc := ⟨.hbm, 35, rfl⟩
abbrev main_call0_call0_v16 : Ref sig .tc := ⟨.hbm, 36, rfl⟩
abbrev main_call0_call0_cst_2 : Ref sig .tc := ⟨.hbm, 37, rfl⟩
abbrev main_call0_call0_v17 : Ref sig .tc := ⟨.hbm, 38, rfl⟩
abbrev main_call0_call0_v18 : Ref sig .tc := ⟨.hbm, 39, rfl⟩
abbrev main_call0_call0_cst_3 : Ref sig .tc := ⟨.hbm, 40, rfl⟩
abbrev main_call0_call0_v19 : Ref sig .tc := ⟨.hbm, 41, rfl⟩
abbrev main_call0_call0_v20 : Ref sig .tc := ⟨.hbm, 42, rfl⟩
abbrev main_call0_call0_v21 : Ref sig .tc := ⟨.hbm, 43, rfl⟩
abbrev main_v11_1 : Ref sig .tc := ⟨.hbm, 44, rfl⟩
abbrev main_call0_call0_cst_4 : Ref sig .tc := ⟨.hbm, 45, rfl⟩
abbrev main_call0_call0_cst_5 : Ref sig .tc := ⟨.hbm, 46, rfl⟩
abbrev main_call0_call0_v23 : Ref sig .tc := ⟨.hbm, 47, rfl⟩
abbrev main_call0_call0_cst_6 : Ref sig .tc := ⟨.hbm, 48, rfl⟩
abbrev main_call0_call0_cst_7 : Ref sig .tc := ⟨.hbm, 49, rfl⟩
abbrev main_call0_call0_v24 : Ref sig .tc := ⟨.hbm, 50, rfl⟩
abbrev main_call0_call0_cst_8 : Ref sig .tc := ⟨.hbm, 51, rfl⟩
abbrev main_call0_call0_v25 : Ref sig .tc := ⟨.hbm, 52, rfl⟩
abbrev main_call0_call0_v26 : Ref sig .tc := ⟨.hbm, 53, rfl⟩
abbrev main_call0_call0_cst_9 : Ref sig .tc := ⟨.hbm, 54, rfl⟩
abbrev main_call0_call0_v27 : Ref sig .tc := ⟨.hbm, 55, rfl⟩
abbrev main_call0_call0_v28 : Ref sig .tc := ⟨.hbm, 56, rfl⟩
abbrev main_call0_call0_v29 : Ref sig .tc := ⟨.hbm, 57, rfl⟩
abbrev main_call0_call0_v30 : Ref sig .tc := ⟨.hbm, 58, rfl⟩
abbrev main_call0_call0_v31 : Ref sig .tc := ⟨.hbm, 59, rfl⟩
abbrev main_call0_call0_cst_10 : Ref sig .tc := ⟨.hbm, 60, rfl⟩
abbrev main_call0_call0_v32 : Ref sig .tc := ⟨.hbm, 61, rfl⟩
abbrev main_v11_2 : Ref sig .tc := ⟨.hbm, 62, rfl⟩
abbrev main_v11_0 : Ref sig .tc := ⟨.hbm, 63, rfl⟩
abbrev main_cst_0 : Ref sig .tc := ⟨.hbm, 64, rfl⟩
abbrev main_call1_v0 : Ref sig .tc := ⟨.hbm, 65, rfl⟩
abbrev main_v12_1 : Ref sig .tc := ⟨.hbm, 66, rfl⟩
abbrev main_call1_v2 : Ref sig .tc := ⟨.hbm, 67, rfl⟩
abbrev main_v12_0 : Ref sig .tc := ⟨.hbm, 68, rfl⟩
abbrev main_call1_cst : Ref sig .tc := ⟨.hbm, 69, rfl⟩
abbrev main_v12_2 : Ref sig .tc := ⟨.hbm, 70, rfl⟩
abbrev main_call2_cst : Ref sig .tc := ⟨.hbm, 71, rfl⟩
abbrev main_call2_v0 : Ref sig .tc := ⟨.hbm, 72, rfl⟩
abbrev main_v13 : Ref sig .tc := ⟨.hbm, 73, rfl⟩
abbrev main_v14 : Ref sig .tc := ⟨.hbm, 74, rfl⟩
abbrev main_call3_v0 : Ref sig .tc := ⟨.hbm, 75, rfl⟩
abbrev main_call3_call0_cst : Ref sig .tc := ⟨.hbm, 76, rfl⟩
abbrev main_call3_call0_v0 : Ref sig .tc := ⟨.hbm, 77, rfl⟩
abbrev main_call3_call0_v1 : Ref sig .tc := ⟨.hbm, 78, rfl⟩
abbrev main_call3_call0_v2 : Ref sig .tc := ⟨.hbm, 79, rfl⟩
abbrev main_call3_call0_v3 : Ref sig .tc := ⟨.hbm, 80, rfl⟩
abbrev main_call3_call0_v4 : Ref sig .tc := ⟨.hbm, 81, rfl⟩
abbrev main_call3_call0_v5 : Ref sig .tc := ⟨.hbm, 82, rfl⟩
abbrev main_call3_call0_v6 : Ref sig .tc := ⟨.hbm, 83, rfl⟩
abbrev main_call3_call0_v7 : Ref sig .tc := ⟨.hbm, 84, rfl⟩
abbrev main_call3_call0_v8 : Ref sig .tc := ⟨.hbm, 85, rfl⟩
abbrev main_call3_call0_v9 : Ref sig .tc := ⟨.hbm, 86, rfl⟩
abbrev main_call3_call0_v10 : Ref sig .tc := ⟨.hbm, 87, rfl⟩
abbrev main_call3_call0_v11 : Ref sig .tc := ⟨.hbm, 88, rfl⟩
abbrev main_call3_v1_0 : Ref sig .tc := ⟨.hbm, 89, rfl⟩
abbrev main_call3_call0_cst_0 : Ref sig .tc := ⟨.hbm, 90, rfl⟩
abbrev main_call3_call0_v13 : Ref sig .tc := ⟨.hbm, 91, rfl⟩
abbrev main_call3_call0_v14 : Ref sig .tc := ⟨.hbm, 92, rfl⟩
abbrev main_call3_call0_cst_1 : Ref sig .tc := ⟨.hbm, 93, rfl⟩
abbrev main_call3_call0_v15 : Ref sig .tc := ⟨.hbm, 94, rfl⟩
abbrev main_call3_call0_v16 : Ref sig .tc := ⟨.hbm, 95, rfl⟩
abbrev main_call3_call0_cst_2 : Ref sig .tc := ⟨.hbm, 96, rfl⟩
abbrev main_call3_call0_v17 : Ref sig .tc := ⟨.hbm, 97, rfl⟩
abbrev main_call3_call0_v18 : Ref sig .tc := ⟨.hbm, 98, rfl⟩
abbrev main_call3_call0_cst_3 : Ref sig .tc := ⟨.hbm, 99, rfl⟩
abbrev main_call3_call0_v19 : Ref sig .tc := ⟨.hbm, 100, rfl⟩
abbrev main_call3_call0_v20 : Ref sig .tc := ⟨.hbm, 101, rfl⟩
abbrev main_call3_call0_v21 : Ref sig .tc := ⟨.hbm, 102, rfl⟩
abbrev main_v15_1 : Ref sig .tc := ⟨.hbm, 103, rfl⟩
abbrev main_call3_call0_cst_4 : Ref sig .tc := ⟨.hbm, 104, rfl⟩
abbrev main_call3_call0_cst_5 : Ref sig .tc := ⟨.hbm, 105, rfl⟩
abbrev main_call3_call0_v23 : Ref sig .tc := ⟨.hbm, 106, rfl⟩
abbrev main_call3_call0_cst_6 : Ref sig .tc := ⟨.hbm, 107, rfl⟩
abbrev main_call3_call0_cst_7 : Ref sig .tc := ⟨.hbm, 108, rfl⟩
abbrev main_call3_call0_v24 : Ref sig .tc := ⟨.hbm, 109, rfl⟩
abbrev main_call3_call0_cst_8 : Ref sig .tc := ⟨.hbm, 110, rfl⟩
abbrev main_call3_call0_v25 : Ref sig .tc := ⟨.hbm, 111, rfl⟩
abbrev main_call3_call0_v26 : Ref sig .tc := ⟨.hbm, 112, rfl⟩
abbrev main_call3_call0_cst_9 : Ref sig .tc := ⟨.hbm, 113, rfl⟩
abbrev main_call3_call0_v27 : Ref sig .tc := ⟨.hbm, 114, rfl⟩
abbrev main_call3_call0_v28 : Ref sig .tc := ⟨.hbm, 115, rfl⟩
abbrev main_call3_call0_v29 : Ref sig .tc := ⟨.hbm, 116, rfl⟩
abbrev main_call3_call0_v30 : Ref sig .tc := ⟨.hbm, 117, rfl⟩
abbrev main_call3_call0_v31 : Ref sig .tc := ⟨.hbm, 118, rfl⟩
abbrev main_call3_call0_cst_10 : Ref sig .tc := ⟨.hbm, 119, rfl⟩
abbrev main_call3_call0_v32 : Ref sig .tc := ⟨.hbm, 120, rfl⟩
abbrev main_v15_2 : Ref sig .tc := ⟨.hbm, 121, rfl⟩
abbrev main_v15_0 : Ref sig .tc := ⟨.hbm, 122, rfl⟩
abbrev main_v16 : Ref sig .tc := ⟨.hbm, 123, rfl⟩
abbrev main_v17 : Ref sig .tc := ⟨.hbm, 124, rfl⟩
abbrev main_cst_1 : Ref sig .tc := ⟨.hbm, 125, rfl⟩
abbrev main_call4_v0 : Ref sig .tc := ⟨.hbm, 126, rfl⟩
abbrev main_v18_1 : Ref sig .tc := ⟨.hbm, 127, rfl⟩
abbrev main_call4_v2 : Ref sig .tc := ⟨.hbm, 128, rfl⟩
abbrev main_v18_0 : Ref sig .tc := ⟨.hbm, 129, rfl⟩
abbrev main_call4_cst : Ref sig .tc := ⟨.hbm, 130, rfl⟩
abbrev main_v18_2 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_call5_cst : Ref sig .tc := ⟨.hbm, 138, rfl⟩
abbrev main_call5_v0 : Ref sig .tc := ⟨.hbm, 139, rfl⟩
abbrev main_v25 : Ref sig .tc := ⟨.hbm, 140, rfl⟩
abbrev main_v26 : Ref sig .tc := ⟨.hbm, 141, rfl⟩
abbrev main_call6_v0 : Ref sig .tc := ⟨.hbm, 142, rfl⟩
abbrev main_call6_v1 : Ref sig .tc := ⟨.hbm, 143, rfl⟩
abbrev main_v27 : Ref sig .tc := ⟨.hbm, 144, rfl⟩
abbrev main_v28 : Ref sig .tc := ⟨.hbm, 145, rfl⟩
abbrev main_call7_cst : Ref sig .tc := ⟨.hbm, 146, rfl⟩
abbrev main_call7_v0 : Ref sig .tc := ⟨.hbm, 147, rfl⟩
abbrev main_v29 : Ref sig .tc := ⟨.hbm, 148, rfl⟩
abbrev main_v30 : Ref sig .tc := ⟨.hbm, 149, rfl⟩
abbrev main_call8_cst : Ref sig .tc := ⟨.hbm, 150, rfl⟩
abbrev main_call8_v0 : Ref sig .tc := ⟨.hbm, 151, rfl⟩
abbrev main_v31 : Ref sig .tc := ⟨.hbm, 152, rfl⟩
abbrev main_call9_v0 : Ref sig .tc := ⟨.hbm, 153, rfl⟩
abbrev main_call9_v1 : Ref sig .tc := ⟨.hbm, 154, rfl⟩
abbrev main_v32 : Ref sig .tc := ⟨.hbm, 155, rfl⟩
abbrev main_v33 : Ref sig .tc := ⟨.hbm, 156, rfl⟩
abbrev main_v34 : Ref sig .tc := ⟨.hbm, 157, rfl⟩
abbrev main_v35 : Ref sig .tc := ⟨.hbm, 158, rfl⟩
abbrev main_v36 : Ref sig .tc := ⟨.hbm, 159, rfl⟩
abbrev main_v37 : Ref sig .tc := ⟨.hbm, 160, rfl⟩
abbrev main_v38 : Ref sig .tc := ⟨.hbm, 161, rfl⟩
abbrev main_v39 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩

abbrev nD : Nat := 1
abbrev τ : Topo := Topo.v7x

variable {F : FTy → Type} [FloatOps F]
-- ==== Kernel3.lean ====
abbrev S2x4096x1024 : Shape := ⟨3, ![2, 4096, 1024]⟩
abbrev S1x1024 : Shape := ⟨2, ![1, 1024]⟩
abbrev S1x1024x6672 : Shape := ⟨3, ![1, 1024, 6672]⟩
abbrev S2x4096x6672 : Shape := ⟨3, ![2, 4096, 6672]⟩
abbrev S1024x6672 : Shape := ⟨2, ![1024, 6672]⟩
abbrev S6672x1024 : Shape := ⟨2, ![6672, 1024]⟩
abbrev S_ : Shape := ⟨0, ![]⟩
abbrev S7168x1024 : Shape := ⟨2, ![7168, 1024]⟩
abbrev S8192x6672 : Shape := ⟨2, ![8192, 6672]⟩
abbrev S8192x7168 : Shape := ⟨2, ![8192, 7168]⟩
abbrev S8192x1024 : Shape := ⟨2, ![8192, 1024]⟩
abbrev S8192x2048 : Shape := ⟨2, ![8192, 2048]⟩
abbrev S512x1024 : Shape := ⟨2, ![512, 1024]⟩
abbrev S512x2048 : Shape := ⟨2, ![512, 2048]⟩
abbrev S1024x1024 : Shape := ⟨2, ![1024, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 25
  | .vmem => 19
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x6672, .f32⟩
  | .hbm, ⟨3, _⟩ => ⟨S2x4096x6672, .f32⟩
  | .hbm, ⟨4, _⟩ => ⟨S2x4096x1024, .f32⟩
  | .hbm, ⟨5, _⟩ => ⟨S1024x6672, .f32⟩
  | .hbm, ⟨6, _⟩ => ⟨S1024x6672, .bf16⟩
  | .hbm, ⟨7, _⟩ => ⟨S6672x1024, .bf16⟩
  | .hbm, ⟨8, _⟩ => ⟨S_, .i32⟩
  | .hbm, ⟨9, _⟩ => ⟨S_, .bf16⟩
  | .hbm, ⟨10, _⟩ => ⟨S7168x1024, .bf16⟩
  | .hbm, ⟨11, _⟩ => ⟨S8192x6672, .f32⟩
  | .hbm, ⟨12, _⟩ => ⟨S_, .i32⟩
  | .hbm, ⟨13, _⟩ => ⟨S_, .f32⟩
  | .hbm, ⟨14, _⟩ => ⟨S8192x7168, .f32⟩
  | .hbm, ⟨15, _⟩ => ⟨S8192x7168, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x2048, .bf16⟩
  | .hbm, ⟨20, _⟩ => ⟨S8192x2048, .bf16⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S7168x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S7168x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S2x4096x1024 : Shape := ⟨3, ![2, 4096, 1024]⟩
abbrev S1x1024 : Shape := ⟨2, ![1, 1024]⟩
abbrev S1x1024x6672 : Shape := ⟨3, ![1, 1024, 6672]⟩
abbrev S2x4096x6672 : Shape := ⟨3, ![2, 4096, 6672]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x6672 : Shape := ⟨2, ![1024, 6672]⟩
abbrev S8192x1024 : Shape := ⟨2, ![8192, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S1x1024, .f32⟩
  | .hbm, ⟨2, _⟩ => ⟨S1x1024x6672, .f32⟩
  | .hbm, ⟨3, _⟩ => ⟨S2x4096x6672, .f32⟩
  | .hbm, ⟨4, _⟩ => ⟨S2x4096x1024, .f32⟩
  | .hbm, ⟨5, _⟩ => ⟨S1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1024, .f32⟩
  | .hbm, ⟨22, _⟩ => ⟨S2x4096x1024, .f32⟩
  | .hbm, ⟨23, _⟩ => ⟨S1x1x1024, .f32⟩
  | .hbm, ⟨24, _⟩ => ⟨S2x4096x1024, .f32⟩
  | .hbm, ⟨25, _⟩ => ⟨S2x4096x1024, .f32⟩
  | .hbm, ⟨26, _⟩ => ⟨S1024x6672, .f32⟩
  | .hbm, ⟨27, _⟩ => ⟨S2x4096x6672, .f32⟩
  | .hbm, ⟨28, _⟩ => ⟨S2x4096x1024, .f32⟩
  | .hbm, ⟨29, _⟩ => ⟨S2x4096x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x4096x1024, .f32⟩
  | .hbm, ⟨34, _⟩ => ⟨S2x4096x1024, .f32⟩
  | .hbm, ⟨35, _⟩ => ⟨S_, .f32⟩
  | .hbm, ⟨36, _⟩ => ⟨S1024, .f32⟩
  | .hbm, ⟨37, _⟩ => ⟨S2x4096x1024, .f32⟩
  | .hbm, ⟨38, _⟩ => ⟨S_, .f32⟩
  | .hbm, ⟨39, _⟩ => ⟨S2x4096, .f32⟩
  | .hbm, ⟨40, _⟩ => ⟨S2x4096x1, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x1, .f32⟩
  | .hbm, ⟨45, _⟩ => ⟨S_, .f32⟩
  | .hbm, ⟨46, _⟩ => ⟨S2x4096x1, .f32⟩
  | .hbm, ⟨47, _⟩ => ⟨S2x4096x1, .f32⟩
  | .hbm, ⟨48, _⟩ => ⟨S_, .f32⟩
  | .hbm, ⟨49, _⟩ => ⟨S2x4096, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S2x4096x1024, .f32⟩
  | .hbm, ⟨54, _⟩ => ⟨S2x4096x1024, .f32⟩
  | .hbm, ⟨55, _⟩ => ⟨S1x1024, .f32⟩
  | .hbm, ⟨56, _⟩ => ⟨S8192x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel4.lean ====
abbrev S2x4096x6672 : Shape := ⟨3, ![2, 4096, 6672]⟩
abbrev S1x64 : Shape := ⟨2, ![1, 64]⟩
abbrev S2x4096x16x64 : Shape := ⟨4, ![2, 4096, 16, 64]⟩
abbrev S8192x6672 : Shape := ⟨2, ![8192, 6672]⟩
abbrev S_ : Shape := ⟨0, ![]⟩
abbrev S8192x7168 : Shape := ⟨2, ![8192, 7168]⟩
abbrev S1x1x1x64 : Shape := ⟨4, ![1, 1, 1, 64]⟩
abbrev S1x1x2x64 : Shape := ⟨4, ![1, 1, 2, 64]⟩
abbrev S1x128 : Shape := ⟨2, ![1, 128]⟩
abbrev S8192x1024 : Shape := ⟨2, ![8192, 1024]⟩
abbrev S512x1024 : Shape := ⟨2, ![512, 1024]⟩
abbrev S512x128 : Shape := ⟨2, ![512, 128]⟩
abbrev S128x128 : Shape := ⟨2, ![128, 128]⟩
abbrev S128 : Shape := ⟨1, ![128]⟩

abbrev nBuf : Space → Nat
  | .hbm => 27
  | .vmem => 16
  | .smem => 0
  | _ => 0

abbrev bufTy : (tb : Table) → Fin (tcTables nBuf tb) → BufTy
  | .hbm, ⟨0, _⟩ => ⟨S2x4096x6672, .f32⟩
  | .hbm, ⟨1, _⟩ => ⟨S1x64, .f32⟩
  | .hbm, ⟨2, _⟩ => ⟨S1x64, .f32⟩
  | .hbm, ⟨3, _⟩ => ⟨S2x4096x16x64, .f32⟩
  | .hbm, ⟨4, _⟩ => ⟨S2x4096x16x64, .f32⟩
  | .hbm, ⟨5, _⟩ => ⟨S8192x6672, .f32⟩
  | .hbm, ⟨6, _⟩ => ⟨S_, .i32⟩
  | .hbm, ⟨7, _⟩ => ⟨S_, .f32⟩
  | .hbm, ⟨8, _⟩ => ⟨S8192x7168, .f32⟩
  | .hbm, ⟨9, _⟩ => ⟨S1x1x1x64, .f32⟩
  | .hbm, ⟨10, _⟩ => ⟨S1x1x2x64, .f32⟩
  | .hbm, ⟨11, _⟩ => ⟨S1x128, .f32⟩
  | .hbm, ⟨12, _⟩ => ⟨S1x1x1x64, .f32⟩
  | .hbm, ⟨13, _⟩ => ⟨S1x1x2x64, .f32⟩
  | .hbm, ⟨14, _⟩ => ⟨S1x128, .f32⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S8192x1024, .bf16⟩
  | .hbm, ⟨19, _⟩ => ⟨S1x128, .f32⟩
  | .hbm, ⟨20, _⟩ => ⟨S1x128, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x64, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S1x128, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x128, .f32⟩
  | .local _ .vmem, ⟨15, _⟩ => ⟨S1x128, .f32⟩
  | _, _ => ⟨S2x4096x6672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference4Ideal.lean ====
abbrev S2x4096x6672 : Shape := ⟨3, ![2, 4096, 6672]⟩
abbrev S1x64 : Shape := ⟨2, ![1, 64]⟩
abbrev S2x4096x16x64 : Shape := ⟨4, ![2, 4096, 16, 64]⟩
abbrev S2x4096x1024 : Shape := ⟨3, ![2, 4096, 1024]⟩
abbrev S64 : Shape := ⟨1, ![64]⟩
abbrev S_ : Shape := ⟨0, ![]⟩
abbrev S2x4096x16 : Shape := ⟨3, ![2, 4096, 16]⟩
abbrev S2x4096x16x1 : Shape := ⟨4, ![2, 4096, 16, 1]⟩
abbrev S1x1x1x64 : Shape := ⟨4, ![1, 1, 1, 64]⟩
abbrev S8192x1024 : Shape := ⟨2, ![8192, 1024]⟩

abbrev nBuf : Space → Nat
  | .hbm => 115
  | .vmem => 0
  | .smem => 0
  | _ => 0

abbrev bufTy : (tb : Table) → Fin (tcTables nBuf tb) → BufTy
  | .hbm, ⟨0, _⟩ => ⟨S2x4096x6672, .f32⟩
  | .hbm, ⟨1, _⟩ => ⟨S1x64, .f32⟩
  | .hbm, ⟨2, _⟩ => ⟨S1x64, .f32⟩
  | .hbm, ⟨3, _⟩ => ⟨S2x4096x16x64, .f32⟩
  | .hbm, ⟨4, _⟩ => ⟨S2x4096x16x64, .f32⟩
  | .hbm, ⟨5, _⟩ => ⟨S2x4096x1024, .f32⟩
  | .hbm, ⟨6, _⟩ => ⟨S2x4096x1024, .f32⟩
  | .hbm, ⟨7, _⟩ => ⟨S2x4096x16x64, .f32⟩
  | .hbm, ⟨8, _⟩ => ⟨S64, .f32⟩
  | .hbm, ⟨9, _⟩ => ⟨S2x4096x16x64, .f32⟩
  | .hbm, ⟨10, _⟩ => ⟨S_, .f32⟩
  | .hbm, ⟨11, _⟩ => ⟨S2x4096x16, .f32⟩
  | .hbm, ⟨12, _⟩ => ⟨S2x4096x16x1, .f32⟩
  | .hbm, ⟨13, _⟩ => ⟨S_, .f32⟩
  | .hbm, ⟨14, _⟩ => ⟨S2x4096x16x1, .f32⟩
  | .hbm, ⟨15, _⟩ => ⟨S2x4096x16x1, .f32⟩
  | .hbm, ⟨16, _⟩ => ⟨S_, .f32⟩
  | .hbm, ⟨17, _⟩ => ⟨S2x4096x16x1, .f32⟩
  | .hbm, ⟨18, _⟩ => ⟨S2x4096x16x1, .f32⟩
  | .hbm, ⟨19, _⟩ => ⟨S2x4096x16x1, .f32⟩
  | .hbm, ⟨20, _⟩ => ⟨S2x4096x16x1, .f32⟩
  | .hbm, ⟨21, _⟩ => ⟨S_, .f32⟩
  | .hbm, ⟨22, _⟩ => ⟨S2x4096x16x1, .f32⟩
  | .hbm, ⟨23, _⟩ => ⟨S2x4096x16x1, .f32⟩
  | .hbm, ⟨24, _⟩ => ⟨S2x4096x16x64, .f32⟩
  | .hbm, ⟨25, _⟩ => ⟨S2x4096x16x64, .f32⟩
  | .hbm, ⟨26, _⟩ => ⟨S1x1x1x64, .f32⟩
  | .hbm, ⟨27, _⟩ => ⟨S2x4096x16x64, .f32⟩
  | .hbm, ⟨28, _⟩ => ⟨S2x4096x16x64, .f32⟩
  | .hbm, ⟨29, _⟩ => ⟨S2x4096x16x64, .f32⟩
  | .hbm, ⟨30, _⟩ => ⟨S64, .f32⟩
  | .hbm, ⟨31, _⟩ => ⟨S2x4096x16x64, .f32⟩
  | .hbm, ⟨32, _⟩ => ⟨S_, .f32⟩
  | .hbm, ⟨33, _⟩ => ⟨S2x4096x16, .f32⟩
  | .hbm, ⟨34, _⟩ => ⟨S2x4096x16x1, .f32⟩
  | .hbm, ⟨35, _⟩ => ⟨S_, .f32⟩
  | .hbm, ⟨36, _⟩ => ⟨S2x4096x16x1, .f32⟩
  | .hbm, ⟨37, _⟩ => ⟨S2x4096x16x1, .f32⟩
  | .hbm, ⟨38, _⟩ => ⟨S_, .f32⟩
  | .hbm, ⟨39, _⟩ => ⟨S2x4096x16x1, .f32⟩
  | .hbm, ⟨40, _⟩ => ⟨S2x4096x16x1, .f32⟩
  | .hbm, ⟨41, _⟩ => ⟨S2x4096x16x1, .f32⟩
  | .hbm, ⟨42, _⟩ => ⟨S2x4096x16x1, .f32⟩
  | .hbm, ⟨43, _⟩ => ⟨S_, .f32⟩
  | .hbm, ⟨44, _⟩ => ⟨S2x4096x16x1, .f32⟩
  | .hbm, ⟨45, _⟩ => ⟨S2x4096x16x1, .f32⟩
  | .hbm, ⟨46, _⟩ => ⟨S2x4096x16x64, .f32⟩
  | .hbm, ⟨47, _⟩ => ⟨S2x4096x16x64, .f32⟩
  | .hbm, ⟨48, _⟩ => ⟨S1x1x1x64, .f32⟩
  | .hbm, ⟨49, _⟩ => ⟨S2x4096x16x64, .f32⟩
  | .hbm, ⟨50, _⟩ => ⟨S2x4096x16x64, .f32⟩
  | .hbm, ⟨51, _⟩ => ⟨S_, .f32⟩
  | .hbm, ⟨52, _⟩ => ⟨S2x4096x16x64, .f32⟩
  | .hbm, ⟨53, _⟩ => ⟨S2x4096x16x64, .f32⟩
  | .hbm, ⟨54, _⟩ => ⟨S_, .f32⟩
  | .hbm, ⟨55, _⟩ => ⟨S2x4096x16x64, .f32⟩
  | .hbm, ⟨56, _⟩ => ⟨S2x4096x16x64, .f32⟩
  | .hbm, ⟨57, _⟩ => ⟨S2x4096x16x64, .f32⟩
  | .hbm, ⟨58, _⟩ => ⟨S_, .f32⟩
  | .hbm, ⟨59, _⟩ => ⟨S64, .f32⟩
  | .hbm, ⟨60, _⟩ => ⟨S1x1x1x64, .f32⟩
  | .hbm, ⟨61, _⟩ => ⟨S2x4096x16x64, .f32⟩
  | .hbm, ⟨62, _⟩ => ⟨S2x4096x16x64, .f32⟩
  | .hbm, ⟨63, _⟩ => ⟨S_, .f32⟩
  | .hbm, ⟨64, _⟩ => ⟨S64, .f32⟩
  | .hbm, ⟨65, _⟩ => ⟨S2x4096x16x64, .f32⟩
  | .hbm, ⟨66, _⟩ => ⟨S_, .f32⟩
  | .hbm, ⟨67, _⟩ => ⟨S2x4096x16, .f32⟩
  | .hbm, ⟨68, _⟩ => ⟨S2x4096x16x1, .f32⟩
  | .hbm, ⟨69, _⟩ => ⟨S2x4096x16x64, .f32⟩
  | .hbm, ⟨70, _⟩ => ⟨S2x4096x16x64, .f32⟩
  | .hbm, ⟨71, _⟩ => ⟨S2x4096x16x1, .f32⟩
  | .hbm, ⟨72, _⟩ => ⟨S_, .f32⟩
  | .hbm, ⟨73, _⟩ => ⟨S2x4096x16x1, .f32⟩
  | .hbm, ⟨74, _⟩ => ⟨S2x4096x16x1, .f32⟩
  | .hbm, ⟨75, _⟩ => ⟨S_, .f32⟩
  | .hbm, ⟨76, _⟩ => ⟨S2x4096x16, .f32⟩
  | .hbm, ⟨77, _⟩ => ⟨S2x4096x16x64, .f32⟩
  | .hbm, ⟨78, _⟩ => ⟨S2x4096x16x64, .f32⟩
  | .hbm, ⟨79, _⟩ => ⟨S2x4096x16x64, .f32⟩
  | .hbm, ⟨80, _⟩ => ⟨S2x4096x16x64, .f32⟩
  | .hbm, ⟨81, _⟩ => ⟨S2x4096x16x64, .f32⟩
  | .hbm, ⟨82, _⟩ => ⟨S1x64, .f32⟩
  | .hbm, ⟨83, _⟩ => ⟨S2x4096x1024, .f32⟩
  | .hbm, ⟨84, _⟩ => ⟨S2x4096x16x64, .f32⟩
  | .hbm, ⟨85, _⟩ => ⟨S_, .f32⟩
  | .hbm, ⟨86, _⟩ => ⟨S64, .f32⟩
  | .hbm, ⟨87, _⟩ => ⟨S1x1x1x64, .f32⟩
  | .hbm, ⟨88, _⟩ => ⟨S2x4096x16x64, .f32⟩
  | .hbm, ⟨89, _⟩ => ⟨S2x4096x16x64, .f32⟩
  | .hbm, ⟨90, _⟩ => ⟨S_, .f32⟩
  | .hbm, ⟨91, _⟩ => ⟨S64, .f32⟩
  | .hbm, ⟨92, _⟩ => ⟨S2x4096x16x64, .f32⟩
  | .hbm, ⟨93, _⟩ => ⟨S_, .f32⟩
  | .hbm, ⟨94, _⟩ => ⟨S2x4096x16, .f32⟩
  | .hbm, ⟨95, _⟩ => ⟨S2x4096x16x1, .f32⟩
  | .hbm, ⟨96, _⟩ => ⟨S2x4096x16x64, .f32⟩
  | .hbm, ⟨97, _⟩ => ⟨S2x4096x16x64, .f32⟩
  | .hbm, ⟨98, _⟩ => ⟨S2x4096x16x1, .f32⟩
  | .hbm, ⟨99, _⟩ => ⟨S_, .f32⟩
  | .hbm, ⟨100, _⟩ => ⟨S2x4096x16x1, .f32⟩
  | .hbm, ⟨101, _⟩ => ⟨S2x4096x16x1, .f32⟩
  | .hbm, ⟨102, _⟩ => ⟨S_, .f32⟩
  | .hbm, ⟨103, _⟩ => ⟨S2x4096x16, .f32⟩
  | .hbm, ⟨104, _⟩ => ⟨S2x4096x16x64, .f32⟩
  | .hbm, ⟨105, _⟩ => ⟨S2x4096x16x64, .f32⟩
  | .hbm, ⟨106, _⟩ => ⟨S2x4096x16x64, .f32⟩
  | .hbm, ⟨107, _⟩ => ⟨S2x4096x16x64, .f32⟩
  | .hbm, ⟨108, _⟩ => ⟨S2x4096x16x64, .f32⟩
  | .hbm, ⟨109, _⟩ => ⟨S1x64, .f32⟩
  | .hbm, ⟨110, _⟩ => ⟨S2x4096x1024, .f32⟩
  | .hbm, ⟨111, _⟩ => ⟨S8192x1024, .f32⟩
  | .hbm, ⟨112, _⟩ => ⟨S8192x1024, .bf16⟩
  | .hbm, ⟨113, _⟩ => ⟨S8192x1024, .f32⟩
  | .hbm, ⟨114, _⟩ => ⟨S8192x1024, .bf16⟩
  | _, _ => ⟨S2x4096x6672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_cst_13 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_14 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_cst_16 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_17 : Ref sig .tc := ⟨.hbm, 99, rfl⟩
abbrev main_v76 : Ref sig .tc := ⟨.hbm, 100, rfl⟩
abbrev main_v77 : Ref sig .tc := ⟨.hbm, 101, rfl⟩
abbrev main_cst_18 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]
-- ==== Kernel5.lean ====
abbrev S2x4096x6672 : Shape := ⟨3, ![2, 4096, 6672]⟩
abbrev S1x64 : Shape := ⟨2, ![1, 64]⟩
abbrev S8192x6672 : Shape := ⟨2, ![8192, 6672]⟩
abbrev S_ : Shape := ⟨0, ![]⟩
abbrev S8192x7168 : Shape := ⟨2, ![8192, 7168]⟩
abbrev S1x1x1x64 : Shape := ⟨4, ![1, 1, 1, 64]⟩
abbrev S1x1x2x64 : Shape := ⟨4, ![1, 1, 2, 64]⟩
abbrev S1x128 : Shape := ⟨2, ![1, 128]⟩
abbrev S8192x1024 : Shape := ⟨2, ![8192, 1024]⟩
abbrev S2x8x128x4096 : Shape := ⟨4, ![2, 8, 128, 4096]⟩
abbrev S2x4x8x128 : Shape := ⟨4, ![2, 4, 8, 128]⟩
abbrev S1024x1024 : Shape := ⟨2, ![1024, 1024]⟩
abbrev S1x8x128x1024 : Shape := ⟨4, ![1, 8, 128, 1024]⟩
abbrev S1x1x8x128 : Shape := ⟨4, ![1, 1, 8, 128]⟩
abbrev S1024x128 : Shape := ⟨2, ![1024, 128]⟩
abbrev S128x128 : Shape := ⟨2, ![128, 128]⟩
abbrev S128x1024 : Shape := ⟨2, ![128, 1024]⟩
abbrev S1x1x128x1024 : Shape := ⟨4, ![1, 1, 128, 1024]⟩
abbrev S128 : Shape := ⟨1, ![128]⟩
abbrev S1x1x1x128 : Shape := ⟨4, ![1, 1, 1, 128]⟩

abbrev nBuf : Space → Nat
  | .hbm => 18
  | .vmem => 18
  | .smem => 0
  | _ => 0

abbrev bufTy : (tb : Table) → Fin (tcTables nBuf tb) → BufTy
  | .hbm, ⟨0, _⟩ => ⟨S2x4096x6672, .f32⟩
  | .hbm, ⟨1, _⟩ => ⟨S1x64, .f32⟩
  | .hbm, ⟨2, _⟩ => ⟨S1x64, .f32⟩
  | .hbm, ⟨3, _⟩ => ⟨S8192x6672, .f32⟩
  | .hbm, ⟨4, _⟩ => ⟨S_, .i32⟩
  | .hbm, ⟨5, _⟩ => ⟨S_, .f32⟩
  | .hbm, ⟨6, _⟩ => ⟨S8192x7168, .f32⟩
  | .hbm, ⟨7, _⟩ => ⟨S1x1x1x64, .f32⟩
  | .hbm, ⟨8, _⟩ => ⟨S1x1x2x64, .f32⟩
  | .hbm, ⟨9, _⟩ => ⟨S1x128, .f32⟩
  | .hbm, ⟨10, _⟩ => ⟨S1x1x1x64, .f32⟩
  | .hbm, ⟨11, _⟩ => ⟨S1x1x2x64, .f32⟩
  | .hbm, ⟨12, _⟩ => ⟨S1x128, .f32⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S2x8x128x4096, .bf16⟩
  | .hbm, ⟨17, _⟩ => ⟨S2x4x8x128, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x128, .f32⟩
  | .local _ .vmem, ⟨7, _⟩ => ⟨S1x128, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x8x128x1024, .bf16⟩
  | .local _ .vmem, ⟨15, _⟩ => ⟨S1x8x128x1024, .bf16⟩
  | .local _ .vmem, ⟨16, _⟩ => ⟨S1x1x8x128, .f32⟩
  | .local _ .vmem, ⟨17, _⟩ => ⟨S1x1x8x128, .f32⟩
  | _, _ => ⟨S2x4096x6672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Proof.Reals.lean ====
/- Arithmetic of the ideal instance on finite values: each operation at the extended reals of real numbers is the
   real operation, and the float words the programs use are the rationals they stand for. -/
module

public import Idealize.ShloMosaic.Lib.Pointwise
public import Idealize.ShloMosaic.Lib.IdealHost
public import Mathlib.Analysis.SpecialFunctions.Log.Basic

@[expose] public section

noncomputable section

namespace Cert.Proof

open Idealize.ShloMosaic

/-- The extended real of a real number. -/
abbrev up (r : ℝ) : EReal := (r : EReal)

/-- A finite sum of reals, read in the extended reals. -/
theorem up_sum {ι : Type} (s : Finset ι) (f : ι → ℝ) : ∑ i ∈ s, up (f i) = up (∑ i ∈ s, f i) := by
  classical
  induction s using Finset.induction_on with
  | empty => simp [up]
  | insert a s ha ih => rw [Finset.sum_insert ha, Finset.sum_insert ha, ih, ← EReal.coe_add]

theorem up_zero : (0 : EReal) = up 0 := rfl
theorem up_one : (1 : EReal) = up 1 := rfl
theorem up_add (a b : ℝ) : up a + up b = up (a + b) := (EReal.coe_add a b).symm
theorem up_sub (a b : ℝ) : up a - up b = up (a - b) := (EReal.coe_sub a b).symm
theorem up_mul (a b : ℝ) : up a * up b = up (a * b) := (EReal.coe_mul a b).symm
theorem up_neg (a : ℝ) : -up a = up (-a) := (EReal.coe_neg a).symm
theorem up_exp (a : ℝ) : Ideal.exp (up a) = up (Real.exp a) := rfl
theorem up_max (a b : ℝ) : max (up a) (up b) = up (max a b) := by
  rcases le_total a b with h | h
  · rw [max_eq_right h, max_eq_right (EReal.coe_le_coe_iff.mpr h)]
  · rw [max_eq_left h, max_eq_left (EReal.coe_le_coe_iff.mpr h)]

theorem up_div (a : ℝ) {b : ℝ} (hb : b ≠ 0) : Ideal.div (up a) (up b) = up (a / b) := by
  have h : up b ≠ 0 := by simpa [up] using hb
  rw [Ideal.div, if_neg h, div_eq_mul_inv, ← up_mul]
  rw [show (up b)⁻¹ = up b⁻¹ from (EReal.coe_inv b).symm]

theorem up_rsqrt {a : ℝ} (ha : 0 < a) : Ideal.rsqrt (up a) = up (Real.sqrt a)⁻¹ := by
  show (if a < 0 then ⊥ else if a = 0 then ⊤ else (((Real.sqrt a)⁻¹ : ℝ) : EReal)) = _
  rw [if_neg ha.le.not_gt, if_neg ha.ne']

theorem up_log {a : ℝ} (ha : 0 < a) : Ideal.log (up a) = up (Real.log a) := by
  show (if a ≤ 0 then ⊥ else (Real.log a : EReal)) = _
  rw [if_neg ha.not_ge]

/-- The logistic function. -/
def sg (z : ℝ) : ℝ := 1 / (1 + Real.exp (-z))

theorem one_add_exp_pos (z : ℝ) : 0 < 1 + Real.exp z := by positivity

/-- The norms' `1e-6`, as the float word has it. -/
def eps : ℝ := 8796093 / 8796093022208

theorem eps_pos : 0 < eps := by unfold eps; norm_num

theorem word_one : Ideal.ofBits .f32 0x3F800000#32 = up 1 := by simpa using ofBits_one_f32
theorem word_two : Ideal.ofBits .f32 0x40000000#32 = up 2 := by
  simp [Ideal.ofBits, Ideal.ieee, up]; rw [← EReal.coe_mul]; norm_num
theorem word_half : Ideal.ofBits .f32 0x3F000000#32 = up (1 / 2) := by
  simp [Ideal.ofBits, Ideal.ieee, up]; rw [← EReal.coe_mul]; norm_num
theorem word_neg_half : Ideal.ofBits .f32 0xBF000000#32 = up (-(1 / 2)) := by
  simp [Ideal.ofBits, Ideal.ieee, up]; rw [← EReal.coe_mul]; norm_num
theorem word_1024 : Ideal.ofBits .f32 0x44800000#32 = up 1024 := by
  simp [Ideal.ofBits, Ideal.ieee, up]; rw [← EReal.coe_mul]; norm_num
theorem word_inv_1024 : Ideal.ofBits .f32 0x3A800000#32 = up (1 / 1024) := by
  simp [Ideal.ofBits, Ideal.ieee, up]; rw [← EReal.coe_mul]; norm_num
theorem word_inv_2048 : Ideal.ofBits .f32 0x3A000000#32 = up (1 / 2048) := by
  simp [Ideal.ofBits, Ideal.ieee, up]; rw [← EReal.coe_mul]; norm_num
theorem word_eps : Ideal.ofBits .f32 0x358637BD#32 = up eps := by
  simp [Ideal.ofBits, Ideal.ieee, up, eps]; rw [← EReal.coe_mul]; norm_num

/-- `1 / (1 + e^(-z))`. -/
theorem up_sg (z : ℝ) : Ideal.div (up 1) (up (1 + Real.exp (-z))) = up (sg z) :=
  up_div 1 (one_add_exp_pos (-z)).ne'

theorem up_div_1024 (a : ℝ) : Ideal.div (up a) (up 1024) = up (a / 1024) := up_div a (by norm_num)

/-- A mean square and a positive number under a root. -/
theorem meansq_pos {n : ℕ} (f : Fin n → ℝ) : 0 < (∑ k, f k * f k) / 1024 + eps :=
  add_pos_of_nonneg_of_pos (div_nonneg (Finset.sum_nonneg fun k _ => mul_self_nonneg (f k)) (by norm_num)) eps_pos

theorem up_rsqrt_meansq {n : ℕ} (f : Fin n → ℝ) :
    Ideal.rsqrt (up ((∑ k, f k * f k) / 1024 + eps)) = up (Real.sqrt ((∑ k, f k * f k) / 1024 + eps))⁻¹ :=
  up_rsqrt (meansq_pos f)

end Cert.Proof
end
-- ==== Proof.Finite.lean ====
/- A precondition of the form `|a| < ∞` read at the ideal instance: every entry is a real number. -/
module

public import proofs.«01_k».proof.Proof.Reals
public import Idealize.ShloMosaic.Lib.StableHlo

@[expose] public section

noncomputable section

namespace Cert.Proof

open Idealize.ShloMosaic

theorem word_inf : Ideal.ofBits .f32 0x7F800000#32 = ⊤ := by simp [Ideal.ofBits, Ideal.ieee]

/-- An extended real whose absolute value is below infinity is the real number it reads as. -/
theorem up_toReal {x : EReal} (h : Ideal.cmp .olt (max x (-x)) ⊤ = 1#1) : x = up x.toReal := by
  have h' : max x (-x) < ⊤ := by
    by_contra hn
    simp [Ideal.cmp, hn] at h
  rw [max_lt_iff] at h'
  refine (EReal.coe_toReal h'.1.ne fun hb => ?_).symm
  rw [hb] at h'
  simp at h'

/-- Where the comparison holds everywhere the array is one of real numbers. -/
theorem real_of_finite {s : Shape} {a : FVec Ideal s .f32} {hb : (⟨0, ![]⟩ : Shape).BroadcastsInDim s ![]}
    (h : cmpf .olt (Host.absf a) (broadcastInDim s ![] hb (constant (F := Ideal) ⟨0, ![]⟩ .f32 0x7F800000#32)) = fun _ => 1#1)
    (i : s.Idx) : a i = up (a i).toReal := by
  have e : Ideal.cmp .olt (max (a i) (-a i)) (Ideal.ofBits .f32 0x7F800000#32) = 1#1 := congrFun h i
  rw [word_inf] at e
  exact up_toReal e

end Cert.Proof
end
-- ==== Proof.MidSpec.lean ====
/- The gated RMS norms, the output projection, the loss and their gradients, over the reals, one token row at a time.
   `R` is the type of the rows; the two programs take different ones. -/
module

public import proofs.«01_k».proof.Proof.Reals
public import Idealize.ShloMosaic.Lib.Pipeline.ValueKit

@[expose] public section

noncomputable section

namespace Cert.Proof.Mid

open Cert.Proof

variable {R : Type}

/-- A branch times the silu of its gate. -/
def gated (o z : R → Fin 1024 → ℝ) (r : R) (k : Fin 1024) : ℝ := o r k * (z r k * sg (z r k))
/-- One over the root mean square of a row. -/
def rn (g : R → Fin 1024 → ℝ) (r : R) : ℝ := (Real.sqrt ((∑ k, g r k * g r k) / 1024 + eps))⁻¹
/-- The normalised row. -/
def nrm (g : R → Fin 1024 → ℝ) (r : R) (k : Fin 1024) : ℝ := g r k * rn g r
/-- The norm's output: the normalised row times the weight. -/
def scaled (g : R → Fin 1024 → ℝ) (w : Fin 1024 → ℝ) (r : R) (k : Fin 1024) : ℝ := nrm g r k * w k
/-- The residual output less the target. -/
def diff (x tg a b : R → Fin 1024 → ℝ) (W₀ W₁ : Fin 1024 → Fin 1024 → ℝ) (r : R) (c : Fin 1024) : ℝ :=
  x r c + ∑ k, a r k * W₀ k c + ∑ k, b r k * W₁ k c - tg r c
/-- The gradient of the loss in the output. -/
def dout (d : R → Fin 1024 → ℝ) (r : R) (c : Fin 1024) : ℝ := d r c * (1 / 1024)
/-- The gradient of the loss in one branch's part of the mixed row. -/
def dmix (d : R → Fin 1024 → ℝ) (W : Fin 1024 → Fin 1024 → ℝ) (r : R) (k : Fin 1024) : ℝ := ∑ c, d r c * W k c
/-- The gradient through the norm. -/
def dnorm (g : R → Fin 1024 → ℝ) (w : Fin 1024 → ℝ) (dm : R → Fin 1024 → ℝ) (r : R) (k : Fin 1024) : ℝ :=
  rn g r * (dm r k * w k - nrm g r k * ((∑ j, dm r j * w j * nrm g r j) / 1024))
/-- The gradient in the branch. -/
def dval (z dg : R → Fin 1024 → ℝ) (r : R) (k : Fin 1024) : ℝ := dg r k * (z r k * sg (z r k))
/-- The gradient in the gate's argument. -/
def dgate (o z dg : R → Fin 1024 → ℝ) (r : R) (k : Fin 1024) : ℝ :=
  dg r k * o r k * (sg (z r k) * (1 + z r k * (1 - sg (z r k))))

/-- Two branches side by side. -/
def cat (a b : R → Fin 1024 → ℝ) (r : R) (k : Fin 2048) : ℝ :=
  if h : k.val < 1024 then a r ⟨k.val, h⟩ else b r ⟨k.val - 1024, by omega⟩

theorem cat_lo (a b : R → Fin 1024 → ℝ) (r : R) (k : Fin 1024) (h : k.val < 2048) : cat a b r ⟨k.val, h⟩ = a r k :=
  dif_pos k.isLt

theorem cat_hi (a b : R → Fin 1024 → ℝ) (r : R) (k : Fin 1024) (h : 1024 + k.val < 2048) :
    cat a b r ⟨1024 + k.val, h⟩ = b r k := by
  have : ¬ 1024 + k.val < 1024 := by omega
  simp only [cat, this, dif_neg, not_false_eq_true]
  exact congrArg (b r) (Fin.ext (Nat.add_sub_cancel_left _ _))

/-- The arguments as real arrays, the token rows of the two sequences one after the other. -/
structure Args where
  (o y za zb x tg : Fin 8192 → Fin 1024 → ℝ)
  (wa wb : Fin 1024 → ℝ)
  (W : Fin 2048 → Fin 1024 → ℝ)

/-- The row of sequence `b` at position `s`. -/
def tok (b : Fin 2) (s : Fin 4096) : Fin 8192 := ⟨4096 * b.val + s.val, by omega⟩

open Idealize.ShloMosaic in
/-- The argument arrays hold the real arrays `A`. -/
structure Holds (a0 a1 : (⟨3, ![2, 4096, 1024]⟩ : Shape).Idx → EReal) (a2 : (⟨3, ![2, 4096, 6672]⟩ : Shape).Idx → EReal)
    (a3 a4 : (⟨3, ![2, 4096, 1024]⟩ : Shape).Idx → EReal) (a5 a6 : (⟨2, ![1, 1024]⟩ : Shape).Idx → EReal)
    (a7 : (⟨3, ![1, 2048, 1024]⟩ : Shape).Idx → EReal) (A : Args) : Prop where
  o : ∀ b s k, a0 (ix3 b s k) = up (A.o (tok b s) k)
  y : ∀ b s k, a1 (ix3 b s k) = up (A.y (tok b s) k)
  za : ∀ b s (k : Fin 1024), a2 (ix3 b s ⟨3072 + k.val, by omega⟩) = up (A.za (tok b s) k)
  zb : ∀ b s (k : Fin 1024), a2 (ix3 b s ⟨4096 + k.val, by omega⟩) = up (A.zb (tok b s) k)
  x : ∀ b s k, a3 (ix3 b s k) = up (A.x (tok b s) k)
  tg : ∀ b s k, a4 (ix3 b s k) = up (A.tg (tok b s) k)
  wa : ∀ k, a5 (ix2 0 k) = up (A.wa k)
  wb : ∀ k, a6 (ix2 0 k) = up (A.wb k)
  W : ∀ r k, a7 (ix3 0 r k) = up (A.W r k)

namespace Args
variable (A : Args)

/-- The two halves of the output projection. -/
def W₀ (k c : Fin 1024) : ℝ := A.W ⟨k.val, by omega⟩ c
def W₁ (k c : Fin 1024) : ℝ := A.W ⟨1024 + k.val, by omega⟩ c
/-- The two branches normalised and weighted. -/
def ma : Fin 8192 → Fin 1024 → ℝ := scaled (gated A.o A.za) A.wa
def mb : Fin 8192 → Fin 1024 → ℝ := scaled (gated A.y A.zb) A.wb
/-- The output less the target, and the gradient in the output. -/
def d : Fin 8192 → Fin 1024 → ℝ := diff A.x A.tg A.ma A.mb A.W₀ A.W₁
def g : Fin 8192 → Fin 1024 → ℝ := dout A.d
/-- The gradients in the two normalised branches and in the gated ones. -/
def na : Fin 8192 → Fin 1024 → ℝ := dmix A.g A.W₀
def nb : Fin 8192 → Fin 1024 → ℝ := dmix A.g A.W₁
def ga : Fin 8192 → Fin 1024 → ℝ := dnorm (gated A.o A.za) A.wa A.na
def gb : Fin 8192 → Fin 1024 → ℝ := dnorm (gated A.y A.zb) A.wb A.nb
/-- The gradients in the branches and in their gates. -/
def gradO : Fin 8192 → Fin 1024 → ℝ := dval A.za A.ga
def gradY : Fin 8192 → Fin 1024 → ℝ := dval A.zb A.gb
def gradZa : Fin 8192 → Fin 1024 → ℝ := dgate A.o A.za A.ga
def gradZb : Fin 8192 → Fin 1024 → ℝ := dgate A.y A.zb A.gb
def gradZ : Fin 8192 → Fin 2048 → ℝ := cat A.gradZa A.gradZb
/-- The gradient in the output projection. -/
def gradW (k : Fin 2048) (c : Fin 1024) : ℝ := ∑ r, cat A.ma A.mb r k * A.g r c
/-- The gradients in the norms' weights. -/
def gradWa (k : Fin 1024) : ℝ := ∑ r, A.na r k * nrm (gated A.o A.za) r k
def gradWb (k : Fin 1024) : ℝ := ∑ r, A.nb r k * nrm (gated A.y A.zb) r k
/-- The loss. -/
def loss : ℝ := 1 / 2048 * ∑ r, ∑ c, A.d r c * A.d r c

end Args

end Cert.Proof.Mid
end
-- ==== Proof.MidPay.lean ====
/- What one grid point of `_mid` computes from finite blocks. -/
module

public import proofs.«01_k».proof.Proof.Gen.KernelIdeal.Value
public import proofs.«01_k».proof.Proof.MidSpec
public import Idealize.ShloMosaic.Lib.Pipeline.ValueKit
public import Idealize.ShloMosaic.Lib.Pointwise

@[expose] public section

set_option maxRecDepth 16384

noncomputable section

namespace Cert.Proof.Mid

open Idealize.ShloMosaic Idealize.ShloMosaic.TcCoe Idealize.ShloMosaic.Tactic Cert.KernelIdeal Cert.KernelIdeal.Gen
open Cert.Proof

/-- A block of finite values. -/
abbrev up2 {a b : ℕ} (f : Fin a → Fin b → ℝ) : (⟨2, ![a, b]⟩ : Shape).Idx → EReal := fun i => up (f (i 0) (i 1))
/-- A row of finite values. -/
abbrev upr {b : ℕ} (f : Fin b → ℝ) : (⟨2, ![1, b]⟩ : Shape).Idx → EReal := fun i => up (f (i 1))

variable (o y za zb x tg : Fin 256 → Fin 1024 → ℝ) (wa wb : Fin 1024 → ℝ) (W₀ W₁ : Fin 1024 → Fin 1024 → ℝ)

theorem pay9 : k0_pay9 (F := Ideal) (up2 o) = up2 o := by
  funext i; pointwise [k0_pay9]

theorem pay12 : k0_pay12 (F := Ideal) (up2 za) = up2 fun r k => sg (za r k) := by
  funext i; pointwise [k0_pay12, k0_pay11]
  simp only [up2, up_one, up_zero, up_sub, up_exp, up_add, zero_sub, up_sg]

theorem pay15 : k0_pay15 (F := Ideal) (up2 o) (up2 za) = up2 (gated o za) := by
  funext i; pointwise [k0_pay15, k0_pay13, pay12, pay9, k0_pay11]
  simp only [up_mul]; rfl

theorem pay16 : k0_pay16 (F := Ideal) (up2 o) (up2 za) = fun i => up (rn (gated o za) (i 0)) := by
  funext i; pointwise [k0_pay16, pay15]
  simp only [word_1024, word_eps, up_mul, up_zero, up_add, up_sum, up_div_1024, up_rsqrt_meansq]
  rfl

theorem pay14 : k0_pay14 (F := Ideal) (up2 za) = up2 fun r k => sg (za r k) * (1 + za r k * (1 - sg (za r k))) := by
  funext i; pointwise [k0_pay14, pay12, k0_pay11]
  simp only [up_one, up_sub, up_mul, up_add]

theorem pay13 : k0_pay13 (F := Ideal) (up2 za) = up2 fun r k => za r k * sg (za r k) := by
  funext i; pointwise [k0_pay13, pay12, k0_pay11]
  simp only [up_mul]

theorem pay17 : k0_pay17 (F := Ideal) (up2 o) (up2 za) = up2 (nrm (gated o za)) := by
  funext i; pointwise [k0_pay17, pay15, pay16]
  simp only [up_mul]; rfl

theorem pay18 : k0_pay18 (F := Ideal) (up2 o) (up2 za) (upr wa) = up2 (scaled (gated o za) wa) := by
  funext i; pointwise [k0_pay18, pay17]
  simp only [up_mul]; rfl

theorem pay21 : k0_pay21 (F := Ideal) (up2 zb) = up2 fun r k => zb r k * sg (zb r k) := pay13 zb
theorem pay22 : k0_pay22 (F := Ideal) (up2 zb) = up2 fun r k => sg (zb r k) * (1 + zb r k * (1 - sg (zb r k))) :=
  pay14 zb
theorem pay23 : k0_pay23 (F := Ideal) (up2 y) (up2 zb) = up2 (gated y zb) := by
  funext i; pointwise [k0_pay23, pay21]
  simp only [up_mul]; rfl
theorem pay24 : k0_pay24 (F := Ideal) (up2 y) (up2 zb) = fun i => up (rn (gated y zb) (i 0)) := by
  funext i; pointwise [k0_pay24, pay23]
  simp only [word_1024, word_eps, up_mul, up_zero, up_add, up_sum, up_div_1024, up_rsqrt_meansq]
  rfl
theorem pay25 : k0_pay25 (F := Ideal) (up2 y) (up2 zb) = up2 (nrm (gated y zb)) := by
  funext i; pointwise [k0_pay25, pay23, pay24]
  simp only [up_mul]; rfl
theorem pay26 : k0_pay26 (F := Ideal) (up2 y) (up2 zb) (upr wb) = up2 (scaled (gated y zb) wb) := by
  funext i; pointwise [k0_pay26, pay25]
  simp only [up_mul]; rfl

theorem pay27 (a : Fin 256 → Fin 1024 → ℝ) :
    k0_pay27 (F := Ideal) (up2 y) (up2 a) (up2 zb) (upr wb) (up2 x) (up2 W₀) (up2 W₁) =
      up2 fun r c => x r c + ∑ k, a r k * W₀ k c + ∑ k, scaled (gated y zb) wb r k * W₁ k c := by
  funext i
  pointwise [k0_pay27, pay26]
  simp only [up_mul, up_sum, up_add]; rfl

theorem pay28 (d : Fin 256 → Fin 1024 → ℝ) :
    k0_pay28 (F := Ideal) (up2 d) (up2 tg) = up2 fun r c => d r c - tg r c := by
  funext i; pointwise [k0_pay28]
  simp only [up_sub]

theorem pay30 (d : Fin 256 → Fin 1024 → ℝ) :
    k0_pay30 (F := Ideal) (up2 d) (up2 tg) = up2 (dout fun r c => d r c - tg r c) := by
  funext i; pointwise [k0_pay30, pay28]
  simp only [word_inv_1024, up_mul]; rfl

/-- A sum over a whole block, whatever unit axis the block was given first. -/
theorem total_block (v : FVec Ideal S256x1024 .f32) (j : S1.Idx) :
    multiReduction (F := Ideal) .add [1, 2] S1 (shapeCast S1x256x1024 v shapeCasts_S256x1024_S1x256x1024) 0x00000000#32
      reduces_S1x256x1024_S1 (.inl rfl) rfl j = ∑ r : Fin 256, ∑ c : Fin 1024, v (ix2 r c) := by
  exact (Ideal.multiReduction_add_total _ _ _ (by decide) _ _ _).trans
    ((Equiv.sum_comp (Shape.reshapeEquiv shapeCasts_S256x1024_S1x256x1024) v).trans (sum_idx2 v))

theorem pay29 (d : Fin 256 → Fin 1024 → ℝ) (l : Fin 128 → ℝ) :
    k0_pay29 (F := Ideal) (up2 d) (up2 tg) (upr l) =
      upr fun j => l j + 1 / 2048 * ∑ r, ∑ c, (d r c - tg r c) * (d r c - tg r c) := by
  have e := fun v => funext (total_block v)
  funext i
  simp only [k0_pay29, pay28, e]
  have hs : ∑ r : Fin 256, ∑ c : Fin 1024,
      mulf (F := Ideal) (φ := .f32) (up2 fun r c => d r c - tg r c) (up2 fun r c => d r c - tg r c) (ix2 r c) =
      up (∑ r, ∑ c, (d r c - tg r c) * (d r c - tg r c)) := by
    simp only [← up_sum, ← up_mul]; rfl
  rw [hs]
  generalize ∑ r, ∑ c, (d r c - tg r c) * (d r c - tg r c) = S
  pointwise
  simp only [word_inv_2048, up_mul, up_add]

theorem pay32 (a d : Fin 256 → Fin 1024 → ℝ) (g : Fin 1024 → Fin 1024 → ℝ) :
    k0_pay32 (F := Ideal) (up2 a) (up2 d) (up2 tg) (up2 g) =
      up2 fun k c => g k c + ∑ r, a r k * dout (fun r c => d r c - tg r c) r c := by
  funext i; pointwise [k0_pay32, k0_pay31, pay30]
  simp only [up_mul, up_sum, up_add]; rfl

theorem pay34 (d : Fin 256 → Fin 1024 → ℝ) :
    k0_pay34 (F := Ideal) (up2 d) (up2 tg) (up2 W₀) = up2 (dmix (dout fun r c => d r c - tg r c) W₀) := by
  funext i; pointwise [k0_pay34, k0_pay31, pay30]
  simp only [up_mul, up_sum, up_add]; rfl

theorem pay36 (g dm : Fin 256 → Fin 1024 → ℝ) :
    k0_pay36 (F := Ideal) (fun i => up (rn g (i 0))) (up2 (nrm g)) (up2 dm) (upr wa) = up2 (dnorm g wa dm) := by
  funext i; pointwise [k0_pay36]
  simp only [word_1024, up_zero, up_mul, up_sum, up_add, up_sub, up_div_1024]; rfl

theorem pay39 (g dm : Fin 256 → Fin 1024 → ℝ) :
    k0_pay39 (F := Ideal) (up2 (nrm g)) (up2 dm) = upr fun k => ∑ r, dm r k * nrm g r k := by
  funext i; pointwise [k0_pay39]
  simp only [up_zero, up_mul, up_sum, up_add]; rfl

theorem pay31 (d : Fin 256 → Fin 1024 → ℝ) :
    k0_pay31 (F := Ideal) (up2 d) (up2 tg) = up2 (dout fun r c => d r c - tg r c) := pay30 tg d

theorem pay33 (a d : Fin 256 → Fin 1024 → ℝ) (g : Fin 1024 → Fin 1024 → ℝ) :
    k0_pay33 (F := Ideal) (up2 a) (up2 d) (up2 tg) (up2 g) =
      up2 fun k c => g k c + ∑ r, a r k * dout (fun r c => d r c - tg r c) r c := pay32 tg a d g

theorem pay35 (d : Fin 256 → Fin 1024 → ℝ) :
    k0_pay35 (F := Ideal) (up2 d) (up2 W₁) = up2 (dmix d W₁) := by
  funext i; pointwise [k0_pay35]
  simp only [up_mul, up_sum]; rfl

theorem pay37 (g dm : Fin 256 → Fin 1024 → ℝ) :
    k0_pay37 (F := Ideal) (up2 fun r k => za r k * sg (za r k)) (fun i => up (rn g (i 0))) (up2 (nrm g)) (up2 dm) (upr wa) =
      up2 (dval za (dnorm g wa dm)) := by
  funext i; pointwise [k0_pay37, pay36]
  simp only [up_mul]; rfl

theorem pay38 (g dm : Fin 256 → Fin 1024 → ℝ) :
    k0_pay38 (F := Ideal) (up2 o) (up2 fun r k => sg (za r k) * (1 + za r k * (1 - sg (za r k))))
      (fun i => up (rn g (i 0))) (up2 (nrm g)) (up2 dm) (upr wa) = up2 (dgate o za (dnorm g wa dm)) := by
  funext i; pointwise [k0_pay38, pay36]
  simp only [up_mul]; rfl

theorem pay41 (g d : Fin 256 → Fin 1024 → ℝ) :
    k0_pay41 (F := Ideal) (up2 fun r k => zb r k * sg (zb r k)) (fun i => up (rn g (i 0))) (up2 (nrm g)) (up2 d) (up2 W₁)
      (upr wb) = up2 (dval zb (dnorm g wb (dmix d W₁))) := by
  rw [← pay37 zb wb g (dmix d W₁), ← pay35]; rfl

theorem pay42 (g d : Fin 256 → Fin 1024 → ℝ) :
    k0_pay42 (F := Ideal) (up2 y) (up2 fun r k => sg (zb r k) * (1 + zb r k * (1 - sg (zb r k))))
      (fun i => up (rn g (i 0))) (up2 (nrm g)) (up2 d) (up2 W₁) (upr wb) =
      up2 (dgate y zb (dnorm g wb (dmix d W₁))) := by
  rw [← pay38 y zb wb g (dmix d W₁), ← pay35]; rfl

theorem pay43 (g d : Fin 256 → Fin 1024 → ℝ) :
    k0_pay43 (F := Ideal) (up2 (nrm g)) (up2 d) (up2 W₁) = upr fun k => ∑ r, dmix d W₁ r k * nrm g r k := by
  rw [← pay39, ← pay35]; rfl

theorem pay3 (a b : Fin 1024 → ℝ) : k0_pay3 (F := Ideal) (upr a) (upr b) = upr fun k => b k + a k := by
  funext i; pointwise [k0_pay3]
  simp only [up_add]

theorem pay4 (a b : Fin 1024 → ℝ) : k0_pay4 (F := Ideal) (upr a) (upr b) = upr fun k => b k + a k := pay3 a b

theorem pay10 : k0_pay10 (F := Ideal) (up2 y) = up2 y := pay9 y
theorem pay1 (v : FVec Ideal S256x1024 .f32) : k0_pay1 v = v := rfl
theorem pay2 (v : FVec Ideal S256x1024 .f32) : k0_pay2 v = v := rfl

end Cert.Proof.Mid
end
-- ==== Proof.MidBlocks.lean ====
/- The arrays `_mid` is launched on, and the blocks its grid points read of them, when every argument is finite. -/
module

public import proofs.«01_k».proof.Proof.MidPay
public import Idealize.ShloMosaic.Lib.Claim

@[expose] public section

set_option maxRecDepth 16384

noncomputable section

namespace Cert.Proof.Mid

open Idealize.ShloMosaic Idealize.ShloMosaic.TcCoe Idealize.ShloMosaic.Tactic Cert.KernelIdeal Cert.KernelIdeal.Gen
open Cert.Proof

variable (m : (ℓ : Loc nD τ sig) → Buf (Elt Ideal) ℓ)

/-- The argument arrays of the launched memory hold `A`. -/
abbrev HoldsAt (c : Dev nD) (A : Args) : Prop :=
  Holds (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) A

/-- The token rows laid flat. -/
theorem flat_apply (v : (⟨3, ![2, 4096, 1024]⟩ : Shape).Idx → EReal) (f : Fin 8192 → Fin 1024 → ℝ)
    (h : ∀ b s k, v (ix3 b s k) = up (f (tok b s) k)) (r : Fin 8192) (k : Fin 1024) :
    shapeCast S8192x1024 v shapeCasts_S2x4096x1024_S8192x1024 (ix2 r k) = up (f r k) := by
  have e : tok ⟨r.val / 4096, by omega⟩ ⟨r.val % 4096, by omega⟩ = r := Fin.ext (by simp only [tok]; omega)
  have := h ⟨r.val / 4096, by omega⟩ ⟨r.val % 4096, by omega⟩ k
  rw [e] at this
  rw [← this]
  pointwise

theorem proj_apply (u : FVec Ideal S2x4096x6672 .f32) (z : FVec Ideal S_ .f32) (r : Fin 8192) (k : Fin 7168)
    (hk : k.val < 6672) :
    pad S8192x7168 ![0, 0] ![0, 496] ![0, 0] (shapeCast S8192x6672 u shapeCasts_S2x4096x6672_S8192x6672) z
      pads_S8192x6672_S8192x7168_000_04960 h_S_ (ix2 r k) =
      u (ix3 ⟨r.val / 4096, by omega⟩ ⟨r.val % 4096, by omega⟩ ⟨k.val, hk⟩) := by
  pointwise
  simp only [hk, dif_pos]

theorem w_apply (u : FVec Ideal S1x2048x1024 .f32) (r : Fin 2048) (k : Fin 1024) :
    truncf (F := Ideal) .bf16 (shapeCast S2048x1024 u shapeCasts_S1x2048x1024_S2048x1024) bitsLt_bf16_f32 (ix2 r k) =
      u (ix3 0 r k) := by
  pointwise

/-- The token rows of point `t`. -/
def row (t : Fin cfg0.N) (p : Fin 256) : Fin 8192 :=
  ⟨256 * t.val + p.val, by have : t.val < 32 := t.isLt; omega⟩

/-- Point `t`'s rows of an array. -/
abbrev rows {α : Type} (t : Fin cfg0.N) (f : Fin 8192 → α) (p : Fin 256) : α := f (row t p)

/-- A sum over the rows, point by point. -/
theorem sum_rows (f : Fin 8192 → ℝ) : ∑ t : Fin 32, ∑ p : Fin 256, f (row t p) = ∑ r, f r := by
  rw [← Fintype.sum_prod_type' fun (t : Fin 32) (p : Fin 256) => f (row t p)]
  refine Fintype.sum_equiv (finProdFinEquiv (m := 32) (n := 256)) _ _ fun q => congrArg f (Fin.ext ?_)
  simp only [row, finProdFinEquiv_apply_val]; omega

variable {m} {c : Dev nD} {A : Args} (H : HoldsAt m c A)
include H

theorem entry_o (r : Fin 8192) (k : Fin 1024) : V m c main_v2 (ix2 r k) = up (A.o r k) := by
  have e : V m c main_v2 = shapeCast S8192x1024 (m ((c : Thread nD τ).loc main_arg0)) shapeCasts_S2x4096x1024_S8192x1024 := by
    show StableHlo.after [hostOps0, hostOps0_1, hostOps0_2].flatten _ _ = _
    simp only [hostOps0, hostOps0_1, hostOps0_2, List.flatten_cons, List.flatten_nil, List.cons_append, List.nil_append,
      List.append_nil]
    after_results <;> rfl
  rw [e]; exact flat_apply _ _ H.o r k

theorem entry_y (r : Fin 8192) (k : Fin 1024) : V m c main_v3 (ix2 r k) = up (A.y r k) := by
  have e : V m c main_v3 = shapeCast S8192x1024 (m ((c : Thread nD τ).loc main_arg1)) shapeCasts_S2x4096x1024_S8192x1024 := by
    show StableHlo.after [hostOps0, hostOps0_1, hostOps0_2].flatten _ _ = _
    simp only [hostOps0, hostOps0_1, hostOps0_2, List.flatten_cons, List.flatten_nil, List.cons_append, List.nil_append,
      List.append_nil]
    after_results <;> rfl
  rw [e]; exact flat_apply _ _ H.y r k

theorem entry_x (r : Fin 8192) (k : Fin 1024) : V m c main_v4 (ix2 r k) = up (A.x r k) := by
  have e : V m c main_v4 = shapeCast S8192x1024 (m ((c : Thread nD τ).loc main_arg3)) shapeCasts_S2x4096x1024_S8192x1024 := by
    show StableHlo.after [hostOps0, hostOps0_1, hostOps0_2].flatten _ _ = _
    simp only [hostOps0, hostOps0_1, hostOps0_2, List.flatten_cons, List.flatten_nil, List.cons_append, List.nil_append,
      List.append_nil]
    after_results <;> rfl
  rw [e]; exact flat_apply _ _ H.x r k

theorem entry_tg (r : Fin 8192) (k : Fin 1024) : V m c main_v5 (ix2 r k) = up (A.tg r k) := by
  have e : V m c main_v5 = shapeCast S8192x1024 (m ((c : Thread nD τ).loc main_arg4)) shapeCasts_S2x4096x1024_S8192x1024 := by
    show StableHlo.after [hostOps0, hostOps0_1, hostOps0_2].flatten _ _ = _
    simp only [hostOps0, hostOps0_1, hostOps0_2, List.flatten_cons, List.flatten_nil, List.cons_append, List.nil_append,
      List.append_nil]
    after_results <;> rfl
  rw [e]; exact flat_apply _ _ H.tg r k

omit H in
theorem entry_p : V m c main_v1 = pad S8192x7168 ![0, 0] ![0, 496] ![0, 0]
    (shapeCast S8192x6672 (m ((c : Thread nD τ).loc main_arg2)) shapeCasts_S2x4096x6672_S8192x6672)
    (sitofp (F := Ideal) .f32 (constantI S_ 32 0#32)) pads_S8192x6672_S8192x7168_000_04960 h_S_ := by
  show StableHlo.after [hostOps0, hostOps0_1, hostOps0_2].flatten _ _ = _
  simp only [hostOps0, hostOps0_1, hostOps0_2, List.flatten_cons, List.flatten_nil, List.cons_append, List.nil_append,
    List.append_nil]
  after_results <;> rfl

theorem entry_za (r : Fin 8192) (k : Fin 1024) : V m c main_v1 (ix2 r ⟨3072 + k.val, by omega⟩) = up (A.za r k) := by
  have e : tok ⟨r.val / 4096, by omega⟩ ⟨r.val % 4096, by omega⟩ = r := Fin.ext (by simp only [tok]; omega)
  have h := H.za ⟨r.val / 4096, by omega⟩ ⟨r.val % 4096, by omega⟩ k
  rw [e] at h
  rw [entry_p]; exact (proj_apply _ _ r ⟨3072 + k.val, by omega⟩ (by show 3072 + k.val < 6672; omega)).trans h

theorem entry_zb (r : Fin 8192) (k : Fin 1024) : V m c main_v1 (ix2 r ⟨4096 + k.val, by omega⟩) = up (A.zb r k) := by
  have e : tok ⟨r.val / 4096, by omega⟩ ⟨r.val % 4096, by omega⟩ = r := Fin.ext (by simp only [tok]; omega)
  have h := H.zb ⟨r.val / 4096, by omega⟩ ⟨r.val % 4096, by omega⟩ k
  rw [e] at h
  rw [entry_p]; exact (proj_apply _ _ r ⟨4096 + k.val, by omega⟩ (by show 4096 + k.val < 6672; omega)).trans h

theorem entry_W (r : Fin 2048) (k : Fin 1024) : V m c main_v7 (ix2 r k) = up (A.W r k) := by
  have e : V m c main_v7 = truncf (F := Ideal) .bf16
      (shapeCast S2048x1024 (m ((c : Thread nD τ).loc main_arg7)) shapeCasts_S1x2048x1024_S2048x1024) bitsLt_bf16_f32 := by
    show StableHlo.after [hostOps0, hostOps0_1, hostOps0_2].flatten _ _ = _
    simp only [hostOps0, hostOps0_1, hostOps0_2, List.flatten_cons, List.flatten_nil, List.cons_append, List.nil_append,
      List.append_nil]
    after_results <;> rfl
  rw [e]; exact (w_apply _ r k).trans (H.W r k)

theorem blk0 (t : Fin cfg0.N) : iblk m c 0 t = up2 (rows t A.o) := by
  have idx : ∀ t : Fin grid0.N, win0_0.index t = ![t.val, 0] := by decide +kernel
  funext i
  obtain ⟨p, k, rfl⟩ : ∃ p k, i = ix2 p k := ⟨i 0, i 1, (ix2_eta i).symm⟩
  show _ = up (A.o (row t p) k)
  rw [← entry_o H]
  unfold row
  blk_ext [iblk, idx t]

theorem blk1 (t : Fin cfg0.N) : iblk m c 1 t = up2 (rows t A.y) := by
  have idx : ∀ t : Fin grid0.N, win0_1.index t = ![t.val, 0] := by decide +kernel
  funext i
  obtain ⟨p, k, rfl⟩ : ∃ p k, i = ix2 p k := ⟨i 0, i 1, (ix2_eta i).symm⟩
  show _ = up (A.y (row t p) k)
  rw [← entry_y H]
  unfold row
  blk_ext [iblk, idx t]

theorem blk2 (t : Fin cfg0.N) : iblk m c 2 t = up2 (rows t A.za) := by
  have idx : ∀ t : Fin grid0.N, win0_2.index t = ![t.val, 3] := by decide +kernel
  funext i
  obtain ⟨p, k, rfl⟩ : ∃ p k, i = ix2 p k := ⟨i 0, i 1, (ix2_eta i).symm⟩
  show _ = up (A.za (row t p) k)
  rw [← entry_za H]
  unfold row
  blk_ext [iblk, idx t]

theorem blk3 (t : Fin cfg0.N) : iblk m c 3 t = up2 (rows t A.zb) := by
  have idx : ∀ t : Fin grid0.N, win0_3.index t = ![t.val, 4] := by decide +kernel
  funext i
  obtain ⟨p, k, rfl⟩ : ∃ p k, i = ix2 p k := ⟨i 0, i 1, (ix2_eta i).symm⟩
  show _ = up (A.zb (row t p) k)
  rw [← entry_zb H]
  unfold row
  blk_ext [iblk, idx t]

theorem blk4 (t : Fin cfg0.N) : iblk m c 4 t = up2 (rows t A.x) := by
  have idx : ∀ t : Fin grid0.N, win0_4.index t = ![t.val, 0] := by decide +kernel
  funext i
  obtain ⟨p, k, rfl⟩ : ∃ p k, i = ix2 p k := ⟨i 0, i 1, (ix2_eta i).symm⟩
  show _ = up (A.x (row t p) k)
  rw [← entry_x H]
  unfold row
  blk_ext [iblk, idx t]

theorem blk5 (t : Fin cfg0.N) : iblk m c 5 t = up2 (rows t A.tg) := by
  have idx : ∀ t : Fin grid0.N, win0_5.index t = ![t.val, 0] := by decide +kernel
  funext i
  obtain ⟨p, k, rfl⟩ : ∃ p k, i = ix2 p k := ⟨i 0, i 1, (ix2_eta i).symm⟩
  show _ = up (A.tg (row t p) k)
  rw [← entry_tg H]
  unfold row
  blk_ext [iblk, idx t]

theorem blk6 (t : Fin cfg0.N) : iblk m c 6 t = upr A.wa := by
  have idx : ∀ t : Fin grid0.N, win0_6.index t = ![0, 0] := by decide +kernel
  funext i
  obtain ⟨p, k, rfl⟩ : ∃ p k, i = ix2 p k := ⟨i 0, i 1, (ix2_eta i).symm⟩
  refine Eq.trans ?_ ((congrFun (V_main_arg5 m c) (ix2 0 k)).trans (H.wa k))
  blk_ext [iblk, idx t]

theorem blk7 (t : Fin cfg0.N) : iblk m c 7 t = upr A.wb := by
  have idx : ∀ t : Fin grid0.N, win0_7.index t = ![0, 0] := by decide +kernel
  funext i
  obtain ⟨p, k, rfl⟩ : ∃ p k, i = ix2 p k := ⟨i 0, i 1, (ix2_eta i).symm⟩
  refine Eq.trans ?_ ((congrFun (V_main_arg6 m c) (ix2 0 k)).trans (H.wb k))
  blk_ext [iblk, idx t]

theorem blk8 (t : Fin cfg0.N) :
    View.ld (iblk m c 8 t) (Rect.unit ![0, 0] ![1024, 1024] inb_S2048x1024_S1024x1024_0_0) = up2 A.W₀ := by
  have idx : ∀ t : Fin grid0.N, win0_8.index t = ![0, 0] := by decide +kernel
  funext i
  obtain ⟨p, k, rfl⟩ : ∃ p k, i = ix2 p k := ⟨i 0, i 1, (ix2_eta i).symm⟩
  show _ = up (A.W₀ p k)
  rw [Args.W₀, ← entry_W H]
  pointwise
  blk_ext [iblk, idx t]

theorem blk8' (t : Fin cfg0.N) :
    View.ld (iblk m c 8 t) (Rect.unit ![1024, 0] ![1024, 1024] inb_S2048x1024_S1024x1024_1024_0) = up2 A.W₁ := by
  have idx : ∀ t : Fin grid0.N, win0_8.index t = ![0, 0] := by decide +kernel
  funext i
  obtain ⟨p, k, rfl⟩ : ∃ p k, i = ix2 p k := ⟨i 0, i 1, (ix2_eta i).symm⟩
  show _ = up (A.W₁ p k)
  rw [Args.W₁, ← entry_W H]
  pointwise
  blk_ext [iblk, idx t]

end Cert.Proof.Mid
end
-- ==== Proof.MidPoints.lean ====
/- What the grid points of `_mid` leave in its output windows. -/
module

public import proofs.«01_k».proof.Proof.MidBlocks
public import Idealize.ShloMosaic.Lib.Pipeline.ReadBack

@[expose] public section

set_option maxRecDepth 16384

noncomputable section

namespace Cert.Proof.Mid

open Idealize.ShloMosaic Idealize.ShloMosaic.TcCoe Idealize.ShloMosaic.Tactic Cert.KernelIdeal Cert.KernelIdeal.Gen
open Cert.Proof

/-- The sum over the rows of the points up to `n`. -/
def part (f : Fin 8192 → ℝ) (n : ℕ) : ℝ :=
  ∑ s ∈ Finset.range (n + 1), ∑ p : Fin 256, f ⟨(256 * s + p.val) % 8192, Nat.mod_lt _ (by norm_num)⟩

theorem rows_eq (f : Fin 8192 → ℝ) (t : Fin cfg0.N) :
    ∑ p : Fin 256, f ⟨(256 * t.val + p.val) % 8192, Nat.mod_lt _ (by norm_num)⟩ = ∑ p, rows t f p :=
  Finset.sum_congr rfl fun p _ => congrArg f (Fin.ext (Nat.mod_eq_of_lt (by have : t.val < 32 := t.isLt; omega)))

theorem part_zero (f : Fin 8192 → ℝ) (t : Fin cfg0.N) (h : t.val = 0) : part f t.val = ∑ p, rows t f p := by
  rw [← rows_eq, part, h, Finset.sum_range_one]

theorem part_step (f : Fin 8192 → ℝ) (t : Fin cfg0.N) (h : t.val ≠ 0) :
    part f t.val = part f (t.val - 1) + ∑ p, rows t f p := by
  rw [← rows_eq, part, part, Finset.sum_range_succ, Nat.sub_add_cancel (Nat.pos_of_ne_zero h)]

theorem part_all (f : Fin 8192 → ℝ) : part f 31 = ∑ r, f r := by
  rw [← sum_rows, part, Finset.sum_range]
  exact Finset.sum_congr rfl fun t _ => rows_eq f t

/-- Two blocks of columns side by side. -/
theorem canon_cols (f : Fin 256 → Fin 2048 → ℝ) (L : List (View.Piece (Elt Ideal) S256x2048 .bf16))
    (a b : S256x1024.Idx → EReal) (ha : a = up2 fun r k => f r ⟨k.val, by omega⟩)
    (hb : b = up2 fun r k => f r ⟨1024 + k.val, by omega⟩) :
    View.canon (⟨Rect.unit ![0, 1024] ![256, 1024] inb_S256x2048_S256x1024_0_1024, b⟩ ::
      ⟨Rect.unit ![0, 0] ![256, 1024] inb_S256x2048_S256x1024_0_0, a⟩ :: L) = up2 f := by
  funext y
  refine View.canon_append_of_piecesOf (up2 f) L [_, _] ⟨fun x => ?_, fun x => ?_, trivial⟩ y ?_
  · subst hb; exact congrArg up (congrArg₂ f (Fin.ext (by simp [Rect.emb, Rect.unit])) (Fin.ext (by simp [Rect.emb, Rect.unit])))
  · subst ha; exact congrArg up (congrArg₂ f (Fin.ext (by simp [Rect.emb, Rect.unit])) (Fin.ext (by simp [Rect.emb, Rect.unit])))
  · by_cases h : (y 1).val < 1024
    · refine ⟨_, List.mem_cons_of_mem _ List.mem_cons_self, ?_⟩
      rw [Rect.mem_set_unit]; intro a
      fin_cases a
      · exact ⟨Nat.zero_le _, (y 0).isLt⟩
      · exact ⟨Nat.zero_le _, h⟩
    · refine ⟨_, List.mem_cons_self, ?_⟩
      rw [Rect.mem_set_unit]; intro a
      fin_cases a
      · exact ⟨Nat.zero_le _, (y 0).isLt⟩
      · exact ⟨not_lt.1 h, (y 1).isLt⟩

/-- Two blocks of rows one after the other. -/
theorem canon_rows (f : Fin 2048 → Fin 1024 → ℝ) (L : List (View.Piece (Elt Ideal) S2048x1024 .f32))
    (a b : S1024x1024.Idx → EReal) (ha : a = up2 fun r k => f ⟨r.val, by omega⟩ k)
    (hb : b = up2 fun r k => f ⟨1024 + r.val, by omega⟩ k) :
    View.canon (⟨Rect.unit ![1024, 0] ![1024, 1024] inb_S2048x1024_S1024x1024_1024_0, b⟩ ::
      ⟨Rect.unit ![0, 0] ![1024, 1024] inb_S2048x1024_S1024x1024_0_0, a⟩ :: L) = up2 f := by
  funext y
  refine View.canon_append_of_piecesOf (up2 f) L [_, _] ⟨fun x => ?_, fun x => ?_, trivial⟩ y ?_
  · subst hb; exact congrArg up (congrArg₂ f (Fin.ext (by simp [Rect.emb, Rect.unit])) (Fin.ext (by simp [Rect.emb, Rect.unit])))
  · subst ha; exact congrArg up (congrArg₂ f (Fin.ext (by simp [Rect.emb, Rect.unit])) (Fin.ext (by simp [Rect.emb, Rect.unit])))
  · by_cases h : (y 0).val < 1024
    · refine ⟨_, List.mem_cons_of_mem _ List.mem_cons_self, ?_⟩
      rw [Rect.mem_set_unit]; intro a
      fin_cases a
      · exact ⟨Nat.zero_le _, h⟩
      · exact ⟨Nat.zero_le _, (y 1).isLt⟩
    · refine ⟨_, List.mem_cons_self, ?_⟩
      rw [Rect.mem_set_unit]; intro a
      fin_cases a
      · exact ⟨not_lt.1 h, (y 0).isLt⟩
      · exact ⟨Nat.zero_le _, (y 1).isLt⟩

theorem zero5 : k0_pay5 (F := Ideal) = up2 fun _ _ => 0 := by
  funext i; pointwise [k0_pay5]; exact up_zero.symm
theorem zero6 : k0_pay6 (F := Ideal) = upr fun _ => 0 := by
  funext i; pointwise [k0_pay6]; exact up_zero.symm
theorem zero7 : k0_pay7 (F := Ideal) = upr fun _ => 0 := by
  funext i; pointwise [k0_pay7]; exact up_zero.symm
theorem zero8 : k0_pay8 (F := Ideal) = upr fun _ => 0 := by
  funext i; pointwise [k0_pay8]; exact up_zero.symm
theorem ld_lo (f : Fin 2048 → Fin 1024 → ℝ) :
    View.ld (Val := Elt Ideal) (S := S2048x1024) (e' := .f32) (up2 f) (Rect.unit ![0, 0] ![1024, 1024] inb_S2048x1024_S1024x1024_0_0) =
      up2 fun r k => f ⟨r.val, by omega⟩ k := by
  funext i; pointwise; rfl
theorem ld_hi (f : Fin 2048 → Fin 1024 → ℝ) :
    View.ld (Val := Elt Ideal) (S := S2048x1024) (e' := .f32) (up2 f) (Rect.unit ![1024, 0] ![1024, 1024] inb_S2048x1024_S1024x1024_1024_0) =
      up2 fun r k => f ⟨1024 + r.val, by omega⟩ k := by
  funext i; pointwise; rfl

variable {m : (ℓ : Loc nD τ sig) → Buf (Elt Ideal) ℓ} {c : Dev nD} {A : Args} (H : HoldsAt m c A)
include H

theorem at9 (t : Fin cfg0.N) : (outsAt0 m c t.val t.isLt).1 = up2 (rows t A.g) := by
  by_cases h : t.val % 32 = 0
  · rw [outsAt0_A m c t h]
    frame_out
    rw [blk0 H, blk1 H, blk2 H, blk3 H, blk4 H, blk5 H, blk6 H, blk7 H, blk8 H, blk8' H, pay18, pay10, pay27, pay30]
    rfl
  · rw [outsAt0_B m c t h]
    frame_out
    rw [blk0 H, blk1 H, blk2 H, blk3 H, blk4 H, blk5 H, blk6 H, blk7 H, blk8 H, blk8' H, pay18, pay10, pay27, pay30]
    rfl

theorem at10 (t : Fin cfg0.N) : (outsAt0 m c t.val t.isLt).2.1 = up2 (rows t A.gradO) := by
  by_cases h : t.val % 32 = 0
  · rw [outsAt0_A m c t h]
    frame_out
    rw [blk0 H, blk1 H, blk2 H, blk3 H, blk4 H, blk5 H, blk6 H, blk7 H, blk8 H, blk8' H, pay18, pay10, pay27, blk8 H,
      pay34, pay13, pay16, pay17, pay37]
    rfl
  · rw [outsAt0_B m c t h]
    frame_out
    rw [blk0 H, blk1 H, blk2 H, blk3 H, blk4 H, blk5 H, blk6 H, blk7 H, blk8 H, blk8' H, pay18, pay10, pay27, blk8 H,
      pay34, pay13, pay16, pay17, pay37]
    rfl

theorem at11 (t : Fin cfg0.N) : (outsAt0 m c t.val t.isLt).2.2.1 = up2 (rows t A.gradY) := by
  by_cases h : t.val % 32 = 0
  · rw [outsAt0_A m c t h]
    frame_out
    rw [blk0 H, blk1 H, blk2 H, blk3 H, blk4 H, blk5 H, blk6 H, blk7 H, blk8 H, blk8' H, pay18, pay10, pay27, pay31, pay21,
      pay24, pay25, blk8' H, pay41]
    rfl
  · rw [outsAt0_B m c t h]
    frame_out
    rw [blk0 H, blk1 H, blk2 H, blk3 H, blk4 H, blk5 H, blk6 H, blk7 H, blk8 H, blk8' H, pay18, pay10, pay27, pay31, pay21,
      pay24, pay25, blk8' H, pay41]
    rfl

theorem at12 (t : Fin cfg0.N) : (outsAt0 m c t.val t.isLt).2.2.2.1 = up2 (rows t A.gradZ) := by
  by_cases h : t.val % 32 = 0
  · rw [outsAt0_A m c t h]
    frame_out
    refine canon_cols _ [] _ _ ?_ ?_
    · rw [pay1, blk0 H, blk1 H, blk2 H, blk3 H, blk4 H, blk5 H, blk6 H, blk7 H, blk8 H, blk8' H, pay18, pay10, pay27, blk8 H,
        pay34, pay9, pay14, pay16, pay17, pay38]
      funext i; exact congrArg up (cat_lo A.gradZa A.gradZb (row t (i 0)) (i 1) _).symm
    · rw [pay2, blk0 H, blk1 H, blk2 H, blk3 H, blk4 H, blk5 H, blk6 H, blk7 H, blk8 H, blk8' H, pay18, pay10, pay27, pay31,
        pay22, pay24, pay25, blk8' H, pay42]
      funext i; exact congrArg up (cat_hi A.gradZa A.gradZb (row t (i 0)) (i 1) _).symm
  · rw [outsAt0_B m c t h]
    frame_out
    refine canon_cols _ [] _ _ ?_ ?_
    · rw [pay1, blk0 H, blk1 H, blk2 H, blk3 H, blk4 H, blk5 H, blk6 H, blk7 H, blk8 H, blk8' H, pay18, pay10, pay27, blk8 H,
        pay34, pay9, pay14, pay16, pay17, pay38]
      funext i; exact congrArg up (cat_lo A.gradZa A.gradZb (row t (i 0)) (i 1) _).symm
    · rw [pay2, blk0 H, blk1 H, blk2 H, blk3 H, blk4 H, blk5 H, blk6 H, blk7 H, blk8 H, blk8' H, pay18, pay10, pay27, pay31,
        pay22, pay24, pay25, blk8' H, pay42]
      funext i; exact congrArg up (cat_hi A.gradZa A.gradZb (row t (i 0)) (i 1) _).symm

theorem at13_A (t : Fin cfg0.N) (h : t.val % 32 = 0) : (outsAt0 m c t.val t.isLt).2.2.2.2.1 =
    up2 fun k c => ∑ p, rows t (fun r => cat A.ma A.mb r k * A.g r c) p := by
  rw [outsAt0_A m c t h]
  frame_open
  simp (disch := decide) only [↓ View.readCov_skip, ↓ View.readCov_fill]
  frame_out
  rw [zero5, ld_lo, ld_hi]
  refine canon_rows _ _ _ _ ?_ ?_
  · rw [blk0 H, blk1 H, blk2 H, blk3 H, blk4 H, blk5 H, blk6 H, blk7 H, blk8 H, blk8' H, pay18, pay10, pay27, pay32]
    funext i
    exact congrArg up ((zero_add _).trans (Finset.sum_congr rfl fun p _ =>
      congrArg (· * _) (cat_lo A.ma A.mb (row t p) (i 0) _).symm))
  · rw [blk0 H, blk1 H, blk2 H, blk3 H, blk4 H, blk5 H, blk6 H, blk7 H, blk8 H, blk8' H, pay18, pay10, pay27, pay26, pay33]
    funext i
    exact congrArg up ((zero_add _).trans (Finset.sum_congr rfl fun p _ =>
      congrArg (· * _) (cat_hi A.ma A.mb (row t p) (i 0) _).symm))

theorem at13_B (t : Fin cfg0.N) (h : ¬t.val % 32 = 0) (f : Fin 2048 → Fin 1024 → ℝ)
    (e : (outsAt0 m c (t.val - 1) (by have := t.isLt; omega)).2.2.2.2.1 = up2 f) : (outsAt0 m c t.val t.isLt).2.2.2.2.1 =
    up2 fun k c => f k c + ∑ p, rows t (fun r => cat A.ma A.mb r k * A.g r c) p := by
  rw [outsAt0_B m c t h]
  frame_out
  rw [e, ld_lo, ld_hi]
  refine canon_rows _ [] _ _ ?_ ?_
  · rw [blk0 H, blk1 H, blk2 H, blk3 H, blk4 H, blk5 H, blk6 H, blk7 H, blk8 H, blk8' H, pay18, pay10, pay27, pay32]
    funext i
    exact congrArg (fun s => up (_ + s)) (Finset.sum_congr rfl fun p _ =>
      congrArg (· * _) (cat_lo A.ma A.mb (row t p) (i 0) _).symm)
  · rw [blk0 H, blk1 H, blk2 H, blk3 H, blk4 H, blk5 H, blk6 H, blk7 H, blk8 H, blk8' H, pay18, pay10, pay27, pay26, pay33]
    funext i
    exact congrArg (fun s => up (_ + s)) (Finset.sum_congr rfl fun p _ =>
      congrArg (· * _) (cat_hi A.ma A.mb (row t p) (i 0) _).symm)

theorem at14_A (t : Fin cfg0.N) (h : t.val % 32 = 0) : (outsAt0 m c t.val t.isLt).2.2.2.2.2.1 =
    upr fun k => ∑ p, rows t (fun r => A.na r k * nrm (gated A.o A.za) r k) p := by
  rw [outsAt0_A m c t h]
  frame_out
  rw [zero6, blk0 H, blk1 H, blk2 H, blk3 H, blk4 H, blk5 H, blk6 H, blk7 H, blk8 H, blk8' H, pay18, pay10, pay27,
    blk8 H, pay34, pay17, pay39, pay3]
  funext i; exact congrArg up (zero_add _)

theorem at14_B (t : Fin cfg0.N) (h : ¬t.val % 32 = 0) (f : Fin 1024 → ℝ)
    (e : (outsAt0 m c (t.val - 1) (by have := t.isLt; omega)).2.2.2.2.2.1 = upr f) :
    (outsAt0 m c t.val t.isLt).2.2.2.2.2.1 =
      upr fun k => f k + ∑ p, rows t (fun r => A.na r k * nrm (gated A.o A.za) r k) p := by
  rw [outsAt0_B m c t h]
  frame_out
  rw [e, blk0 H, blk1 H, blk2 H, blk3 H, blk4 H, blk5 H, blk6 H, blk7 H, blk8 H, blk8' H, pay18, pay10, pay27,
    blk8 H, pay34, pay17, pay39, pay3]
  rfl

theorem at15_A (t : Fin cfg0.N) (h : t.val % 32 = 0) : (outsAt0 m c t.val t.isLt).2.2.2.2.2.2.1 =
    upr fun k => ∑ p, rows t (fun r => A.nb r k * nrm (gated A.y A.zb) r k) p := by
  rw [outsAt0_A m c t h]
  frame_out
  rw [zero7, blk0 H, blk1 H, blk2 H, blk3 H, blk4 H, blk5 H, blk6 H, blk7 H, blk8 H, blk8' H, pay18, pay10, pay27,
    blk8' H, pay31, pay25, pay43, pay4]
  funext i; exact congrArg up (zero_add _)

theorem at15_B (t : Fin cfg0.N) (h : ¬t.val % 32 = 0) (f : Fin 1024 → ℝ)
    (e : (outsAt0 m c (t.val - 1) (by have := t.isLt; omega)).2.2.2.2.2.2.1 = upr f) :
    (outsAt0 m c t.val t.isLt).2.2.2.2.2.2.1 =
      upr fun k => f k + ∑ p, rows t (fun r => A.nb r k * nrm (gated A.y A.zb) r k) p := by
  rw [outsAt0_B m c t h]
  frame_out
  rw [e, blk0 H, blk1 H, blk2 H, blk3 H, blk4 H, blk5 H, blk6 H, blk7 H, blk8 H, blk8' H, pay18, pay10, pay27,
    blk8' H, pay31, pay25, pay43, pay4]
  rfl

theorem at16_A (t : Fin cfg0.N) (h : t.val % 32 = 0) : (outsAt0 m c t.val t.isLt).2.2.2.2.2.2.2 =
    upr fun k => 1 / 2048 * ∑ p, rows t (fun r => ∑ c, A.d r c * A.d r c) p := by
  rw [outsAt0_A m c t h]
  frame_out
  rw [zero8, blk0 H, blk1 H, blk2 H, blk3 H, blk4 H, blk5 H, blk6 H, blk7 H, blk8 H, blk8' H, pay18, pay10, pay27,
    pay29]
  funext i; exact congrArg up (zero_add _)

theorem at16_B (t : Fin cfg0.N) (h : ¬t.val % 32 = 0) (f : Fin 128 → ℝ)
    (e : (outsAt0 m c (t.val - 1) (by have := t.isLt; omega)).2.2.2.2.2.2.2 = upr f) :
    (outsAt0 m c t.val t.isLt).2.2.2.2.2.2.2 =
      upr fun k => f k + 1 / 2048 * ∑ p, rows t (fun r => ∑ c, A.d r c * A.d r c) p := by
  rw [outsAt0_B m c t h]
  frame_out
  rw [e, blk0 H, blk1 H, blk2 H, blk3 H, blk4 H, blk5 H, blk6 H, blk7 H, blk8 H, blk8' H, pay18, pay10, pay27,
    pay29]
  rfl

end Cert.Proof.Mid
end
-- ==== Proof.MidArrays.lean ====
/- The arrays `_mid` leaves. -/
module

public import proofs.«01_k».proof.Proof.MidPoints
public import Idealize.ShloMosaic.Lib.Pipeline.ValueKit.Geometry

@[expose] public section

set_option maxRecDepth 16384

noncomputable section

namespace Cert.Proof.Mid

open Idealize.ShloMosaic Idealize.ShloMosaic.TcCoe Idealize.ShloMosaic.Tactic Cert.KernelIdeal Cert.KernelIdeal.Gen
open Cert.Proof

variable {m : (ℓ : Loc nD τ sig) → Buf (Elt Ideal) ℓ} {c : Dev nD} {A : Args} (H : HoldsAt m c A)
include H

theorem arr9 : (dats m 0 c).arrAt 9 cfg0.N = up2 A.g := by
  refine (dats m 0 c).arrAt_eq_of_covers 9 _ (by decide +kernel) fun t hf y => ?_
  have idx : ∀ t : Fin grid0.N, win0_9.index t = ![t.val, 0] := by decide +kernel
  have e : (win0_9.blk t).view.emb y = ix2 (row t (y 0)) (y 1) := by unfold row; blk_ext [idx t]
  blk_simp [idx t]
  rw [after0_9, at9 H, e]
  rfl

theorem arr10 : (dats m 0 c).arrAt 10 cfg0.N = up2 A.gradO := by
  refine (dats m 0 c).arrAt_eq_of_covers 10 _ (by decide +kernel) fun t hf y => ?_
  have idx : ∀ t : Fin grid0.N, win0_10.index t = ![t.val, 0] := by decide +kernel
  have e : (win0_10.blk t).view.emb y = ix2 (row t (y 0)) (y 1) := by unfold row; blk_ext [idx t]
  blk_simp [idx t]
  rw [after0_10, at10 H, e]
  rfl

theorem arr11 : (dats m 0 c).arrAt 11 cfg0.N = up2 A.gradY := by
  refine (dats m 0 c).arrAt_eq_of_covers 11 _ (by decide +kernel) fun t hf y => ?_
  have idx : ∀ t : Fin grid0.N, win0_11.index t = ![t.val, 0] := by decide +kernel
  have e : (win0_11.blk t).view.emb y = ix2 (row t (y 0)) (y 1) := by unfold row; blk_ext [idx t]
  blk_simp [idx t]
  rw [after0_11, at11 H, e]
  rfl

theorem arr12 : (dats m 0 c).arrAt 12 cfg0.N = up2 A.gradZ := by
  refine (dats m 0 c).arrAt_eq_of_covers 12 _ (by decide +kernel) fun t hf y => ?_
  have idx : ∀ t : Fin grid0.N, win0_12.index t = ![t.val, 0] := by decide +kernel
  have e : (win0_12.blk t).view.emb y = ix2 (row t (y 0)) (y 1) := by unfold row; blk_ext [idx t]
  blk_simp [idx t]
  rw [after0_12, at12 H, e]
  rfl

theorem all13 (t : Fin cfg0.N) : (outsAt0 m c t.val t.isLt).2.2.2.2.1 =
    up2 fun k c => part (fun r => cat A.ma A.mb r k * A.g r c) t.val := by
  obtain ⟨n, hn⟩ := t
  induction n with
  | zero =>
    rw [at13_A H _ (by rfl)]
    funext i; exact congrArg up (part_zero _ _ rfl).symm
  | succ n ih =>
    have hn' : n + 1 < 32 := hn
    rw [at13_B H ⟨n + 1, hn⟩ (by show ¬ (n + 1) % 32 = 0; omega) _ (ih (by omega))]
    funext i; exact congrArg up (part_step _ ⟨n + 1, hn⟩ (Nat.succ_ne_zero n)).symm

theorem arr13 : (dats m 0 c).arrAt 13 cfg0.N = up2 A.gradW := by
  refine (dats m 0 c).arrAt_eq_of_covers 13 _ (by decide +kernel) fun t hf y => ?_
  have idx : ∀ t : Fin grid0.N, win0_13.index t = ![0, 0] := by decide +kernel
  have fl : ∀ t : Fin grid0.N, win0_13.flush t = true → t.val = 31 := by decide +kernel
  have e : (win0_13.blk t).view.emb y = ix2 (y 0) (y 1) := by blk_ext [idx t]
  blk_simp [idx t]
  rw [after0_13, all13 H, fl t hf, e]
  exact congrArg up (part_all _)

theorem all14 (t : Fin cfg0.N) : (outsAt0 m c t.val t.isLt).2.2.2.2.2.1 =
    upr fun k => part (fun r => A.na r k * nrm (gated A.o A.za) r k) t.val := by
  obtain ⟨n, hn⟩ := t
  induction n with
  | zero =>
    rw [at14_A H _ (by rfl)]
    funext i; exact congrArg up (part_zero _ _ rfl).symm
  | succ n ih =>
    have hn' : n + 1 < 32 := hn
    rw [at14_B H ⟨n + 1, hn⟩ (by show ¬ (n + 1) % 32 = 0; omega) _ (ih (by omega))]
    funext i; exact congrArg up (part_step _ ⟨n + 1, hn⟩ (Nat.succ_ne_zero n)).symm

theorem arr14 : (dats m 0 c).arrAt 14 cfg0.N = upr A.gradWa := by
  refine (dats m 0 c).arrAt_eq_of_covers 14 _ (by decide +kernel) fun t hf y => ?_
  have idx : ∀ t : Fin grid0.N, win0_14.index t = ![0, 0] := by decide +kernel
  have fl : ∀ t : Fin grid0.N, win0_14.flush t = true → t.val = 31 := by decide +kernel
  have e : (win0_14.blk t).view.emb y = ix2 0 (y 1) := by blk_ext [idx t]
  blk_simp [idx t]
  rw [after0_14, all14 H, fl t hf, e]
  exact congrArg up (part_all _)

theorem all15 (t : Fin cfg0.N) : (outsAt0 m c t.val t.isLt).2.2.2.2.2.2.1 =
    upr fun k => part (fun r => A.nb r k * nrm (gated A.y A.zb) r k) t.val := by
  obtain ⟨n, hn⟩ := t
  induction n with
  | zero =>
    rw [at15_A H _ (by rfl)]
    funext i; exact congrArg up (part_zero _ _ rfl).symm
  | succ n ih =>
    have hn' : n + 1 < 32 := hn
    rw [at15_B H ⟨n + 1, hn⟩ (by show ¬ (n + 1) % 32 = 0; omega) _ (ih (by omega))]
    funext i; exact congrArg up (part_step _ ⟨n + 1, hn⟩ (Nat.succ_ne_zero n)).symm

theorem arr15 : (dats m 0 c).arrAt 15 cfg0.N = upr A.gradWb := by
  refine (dats m 0 c).arrAt_eq_of_covers 15 _ (by decide +kernel) fun t hf y => ?_
  have idx : ∀ t : Fin grid0.N, win0_15.index t = ![0, 0] := by decide +kernel
  have fl : ∀ t : Fin grid0.N, win0_15.flush t = true → t.val = 31 := by decide +kernel
  have e : (win0_15.blk t).view.emb y = ix2 0 (y 1) := by blk_ext [idx t]
  blk_simp [idx t]
  rw [after0_15, all15 H, fl t hf, e]
  exact congrArg up (part_all _)

theorem all16 (t : Fin cfg0.N) : (outsAt0 m c t.val t.isLt).2.2.2.2.2.2.2 =
    upr fun _ => 1 / 2048 * part (fun r => ∑ c, A.d r c * A.d r c) t.val := by
  obtain ⟨n, hn⟩ := t
  induction n with
  | zero =>
    rw [at16_A H _ (by rfl)]
    funext i; exact congrArg (fun s => up (1 / 2048 * s)) (part_zero _ _ rfl).symm
  | succ n ih =>
    have hn' : n + 1 < 32 := hn
    rw [at16_B H ⟨n + 1, hn⟩ (by show ¬ (n + 1) % 32 = 0; omega) _ (ih (by omega))]
    funext i; exact congrArg up ((mul_add _ _ _).symm.trans (congrArg (1 / 2048 * ·) (part_step _ ⟨n + 1, hn⟩ (Nat.succ_ne_zero n)).symm))

theorem arr16 : (dats m 0 c).arrAt 16 cfg0.N = upr fun _ => A.loss := by
  refine (dats m 0 c).arrAt_eq_of_covers 16 _ (by decide +kernel) fun t hf y => ?_
  have idx : ∀ t : Fin grid0.N, win0_16.index t = ![0, 0] := by decide +kernel
  have fl : ∀ t : Fin grid0.N, win0_16.flush t = true → t.val = 31 := by decide +kernel
  have e : (win0_16.blk t).view.emb y = ix2 0 (y 1) := by blk_ext [idx t]
  blk_simp [idx t]
  rw [after0_16, all16 H, fl t hf, e]
  exact congrArg (fun s => up (1 / 2048 * s)) (part_all _)

end Cert.Proof.Mid
end
-- ==== Proof.MidRef.lean ====
/- What the reference of `_mid` computes, operation by operation, on finite arguments. -/
module

public import proofs.«01_k».proof.Proof.Gen.ReferenceIdeal.Read
public import proofs.«01_k».proof.Proof.MidSpec
public import Idealize.ShloMosaic.Lib.Pointwise

@[expose] public section

set_option maxRecDepth 16384

noncomputable section

namespace Cert.Proof.Mid.Ref

open Idealize.ShloMosaic Idealize.ShloMosaic.TcCoe Idealize.ShloMosaic.Tactic Cert.ReferenceIdeal Cert.ReferenceIdeal.Gen
  Cert.ReferenceIdeal.Read
open Cert.Proof Cert.Proof.Mid

/-- An array over the tokens, from its rows. -/
abbrev up3 {n : ℕ} (f : Fin 8192 → Fin n → ℝ) : (⟨3, ![2, 4096, n]⟩ : Shape).Idx → EReal :=
  fun i => up (f (tok (i 0) (i 1)) (i 2))

/-- A sum over sequences and positions is a sum over the tokens. -/
theorem sum_tok (f : Fin 8192 → ℝ) : ∑ b : Fin 2, ∑ s : Fin 4096, f (tok b s) = ∑ r, f r := by
  rw [← Fintype.sum_prod_type', ← (finProdFinEquiv (m := 2) (n := 4096)).sum_comp]
  exact Fintype.sum_congr _ _ fun p => congrArg f (Fin.ext (Nat.add_comm _ _))

/-- The host's sum over the two leading axes of a rank-three array. -/
theorem sum_lead {n₀ n₁ n : ℕ} (h : (⟨3, ![n₀, n₁, n]⟩ : Shape).ReducesTo [0, 1] ⟨1, ![n]⟩)
    (u : (⟨3, ![n₀, n₁, n]⟩ : Shape).Idx → EReal) (z : EReal) (k : Fin n) :
    Ideal.hostReduceAdd h u z (ix1 k) = z + ∑ b : Fin n₀, ∑ s : Fin n₁, u (ix3 b s k) := by
  unfold Ideal.hostReduceAdd
  congr 1
  rw [← Fintype.sum_prod_type' (f := fun b s => u (ix3 b s k))]
  symm
  refine Finset.sum_bij (fun (p : Fin n₀ × Fin n₁) _ => (ix3 p.1 p.2 k : (⟨3, ![n₀, n₁, n]⟩ : Shape).Idx)) ?_ ?_ ?_ ?_
  · intro p _
    rw [Finset.mem_filter]
    refine ⟨Finset.mem_univ _, funext fun a => Fin.ext ?_⟩
    match a with
    | ⟨0, _⟩ => exact (h.drop_apply_val (ix3 p.1 p.2 k) 0).trans rfl
  · intro p _ q _ e
    exact Prod.ext (congrFun e 0) (congrFun e 1)
  · intro i hi
    rw [Finset.mem_filter] at hi
    refine ⟨(i 0, i 1), Finset.mem_univ _, ?_⟩
    have hk : k = i 2 := Fin.ext ((congrArg Fin.val (congrFun hi.2.symm 0)).trans ((h.drop_apply_val i 0).trans rfl))
    rw [hk]
    exact ix3_eta i
  · intro p _; rfl

/-- The gradient through the norm as the derivative of its forward lines writes it. -/
theorem dnorm_eq (g : Fin 8192 → Fin 1024 → ℝ) (w : Fin 1024 → ℝ) (dm : Fin 8192 → Fin 1024 → ℝ) (r : Fin 8192) (k : Fin 1024) :
    dm r k * w k * rn g r
        + g r k * ((∑ j, g r j * (dm r j * w j)) * (-(1 / 2) * (rn g r / ((∑ j, g r j * g r j) / 1024 + eps))) / 1024)
        + (∑ j, g r j * (dm r j * w j)) * (-(1 / 2) * (rn g r / ((∑ j, g r j * g r j) / 1024 + eps))) / 1024 * g r k
      = dnorm g w dm r k := by
  have hs := meansq_pos (g r)
  have h2 : rn g r * rn g r = 1 / ((∑ j, g r j * g r j) / 1024 + eps) := by
    unfold rn
    rw [← mul_inv, Real.mul_self_sqrt hs.le, one_div]
  have e : ∑ j, dm r j * w j * nrm g r j = (∑ j, g r j * (dm r j * w j)) * rn g r := by
    rw [Finset.sum_mul]
    exact Fintype.sum_congr _ _ fun j => by unfold nrm; ring
  unfold dnorm
  rw [e]
  unfold nrm
  have h3 : rn g r / ((∑ j, g r j * g r j) / 1024 + eps) = rn g r * (rn g r * rn g r) := by rw [h2, mul_one_div]
  rw [h3]
  ring

variable {x0 x1 : FVec Ideal S2x4096x1024 .f32} {x2 : FVec Ideal S2x4096x6672 .f32} {x3 x4 : FVec Ideal S2x4096x1024 .f32}
  {x5 x6 : FVec Ideal S1x1024 .f32} {x7 : FVec Ideal S1x2048x1024 .f32} {A : Args} (H : Holds x0 x1 x2 x3 x4 x5 x6 x7 A)
include H

theorem arg0 (i) : x0 i = up3 A.o i := (congrArg x0 (ix3_eta i).symm).trans (H.o _ _ _)
theorem arg1 (i) : x1 i = up3 A.y i := (congrArg x1 (ix3_eta i).symm).trans (H.y _ _ _)
theorem arg3 (i) : x3 i = up3 A.x i := (congrArg x3 (ix3_eta i).symm).trans (H.x _ _ _)
theorem arg4 (i) : x4 i = up3 A.tg i := (congrArg x4 (ix3_eta i).symm).trans (H.tg _ _ _)

theorem v0 : val_main_v0 (F := Ideal) x2 = up3 A.za := by
  funext i; pointwise [val_main_v0]; exact H.za (i 0) (i 1) (i 2)
theorem v1 : val_main_v1 (F := Ideal) x2 = up3 A.zb := by
  funext i; pointwise [val_main_v1]; exact H.zb (i 0) (i 1) (i 2)

/-- The logistic function of the two gates. -/
theorem sa : val_main_v2_2 (F := Ideal) x2 = up3 fun r k => sg (A.za r k) := by
  funext i
  pointwise [val_main_v2_2, val_main_call0_v4, val_main_call0_v3, val_main_call0_v2, val_main_call0_v1, val_main_call0_v0,
    val_main_call0_cst, val_main_call0_cst_0, v0 H]
  simp only [up3, up_one, up_neg, up_exp, up_add, up_sg]
theorem sb : val_main_v21_2 (F := Ideal) x2 = up3 fun r k => sg (A.zb r k) := by
  funext i
  pointwise [val_main_v21_2, val_main_call1_v4, val_main_call1_v3, val_main_call1_v2, val_main_call1_v1, val_main_call1_v0,
    val_main_call1_cst, val_main_call1_cst_0, v1 H]
  simp only [up3, up_one, up_neg, up_exp, up_add, up_sg]

/-- Its derivative. -/
theorem da : val_main_v2_1 (F := Ideal) x2 = up3 fun r k => sg (A.za r k) * (1 - sg (A.za r k)) := by
  funext i
  pointwise [val_main_v2_1, val_main_call0_v7, val_main_call0_v6, val_main_call0_cst_1, sa H]
  simp only [up3, up_one, up_sub, up_mul]
theorem db : val_main_v21_1 (F := Ideal) x2 = up3 fun r k => sg (A.zb r k) * (1 - sg (A.zb r k)) := by
  funext i
  pointwise [val_main_v21_1, val_main_call1_v7, val_main_call1_v6, val_main_call1_cst_1, sb H]
  simp only [up3, up_one, up_sub, up_mul]

/-- The gates' silu. -/
theorem ua : val_main_v2_0 (F := Ideal) x2 = up3 fun r k => A.za r k * sg (A.za r k) := by
  funext i; pointwise [val_main_v2_0, v0 H, sa H]; simp only [up3, up_mul]
theorem ub : val_main_v21_0 (F := Ideal) x2 = up3 fun r k => A.zb r k * sg (A.zb r k) := by
  funext i; pointwise [val_main_v21_0, v1 H, sb H]; simp only [up3, up_mul]

/-- The gated branches. -/
theorem ga : val_main_v3 (F := Ideal) x0 x2 = up3 (gated A.o A.za) := by
  funext i; pointwise [val_main_v3, arg0 H, ua H]; simp only [up3, up_mul]; rfl
theorem gb : val_main_v22 (F := Ideal) x1 x2 = up3 (gated A.y A.zb) := by
  funext i; pointwise [val_main_v22, arg1 H, ub H]; simp only [up3, up_mul]; rfl

/-- The mean squares of their rows, with the small constant. -/
theorem ma2 : val_main_v11 (F := Ideal) x0 x2
    = fun i => up ((∑ k, gated A.o A.za (tok (i 0) (i 1)) k * gated A.o A.za (tok (i 0) (i 1)) k) / 1024 + eps) := by
  funext i
  pointwise [val_main_v11, val_main_v10, val_main_v9, val_main_v8, val_main_v7, val_main_v6, val_main_v5, val_main_cst,
    val_main_cst_0, val_main_cst_1, ga H]
  simp only [up3, word_1024, word_eps, up_mul, up_sum, up_div_1024, up_add]
  rfl
theorem mb2 : val_main_v30 (F := Ideal) x1 x2
    = fun i => up ((∑ k, gated A.y A.zb (tok (i 0) (i 1)) k * gated A.y A.zb (tok (i 0) (i 1)) k) / 1024 + eps) := by
  funext i
  pointwise [val_main_v30, val_main_v29, val_main_v28, val_main_v27, val_main_v26, val_main_v25, val_main_v24, val_main_cst_3,
    val_main_cst_4, val_main_cst_5, gb H]
  simp only [up3, word_1024, word_eps, up_mul, up_sum, up_div_1024, up_add]
  rfl

/-- One over the root mean squares. -/
theorem ra : val_main_v12 (F := Ideal) x0 x2 = fun i => up (rn (gated A.o A.za) (tok (i 0) (i 1))) := by
  funext i; pointwise [val_main_v12, ma2 H]; exact up_rsqrt_meansq _
theorem rb : val_main_v31 (F := Ideal) x1 x2 = fun i => up (rn (gated A.y A.zb) (tok (i 0) (i 1))) := by
  funext i; pointwise [val_main_v31, mb2 H]; exact up_rsqrt_meansq _

/-- Minus half of those over the mean squares. -/
theorem ha : val_main_v15 (F := Ideal) x0 x2 = fun i => up (-(1 / 2) * (rn (gated A.o A.za) (tok (i 0) (i 1))
    / ((∑ k, gated A.o A.za (tok (i 0) (i 1)) k * gated A.o A.za (tok (i 0) (i 1)) k) / 1024 + eps))) := by
  funext i
  pointwise [val_main_v15, val_main_v14, val_main_cst_2, val_main_v13, ma2 H, ra H]
  rw [word_neg_half, up_div _ (meansq_pos _).ne', up_mul]
theorem hb : val_main_v34 (F := Ideal) x1 x2 = fun i => up (-(1 / 2) * (rn (gated A.y A.zb) (tok (i 0) (i 1))
    / ((∑ k, gated A.y A.zb (tok (i 0) (i 1)) k * gated A.y A.zb (tok (i 0) (i 1)) k) / 1024 + eps))) := by
  funext i
  pointwise [val_main_v34, val_main_v33, val_main_cst_6, val_main_v32, mb2 H, rb H]
  rw [word_neg_half, up_div _ (meansq_pos _).ne', up_mul]

/-- The normalised branches. -/
theorem na : val_main_v17 (F := Ideal) x0 x2 = up3 (nrm (gated A.o A.za)) := by
  funext i; pointwise [val_main_v17, val_main_v16, ga H, ra H]; simp only [up3, up_mul]; rfl
theorem nb : val_main_v36 (F := Ideal) x1 x2 = up3 (nrm (gated A.y A.zb)) := by
  funext i; pointwise [val_main_v36, val_main_v35, gb H, rb H]; simp only [up3, up_mul]; rfl

/-- The weights of the norms. -/
theorem wa : val_main_v18 (F := Ideal) x5 = fun i => up (A.wa (i 2)) := by
  funext i; pointwise [val_main_v18, val_main_v4]; exact H.wa (i 2)
theorem wb : val_main_v37 (F := Ideal) x6 = fun i => up (A.wb (i 2)) := by
  funext i; pointwise [val_main_v37, val_main_v23]; exact H.wb (i 2)

/-- The normalised branches times the weights, and the two side by side. -/
theorem sca : val_main_v20 (F := Ideal) x0 x2 x5 = up3 A.ma := by
  funext i; pointwise [val_main_v20, val_main_v19, na H, wa H]; simp only [up3, up_mul]; rfl
theorem scb : val_main_v39 (F := Ideal) x1 x2 x6 = up3 A.mb := by
  funext i; pointwise [val_main_v39, val_main_v38, nb H, wb H]; simp only [up3, up_mul]; rfl
theorem mix : val_main_v40 (F := Ideal) x0 x1 x2 x5 x6 = up3 (cat A.ma A.mb) := by
  funext i
  pointwise [val_main_v40, sca H, scb H]
  show _ = up (cat A.ma A.mb _ (i 2))
  unfold cat
  split <;> rfl

/-- The output projection. -/
theorem w : val_main_v41 (F := Ideal) x7 = fun i => up (A.W (i 0) (i 1)) := by
  funext i; pointwise [val_main_v41]; exact H.W (i 0) (i 1)

/-- The output less the target. -/
theorem d : val_main_v44 (F := Ideal) x0 x1 x2 x3 x4 x5 x6 x7 = up3 A.d := by
  funext i
  pointwise [val_main_v44, val_main_v43, val_main_v42, mix H, w H, arg3 H, arg4 H]
  simp only [up3, up_mul, up_sum, up_add, up_sub]
  refine congrArg up ?_
  show A.x (tok (i 0) (i 1)) (i 2) + ∑ k : Fin (1024 + 1024), cat A.ma A.mb (tok (i 0) (i 1)) k * A.W k (i 2) - _
    = diff A.x A.tg A.ma A.mb A.W₀ A.W₁ _ _
  rw [Fin.sum_univ_add, ← add_assoc]
  unfold diff
  congr 2
  all_goals exact Fintype.sum_congr _ _ fun k => congrArg (· * A.W₁ k (i 2)) (cat_hi A.ma A.mb (tok (i 0) (i 1)) k _)

/-- The gradient in the output. -/
theorem g : val_main_v58 (F := Ideal) x0 x1 x2 x3 x4 x5 x6 x7 = up3 A.g := by
  funext i
  pointwise [val_main_v58, val_main_v57, val_main_v56, val_main_v55, val_main_v54, val_main_v53, val_main_v47, val_main_v46,
    val_main_cst_7, val_main_cst_12, val_main_cst_13, val_main_cst_14, d H]
  rw [word_half, word_1024, word_two, up_div_1024]
  simp only [up3, up_mul]
  refine congrArg up ?_
  show _ = dout A.d _ _
  unfold dout
  ring

/-- The gradient in the mixed row, and its two halves. -/
theorem dm : val_main_v61 (F := Ideal) x0 x1 x2 x3 x4 x5 x6 x7 = up3 fun r k => ∑ c, A.g r c * A.W k c := by
  funext i
  pointwise [val_main_v61, g H, w H]
  simp only [up3, up_mul, up_sum]
  rfl
theorem dma : val_main_v63 (F := Ideal) x0 x1 x2 x3 x4 x5 x6 x7 = up3 A.na := by
  funext i
  pointwise [val_main_v63, dm H]
  rfl
theorem dmb : val_main_v64 (F := Ideal) x0 x1 x2 x3 x4 x5 x6 x7 = up3 A.nb := by
  funext i
  pointwise [val_main_v64, dm H]
  rfl

/-- The gradients in the normalised branches. -/
theorem ea : val_main_v93 (F := Ideal) x0 x1 x2 x3 x4 x5 x6 x7 = up3 fun r k => A.na r k * A.wa k := by
  funext i; pointwise [val_main_v93, val_main_v92, dma H, wa H]; simp only [up3, up_mul]
theorem eb : val_main_v69 (F := Ideal) x0 x1 x2 x3 x4 x5 x6 x7 = up3 fun r k => A.nb r k * A.wb k := by
  funext i; pointwise [val_main_v69, val_main_v68, dmb H, wb H]; simp only [up3, up_mul]

/-- The gradients in the gated branches. -/
theorem fa : val_main_v108 (F := Ideal) x0 x1 x2 x3 x4 x5 x6 x7 = up3 A.ga := by
  funext i
  pointwise [val_main_v108, val_main_v107, val_main_v106, val_main_v105, val_main_v104, val_main_v103, val_main_v102,
    val_main_v101, val_main_v100, val_main_v99, val_main_v98, val_main_v97, val_main_v96, val_main_v95, val_main_cst_22,
    val_main_cst_23, val_main_cst_24, ga H, ea H, ra H, ha H]
  simp only [up3, Finset.univ_unique, Finset.sum_singleton, word_1024, up_mul, up_sum, up_div_1024, up_add]
  exact congrArg up (dnorm_eq _ _ _ _ _)
theorem fb : val_main_v84 (F := Ideal) x0 x1 x2 x3 x4 x5 x6 x7 = up3 A.gb := by
  funext i
  pointwise [val_main_v84, val_main_v83, val_main_v82, val_main_v81, val_main_v80, val_main_v79, val_main_v78,
    val_main_v77, val_main_v76, val_main_v75, val_main_v74, val_main_v73, val_main_v72, val_main_v71, val_main_cst_17,
    val_main_cst_18, val_main_cst_19, gb H, eb H, rb H, hb H]
  simp only [up3, Finset.univ_unique, Finset.sum_singleton, word_1024, up_mul, up_sum, up_div_1024, up_add]
  exact congrArg up (dnorm_eq _ _ _ _ _)

/-- The gradients in the gates' arguments. -/
theorem za : val_main_v112 (F := Ideal) x0 x1 x2 x3 x4 x5 x6 x7 = up3 A.gradZa := by
  funext i
  pointwise [val_main_v112, val_main_call3_v2, val_main_call3_v1, val_main_call3_v0, val_main_v110, arg0 H, v0 H, sa H, da H, fa H]
  simp only [up3, up_mul, up_add]
  refine congrArg up ?_
  show _ = dgate A.o A.za A.ga _ _
  unfold dgate
  ring
theorem zb : val_main_v88 (F := Ideal) x0 x1 x2 x3 x4 x5 x6 x7 = up3 A.gradZb := by
  funext i
  pointwise [val_main_v88, val_main_call2_v2, val_main_call2_v1, val_main_call2_v0, val_main_v86, arg1 H, v1 H, sb H, db H, fb H]
  simp only [up3, up_mul, up_add]
  refine congrArg up ?_
  show _ = dgate A.y A.zb A.gb _ _
  unfold dgate
  ring

omit H in
/-- The gradient in a norm's weight, as the two sums over sequences and positions give it. -/
theorem wsum {u v : FVec Ideal S2x4096x1024 .f32} {f h : Fin 8192 → Fin 1024 → ℝ} (hu : u = up3 f) (hv : v = up3 h) (k : Fin 1024) :
    ∑ b : Fin 2, ∑ s : Fin 4096, u (ix3 b s k) * v (ix3 b s k) = up (∑ r, f r k * h r k) := by
  subst hu hv
  rw [← sum_tok (fun r => f r k * h r k)]
  simp only [up3, up_mul, up_sum]
  rfl

omit H in
/-- The token of a row of the flat arrays. -/
theorem tok_div (r : Fin 8192) (h₁ h₂) : tok ⟨r.val / 4096, h₁⟩ ⟨r.val % 4096, h₂⟩ = r :=
  Fin.ext (Nat.div_add_mod r.val 4096)

/-- The eight results. -/
theorem r0 : val_main_v113 (F := Ideal) x0 x1 x2 x3 x4 x5 x6 x7 = fun i => up (A.g (i 0) (i 1)) := by
  funext i
  pointwise [val_main_v113, g H]
  exact congrArg (fun r => up (A.g r (i 1))) (tok_div (i 0) _ _)
theorem r1 : val_main_v114 (F := Ideal) x0 x1 x2 x3 x4 x5 x6 x7 = fun i => up (A.gradO (i 0) (i 1)) := by
  funext i
  pointwise [val_main_v114, val_main_v111, fa H, ua H]
  simp only [up3, up_mul]
  exact congrArg (fun r => up (A.gradO r (i 1))) (tok_div (i 0) _ _)
theorem r2 : val_main_v115 (F := Ideal) x0 x1 x2 x3 x4 x5 x6 x7 = fun i => up (A.gradY (i 0) (i 1)) := by
  funext i
  pointwise [val_main_v115, val_main_v87, fb H, ub H]
  simp only [up3, up_mul]
  exact congrArg (fun r => up (A.gradY r (i 1))) (tok_div (i 0) _ _)
theorem r3 : val_main_v118 (F := Ideal) x0 x1 x2 x3 x4 x5 x6 x7 = fun i => up (A.gradZ (i 0) (i 1)) := by
  funext i
  pointwise [val_main_v118, val_main_v117, val_main_v116, za H, zb H]
  show _ = up (cat A.gradZa A.gradZb _ (i 1))
  unfold cat
  split
  · exact congrArg (fun r => up (A.gradZa r _)) (tok_div (i 0) _ _)
  · exact congrArg (fun r => up (A.gradZb r _)) (tok_div (i 0) _ _)
theorem r4 : val_main_v119 (F := Ideal) x0 x1 x2 x3 x4 x5 x6 x7 = fun i => up (A.gradW (i 0) (i 1)) := by
  funext i
  pointwise [val_main_v119, val_main_v62, val_main_v60, val_main_v59, g H, mix H]
  simp only [up3, up_mul, up_sum]
  refine congrArg up ((sum_tok fun r => A.g r (i 1) * cat A.ma A.mb r (i 0)).trans ?_)
  exact Fintype.sum_congr _ _ fun r => mul_comm _ _
theorem r5 : val_main_v109 (F := Ideal) x0 x1 x2 x3 x4 x5 x6 x7 = fun i => up (A.gradWa (i 1)) := by
  funext i
  pointwise [val_main_v109, val_main_v94, val_main_v91, val_main_v90, val_main_v89, val_main_cst_20, val_main_cst_21, sum_lead]
  simp only [Finset.univ_unique, Finset.sum_singleton]
  refine (wsum (na H) (dma H) (i 1)).trans (congrArg up ?_)
  exact Fintype.sum_congr _ _ fun r => mul_comm _ _
theorem r6 : val_main_v85 (F := Ideal) x0 x1 x2 x3 x4 x5 x6 x7 = fun i => up (A.gradWb (i 1)) := by
  funext i
  pointwise [val_main_v85, val_main_v70, val_main_v67, val_main_v66, val_main_v65, val_main_cst_15, val_main_cst_16, sum_lead]
  simp only [Finset.univ_unique, Finset.sum_singleton]
  refine (wsum (nb H) (dmb H) (i 1)).trans (congrArg up ?_)
  exact Fintype.sum_congr _ _ fun r => mul_comm _ _
theorem r7 : val_main_v120 (F := Ideal) x0 x1 x2 x3 x4 x5 x6 x7 = fun _ => up A.loss := by
  funext i
  pointwise [val_main_v120, val_main_v52, val_main_v51, val_main_v50, val_main_v49, val_main_v48, val_main_v45,
    val_main_cst_8, val_main_cst_9, val_main_cst_10, val_main_cst_11, d H]
  rw [word_1024, word_half]
  simp only [up3, up_mul, up_sum, up_div_1024]
  refine congrArg up ?_
  show 1 / 2 * ∑ b : Fin 2, ∑ s : Fin 4096, (∑ c, A.d (tok b s) c * A.d (tok b s) c) / 1024 = _
  rw [sum_tok fun r => (∑ c, A.d r c * A.d r c) / 1024, ← Finset.sum_div]
  unfold Args.loss
  ring

end Cert.Proof.Mid.Ref
end
-- ==== Proof.MidClaim.lean ====
/- The value claim of `_mid`: its eight results are those of the reference, at finite arguments. -/
module

public import proofs.«01_k».proof.Defs
public import proofs.«01_k».proof.Proof.Finite
public import proofs.«01_k».proof.Proof.MidArrays
public import proofs.«01_k».proof.Proof.MidRef
public import proofs.«01_k».proof.Proof.Gen.Pre_finite
public import proofs.«01_k».proof.Proof.Gen.KernelIdeal.Value
public import proofs.«01_k».proof.Proof.Gen.ReferenceIdeal.Run

@[expose] public section

set_option maxRecDepth 16384

noncomputable section

namespace Cert.Proof.Mid

open Idealize.ShloMosaic Idealize.ShloMosaic.TcCoe Idealize.SL.Sem
open Cert.Proof

/-- The sequence and the position of a token row. -/
abbrev seqOf (r : Fin 8192) : Fin 2 := ⟨r.val / 4096, by omega⟩
abbrev posOf (r : Fin 8192) : Fin 4096 := ⟨r.val % 4096, by omega⟩

theorem seqOf_tok (b : Fin 2) (s : Fin 4096) : seqOf (tok b s) = b := Fin.ext (by simp only [seqOf, tok]; omega)
theorem posOf_tok (b : Fin 2) (s : Fin 4096) : posOf (tok b s) = s := Fin.ext (by simp only [posOf, tok]; omega)

section
variable (a0 a1 : (⟨3, ![2, 4096, 1024]⟩ : Shape).Idx → EReal) (a2 : (⟨3, ![2, 4096, 6672]⟩ : Shape).Idx → EReal)
  (a3 a4 : (⟨3, ![2, 4096, 1024]⟩ : Shape).Idx → EReal) (a5 a6 : (⟨2, ![1, 1024]⟩ : Shape).Idx → EReal)
  (a7 : (⟨3, ![1, 2048, 1024]⟩ : Shape).Idx → EReal)

/-- The real arrays an argument tuple reads as. -/
def argsOf : Args where
  o r k := (a0 (ix3 (seqOf r) (posOf r) k)).toReal
  y r k := (a1 (ix3 (seqOf r) (posOf r) k)).toReal
  za r k := (a2 (ix3 (seqOf r) (posOf r) ⟨3072 + k.val, by omega⟩)).toReal
  zb r k := (a2 (ix3 (seqOf r) (posOf r) ⟨4096 + k.val, by omega⟩)).toReal
  x r k := (a3 (ix3 (seqOf r) (posOf r) k)).toReal
  tg r k := (a4 (ix3 (seqOf r) (posOf r) k)).toReal
  wa k := (a5 (ix2 0 k)).toReal
  wb k := (a6 (ix2 0 k)).toReal
  W r k := (a7 (ix3 0 r k)).toReal

variable {a0 a1 a2 a3 a4 a5 a6 a7}

/-- Finite arguments hold them. -/
theorem holds_argsOf (h0 : ∀ i, a0 i = up (a0 i).toReal) (h1 : ∀ i, a1 i = up (a1 i).toReal) (h2 : ∀ i, a2 i = up (a2 i).toReal)
    (h3 : ∀ i, a3 i = up (a3 i).toReal) (h4 : ∀ i, a4 i = up (a4 i).toReal) (h5 : ∀ i, a5 i = up (a5 i).toReal)
    (h6 : ∀ i, a6 i = up (a6 i).toReal) (h7 : ∀ i, a7 i = up (a7 i).toReal) :
    Holds a0 a1 a2 a3 a4 a5 a6 a7 (argsOf a0 a1 a2 a3 a4 a5 a6 a7) where
  o b s k := by simp only [argsOf, seqOf_tok, posOf_tok]; exact h0 _
  y b s k := by simp only [argsOf, seqOf_tok, posOf_tok]; exact h1 _
  za b s k := by simp only [argsOf, seqOf_tok, posOf_tok]; exact h2 _
  zb b s k := by simp only [argsOf, seqOf_tok, posOf_tok]; exact h2 _
  x b s k := by simp only [argsOf, seqOf_tok, posOf_tok]; exact h3 _
  tg b s k := by simp only [argsOf, seqOf_tok, posOf_tok]; exact h4 _
  wa _ := h5 _
  wb _ := h6 _
  W _ _ := h7 _
end

/-- The precondition gives the real arrays. -/
theorem exists_args (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    ∃ A, HoldsAt m c A :=
  have ⟨h0, h1, h2, h3, h4, h5, h6, h7⟩ := h c
  ⟨_, holds_argsOf (real_of_finite h0) (real_of_finite h1) (real_of_finite h2) (real_of_finite h3) (real_of_finite h4)
    (real_of_finite h5) (real_of_finite h6) (real_of_finite h7)⟩

section
open Cert.ReferenceIdeal Cert.ReferenceIdeal.Gen Cert.ReferenceIdeal.Read Idealize.ShloMosaic.StableHlo
variable {x0 x1 : FVec Ideal S2x4096x1024 .f32} {x2 : FVec Ideal S2x4096x6672 .f32} {x3 x4 : FVec Ideal S2x4096x1024 .f32}
  {x5 x6 : FVec Ideal S1x1024 .f32} {x7 : FVec Ideal S1x2048x1024 .f32} {A : Args}

/-- The reference's run leaves the gradients of the arrays its arguments hold. -/
theorem run_ref (m : (ℓ : Loc nD τ sig) → Buf (Elt Ideal) ℓ) (ρ : Dev nD → PrngReg) (A : Dev nD → Args)
    (H : ∀ c : Dev nD, Holds (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (A c)) :
    θ_run defs (onTc (τ := τ) (main (F := Ideal))) ⟨m, fun _ => 0, ρ⟩ fun r => ∀ c : Dev nD,
      r.2.mem ((c : Thread nD τ).loc main_v113) = up2 (A c).g
      ∧ r.2.mem ((c : Thread nD τ).loc main_v114) = up2 (A c).gradO
      ∧ r.2.mem ((c : Thread nD τ).loc main_v115) = up2 (A c).gradY
      ∧ r.2.mem ((c : Thread nD τ).loc main_v118) = up2 (A c).gradZ
      ∧ r.2.mem ((c : Thread nD τ).loc main_v119) = up2 (A c).gradW
      ∧ r.2.mem ((c : Thread nD τ).loc main_v109) = upr (A c).gradWa
      ∧ r.2.mem ((c : Thread nD τ).loc main_v85) = upr (A c).gradWb
      ∧ r.2.mem ((c : Thread nD τ).loc main_v120) = upr (fun _ => (A c).loss)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c =>
    ⟨(h c).1.trans ((val_main_v113_eq (launchContents m c)).trans (Ref.r0 (H c))),
      (h c).2.1.trans ((val_main_v114_eq (launchContents m c)).trans (Ref.r1 (H c))),
      (h c).2.2.1.trans ((val_main_v115_eq (launchContents m c)).trans (Ref.r2 (H c))),
      (h c).2.2.2.1.trans ((val_main_v118_eq (launchContents m c)).trans (Ref.r3 (H c))),
      (h c).2.2.2.2.1.trans ((val_main_v119_eq (launchContents m c)).trans (Ref.r4 (H c))),
      (h c).2.2.2.2.2.1.trans ((val_main_v109_eq (launchContents m c)).trans (Ref.r5 (H c))),
      (h c).2.2.2.2.2.2.1.trans ((val_main_v85_eq (launchContents m c)).trans (Ref.r6 (H c))),
      (h c).2.2.2.2.2.2.2.1.trans ((val_main_v120_eq (launchContents m c)).trans (Ref.r7 (H c))),
      (h c).2.2.2.2.2.2.2.2⟩)
    (Cert.ReferenceIdeal.Value.run (F := Ideal) m ρ)
end

/-- The two programs leave the same results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp ha
  choose A H using exists_args m hp
  refine ⟨fun c => up2 (A c).g, fun c => up2 (A c).gradO, fun c => up2 (A c).gradY, fun c => up2 (A c).gradZ,
    fun c => up2 (A c).gradW, fun c => upr (A c).gradWa, fun c => upr (A c).gradWb, fun c => upr fun _ => (A c).loss,
    (θ_run _ _ _).mono (fun _ h c => ?_) (Cert.KernelIdeal.Value.run_blocks m g), run_ref m' g' A fun c => ?_⟩
  · obtain ⟨h0, h1, h2, h3, h4, h5, h6, h7, h⟩ := h c
    exact ⟨h0.trans (arr9 (H c)), h1.trans (arr10 (H c)), h2.trans (arr11 (H c)), h3.trans (arr12 (H c)),
      h4.trans (arr13 (H c)), h5.trans (arr14 (H c)), h6.trans (arr15 (H c)), h7.trans (arr16 (H c)), h⟩
  · obtain ⟨h0, h1, h2, h3, h4, h5, h6, h7⟩ := ha c
    have := H c
    unfold HoldsAt at this
    rwa [← h0, ← h1, ← h2, ← h3, ← h4, ← h5, ← h6, ← h7] at this

end Cert.Proof.Mid
end
-- ==== Proof.Attn.Trip.lean ====
module

public import proofs.«01_k».proof.Proof.Gen.Kernel2Ideal.Launch
public import proofs.«01_k».proof.Proof.Gen.Kernel2Ideal.Points
public import proofs.«01_k».proof.Proof.Gen.Kernel2Ideal.Skeleton
public import Idealize.ShloMosaic.Lib.Pipeline.FrameBody
public import Idealize.ShloMosaic.Lib.VecWindow
public import Idealize.ShloMosaic.Lib.Tactic

@[expose] public section

set_option maxRecDepth 16384

noncomputable section

namespace Cert.Proof.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one query block's loop reads and never writes. -/
structure Con (F : FTy → Type) [FloatOps F] where
  q0 : FVec F S256x256 .bf16
  q1 : FVec F S256x256 .bf16
  q2 : FVec F S256x256 .bf16
  q3 : FVec F S256x256 .bf16
  g0 : FVec F S256x256 .bf16
  g1 : FVec F S256x256 .bf16
  g2 : FVec F S256x256 .bf16
  g3 : FVec F S256x256 .bf16
  before : FVec F S256x256 .bf16
  t0 : FVec F S1x256 .f32
  t1 : FVec F S1x256 .f32
  t2 : FVec F S1x256 .f32
  t3 : FVec F S1x256 .f32
  upto : FVec F S256x256 .bf16

/-- What a trip carries to the next: the block's number and, per head, the two running sums and the gradient of the
    queries so far. -/
abbrev Car (F : FTy → Type) [FloatOps F] := BitVec 32 × FVec F S1x256 .f32 × FVec F S1x256 .f32 × FVec F S1x256 .f32 × FVec F S1x256 .f32 × FVec F S1x256 .f32 × FVec F S1x256 .f32 × FVec F S1x256 .f32 × FVec F S1x256 .f32 × FVec F S64x256 .f32 × FVec F S64x256 .f32 × FVec F S64x256 .f32 × FVec F S64x256 .f32

variable (c : Dev nD) (i : grid0.Coords) (a4 : Memref sig .tc .vmem S4096x256 .bf16) (h4 : a4.IsWhole)
  (a6 : Memref sig .tc .vmem S4096x256 .bf16) (h6 : a6.IsWhole)
  (a11 : Memref sig .tc .vmem S4096x256 .f32) (h11 : a11.IsWhole) (a13 : Memref sig .tc .vmem S4096x256 .f32) (h13 : a13.IsWhole)
  (a5 : Memref sig .tc .vmem S1x2x128x4096 .bf16) (h5 : a5.IsWhole)
  (C : Con F) (K V : Vec F S4096x256 .bf16) (KT : Vec F S1x2x128x4096 .bf16)

/-- The loop's buffers: the keys, the values and the transposed keys at their contents, the two sums at `dk`, `dv`. -/
def held (dk dv : Vec F S4096x256 .f32) : sProp 𝕄 :=
  iprop(owns (c : Thread nD τ) a4 fullShare K ∗ owns (c : Thread nD τ) a6 fullShare V ∗ owns (c : Thread nD τ) a5 fullShare KT
    ∗ owns (c : Thread nD τ) a11 fullShare dk ∗ owns (c : Thread nD τ) a13 fullShare dv)

/-- The loop entered at a carried value. -/
def loopAt (s : Car F) : Prog (TpuEff nD τ sig (Elt F) (Λ₀ F) .tc) (Car F) :=
  cc0_while1 i a4 h4 C.q0 C.q1 C.q2 C.q3 a6 h6 C.g0 C.g1 C.g2 C.g3 C.before C.t0 C.t1 C.t2 C.t3 C.upto a11 h11 a13 h13 a5 h5
    s.1 s.2.1 s.2.2.1 s.2.2.2.1 s.2.2.2.2.1 s.2.2.2.2.2.1 s.2.2.2.2.2.2.1 s.2.2.2.2.2.2.2.1 s.2.2.2.2.2.2.2.2.1
    s.2.2.2.2.2.2.2.2.2.1 s.2.2.2.2.2.2.2.2.2.2.1 s.2.2.2.2.2.2.2.2.2.2.2.1 s.2.2.2.2.2.2.2.2.2.2.2.2

/-- The loop's call of itself. -/
def callAt (s : Car F) : Prog (TpuEff nD τ sig (Elt F) (Λ₀ F) .tc) (Car F) :=
  Prog.lift (.call (1 : (Λ₀ F).Label) ⟨i, a4, h4, C.q0, C.q1, C.q2, C.q3, a6, h6, C.g0, C.g1, C.g2, C.g3, C.before, C.t0, C.t1, C.t2, C.t3, C.upto, a11, h11, a13, h13, a5, h5,
    s.1, s.2.1, s.2.2.1, s.2.2.2.1, s.2.2.2.2.1, s.2.2.2.2.2.1, s.2.2.2.2.2.2.1, s.2.2.2.2.2.2.2.1, s.2.2.2.2.2.2.2.2.1,
    s.2.2.2.2.2.2.2.2.2.1, s.2.2.2.2.2.2.2.2.2.2.1, s.2.2.2.2.2.2.2.2.2.2.2.1, s.2.2.2.2.2.2.2.2.2.2.2.2⟩)

set_option maxHeartbeats 4000000 in
def tripRun (s : Car F) (dk dv : Vec F S4096x256 .f32) (hj : k0_chk1 s.1)
    (ht : Scalar.cmpi .slt s.1 (Scalar.subi (BitVec.ofNat 32 (i 2).val) 1#32) = 1#1) :
    Σ' (s' : Car F) (dk' dv' : Vec F S4096x256 .f32),
      ∀ (𝒱 : Variants) (v : _) (E : Set ℕ) (Q : Car F → sProp 𝕄),
        iprop(held c a4 a6 a11 a13 a5 K V KT dk dv
          ∗ (iprop(held c a4 a6 a11 a13 a5 K V KT dk' dv')
              -∗ wp frame (wpE (defs₀ (F := F)) 𝒱 (c : Thread nD τ) v) E (callAt i a4 h4 a6 h6 a11 h11 a13 h13 a5 h5 C s') Q))
          ⊢ wp frame (wpE (defs₀ (F := F)) 𝒱 (c : Thread nD τ) v) E (loopAt i a4 h4 a6 h6 a11 h11 a13 h13 a5 h5 C s) Q := by
  refine ⟨(?_, ?_, ?_, ?_, ?_, ?_, ?_, ?_, ?_, ?_, ?_, ?_, ?_), ?_, ?_, fun 𝒱 v E Q => ?run⟩
  case run =>
    unfold loopAt callAt held owns
    simp only [cc0_while1_eq_skeleton]; unfold cc0_while1_skel
    iintro ⟨⟨⟨%f4, %hf4, H4⟩, ⟨%f6, %hf6, H6⟩, ⟨%f5, %hf5, H5⟩, ⟨%f11, %hf11, H11⟩, ⟨%f13, %hf13, H13⟩⟩, Hk⟩
    obtain rfl := h4.eq_unread hf4; obtain rfl := h6.eq_unread hf6; obtain rfl := h5.eq_unread hf5
    obtain rfl := h11.eq_unread hf11; obtain rfl := h13.eq_unread hf13
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    sl_exec (disch := first | sl_exact ht | sl_exact hj)
    dsimp only [Prog.lift]
    iapply Hk
    isplitl [H4]
    · iexists _; isplitr; · ipureintro; exact h4.read_unread _
      iexact H4
    isplitl [H6]
    · iexists _; isplitr; · ipureintro; exact h6.read_unread _
      iexact H6
    isplitl [H5]
    · iexists _; isplitr; · ipureintro; exact h5.read_unread _
      iexact H5
    isplitl [H11]
    · iexists _; isplitr; swap; · iexact H11
      ipureintro; rfl
    iexists _; isplitr; swap; · iexact H13
    ipureintro; rfl

end Cert.Proof.Attn

end
-- ==== Proof.Attn.Loop.lean ====
module

public import proofs.«01_k».proof.Proof.Attn.Trip

@[expose] public section

set_option maxRecDepth 16384

noncomputable section

namespace Cert.Proof.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The variants trips are counted by. -/
abbrev 𝒱₀ : Variants := Variants.nat

/-- The loop's test at a block's number. -/
abbrev Test (i : grid0.Coords) (j : BitVec 32) : Prop := Scalar.cmpi .slt j (Scalar.subi (BitVec.ofNat 32 (i 2).val) 1#32) = 1#1

/-- The loop's test compares the number with the query block's own, less one. -/
theorem test_iff_aux : ∀ (a : Fin 16) (j : Fin 18),
    Scalar.cmpi .slt (BitVec.ofNat 32 j.val) (Scalar.subi (BitVec.ofNat 32 a.val) 1#32) = 1#1 ↔ j.val + 1 < a.val := by decide

/-- The check of a trip holds of every block but the last. -/
theorem chk_aux : ∀ j : Fin 15, k0_chk1 (BitVec.ofNat 32 j.val) := by decide +kernel

theorem test_iff (i : grid0.Coords) (j : ℕ) (hj : j < 18) : Test i (BitVec.ofNat 32 j) ↔ j + 1 < (i 2).val :=
  test_iff_aux ⟨(i 2).val, (i 2).isLt⟩ ⟨j, hj⟩

theorem chk_of (j : ℕ) (hj : j < 15) : k0_chk1 (BitVec.ofNat 32 j) := chk_aux ⟨j, hj⟩

/-- At most `n` trips are left at the block's number. -/
def Left (i : grid0.Coords) (n : ℕ) (w : BitVec 32) : Prop := ∃ j, j < 16 ∧ w = BitVec.ofNat 32 j ∧ (i 2).val ≤ j + 1 + 2 * n

theorem Left.chk {i : grid0.Coords} {n : ℕ} {w : BitVec 32} (h : Left i n w) (ht : Test i w) : k0_chk1 w := by
  obtain ⟨j, hj, rfl, hn⟩ := h
  have := (test_iff i j (by omega)).mp ht
  have := (i 2).isLt
  exact chk_of j (by change (i 2).val < 16 at this; omega)

theorem Left.next {i : grid0.Coords} {n : ℕ} {w : BitVec 32} (h : Left i (n + 1) w) (ht : Test i w) : Left i n (Scalar.addi w 2#32) := by
  obtain ⟨j, hj, rfl, hn⟩ := h
  have h1 := (test_iff i j (by omega)).mp ht
  have h2 : (i 2).val < 16 := (i 2).isLt
  refine ⟨j + 2, by omega, ?_, by omega⟩
  exact (BitVec.ofNat_add j 2).symm

theorem Left.stop {i : grid0.Coords} {w : BitVec 32} (h : Left i 0 w) : ¬Test i w := by
  obtain ⟨j, hj, rfl, hn⟩ := h
  rw [test_iff i j (by omega)]; omega

variable (c : Dev nD) (i : grid0.Coords) (a4 : Memref sig .tc .vmem S4096x256 .bf16) (h4 : a4.IsWhole)
  (a6 : Memref sig .tc .vmem S4096x256 .bf16) (h6 : a6.IsWhole)
  (a11 : Memref sig .tc .vmem S4096x256 .f32) (h11 : a11.IsWhole) (a13 : Memref sig .tc .vmem S4096x256 .f32) (h13 : a13.IsWhole)
  (a5 : Memref sig .tc .vmem S1x2x128x4096 .bf16) (h5 : a5.IsWhole)
  (C : Con F) (K V : Vec F S4096x256 .bf16) (KT : Vec F S1x2x128x4096 .bf16)

/-- What the loop carries and writes. -/
abbrev St (F : FTy → Type) [FloatOps F] := Car F × Vec F S4096x256 .f32 × Vec F S4096x256 .f32

/-- One trip's effect on what the loop carries and writes. -/
def tripOf (S : St F) (hj : k0_chk1 S.1.1) (ht : Test i S.1.1) : St F :=
  ((tripRun c i a4 h4 a6 h6 a11 h11 a13 h13 a5 h5 C K V KT S.1 S.2.1 S.2.2 hj ht).1,
    (tripRun c i a4 h4 a6 h6 a11 h11 a13 h13 a5 h5 C K V KT S.1 S.2.1 S.2.2 hj ht).2.1,
    (tripRun c i a4 h4 a6 h6 a11 h11 a13 h13 a5 h5 C K V KT S.1 S.2.1 S.2.2 hj ht).2.2.1)

theorem tripOf_num (S : St F) (hj : k0_chk1 S.1.1) (ht : Test i S.1.1) :
    (tripOf c i a4 h4 a6 h6 a11 h11 a13 h13 a5 h5 C K V KT S hj ht).1.1 = Scalar.addi S.1.1 2#32 := rfl

/-- Up to `n` trips of the loop. -/
def loopN : ℕ → St F → St F
  | 0, S => S
  | n + 1, S => if h : k0_chk1 S.1.1 ∧ Test i S.1.1 then
      loopN n (tripOf c i a4 h4 a6 h6 a11 h11 a13 h13 a5 h5 C K V KT S h.1 h.2) else S

/-- Answering the loop's label: holding the buffers at `S`'s sums it leaves them, and the carried value, at the trips' result. -/
def spec (n : ℕ) (S : St F) : sWPT 𝕄 (Car F) := do
  sWPT.consume (held c a4 a6 a11 a13 a5 K V KT S.2.1 S.2.2)
  sWPT.produce (held c a4 a6 a11 a13 a5 K V KT (loopN c i a4 h4 a6 h6 a11 h11 a13 h13 a5 h5 C K V KT n S).2.1
    (loopN c i a4 h4 a6 h6 a11 h11 a13 h13 a5 h5 C K V KT n S).2.2)
  pure (loopN c i a4 h4 a6 h6 a11 h11 a13 h13 a5 h5 C K V KT n S).1

theorem spec_apply (n : ℕ) (S : St F) (Q : Car F → sProp 𝕄) :
    spec c i a4 h4 a6 h6 a11 h11 a13 h13 a5 h5 C K V KT n S Q
      = iprop(held c a4 a6 a11 a13 a5 K V KT S.2.1 S.2.2
        ∗ (held c a4 a6 a11 a13 a5 K V KT (loopN c i a4 h4 a6 h6 a11 h11 a13 h13 a5 h5 C K V KT n S).2.1
            (loopN c i a4 h4 a6 h6 a11 h11 a13 h13 a5 h5 C K V KT n S).2.2
          -∗ Q (loopN c i a4 h4 a6 h6 a11 h11 a13 h13 a5 h5 C K V KT n S).1)) := rfl

/-- The loop's test failing, it hands back what it carries. -/
theorem loop_exit (s : Car F) (ht : ¬Test i s.1) (v : Option 𝒱₀.V) (E : Set ℕ) (Q : Car F → sProp 𝕄) :
    Q s ⊢ wp frame (wpE (defs₀ (F := F)) 𝒱₀ (c : Thread nD τ) v) E (loopAt i a4 h4 a6 h6 a11 h11 a13 h13 a5 h5 C s) Q := by
  unfold loopAt
  simp only [cc0_while1_eq_skeleton]; unfold cc0_while1_skel
  simp only [ht, ↓reduceIte, Prog.pure_eq_ret]
  iintro H
  rw [wp_ret]; imodintro
  iexact H

/-- The label is answered, by induction on the trips left. -/
theorem spec_le (E : Set ℕ) : ∀ (n : ℕ) (S : St F), Left i n S.1.1 → ∀ Q : Car F → sProp 𝕄,
    spec c i a4 h4 a6 h6 a11 h11 a13 h13 a5 h5 C K V KT n S Q
      ⊢ wp frame (wpE (defs₀ (F := F)) 𝒱₀ (c : Thread nD τ) (some n)) E (loopAt i a4 h4 a6 h6 a11 h11 a13 h13 a5 h5 C S.1) Q := by
  intro n
  induction n with
  | zero =>
    intro S hS Q
    rw [spec_apply]
    refine .trans ?_ (loop_exit c i a4 h4 a6 h6 a11 h11 a13 h13 a5 h5 C S.1 hS.stop _ E Q)
    simp only [loopN]
    iintro ⟨H, Hk⟩
    iapply Hk; iexact H
  | succ n ih =>
    intro S hS Q
    rw [spec_apply]
    by_cases ht : Test i S.1.1
    · have hj := hS.chk ht
      rw [loopN, dif_pos ⟨hj, ht⟩]
      refine .trans ?_ ((tripRun c i a4 h4 a6 h6 a11 h11 a13 h13 a5 h5 C K V KT S.1 S.2.1 S.2.2 hj ht).2.2.2 𝒱₀ (some (n + 1)) E Q)
      iintro ⟨H, Hk⟩
      isplitl [H]; · iexact H
      iintro H
      unfold callAt
      iapply (wp_call_spec 𝒱₀ (c : Thread nD τ) (some (n + 1)) E
        (spec c i a4 h4 a6 h6 a11 h11 a13 h13 a5 h5 C K V KT n (tripOf c i a4 h4 a6 h6 a11 h11 a13 h13 a5 h5 C K V KT S hj ht)) n
        (fun u hu => by cases hu; exact Nat.lt_succ_self n)
        (ih (tripOf c i a4 h4 a6 h6 a11 h11 a13 h13 a5 h5 C K V KT S hj ht)
          (by rw [tripOf_num]; exact hS.next ht)))
      rw [spec_apply]
      isplitl [H]; · iexact H
      iintro H
      rw [wp_ret]; imodintro
      iapply Hk; iexact H
    · rw [loopN, dif_neg (fun h => ht h.2)]
      refine .trans ?_ (loop_exit c i a4 h4 a6 h6 a11 h11 a13 h13 a5 h5 C S.1 ht _ E Q)
      iintro ⟨H, Hk⟩
      iapply Hk; iexact H

/-- The loop called from outside. -/
theorem loop_call (n : ℕ) (S : St F) (hS : Left i n S.1.1) (E : Set ℕ) (Q : Car F → sProp 𝕄) :
    iprop(held c a4 a6 a11 a13 a5 K V KT S.2.1 S.2.2
        ∗ (held c a4 a6 a11 a13 a5 K V KT (loopN c i a4 h4 a6 h6 a11 h11 a13 h13 a5 h5 C K V KT n S).2.1
            (loopN c i a4 h4 a6 h6 a11 h11 a13 h13 a5 h5 C K V KT n S).2.2
          -∗ Q (loopN c i a4 h4 a6 h6 a11 h11 a13 h13 a5 h5 C K V KT n S).1))
      ⊢ wp frame (wpE (defs₀ (F := F)) 𝒱₀ (c : Thread nD τ) none) E (callAt i a4 h4 a6 h6 a11 h11 a13 h13 a5 h5 C S.1) Q := by
  unfold callAt
  iintro ⟨H, Hk⟩
  iapply (wp_call_spec 𝒱₀ (c : Thread nD τ) none E (spec c i a4 h4 a6 h6 a11 h11 a13 h13 a5 h5 C K V KT n S) n
    (fun u hu => nomatch hu) (spec_le c i a4 h4 a6 h6 a11 h11 a13 h13 a5 h5 C K V KT E n S hS))
  rw [spec_apply]
  isplitl [H]; · iexact H
  iintro H
  rw [wp_ret]; imodintro
  iapply Hk; iexact H

end Cert.Proof.Attn

end
-- ==== Proof.Attn.Body.lean ====
module

public import proofs.«01_k».proof.Proof.Attn.Loop

@[expose] public section

set_option maxRecDepth 16384

noncomputable section

namespace Cert.Proof.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first block the loop visits, from the word `low` holds: no more than the block before the query block's own. -/
def startAt (i : grid0.Coords) (w : BitVec 32) : BitVec 32 :=
  Scalar.minsi (Scalar.maxsi (Scalar.subi (BitVec.ofNat 32 (i 2).val) 1#32) 0#32) (Scalar.maxsi 0#32 w)

theorem start_aux : ∀ a : Fin 16, ∃ j : Fin 15, Scalar.maxsi (Scalar.subi (BitVec.ofNat 32 a.val) 1#32) 0#32 = BitVec.ofNat 32 j.val := by decide

theorem left_start (i : grid0.Coords) (w : BitVec 32) : Left i 8 (startAt i w) := by
  obtain ⟨j, hj⟩ := start_aux ⟨(i 2).val, (i 2).isLt⟩
  have h16 : (i 2).val < 16 := (i 2).isLt
  have : ∃ k < 16, startAt i w = BitVec.ofNat 32 k := by
    unfold startAt
    dsimp only at hj
    rw [hj]
    have hjv := j.isLt
    generalize hx : j.val = x at *
    have h0 : (0 : ℤ) ≤ (Scalar.maxsi 0#32 w).toInt := by
      unfold Scalar.maxsi IntOp.maxsi
      split
      · decide
      · rename_i h; simpa [BitVec.slt] using h
    unfold Scalar.minsi IntOp.minsi
    split
    · exact ⟨x, by omega, rfl⟩
    · rename_i h
      refine ⟨(Scalar.maxsi 0#32 w).toNat, ?_, by simp⟩
      have hx' : (BitVec.ofNat 32 x).toInt = x := by
        rw [BitVec.toInt_eq_toNat_of_lt (by rw [BitVec.toNat_ofNat]; omega), BitVec.toNat_ofNat, Nat.mod_eq_of_lt (by omega)]
      have h1 : (Scalar.maxsi 0#32 w).toInt ≤ x := by rw [← hx']; simpa [BitVec.slt] using h
      have h2 := BitVec.toInt_eq_toNat_cond (Scalar.maxsi 0#32 w)
      split at h2 <;> omega
  obtain ⟨k, hk, hw⟩ := this
  exact ⟨k, hk, hw, by omega⟩

theorem off12_aux : ∀ a : Fin 16, (Scalar.indexCast (Scalar.muli (Scalar.maxsi (Scalar.subi (BitVec.ofNat 32 a.val) 1#32) 0#32) 256#32) : Index).toNat = 256 * (a.val - 1) := by decide

theorem off13_aux : ∀ a : Fin 16, (Scalar.indexCast (Scalar.muli (BitVec.ofNat 32 a.val) 256#32) : Index).toNat = 256 * a.val := by decide

theorem off12_eq (i : grid0.Coords) : k0_off12 i = ![256 * ((i 2).val - 1), 0] :=
  congrArg (fun x : ℕ => (![x, 0] : Fin 2 → ℕ)) (off12_aux ⟨(i 2).val, (i 2).isLt⟩)

theorem off13_eq (i : grid0.Coords) : k0_off13 i = ![256 * (i 2).val, 0] :=
  congrArg (fun x : ℕ => (![x, 0] : Fin 2 → ℕ)) (off13_aux ⟨(i 2).val, (i 2).isLt⟩)

instance (i : grid0.Coords) : ClosedOff (k0_off12 i) := ⟨![256 * ((i 2).val - 1), 0], off12_eq i⟩

instance (i : grid0.Coords) : ClosedOff (k0_off13 i) := ⟨![256 * (i 2).val, 0], off13_eq i⟩

/-- What a query block's loop reads, from the blocks of the queries, of the totals and of the cotangent. -/
def conOf (a3 : Memref sig .tc .vmem S256x256 .bf16) (h3 : a3.IsWhole) (a7 : Memref sig .tc .vmem S1x4x1x8x256 .f32) (h7 : a7.IsWhole)
    (a9 : Memref sig .tc .vmem S256x256 .f32) (h9 : a9.IsWhole) (X3 : Vec F S256x256 .bf16) (X7 : Vec F S1x4x1x8x256 .f32) (X9 : Vec F S256x256 .f32) : Con F :=
  let q : Vec F S256x256 .bf16 := a3.view.readAt (Elt F) (Rect.unit (s := S256x256) ![0, 0] S256x256.size inb_S256x256_S256x256_0_0).toLoadRect (h3.unread X3)
  let g : Vec F S256x256 .f32 := a9.view.readAt (Elt F) (Rect.unit (s := S256x256) ![0, 0] S256x256.size inb_S256x256_S256x256_0_0).toLoadRect (h9.unread X9)
  { q0 := k0_pay9 q, q1 := k0_pay10 q, q2 := k0_pay12 (k0_pay11 q), q3 := k0_pay13 q
    g0 := k0_pay14 g, g1 := k0_pay15 g, g2 := k0_pay16 g, g3 := k0_pay17 g
    before := k0_pay6
    t0 := k0_pay18 (a7.view.readAt (Elt F) (Rect.unit (s := S1x4x1x8x256) ![0, 0, 0, 0, 0] S1x1x1x8x256.size inb_S1x4x1x8x256_S1x1x1x8x256_0_0_0_0_0).toLoadRect (h7.unread X7))
    t1 := k0_pay19 (a7.view.readAt (Elt F) (Rect.unit (s := S1x4x1x8x256) ![0, 1, 0, 0, 0] S1x1x1x8x256.size inb_S1x4x1x8x256_S1x1x1x8x256_0_1_0_0_0).toLoadRect (h7.unread X7))
    t2 := k0_pay20 (a7.view.readAt (Elt F) (Rect.unit (s := S1x4x1x8x256) ![0, 2, 0, 0, 0] S1x1x1x8x256.size inb_S1x4x1x8x256_S1x1x1x8x256_0_2_0_0_0).toLoadRect (h7.unread X7))
    t3 := k0_pay21 (a7.view.readAt (Elt F) (Rect.unit (s := S1x4x1x8x256) ![0, 3, 0, 0, 0] S1x1x1x8x256.size inb_S1x4x1x8x256_S1x1x1x8x256_0_3_0_0_0).toLoadRect (h7.unread X7))
    upto := k0_pay7 }

/-- What the loop is entered with. -/
def car0 (j : BitVec 32) : Car F :=
  (j, k0_pay22, k0_pay22, k0_pay22, k0_pay22, k0_pay22, k0_pay22, k0_pay22, k0_pay22, k0_pay23, k0_pay23, k0_pay23, k0_pay23)

variable (c : Dev nD) (i : grid0.Coords)
  (a3 : Memref sig .tc .vmem S256x256 .bf16) (h3 : a3.IsWhole)
  (a4 : Memref sig .tc .vmem S4096x256 .bf16) (h4 : a4.IsWhole)
  (a5 : Memref sig .tc .vmem S1x2x128x4096 .bf16) (h5 : a5.IsWhole)
  (a6 : Memref sig .tc .vmem S4096x256 .bf16) (h6 : a6.IsWhole)
  (a7 : Memref sig .tc .vmem S1x4x1x8x256 .f32) (h7 : a7.IsWhole)
  (a8 : Memref sig .tc .smem S8x16 .f32) (h8 : a8.IsWhole)
  (a9 : Memref sig .tc .vmem S256x256 .f32) (h9 : a9.IsWhole)
  (a10 : Memref sig .tc .vmem S256x256 .f32) (h10 : a10.IsWhole)
  (a11 : Memref sig .tc .vmem S4096x256 .f32) (h11 : a11.IsWhole)
  (a12 : Memref sig .tc .vmem S4096x256 .bf16) (h12 : a12.IsWhole)
  (a13 : Memref sig .tc .vmem S4096x256 .f32) (h13 : a13.IsWhole)
  (X3 : Vec F S256x256 .bf16) (K V : Vec F S4096x256 .bf16) (KT : Vec F S1x2x128x4096 .bf16)
  (X7 : Vec F S1x4x1x8x256 .f32) (X8 : Vec F S8x16 .f32) (X9 : Vec F S256x256 .f32)

/-- The body's buffers: its arguments at their blocks, its three results and the scratch at the given contents. -/
def heldAll (dq : Vec F S256x256 .f32) (dk : Vec F S4096x256 .f32) (dvb : Vec F S4096x256 .bf16) (dv : Vec F S4096x256 .f32) : sProp 𝕄 :=
  iprop(owns (c : Thread nD τ) a3 fullShare X3 ∗ owns (c : Thread nD τ) a4 fullShare K ∗ owns (c : Thread nD τ) a5 fullShare KT
    ∗ owns (c : Thread nD τ) a6 fullShare V ∗ owns (c : Thread nD τ) a7 fullShare X7 ∗ owns (c : Thread nD τ) a8 fullShare X8
    ∗ owns (c : Thread nD τ) a9 fullShare X9 ∗ owns (c : Thread nD τ) a10 fullShare dq ∗ owns (c : Thread nD τ) a11 fullShare dk
    ∗ owns (c : Thread nD τ) a12 fullShare dvb ∗ owns (c : Thread nD τ) a13 fullShare dv)

/-- Whether the query block is a sequence's first, as the body tests it. -/
abbrev isFirst (i : grid0.Coords) : Prop := Scalar.cmpi .ne (Scalar.extui (Scalar.cmpi .eq (BitVec.ofNat 32 (i 2).val) 0#32)) 0#32 = (1#1 : BitVec 1)

/-- The word `low` holds for the query block. -/
def lowAt (a8 : Memref sig .tc .smem S8x16 .f32) (h8 : a8.IsWhole) (X8 : Vec F S8x16 .f32) : BitVec 32 :=
  Scalar.fptosi 32 (a8.view.readAt (Elt F) (Rect.unit (s := S8x16) (k0_off1 i) S1x1.size (k0_off1_inb i)).toLoadRect (h8.unread X8) (Shape.Idx.first (numel1_S1x1.symm ▸ Nat.one_pos)))

/-- What the loop is entered with. -/
def inMid (a8 : Memref sig .tc .smem S8x16 .f32) (h8 : a8.IsWhole) (X8 : Vec F S8x16 .f32) (dk dv : Vec F S4096x256 .f32) : St F :=
  (car0 (startAt i (lowAt i a8 h8 X8)), dk, dv)

/-- A sum's contents once the sequence's first query block has set it to zero. -/
def zeroed (x z : Vec F S4096x256 .f32) : Vec F S4096x256 .f32 := if isFirst i then z else x

/-- The block of the queries as the body loads it. -/
abbrev ldq (a3 : Memref sig .tc .vmem S256x256 .bf16) (h3 : a3.IsWhole) (X3 : Vec F S256x256 .bf16) : Vec F S256x256 .bf16 :=
  a3.view.readAt (Elt F) (Rect.unit (s := S256x256) ![0, 0] S256x256.size inb_S256x256_S256x256_0_0).toLoadRect (h3.unread X3)

set_option maxHeartbeats 1000000 in
/-- The body's beginning: the two sums set to zero at a sequence's first query block, and the heads' parts of the queries. -/
theorem part1_run (dk dv : Vec F S4096x256 .f32) (E : Set ℕ) (Q : _ → sProp 𝕄) :
    iprop((owns (c : Thread nD τ) a3 fullShare X3 ∗ owns (c : Thread nD τ) a11 fullShare dk ∗ owns (c : Thread nD τ) a13 fullShare dv)
      ∗ ((owns (c : Thread nD τ) a3 fullShare X3 ∗ owns (c : Thread nD τ) a11 fullShare (zeroed i dk k0_pay4) ∗ owns (c : Thread nD τ) a13 fullShare (zeroed i dv k0_pay5))
        -∗ Q ⟨BitVec.ofNat 32 (i 0).val, BitVec.ofNat 32 (i 1).val, BitVec.ofNat 32 (i 2).val, k0_pay6, k0_pay7, k0_pay8,
          k0_pay9 (ldq a3 h3 X3), k0_pay10 (ldq a3 h3 X3), k0_pay11 (ldq a3 h3 X3)⟩))
      ⊢ wp frame (wpE (defs₀ (F := F)) 𝒱₀ (c : Thread nD τ) none) E
          (k0_part1 i a3 h3 a4 h4 a5 h5 a6 h6 a7 h7 a8 h8 a9 h9 a10 h10 a11 h11 a12 h12 a13 h13) Q := by
  simp only [k0_part1_eq_skeleton]; unfold k0_part1_skel owns
  by_cases hz : isFirst i
  · unfold zeroed; rw [if_pos hz, if_pos hz]
    iintro ⟨⟨⟨%f3, %hf3, H3⟩, ⟨%f11, %hf11, H11⟩, ⟨%f13, %hf13, H13⟩⟩, Hk⟩
    obtain rfl := h3.eq_unread hf3
    sl_exec (disch := sl_exact hz)
    rw [wp_ret]; imodintro
    iapply Hk
    isplitl [H3]
    · iexists _; isplitr; swap; · iexact H3
      ipureintro; exact hf3
    isplitl [H11]
    · iexists _; isplitr; swap; · iexact H11
      ipureintro; exact View.read_writes_full _ _ _ _ _
    iexists _; isplitr; swap; · iexact H13
    ipureintro; exact View.read_writes_full _ _ _ _ _
  · unfold zeroed; rw [if_neg hz, if_neg hz]
    iintro ⟨⟨⟨%f3, %hf3, H3⟩, ⟨%f11, %hf11, H11⟩, ⟨%f13, %hf13, H13⟩⟩, Hk⟩
    obtain rfl := h3.eq_unread hf3
    sl_exec (disch := sl_exact hz)
    rw [wp_ret]; imodintro
    iapply Hk
    isplitl [H3]
    · iexists _; isplitr; swap; · iexact H3
      ipureintro; exact hf3
    isplitl [H11]
    · iexists _; isplitr; swap; · iexact H11
      ipureintro; exact hf11
    iexists _; isplitr; swap; · iexact H13
    ipureintro; exact hf13

set_option maxHeartbeats 4000000 in
/-- The body at a point, its two sums at `dk0`, `dv0` once the first query block of a sequence has set them to zero: what it
    leaves in its results and in the scratch. -/
def bodyRun (dk0 dv0 : Vec F S4096x256 .f32) :
    Σ' (dq' : Vec F S256x256 .f32) (dk' dv' : Vec F S4096x256 .f32),
      ∀ (dq : Vec F S256x256 .f32) (dk : Vec F S4096x256 .f32) (dvb : Vec F S4096x256 .bf16) (dv : Vec F S4096x256 .f32)
        (ek : zeroed i dk k0_pay4 = dk0) (ev : zeroed i dv k0_pay5 = dv0) (E : Set ℕ) (Q : PUnit → sProp 𝕄),
        iprop(heldAll c a3 a4 a5 a6 a7 a8 a9 a10 a11 a12 a13 X3 K V KT X7 X8 X9 dq dk dvb dv
          ∗ (heldAll c a3 a4 a5 a6 a7 a8 a9 a10 a11 a12 a13 X3 K V KT X7 X8 X9 dq' dk' (if k0_cond2 i = 1#1 then k0_pay2 dv' else dvb) dv' -∗ Q ⟨⟩))
          ⊢ wp frame (wpE (defs₀ (F := F)) 𝒱₀ (c : Thread nD τ) none) E
              (cc0_sb_attn_bwd i a3 h3 a4 h4 a5 h5 a6 h6 a7 h7 a8 h8 a9 h9 a10 h10 a11 h11 a12 h12 a13 h13) Q := by
  refine ⟨?_, ?_, ?_, fun dq dk dvb dv ek ev E Q => ?run⟩
  case run =>
    unfold heldAll
    simp only [cc0_sb_attn_bwd_eq_skeleton]; unfold cc0_sb_attn_bwd_skel
    rw [wp_bind]
    iintro ⟨⟨H3, H4, H5, H6, H7, H8, H9, H10, H11, H12, H13⟩, Hk⟩
    iapply (part1_run c i a3 h3 a4 h4 a5 h5 a6 h6 a7 h7 a8 h8 a9 h9 a10 h10 a11 h11 a12 h12 a13 h13 X3 dk dv E _)
    isplitl [H3 H11 H13]
    · isplitl [H3]; · iexact H3
      isplitl [H11]; · iexact H11
      iexact H13
    rw [ek, ev]
    iintro ⟨H3, H11, H13⟩
    unfold owns
    icases H3 with ⟨%f3, %hf3, H3⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%f9, %hf9, H9⟩
    icases H10 with ⟨%f10, %hf10, H10⟩
    icases H11 with ⟨%f11, %hf11, H11⟩
    icases H12 with ⟨%f12, %hf12, H12⟩
    icases H13 with ⟨%f13, %hf13, H13⟩
    obtain rfl := h3.eq_unread hf3; obtain rfl := h4.eq_unread hf4; obtain rfl := h5.eq_unread hf5; obtain rfl := h6.eq_unread hf6
    obtain rfl := h7.eq_unread hf7; obtain rfl := h8.eq_unread hf8; obtain rfl := h9.eq_unread hf9; obtain rfl := h10.eq_unread hf10
    obtain rfl := h11.eq_unread hf11; obtain rfl := h12.eq_unread hf12; obtain rfl := h13.eq_unread hf13
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    sl_exec
    iapply (wp_call_spec 𝒱₀ (c : Thread nD τ) none E
      (spec c i a4 h4 a6 h6 a11 h11 a13 h13 a5 h5 (conOf a3 h3 a7 h7 a9 h9 X3 X7 X9) K V KT 8 (inMid i a8 h8 X8 dk0 dv0)) 8
      (fun u hu => nomatch hu)
      (spec_le c i a4 h4 a6 h6 a11 h11 a13 h13 a5 h5 (conOf a3 h3 a7 h7 a9 h9 X3 X7 X9) K V KT E 8 (inMid i a8 h8 X8 dk0 dv0) (left_start i _)))
    rw [spec_apply]
    unfold held owns
    isplitl [H4 H6 H5 H11 H13]
    · isplitl [H4]
      · iexists _; isplitr; · ipureintro; exact h4.read_unread _
        iexact H4
      isplitl [H6]
      · iexists _; isplitr; · ipureintro; exact h6.read_unread _
        iexact H6
      isplitl [H5]
      · iexists _; isplitr; · ipureintro; exact h5.read_unread _
        iexact H5
      isplitl [H11]
      · iexists _; isplitr; swap; · iexact H11
        ipureintro; exact h11.read_unread _
      iexists _; isplitr; swap; · iexact H13
      ipureintro; exact h13.read_unread _
    iintro ⟨⟨%f4, %hf4, H4⟩, ⟨%f6, %hf6, H6⟩, ⟨%f5, %hf5, H5⟩, ⟨%f11, %hf11, H11⟩, ⟨%f13, %hf13, H13⟩⟩
    obtain rfl := h4.eq_unread hf4; obtain rfl := h5.eq_unread hf5; obtain rfl := h6.eq_unread hf6
    obtain rfl := h11.eq_unread hf11; obtain rfl := h13.eq_unread hf13
    sl_exec
    rw [wp_ret]; imodintro
    iapply Hk
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; swap; · iexact H10
      ipureintro; exact View.read_writes_full _ _ _ _ _
    isplitl [H11]
    · iexists _; isplitr; swap; · iexact H11
      ipureintro; rfl
    isplitl [H12]; swap
    · iexists _; isplitr; swap; · iexact H13
      ipureintro; rfl
    · iexists _; isplitr; swap; · iexact H12
      ipureintro
      by_cases hc : k0_cond2 i = 1#1
      · rw [dif_pos hc, if_pos hc]
        exact (View.read_writes_full _ _ _ _ _).trans (congrArg k0_pay2 (View.readAt_full _ _ _))
      · rw [dif_neg hc, if_neg hc]
        exact h12.read_unread _

end Cert.Proof.Attn

end
-- ==== Proof.Attn.Kit.lean ====
module

public import proofs.«01_k».proof.Proof.Attn.Body
public import Idealize.ShloMosaic.Lib.Pipeline.FrameBody

@[expose] public section

set_option maxRecDepth 16384

noncomputable section

namespace Cert.Proof.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the kernel is called: the host's lines applied to what it was launched with. -/
abbrev V (c : Dev nD) (b : Ref sig .tc) : Buf (Elt F) ((c : Thread nD τ).loc b) :=
  StableHlo.after [hostOps0, hostOps0_1, hostOps0_2, hostOps0_3, hostOps0_4].flatten (fun b => m (c, b)) b

theorem fresh_all : ([hostOps0, hostOps0_1, hostOps0_2, hostOps0_3, hostOps0_4] : List (List (HloOp τ sig (Elt F)))).Forall
    fun l => l.Forall fun op => op.fresh = ∅ := by
  simp only [List.Forall]; repeat' constructor

set_option maxHeartbeats 800000 in
/-- The program up to the call is the host's lines. -/
theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    fresh_all main_chain

/-- The host's lines leave the arguments as they were. -/
theorem V_arg (c : Dev nD) (b : Ref sig .tc) (hb : b = main_arg0 ∨ b = main_arg1 ∨ b = main_arg2 ∨ b = main_arg3) :
    V m c b = m ((c : Thread nD τ).loc b) := by
  refine StableHlo.after_of_forall_not_mem (b := Proc.devRef .tc b) _ _ (List.forall_iff_forall_mem.mp ?_)
  rcases hb with rfl | rfl | rfl | rfl <;>
  · simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes, Finset.mem_singleton]
    repeat' apply And.intro
    all_goals exact StableHlo.devRef_ne_of_ne (by decide)

/-- The block of window `w` at point `t`, of the array as the call finds it. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Every argument of the call ends as it was launched. -/
theorem frame_of (dats : (p : Fin 1) → (c : Dev nD) → Dat τ (Elt F) Unit ℕ (UR sig nD τ) ℕ (cfgs (F := F) p) c)
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of (win := spec0) main_arg0 (by decide) (by decide))).trans (V_arg m c _ (.inl rfl)),
     ((h c).2 main_arg1 (Pipeline.mem_restRefs_of (win := spec0) main_arg1 (by decide) (by decide))).trans (V_arg m c _ (.inr (.inl rfl))),
     ((h c).2 main_arg2 (Pipeline.mem_restRefs_of (win := spec0) main_arg2 (by decide) (by decide))).trans (V_arg m c _ (.inr (.inr (.inl rfl)))),
     ((h c).2 main_arg3 (Pipeline.mem_restRefs_of (win := spec0) main_arg3 (by decide) (by decide))).trans (V_arg m c _ (.inr (.inr (.inr rfl))))⟩) h

end Cert.Proof.Attn

end
-- ==== Proof.Attn.Frame.lean ====
module

public import proofs.«01_k».proof.Proof.Attn.Kit
public import Idealize.ShloMosaic.Lib.Claim

@[expose] public section

set_option maxRecDepth 16384

noncomputable section

namespace Cert.Proof.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch that sums the values' gradient. -/
abbrev scr : Memref sig .tc .vmem S4096x256 .f32 := Memref.whole cc0_scratch0

/-- The buffers the body is called with at point `t`. -/
abbrev mb0 (t : Fin (cfg0 (F := F)).N) : Memref sig .tc .vmem S256x256 .bf16 := win0_0.stage ((cfg0 (F := F)).slots t 0)
abbrev mb1 (t : Fin (cfg0 (F := F)).N) : Memref sig .tc .vmem S4096x256 .bf16 := win0_1.stage ((cfg0 (F := F)).slots t 1)
abbrev mb2 (t : Fin (cfg0 (F := F)).N) : Memref sig .tc .vmem S1x2x128x4096 .bf16 := win0_2.stage ((cfg0 (F := F)).slots t 2)
abbrev mb3 (t : Fin (cfg0 (F := F)).N) : Memref sig .tc .vmem S4096x256 .bf16 := win0_3.stage ((cfg0 (F := F)).slots t 3)
abbrev mb4 (t : Fin (cfg0 (F := F)).N) : Memref sig .tc .vmem S1x4x1x8x256 .f32 := win0_4.stage ((cfg0 (F := F)).slots t 4)
abbrev mb5 (t : Fin (cfg0 (F := F)).N) : Memref sig .tc .smem S8x16 .f32 := win0_5.stage ((cfg0 (F := F)).slots t 5)
abbrev mb6 (t : Fin (cfg0 (F := F)).N) : Memref sig .tc .vmem S256x256 .f32 := win0_6.stage ((cfg0 (F := F)).slots t 6)
abbrev mb7 (t : Fin (cfg0 (F := F)).N) : Memref sig .tc .vmem S256x256 .f32 := win0_7.stage ((cfg0 (F := F)).slots t 7)
abbrev mb8 (t : Fin (cfg0 (F := F)).N) : Memref sig .tc .vmem S4096x256 .f32 := win0_8.stage ((cfg0 (F := F)).slots t 8)
abbrev mb9 (t : Fin (cfg0 (F := F)).N) : Memref sig .tc .vmem S4096x256 .bf16 := win0_9.stage ((cfg0 (F := F)).slots t 9)

/-- The body at point `t`, its sums at `s` (set to zero where a sequence begins). -/
def runAt (c : Dev nD) (t : Fin (cfg0 (F := F)).N) (s : Vec F S4096x256 .f32 × Vec F S4096x256 .f32) :=
  bodyRun c (grid0.coords t) (mb0 t) (hstage0_0 (((cfg0 (F := F)).slots t 0).cast nbuf0_0))
    (mb1 t) (hstage0_1 (((cfg0 (F := F)).slots t 1).cast nbuf0_1)) (mb2 t) (hstage0_2 (((cfg0 (F := F)).slots t 2).cast nbuf0_2))
    (mb3 t) (hstage0_3 (((cfg0 (F := F)).slots t 3).cast nbuf0_3)) (mb4 t) (hstage0_4 (((cfg0 (F := F)).slots t 4).cast nbuf0_4))
    (mb5 t) (hstage0_5 (((cfg0 (F := F)).slots t 5).cast nbuf0_5)) (mb6 t) (hstage0_6 (((cfg0 (F := F)).slots t 6).cast nbuf0_6))
    (mb7 t) (hstage0_7 (((cfg0 (F := F)).slots t 7).cast nbuf0_7)) (mb8 t) (hstage0_8 (((cfg0 (F := F)).slots t 8).cast nbuf0_8))
    (mb9 t) (hstage0_9 (((cfg0 (F := F)).slots t 9).cast nbuf0_9)) scr (Memref.isWhole_whole _)
    (iblk m c 0 t) (iblk m c 1 t) (iblk m c 3 t) (iblk m c 2 t) (iblk m c 4 t) (iblk m c 5 t) (iblk m c 6 t)
    (zeroed (grid0.coords t) s.1 k0_pay4) (zeroed (grid0.coords t) s.2 k0_pay5)

/-- What the body leaves at point `t`: the queries' gradient and the two sums. -/
def outAt (c : Dev nD) (t : Fin (cfg0 (F := F)).N) (s : Vec F S4096x256 .f32 × Vec F S4096x256 .f32) :
    Vec F S256x256 .f32 × Vec F S4096x256 .f32 × Vec F S4096x256 .f32 :=
  ((runAt m c t s).1, (runAt m c t s).2.1, (runAt m c t s).2.2.1)

/-- The body's buffers at point `t`: the arguments at their blocks, the results and the scratch at the given contents. -/
def heldAt (c : Dev nD) (t : Fin (cfg0 (F := F)).N) (dq : Vec F S256x256 .f32) (dk : Vec F S4096x256 .f32) (dvb : Vec F S4096x256 .bf16)
    (dv : Vec F S4096x256 .f32) : sProp 𝕄 :=
  heldAll c (mb0 t) (mb1 t) (mb2 t) (mb3 t) (mb4 t) (mb5 t) (mb6 t) (mb7 t) (mb8 t) (mb9 t) scr
    (iblk m c 0 t) (iblk m c 1 t) (iblk m c 3 t) (iblk m c 2 t) (iblk m c 4 t) (iblk m c 5 t) (iblk m c 6 t) dq dk dvb dv

theorem run_spec (c : Dev nD) (t : Fin (cfg0 (F := F)).N) (s : Vec F S4096x256 .f32 × Vec F S4096x256 .f32)
    (dq : Vec F S256x256 .f32) (dk : Vec F S4096x256 .f32) (dvb : Vec F S4096x256 .bf16) (dv : Vec F S4096x256 .f32)
    (ek : zeroed (grid0.coords t) dk k0_pay4 = zeroed (grid0.coords t) s.1 k0_pay4)
    (ev : zeroed (grid0.coords t) dv k0_pay5 = zeroed (grid0.coords t) s.2 k0_pay5) (Q : PUnit → sProp 𝕄) :
    iprop(heldAt m c t dq dk dvb dv
      ∗ (heldAt m c t (outAt m c t s).1 (outAt m c t s).2.1
          (if k0_cond2 (grid0.coords t) = 1#1 then k0_pay2 (outAt m c t s).2.2 else dvb) (outAt m c t s).2.2 -∗ Q ⟨⟩))
      ⊢ wp frame (wpE (defs₀ (F := F)) 𝒱₀ (c : Thread nD τ) none) Set.univ (bodyAt0 t) Q := by
  have h := (runAt m c t s).2.2.2 dq dk dvb dv ek ev Set.univ Q
  unfold heldAt outAt bodyAt0
  dsimp only
  exact h

/-- The two sums before the point numbered `n`. -/
def sums (c : Dev nD) : ℕ → Vec F S4096x256 .f32 × Vec F S4096x256 .f32
  | 0 => (k0_pay4, k0_pay5)
  | n + 1 => if h : n < (cfg0 (F := F)).N then (outAt m c ⟨n, h⟩ (sums c n)).2 else sums c n

theorem sums_succ (c : Dev nD) (t : Fin (cfg0 (F := F)).N) : sums m c (t.val + 1) = (outAt m c t (sums m c t.val)).2 := by
  conv_lhs => unfold sums
  exact dif_pos t.isLt

/-- Between points the scratch holds the values' sum; where a sequence begins, anything. -/
def inv (c : Dev nD) (n : ℕ) : sProp 𝕄 :=
  iprop((∃ v, ⌜n % 16 ≠ 0 → v = (sums m c n).2⌝ ∗ owns (c : Thread nD τ) scr fullShare v) ∗ ∃ r, prngReg c r)

def dats (_p : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outAt m c t (sums m c t.val)).1
    | ⟨8, _⟩ => (sums m c (t.val + 1)).1
    | ⟨9, _⟩ => k0_pay2 (sums m c (t.val + 1)).2
    | ⟨_ + 10, h⟩ => absurd h (Nat.not_lt.2 (Nat.le_add_left _ _))
  Φ t := inv m c t.val
  q _ := fullShare
  owed _ := 0

theorem A_eq (c : Dev nD) (w : Fin (cfg0 (F := F)).W) : (dats m 0 c).A w = V m c (Pipeline.arrRef spec0 w) := by dsimp only [dats]

theorem inv_before (c : Dev nD) (t : Fin (cfg0 (F := F)).N) : (dats m 0 c).Φ t.castSucc = inv m c t.val := by
  dsimp only [dats, Fin.val_castSucc]
theorem inv_after (c : Dev nD) (t : Fin (cfg0 (F := F)).N) : (dats m 0 c).Φ t.succ = inv m c (t.val + 1) := by
  dsimp only [dats, Fin.val_succ]

theorem after0 (c : Dev nD) (t : Fin (cfg0 (F := F)).N) : (dats m 0 c).after 0 t = iblk m c 0 t := by dsimp only [dats]; rfl
theorem after1 (c : Dev nD) (t : Fin (cfg0 (F := F)).N) : (dats m 0 c).after 1 t = iblk m c 1 t := by dsimp only [dats]; rfl
theorem after2 (c : Dev nD) (t : Fin (cfg0 (F := F)).N) : (dats m 0 c).after 2 t = iblk m c 2 t := by dsimp only [dats]; rfl
theorem after3 (c : Dev nD) (t : Fin (cfg0 (F := F)).N) : (dats m 0 c).after 3 t = iblk m c 3 t := by dsimp only [dats]; rfl
theorem after4 (c : Dev nD) (t : Fin (cfg0 (F := F)).N) : (dats m 0 c).after 4 t = iblk m c 4 t := by dsimp only [dats]; rfl
theorem after5 (c : Dev nD) (t : Fin (cfg0 (F := F)).N) : (dats m 0 c).after 5 t = iblk m c 5 t := by dsimp only [dats]; rfl
theorem after6 (c : Dev nD) (t : Fin (cfg0 (F := F)).N) : (dats m 0 c).after 6 t = iblk m c 6 t := by dsimp only [dats]; rfl
theorem after7 (c : Dev nD) (t : Fin (cfg0 (F := F)).N) : (dats m 0 c).after 7 t = (outAt m c t (sums m c t.val)).1 := by dsimp only [dats]; rfl
theorem after8 (c : Dev nD) (t : Fin (cfg0 (F := F)).N) : (dats m 0 c).after 8 t = (sums m c (t.val + 1)).1 := by dsimp only [dats]; rfl
theorem after9 (c : Dev nD) (t : Fin (cfg0 (F := F)).N) : (dats m 0 c).after 9 t = k0_pay2 (sums m c (t.val + 1)).2 := by dsimp only [dats]; rfl

/-- An argument's buffer holds its block at every point. -/
theorem before_arg (c : Dev nD) (w : Fin (cfg0 (F := F)).W) (hw : (cfg0.win w).isOut = false) (hi : ∀ i, cfg0.idle w i = false)
    (hc : ∀ t t' : Fin (cfg0 (F := F)).N, (cfg0.win w).index t = (cfg0.win w).index t' → (cfg0.win w).clip (cfg0.grid.coords t) = (cfg0.win w).clip (cfg0.grid.coords t'))
    (hk : ∀ t, (cfg0.win w).cut (cfg0.grid.coords t) ((dats m 0 c).after w t) = (dats m 0 c).blockOf w t)
    (t : Fin (cfg0 (F := F)).N) (d) : (dats m 0 c).before w t d = (dats m 0 c).fetched w t d :=
  (dats m 0 c).before_in_eq_fetched w hw hi hc hk t d

theorem before0 (c : Dev nD) (t : Fin (cfg0 (F := F)).N) (d) : (dats m 0 c).before 0 t d = iblk m c 0 t :=
  before_arg m c 0 rfl (fun _ => rfl) (fun _ _ _ => rfl) (fun t => by rw [after0]; rfl) t d
theorem before1 (c : Dev nD) (t : Fin (cfg0 (F := F)).N) (d) : (dats m 0 c).before 1 t d = iblk m c 1 t :=
  before_arg m c 1 rfl (fun _ => rfl) (fun _ _ _ => rfl) (fun t => by rw [after1]; rfl) t d
theorem before2 (c : Dev nD) (t : Fin (cfg0 (F := F)).N) (d) : (dats m 0 c).before 2 t d = iblk m c 2 t :=
  before_arg m c 2 rfl (fun _ => rfl) (fun _ _ _ => rfl) (fun t => by rw [after2]; rfl) t d
theorem before3 (c : Dev nD) (t : Fin (cfg0 (F := F)).N) (d) : (dats m 0 c).before 3 t d = iblk m c 3 t :=
  before_arg m c 3 rfl (fun _ => rfl) (fun _ _ _ => rfl) (fun t => by rw [after3]; rfl) t d
theorem before4 (c : Dev nD) (t : Fin (cfg0 (F := F)).N) (d) : (dats m 0 c).before 4 t d = iblk m c 4 t :=
  before_arg m c 4 rfl (fun _ => rfl) (fun _ _ _ => rfl) (fun t => by rw [after4]; rfl) t d
theorem before5 (c : Dev nD) (t : Fin (cfg0 (F := F)).N) (d) : (dats m 0 c).before 5 t d = iblk m c 5 t :=
  before_arg m c 5 rfl (fun _ => rfl) (fun _ _ _ => rfl) (fun t => by rw [after5]; rfl) t d
theorem before6 (c : Dev nD) (t : Fin (cfg0 (F := F)).N) (d) : (dats m 0 c).before 6 t d = iblk m c 6 t :=
  before_arg m c 6 rfl (fun _ => rfl) (fun _ _ _ => rfl) (fun t => by rw [after6]; rfl) t d

/-- Inside a sequence the keys' sum is where the point before left it. -/
theorem before8 (c : Dev nD) (t : Fin (cfg0 (F := F)).N) (h : t.val % 16 ≠ 0) (d) : (dats m 0 c).before 8 t d = (sums m c t.val).1 := by
  rw [Dat.before_out_kept _ 8 rfl t (by omega) (Bool.eq_false_iff.mpr fun h' => by have := (flush0_8 _).mp h'; dsimp only at this; omega)
    (fun _ => rfl) (fun _ _ => rfl)]
  rw [after8]
  have : t.val - 1 + 1 = t.val := by omega
  dsimp only
  rw [this]

theorem coord2 (t : Fin (cfg0 (F := F)).N) : (grid0.coords t 2).val = t.val % 16 :=
  (by decide +kernel : ∀ t : Fin grid0.N, (grid0.coords t 2).val = t.val % 16) t

theorem isFirst_aux : ∀ a : Fin 16, Scalar.cmpi .ne (Scalar.extui (Scalar.cmpi .eq (BitVec.ofNat 32 a.val) 0#32)) 0#32 = (1#1 : BitVec 1) ↔ a.val = 0 := by decide

theorem isFirst_iff (t : Fin (cfg0 (F := F)).N) : isFirst (grid0.coords t) ↔ t.val % 16 = 0 := by
  rw [← coord2]; exact isFirst_aux ⟨(grid0.coords t 2).val, (grid0.coords t 2).isLt⟩

theorem last_aux : ∀ t : Fin grid0.N, k0_cond2 (grid0.coords t) = 1#1 ↔ t.val % 16 = 15 := by decide +kernel

theorem zeroed_congr (t : Fin (cfg0 (F := F)).N) (x y z : Vec F S4096x256 .f32) (h : t.val % 16 ≠ 0 → x = y) :
    zeroed (grid0.coords t) x z = zeroed (grid0.coords t) y z := by
  unfold zeroed
  by_cases hf : isFirst (grid0.coords t)
  · rw [if_pos hf, if_pos hf]
  · rw [if_neg hf, if_neg hf, h fun h0 => hf ((isFirst_iff t).mpr h0)]

/-- What the last window's buffer holds after point `t`: what it held, unless the values' gradient is written. -/
theorem leaves9 (c : Dev nD) (t : Fin (cfg0 (F := F)).N) (d) (b x : Vec F S4096x256 .bf16) (hb : b = (dats m 0 c).before 9 t d)
    (hx : x = if k0_cond2 (grid0.coords t) = 1#1 then k0_pay2 (sums m c (t.val + 1)).2 else b) :
    owns (c : Thread nD τ) (mb9 t) fullShare x ⊢ (dats m 0 c).leavesExact 9 t := by
  by_cases h : k0_cond2 (grid0.coords t) = 1#1
  · rw [if_pos h] at hx
    have hi : (cfg0 (F := F)).idle 9 (cfg0.grid.coords t) = false := by
      show (!(k0_cond2 (grid0.coords t) == 1#1)) = false
      rw [h]; rfl
    rw [hx, ← after9]
    unfold Dat.leavesExact
    rw [hi]
    exact .rfl
  · rw [if_neg h] at hx
    have hi : (cfg0 (F := F)).idle 9 (cfg0.grid.coords t) = true := by
      show (!(k0_cond2 (grid0.coords t) == 1#1)) = true
      simpa using h
    have hf : ((cfg0 (F := F)).win 9).flush t = false := Bool.eq_false_iff.mpr fun h' => h ((last_aux t).mpr ((flush0_9 t).mp h'))
    rw [Dat.leavesExact_idle _ 9 t hi hf, hx, hb]
    iintro H; iexists d; iexact H

/-- What the body is handed at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (mb0 t) fullShare ((dats m 0 c).before 0 t d))
    ∗ (∃ d, owns (c : Thread nD τ) (mb1 t) fullShare ((dats m 0 c).before 1 t d))
    ∗ (∃ d, owns (c : Thread nD τ) (mb2 t) fullShare ((dats m 0 c).before 2 t d))
    ∗ (∃ d, owns (c : Thread nD τ) (mb3 t) fullShare ((dats m 0 c).before 3 t d))
    ∗ (∃ d, owns (c : Thread nD τ) (mb4 t) fullShare ((dats m 0 c).before 4 t d))
    ∗ (∃ d, owns (c : Thread nD τ) (mb5 t) fullShare ((dats m 0 c).before 5 t d))
    ∗ (∃ d, owns (c : Thread nD τ) (mb6 t) fullShare ((dats m 0 c).before 6 t d))
    ∗ (∃ d, owns (c : Thread nD τ) (mb7 t) fullShare ((dats m 0 c).before 7 t d))
    ∗ (∃ d, owns (c : Thread nD τ) (mb8 t) fullShare ((dats m 0 c).before 8 t d))
    ∗ (∃ d, owns (c : Thread nD τ) (mb9 t) fullShare ((dats m 0 c).before 9 t d)))

/-- What it leaves. -/
def bodyPost (c : Dev nD) (t : Fin (cfg0 (F := F)).N) : sProp 𝕄 :=
  iprop((dats m 0 c).Φ t.succ ∗ (dats m 0 c).owesAt () t.succ
    ∗ owns (c : Thread nD τ) (mb0 t) fullShare ((dats m 0 c).after 0 t)
    ∗ owns (c : Thread nD τ) (mb1 t) fullShare ((dats m 0 c).after 1 t)
    ∗ owns (c : Thread nD τ) (mb2 t) fullShare ((dats m 0 c).after 2 t)
    ∗ owns (c : Thread nD τ) (mb3 t) fullShare ((dats m 0 c).after 3 t)
    ∗ owns (c : Thread nD τ) (mb4 t) fullShare ((dats m 0 c).after 4 t)
    ∗ owns (c : Thread nD τ) (mb5 t) fullShare ((dats m 0 c).after 5 t)
    ∗ owns (c : Thread nD τ) (mb6 t) fullShare ((dats m 0 c).after 6 t)
    ∗ owns (c : Thread nD τ) (mb7 t) fullShare ((dats m 0 c).after 7 t)
    ∗ owns (c : Thread nD τ) (mb8 t) fullShare ((dats m 0 c).after 8 t)
    ∗ (dats m 0 c).leavesExact 9 t)

set_option maxHeartbeats 1000000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after7, after8, sums_succ,
    inv_before, inv_after]
  unfold inv
  iintro ⟨⟨⟨%v, %hv, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_spec m c t (sums m c t.val) ((dats m 0 c).before 7 t d7) ((dats m 0 c).before 8 t d8) ((dats m 0 c).before 9 t d9) v
    (zeroed_congr t ((dats m 0 c).before 8 t d8) (sums m c t.val).1 k0_pay4 fun h => before8 m c t h d8)
    (zeroed_congr t v (sums m c t.val).2 k0_pay5 hv) _)
  unfold heldAt heldAll
  isplitl [HS H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iintro ⟨H0, H1, H2, H3, H4, H5, H6, H7, H8, H9, HS⟩
  isplitl [HS Hg]
  · isplitl [HS]
    · iexists _; isplitr; swap; · iexact HS
      ipureintro; intro _; rw [sums_succ]
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply (leaves9 m c t d9 _ _ rfl (by rw [sums_succ]))
  iexact H9

theorem body_obligation (c : Dev nD) : BodyObligation (dats (F := F) m 0 c) (defs₀ (F := F)) 𝒱₀ () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

theorem ΦA_eq (c : Dev nD) :
    (Pipeline.ΦA spec0 c : sProp 𝕄) = iprop((∃ v, owns (c : Thread nD τ) scr fullShare v) ∗ ∃ r, prngReg c r) := by
  unfold Pipeline.ΦA; rw [scopedRest0_eq]; simp only [scr, owns_whole]; try rfl

theorem hin (c : Dev nD) : Pipeline.ΦA spec0 c ⊢ (dats m 0 c).Φ 0 := by
  rw [show (dats m 0 c).Φ 0 = inv m c 0 from rfl, ΦA_eq]
  unfold inv
  iintro ⟨⟨%v, H⟩, Hg⟩
  isplitl [H]
  · iexists v; isplitr; swap; · iexact H
    ipureintro; intro h; exact absurd (Nat.zero_mod _) h
  iexact Hg

theorem hout (c : Dev nD) : (dats m 0 c).Φ (Fin.last cfg0.N) ⊢ Pipeline.ΦA spec0 c := by
  rw [show (dats m 0 c).Φ (Fin.last cfg0.N) = inv m c cfg0.N from rfl, ΦA_eq]
  unfold inv
  iintro ⟨⟨%v, %_, H⟩, Hg⟩
  isplitl [H]
  · iexists v; iexact H
  iexact Hg

set_option backward.isDefEq.respectTransparency.types false in
/-- The run: every array the call names ends at what the points leave, and no semaphore is held. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The attention's backward call runs from any memory, ends, leaves its arguments as they were and no semaphore held. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (run_main m ρ)) ((θ_run defs _ _).mono (fun _ h => h.2) (run_quiescent m ρ))

end Cert.Proof.Attn

end
-- ==== Proof.Attn.Frames.lean ====
module

public import proofs.«01_k».proof.Defs
public import proofs.«01_k».proof.Proof.Attn.Frame
public import proofs.«01_k».proof.Proof.AttnBits.Frame
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run

@[expose] public section

set_option maxRecDepth 16384

noncomputable section

namespace Cert.Proof.Attn

open Idealize.ShloMosaic Idealize.SL.Sem

theorem frame_kernelIdeal : Cert.quiescent_Kernel2Ideal (hKernel2Ideal := Cert.Kernel2Ideal.Gen.facts) := fun m ρ _ => frame m ρ

/-- The program over machine numbers: its loop carries a record type of its own, so the two programs are not the same term,
and the run is the one of `AttnBits`. -/
theorem frame_kernel : Cert.quiescent_Kernel2 (hKernel2 := Cert.Kernel2.Gen.facts) := fun m ρ _ => AttnBits.frame m ρ

theorem frame_reference : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems (by decide) r.2⟩)
    (Cert.Reference2Ideal.Value.run (F := Ideal) m ρ)

end Cert.Proof.Attn

end
-- ==== Proof.Attn.Spec.lean ====
/- The stick-breaking attention's gradient at one block of queries, over real numbers. -/
module

public import proofs.«01_k».proof.Proof.Reals

@[expose] public section

noncomputable section

namespace Cert.Proof.Attn

open Finset

/-- `log (1 + e^z)`. -/
def sp (z : ℝ) : ℝ := Real.log (1 + Real.exp z)

theorem sp_eq (z : ℝ) : max z 0 + Real.log (1 + Real.exp (0 - max z (-z))) = sp z := by
  unfold sp
  rcases le_total 0 z with h | h
  · rw [max_eq_left h, max_eq_left (by linarith), zero_sub]
    have e : (1 + Real.exp z) = Real.exp z * (1 + Real.exp (-z)) := by
      rw [mul_add, mul_one, ← Real.exp_add, add_neg_cancel, Real.exp_zero, add_comm]
    rw [e, Real.log_mul (Real.exp_pos z).ne' (by positivity), Real.log_exp]
  · rw [max_eq_right h, max_eq_right (by linarith), zero_add, zero_sub, neg_neg]

/-- What one block of queries reads: keys and values by row, the keys transposed by head, each head's queries and
    cotangents, each head's total of logarithms, and the block's place. -/
structure PR where
  k : ℕ → Fin 256 → ℝ
  v : ℕ → Fin 256 → ℝ
  kt : Fin 4 → Fin 64 → ℕ → ℝ
  q : Fin 4 → Fin 256 → Fin 256 → ℝ
  g : Fin 4 → Fin 256 → Fin 256 → ℝ
  t : Fin 4 → Fin 256 → ℝ
  qi : ℕ

namespace PR

variable (R : PR)

/-- Key `s` comes before query `τ` of the block. -/
def ok (s τ : ℕ) : Prop := s < 256 * R.qi + τ

instance (s τ : ℕ) : Decidable (R.ok s τ) := inferInstanceAs (Decidable (_ < _))

def z (a : Fin 4) (s : ℕ) (τ : Fin 256) : ℝ := ∑ l, R.k s l * R.q a τ l
def lk (a : Fin 4) (s : ℕ) (τ : Fin 256) : ℝ := if R.ok s τ then 0 - sp (R.z a s τ) else 0
def L (a : Fin 4) (n : ℕ) (τ : Fin 256) : ℝ := ∑ s ∈ range n, R.lk a s τ
def w (a : Fin 4) (s : ℕ) (τ : Fin 256) : ℝ := if R.ok s τ then Real.exp (R.z a s τ + (R.t a τ - R.L a s τ)) else 0
def dw (a : Fin 4) (s : ℕ) (τ : Fin 256) : ℝ := ∑ l, R.v s l * R.g a τ l
def e (a : Fin 4) (s : ℕ) (τ : Fin 256) : ℝ := R.dw a s τ * R.w a s τ
def E (a : Fin 4) (n : ℕ) (τ : Fin 256) : ℝ := ∑ s ∈ range n, R.e a s τ
def dz (a : Fin 4) (s : ℕ) (τ : Fin 256) : ℝ :=
  if R.ok s τ then R.e a s τ - Real.exp (R.z a s τ - sp (R.z a s τ)) * R.E a (s + 1) τ else 0
def D (a : Fin 4) (n : ℕ) (d : Fin 64) (τ : Fin 256) : ℝ := ∑ s ∈ range n, R.kt a d s * R.dz a s τ
/-- What the block of queries adds to the keys' gradient, and to the values'. -/
def addk (s : ℕ) (l : Fin 256) : ℝ := ∑ a, ∑ τ, R.dz a s τ * R.q a τ l
def addv (s : ℕ) (l : Fin 256) : ℝ := ∑ a, ∑ τ, R.w a s τ * R.g a τ l

end PR

/-- The entries of a triangle of ones pick the part of a sum inside a block. -/
theorem sum_tri (f : ℕ → ℝ) (N m : ℕ) (hm : m ≤ 256) :
    ∑ c : Fin 256, (if c.val < m then 1 else 0) * f (N + c.val) = ∑ s ∈ range (N + m), f s - ∑ s ∈ range N, f s := by
  rw [sum_range_add, add_sub_cancel_left]
  rw [Fin.sum_univ_eq_sum_range (fun c => (if c < m then (1 : ℝ) else 0) * f (N + c)) 256]
  simp only [ite_mul, one_mul, zero_mul]
  rw [← sum_filter]
  congr 1
  ext c
  simp only [mem_filter, mem_range]
  omega

theorem sum_block (f : ℕ → ℝ) (N : ℕ) :
    ∑ c : Fin 256, f (N + c.val) = ∑ s ∈ range (N + 256), f s - ∑ s ∈ range N, f s := by
  rw [sum_range_add, add_sub_cancel_left, Fin.sum_univ_eq_sum_range (fun c => f (N + c)) 256]

end Cert.Proof.Attn
end
-- ==== Proof.Attn.Args.lean ====
/- The attention's gradient over whole sequences, over real numbers, and each block of queries as a part of it. -/
module

public import proofs.«01_k».proof.Proof.Attn.Spec

@[expose] public section

noncomputable section

namespace Cert.Proof.Attn

open Finset

/-- Queries, keys, values and the cotangent of the output, by sequence, position, head and lane. -/
structure Args where
  q : Fin 2 → ℕ → Fin 16 → Fin 64 → ℝ
  k : Fin 2 → ℕ → Fin 16 → Fin 64 → ℝ
  v : Fin 2 → ℕ → Fin 16 → Fin 64 → ℝ
  g : Fin 2 → ℕ → Fin 16 → Fin 64 → ℝ

/-- The head of its group a lane of 256 belongs to, and the lane within it. -/
def la (l : Fin 256) : Fin 4 := ⟨l.val / 64, by omega⟩
def lo (l : Fin 256) : Fin 64 := ⟨l.val % 64, by omega⟩
/-- Head `a` of group `g`. -/
def hd (g a : Fin 4) : Fin 16 := ⟨4 * g.val + a.val, by omega⟩

/-- A sum over the lanes, head by head. -/
theorem sum_lanes (f : Fin 4 → Fin 64 → ℝ) : ∑ l : Fin 256, f (la l) (lo l) = ∑ a, ∑ d, f a d := by
  rw [← Fintype.sum_prod_type' fun a d => f a d]
  refine (Fintype.sum_equiv (finProdFinEquiv (m := 4) (n := 64)) _ _ fun x => ?_).symm
  obtain ⟨a, d⟩ := x
  have h1 : la (finProdFinEquiv (m := 4) (n := 64) (a, d)) = a := Fin.ext (by simp only [la, finProdFinEquiv_apply_val]; omega)
  have h2 : lo (finProdFinEquiv (m := 4) (n := 64) (a, d)) = d := Fin.ext (by simp only [lo, finProdFinEquiv_apply_val]; omega)
  rw [h1, h2]

/-- A product with an array that is zero outside head `a`. -/
theorem sum_head (a : Fin 4) (x y : Fin 4 → Fin 64 → ℝ) :
    ∑ l : Fin 256, x (la l) (lo l) * (if la l = a then y (la l) (lo l) else 0) = ∑ d, x a d * y a d := by
  have h := sum_lanes fun a' d => x a' d * (if a' = a then y a' d else 0)
  rw [h, sum_eq_single a]
  · simp
  · intro b _ hb; simp [hb]
  · simp

namespace Args

variable (A : Args) (b : Fin 2) (h : Fin 16)

/-- The logit of query `t` and key `s`. -/
def z (t s : ℕ) : ℝ := ∑ d, A.q b t h d * (1 / 8) * A.k b s h d
def lk (t s : ℕ) : ℝ := if s < t then 0 - sp (A.z b h t s) else 0
/-- The sum of the logarithms of what earlier and of what all keys leave of a query's stick. -/
def L (t n : ℕ) : ℝ := ∑ s ∈ range n, A.lk b h t s
def T (t : ℕ) : ℝ := A.L b h t 4096
def w (t s : ℕ) : ℝ := if s < t then Real.exp (A.z b h t s + (A.T b h t - A.L b h t s)) else 0
def dw (t s : ℕ) : ℝ := ∑ d, A.v b s h d * A.g b t h d
def e (t s : ℕ) : ℝ := A.dw b h t s * A.w b h t s
def E (t n : ℕ) : ℝ := ∑ s ∈ range n, A.e b h t s
def dz (t s : ℕ) : ℝ := if s < t then A.e b h t s - Real.exp (A.z b h t s - sp (A.z b h t s)) * A.E b h t (s + 1) else 0
/-- The gradients from the first `n` keys, or queries. -/
def dq (n t : ℕ) (d : Fin 64) : ℝ := ∑ s ∈ range n, A.k b s h d * A.dz b h t s
def dk (n s : ℕ) (d : Fin 64) : ℝ := ∑ t ∈ range n, A.dz b h t s * (A.q b t h d * (1 / 8))
def dv (n s : ℕ) (d : Fin 64) : ℝ := ∑ t ∈ range n, A.w b h t s * A.g b t h d

/-- What the block `qi` of queries of group `g` reads. -/
def blk (g : Fin 4) (qi : ℕ) : PR where
  k s l := A.k b s (hd g (la l)) (lo l)
  v s l := A.v b s (hd g (la l)) (lo l)
  kt a d s := A.k b s (hd g a) d
  q a τ l := if la l = a then A.q b (256 * qi + τ.val) (hd g (la l)) (lo l) * (1 / 8) else 0
  g a τ l := if la l = a then A.g b (256 * qi + τ.val) (hd g (la l)) (lo l) else 0
  t a τ := A.T b (hd g a) (256 * qi + τ.val)
  qi := qi

variable (g a : Fin 4) (qi s n : ℕ) (τ : Fin 256)

theorem blk_z : (A.blk b g qi).z a s τ = A.z b (hd g a) (256 * qi + τ.val) s := by
  have h := sum_head a (fun a d => A.k b s (hd g a) d) (fun a d => A.q b (256 * qi + τ.val) (hd g a) d * (1 / 8))
  refine h.trans (sum_congr rfl fun d _ => mul_comm _ _)

theorem blk_lk : (A.blk b g qi).lk a s τ = A.lk b (hd g a) (256 * qi + τ.val) s := by
  unfold PR.lk lk; rw [blk_z]; rfl

theorem blk_L : (A.blk b g qi).L a n τ = A.L b (hd g a) (256 * qi + τ.val) n :=
  sum_congr rfl fun s _ => A.blk_lk b g a qi s τ

theorem blk_w : (A.blk b g qi).w a s τ = A.w b (hd g a) (256 * qi + τ.val) s := by
  unfold PR.w w; rw [blk_z, blk_L]; rfl

theorem blk_dw : (A.blk b g qi).dw a s τ = A.dw b (hd g a) (256 * qi + τ.val) s :=
  sum_head a (fun a d => A.v b s (hd g a) d) (fun a d => A.g b (256 * qi + τ.val) (hd g a) d)

theorem blk_e : (A.blk b g qi).e a s τ = A.e b (hd g a) (256 * qi + τ.val) s := by
  unfold PR.e e; rw [blk_dw, blk_w]

theorem blk_E : (A.blk b g qi).E a n τ = A.E b (hd g a) (256 * qi + τ.val) n :=
  sum_congr rfl fun s _ => A.blk_e b g a qi s τ

theorem blk_dz : (A.blk b g qi).dz a s τ = A.dz b (hd g a) (256 * qi + τ.val) s := by
  unfold PR.dz dz; rw [blk_z, blk_e, blk_E]; rfl

theorem blk_D (d : Fin 64) : (A.blk b g qi).D a n d τ = A.dq b (hd g a) n (256 * qi + τ.val) d :=
  sum_congr rfl fun s _ => congrArg _ (A.blk_dz b g a qi s τ)

/-- Keys after a block's last query add nothing. -/
theorem dz_after {t s : ℕ} (hs : t ≤ s) : A.dz b h t s = 0 := if_neg (by omega)
theorem w_after {t s : ℕ} (hs : t ≤ s) : A.w b h t s = 0 := if_neg (by omega)

theorem dq_past (n t : ℕ) (d : Fin 64) (hn : t ≤ n) (h4 : n ≤ 4096) : A.dq b h n t d = A.dq b h 4096 t d := by
  unfold dq
  refine sum_subset (fun x hx => ?_) fun s _ hs => ?_
  · rw [mem_range] at hx ⊢; omega
  · rw [mem_range] at hs
    rw [dz_after A b h (by omega), mul_zero]

theorem blk_addk (l : Fin 256) : (if s < 256 * qi + 256 then (A.blk b g qi).addk s l else 0)
    = A.dk b (hd g (la l)) (256 * qi + 256) s (lo l) - A.dk b (hd g (la l)) (256 * qi) s (lo l) := by
  have e : (A.blk b g qi).addk s l
      = A.dk b (hd g (la l)) (256 * qi + 256) s (lo l) - A.dk b (hd g (la l)) (256 * qi) s (lo l) := by
    unfold PR.addk dk
    rw [← sum_block fun t => A.dz b (hd g (la l)) t s * (A.q b t (hd g (la l)) (lo l) * (1 / 8)), sum_eq_single (la l)]
    · refine sum_congr rfl fun τ _ => ?_
      rw [blk_dz]; exact congrArg _ (if_pos rfl)
    · intro a _ ha
      refine sum_eq_zero fun τ _ => ?_
      have : (A.blk b g qi).q a τ l = 0 := if_neg (Ne.symm ha)
      rw [this, mul_zero]
    · simp
  by_cases hs : s < 256 * qi + 256
  · rw [if_pos hs, e]
  · rw [if_neg hs, ← e]
    refine (sum_eq_zero fun a _ => sum_eq_zero fun τ _ => ?_).symm
    rw [blk_dz, dz_after A b _ (by omega), zero_mul]

theorem blk_addv (l : Fin 256) : (if s < 256 * qi + 256 then (A.blk b g qi).addv s l else 0)
    = A.dv b (hd g (la l)) (256 * qi + 256) s (lo l) - A.dv b (hd g (la l)) (256 * qi) s (lo l) := by
  have e : (A.blk b g qi).addv s l
      = A.dv b (hd g (la l)) (256 * qi + 256) s (lo l) - A.dv b (hd g (la l)) (256 * qi) s (lo l) := by
    unfold PR.addv dv
    rw [← sum_block fun t => A.w b (hd g (la l)) t s * A.g b t (hd g (la l)) (lo l), sum_eq_single (la l)]
    · refine sum_congr rfl fun τ _ => ?_
      rw [blk_w]; exact congrArg _ (if_pos rfl)
    · intro a _ ha
      refine sum_eq_zero fun τ _ => ?_
      have : (A.blk b g qi).g a τ l = 0 := if_neg (Ne.symm ha)
      rw [this, mul_zero]
    · simp
  by_cases hs : s < 256 * qi + 256
  · rw [if_pos hs, e]
  · rw [if_neg hs, ← e]
    refine (sum_eq_zero fun a _ => sum_eq_zero fun τ _ => ?_).symm
    rw [blk_w, w_after A b _ (by omega), zero_mul]

/-- The weight is that of the logistic function and of what later keys leave of the stick. -/
theorem w_eq (t s : ℕ) (hs : s < t) (h4 : s < 4096) :
    A.w b h t s = Real.exp (-sp (0 - A.z b h t s) + (∑ r ∈ Ico s 4096, A.lk b h t r - A.lk b h t s)) := by
  unfold w T L
  rw [if_pos hs]
  congr 1
  have e : ∑ r ∈ Ico s 4096, A.lk b h t r = ∑ r ∈ range 4096, A.lk b h t r - ∑ r ∈ range s, A.lk b h t r :=
    sum_Ico_eq_sub _ h4.le
  have el : A.lk b h t s = 0 - sp (A.z b h t s) := if_pos hs
  have es : sp (A.z b h t s) = A.z b h t s + sp (0 - A.z b h t s) := by
    unfold sp
    rw [← Real.log_exp (A.z b h t s), ← Real.log_mul (Real.exp_pos _).ne' (by positivity), Real.log_exp, mul_add, mul_one,
      ← Real.exp_add, add_sub_cancel, Real.exp_zero, add_comm]
  rw [e, el, es]; ring

/-- The two logistic factors of the logit's gradient. -/
theorem sig_add (x : ℝ) : Real.exp (-x - sp (-x)) = 1 - Real.exp (x - sp x) := by
  unfold sp
  rw [Real.exp_sub, Real.exp_sub, Real.exp_log (by positivity), Real.exp_log (by positivity), Real.exp_neg]
  have := Real.exp_pos x
  field_simp
  ring

end Args

end Cert.Proof.Attn
end
-- ==== Proof.Attn.Block.lean ====
module

public import proofs.«01_k».proof.Proof.Attn.Body

@[expose] public section

set_option maxRecDepth 16384

noncomputable section

namespace Cert.Proof.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What one head carries over the blocks of keys: the sum of the logarithms, the sum of the weights' gradients, and the
    gradient of the queries, transposed. -/
structure Hd (F : FTy → Type) [FloatOps F] where
  l : FVec F S1x256 .f32
  e : FVec F S1x256 .f32
  d : FVec F S64x256 .f32

/-- What one head reads at a block of keys. -/
structure HIn (F : FTy → Type) [FloatOps F] where
  before : FVec F S256x256 .bf16
  upto : FVec F S256x256 .bf16
  tot : FVec F S1x256 .f32
  q : FVec F S256x256 .bf16
  g : FVec F S256x256 .bf16
  k : FVec F S256x256 .bf16
  v : FVec F S256x256 .bf16

/-- A block's part under its mask, or all of it. -/
def masked (m : Option (IVec S256x256 1)) (x : FVec F S256x256 .f32) : FVec F S256x256 .f32 :=
  match m with
  | none => x
  | some c => select c x (broadcast S256x256 (Scalar.ofBits .f32 0x00000000#32))

/-- What a block adds, or zero where the block is not to be counted. -/
def gated {s : Shape} (o : Option (BitVec 1)) (x : FVec F s .f32) : FVec F s .f32 :=
  match o with
  | none => x
  | some b => Scalar.select b x (broadcast s (Scalar.ofBits .f32 0x00000000#32))

/-- The last row of a block. -/
def lastRow {t : FTy} (x : FVec F S256x256 t) : FVec F S1x256 t := extractStridedSlice S1x256 ![255, 0] x slices_S256x256_o255_0_S1x256

/-- The product of two blocks, and the one with its second factor transposed. -/
def mm (x y : FVec F S256x256 .bf16) : FVec F S256x256 .f32 :=
  matmul dot_S256x256_S256x256_S256x256_1_0_0_1_n_n none x y (constant S256x256 .f32 0x00000000#32)

def mmT (x y : FVec F S256x256 .bf16) : FVec F S256x256 .f32 :=
  matmul dot_S256x256_S256x256_S256x256_1_1_0_0_n_n none (shapeCast S256x256 x shapeCasts_S256x256_S256x256) y (constant S256x256 .f32 0x00000000#32)

/-- `log (1 + exp z)` as the kernel computes it. -/
def softp (z : FVec F S256x256 .f32) : FVec F S256x256 .f32 :=
  addf (maximumf z (broadcast S256x256 (Scalar.ofBits .f32 0x00000000#32)))
    (log (addf (broadcast S256x256 (Scalar.ofBits .f32 0x3F800000#32)) (exp (subf (broadcast S256x256 (Scalar.ofBits .f32 0x00000000#32)) (absf z)))))

namespace HIn

variable (x : HIn F) (m : Option (IVec S256x256 1)) (o : Option (BitVec 1))

def z : FVec F S256x256 .f32 := mmT x.k x.q
def dw : FVec F S256x256 .f32 := mmT x.v x.g
def lk : FVec F S256x256 .bf16 :=
  truncf .bf16 (masked m (subf (broadcast S256x256 (Scalar.ofBits .f32 0x00000000#32)) (softp x.z))) bitsLt_bf16_f32
def lpre : FVec F S256x256 .f32 := mm x.before (x.lk m)
def w (l : FVec F S1x256 .f32) : FVec F S256x256 .f32 :=
  masked m (exp (addf x.z (subf (broadcastTo S256x256 (subf x.tot l) broadcasts_S1x256_S256x256) (x.lpre m))))
def e (l : FVec F S1x256 .f32) : FVec F S256x256 .f32 := mulf x.dw (x.w m l)
def epre (l : FVec F S1x256 .f32) : FVec F S256x256 .f32 := mm x.upto (truncf .bf16 (x.e m l) bitsLt_bf16_f32)
def dz (h : Hd F) : FVec F S256x256 .bf16 :=
  truncf .bf16 (masked m (subf (x.e m h.l) (mulf (exp (subf x.z (softp x.z)))
    (addf (broadcastTo S256x256 h.e broadcasts_S1x256_S256x256) (x.epre m h.l))))) bitsLt_bf16_f32

/-- One head's step over a block of keys. -/
def step (kt : Vec F S1x1x64x256 .bf16) (h : Hd F) : Hd F where
  l := addf h.l (gated o (addf (lastRow (x.lpre m)) (extf .f32 (lastRow (x.lk m)) bitsLt_bf16_f32)))
  e := addf h.e (gated o (lastRow (x.epre m h.l)))
  d := addf h.d (gated o (matmul dot_S64x256_S256x256_S64x256_1_0_0_1_n_n none (shapeCast S64x256 kt shapeCasts_S1x1x64x256_S64x256)
    (x.dz m h) (constant S64x256 .f32 0x00000000#32)))

end HIn

/-- The four heads' products added up. -/
def sum4 (x y : Fin 4 → FVec F S256x256 .bf16) : FVec F S256x256 .f32 :=
  addf (addf (addf (mm (x 0) (y 0)) (mm (x 1) (y 1))) (mm (x 2) (y 2))) (mm (x 3) (y 3))

/-- The keys' gradient at a block, and the values'. -/
def dkUp (o : Option (BitVec 1)) (b : FVec F S256x256 .f32) (x y : Fin 4 → FVec F S256x256 .bf16) : FVec F S256x256 .f32 :=
  addf (shapeCast S256x256 b shapeCasts_S256x256_S256x256) (gated o (sum4 x y))

def dvUp (o : Option (BitVec 1)) (b : FVec F S256x256 .f32) (x y : Fin 4 → FVec F S256x256 .bf16) : FVec F S256x256 .f32 :=
  shapeCast S256x256 (addf b (gated o (sum4 x y))) shapeCasts_S256x256_S256x256

namespace Con

variable (C : Con F)

def q : Fin 4 → FVec F S256x256 .bf16
  | 0 => C.q0
  | 1 => C.q1
  | 2 => C.q2
  | 3 => C.q3

def g : Fin 4 → FVec F S256x256 .bf16
  | 0 => C.g0
  | 1 => C.g1
  | 2 => C.g2
  | 3 => C.g3

def t : Fin 4 → FVec F S1x256 .f32
  | 0 => C.t0
  | 1 => C.t1
  | 2 => C.t2
  | 3 => C.t3

def inp (k v : FVec F S256x256 .bf16) (a : Fin 4) : HIn F := ⟨C.before, C.upto, C.t a, C.q a, C.g a, k, v⟩

end Con

/-- The heads' parts of what a trip carries. -/
def headsOf (s : Car F) : Fin 4 → Hd F
  | 0 => ⟨s.2.1, s.2.2.2.2.2.1, s.2.2.2.2.2.2.2.2.2.1⟩
  | 1 => ⟨s.2.2.1, s.2.2.2.2.2.2.1, s.2.2.2.2.2.2.2.2.2.2.1⟩
  | 2 => ⟨s.2.2.2.1, s.2.2.2.2.2.2.2.1, s.2.2.2.2.2.2.2.2.2.2.2.1⟩
  | 3 => ⟨s.2.2.2.2.1, s.2.2.2.2.2.2.2.2.1, s.2.2.2.2.2.2.2.2.2.2.2.2⟩

def carOf (j : BitVec 32) (h : Fin 4 → Hd F) : Car F :=
  (j, (h 0).l, (h 1).l, (h 2).l, (h 3).l, (h 0).e, (h 1).e, (h 2).e, (h 3).e, (h 0).d, (h 1).d, (h 2).d, (h 3).d)

/-- The heads after a block of keys, and what the block writes into the two sums. -/
def stepAll (m : Option (IVec S256x256 1)) (o : Option (BitVec 1)) (C : Con F) (k v : FVec F S256x256 .bf16)
    (kt : Fin 4 → Vec F S1x1x64x256 .bf16) (h : Fin 4 → Hd F) : Fin 4 → Hd F := fun a => (C.inp k v a).step m o (kt a) (h a)

def dkAll (m : Option (IVec S256x256 1)) (o : Option (BitVec 1)) (C : Con F) (k v : FVec F S256x256 .bf16) (h : Fin 4 → Hd F)
    (b : FVec F S256x256 .f32) : FVec F S256x256 .f32 := dkUp o b (fun a => (C.inp k v a).dz m (h a)) C.q

def dvAll (m : Option (IVec S256x256 1)) (o : Option (BitVec 1)) (C : Con F) (k v : FVec F S256x256 .bf16) (h : Fin 4 → Hd F)
    (b : FVec F S256x256 .f32) : FVec F S256x256 .f32 :=
  dvUp o b (fun a => truncf .bf16 ((C.inp k v a).w m (h a).l) bitsLt_bf16_f32) C.g

/-- The heads and the two sums, between two blocks of keys. -/
structure KS (F : FTy → Type) [FloatOps F] where
  h : Fin 4 → Hd F
  dk : Vec F S4096x256 .f32
  dv : Vec F S4096x256 .f32

/-- A block of keys' effect, its rows at `o2` and its columns of the transposed keys at `oT`. -/
def blkStep (m : Option (IVec S256x256 1)) (o : Option (BitVec 1)) (C : Con F) (K V : Vec F S4096x256 .bf16) (KT : Vec F S1x2x128x4096 .bf16)
    (o2 : Fin 2 → ℕ) (i2 : ∀ a, o2 a + S256x256.size a ≤ S4096x256.size a) (oT : Fin 4 → Fin 4 → ℕ)
    (iT : ∀ b a, oT b a + S1x1x64x256.size a ≤ S1x2x128x4096.size a) (S : KS F) : KS F where
  h := stepAll m o C (VecWindow.window K o2 S256x256.size i2) (VecWindow.window V o2 S256x256.size i2)
    (fun b => VecWindow.window KT (oT b) S1x1x64x256.size (iT b)) S.h
  dk := VecWindow.put S.dk o2 S256x256.size (dkAll m o C (VecWindow.window K o2 S256x256.size i2) (VecWindow.window V o2 S256x256.size i2) S.h
    (VecWindow.window S.dk o2 S256x256.size i2))
  dv := VecWindow.put S.dv o2 S256x256.size (dvAll m o C (VecWindow.window K o2 S256x256.size i2) (VecWindow.window V o2 S256x256.size i2) S.h
    (VecWindow.window S.dv o2 S256x256.size i2))

end Cert.Proof.Attn

end
-- ==== Proof.Attn.TripEq.lean ====
module

public import proofs.«01_k».proof.Proof.Attn.Block

@[expose] public section

set_option maxRecDepth 16384

noncomputable section

namespace Cert.Proof.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (c : Dev nD) (i : grid0.Coords) (a4 : Memref sig .tc .vmem S4096x256 .bf16) (h4 : a4.IsWhole)
  (a6 : Memref sig .tc .vmem S4096x256 .bf16) (h6 : a6.IsWhole)
  (a11 : Memref sig .tc .vmem S4096x256 .f32) (h11 : a11.IsWhole) (a13 : Memref sig .tc .vmem S4096x256 .f32) (h13 : a13.IsWhole)
  (a5 : Memref sig .tc .vmem S1x2x128x4096 .bf16) (h5 : a5.IsWhole)
  (C : Con F) (K V : Vec F S4096x256 .bf16) (KT : Vec F S1x2x128x4096 .bf16)

def offT (j : BitVec 32) : Fin 4 → Fin 4 → ℕ
  | 0 => k0_off4 j
  | 1 => k0_off5 j
  | 2 => k0_off6 j
  | 3 => k0_off7 j

theorem offT_inb (j : BitVec 32) (hj : k0_chk1 j) : ∀ b a, offT j b a + S1x1x64x256.size a ≤ S1x2x128x4096.size a
  | 0 => k0_off4_inb j hj
  | 1 => k0_off5_inb j hj
  | 2 => k0_off6_inb j hj
  | 3 => k0_off7_inb j hj

def offT' (j : BitVec 32) : Fin 4 → Fin 4 → ℕ
  | 0 => k0_off8 j
  | 1 => k0_off9 j
  | 2 => k0_off10 j
  | 3 => k0_off11 j

theorem offT'_inb (j : BitVec 32) (hj : k0_chk1 j) : ∀ b a, offT' j b a + S1x1x64x256.size a ≤ S1x2x128x4096.size a
  | 0 => k0_off8_inb j hj
  | 1 => k0_off9_inb j hj
  | 2 => k0_off10_inb j hj
  | 3 => k0_off11_inb j hj

/-- The second block of a trip is counted where it lies before the query block's predecessor. -/
def second (i : grid0.Coords) (j : BitVec 32) : BitVec 1 :=
  Scalar.cmpi .slt (Scalar.addi j 1#32) (Scalar.subi (BitVec.ofNat 32 (i 2).val) 1#32)

/-- A trip is two blocks of keys. -/
def pairStep (j : BitVec 32) (hj : k0_chk1 j) (S : KS F) : KS F :=
  blkStep none (some (second i j)) C K V KT (k0_off3 j) (k0_off3_inb j hj) (offT' j) (offT'_inb j hj)
    (blkStep none none C K V KT (k0_off2 j) (k0_off2_inb j hj) (offT j) (offT_inb j hj) S)

def stOf (j : BitVec 32) (S : KS F) : St F := (carOf j S.h, S.dk, S.dv)

def ksOf (S : St F) : KS F := ⟨headsOf S.1, S.2.1, S.2.2⟩

set_option maxHeartbeats 4000000 in
theorem trip_car (S : St F) (hj : k0_chk1 S.1.1) (ht : Test i S.1.1) :
    (tripOf c i a4 h4 a6 h6 a11 h11 a13 h13 a5 h5 C K V KT S hj ht).1
      = carOf (Scalar.addi S.1.1 2#32) (pairStep i C (a4.view.read (Elt F) (h4.unread K)) (a6.view.read (Elt F) (h6.unread V))
          (a5.view.read (Elt F) (h5.unread KT)) S.1.1 hj (ksOf S)).h := by
  unfold tripOf tripRun
  rfl

set_option maxHeartbeats 4000000 in
theorem trip_dk (S : St F) (hj : k0_chk1 S.1.1) (ht : Test i S.1.1) :
    (tripOf c i a4 h4 a6 h6 a11 h11 a13 h13 a5 h5 C K V KT S hj ht).2.1
      = (pairStep i C (a4.view.read (Elt F) (h4.unread K)) (a6.view.read (Elt F) (h6.unread V))
          (a5.view.read (Elt F) (h5.unread KT)) S.1.1 hj ⟨headsOf S.1, a11.view.read (Elt F) (h11.unread S.2.1), S.2.2⟩).dk := by
  unfold tripOf tripRun
  dsimp only
  unfold tripRun.sl.v1045 tripRun.sl.H11_1
  rw [View.readAt_unit _ _ _ rfl (k0_off3_inb _ hj)]
  simp only [View.read_writes_cons_put _ _ _ _ _ rfl]
  rfl

set_option maxHeartbeats 4000000 in
theorem trip_dv (S : St F) (hj : k0_chk1 S.1.1) (ht : Test i S.1.1) :
    (tripOf c i a4 h4 a6 h6 a11 h11 a13 h13 a5 h5 C K V KT S hj ht).2.2
      = (pairStep i C (a4.view.read (Elt F) (h4.unread K)) (a6.view.read (Elt F) (h6.unread V))
          (a5.view.read (Elt F) (h5.unread KT)) S.1.1 hj ⟨headsOf S.1, S.2.1, a13.view.read (Elt F) (h13.unread S.2.2)⟩).dv := by
  unfold tripOf tripRun
  dsimp only
  unfold tripRun.sl.r_96 tripRun.sl.v1060 tripRun.sl.H13_1
  rw [View.readAt_unit _ _ _ rfl (k0_off3_inb _ hj)]
  simp only [View.read_writes_cons_put _ _ _ _ _ rfl]
  rfl

theorem tripOf_eq (S : St F) (hj : k0_chk1 S.1.1) (ht : Test i S.1.1) :
    tripOf c i a4 h4 a6 h6 a11 h11 a13 h13 a5 h5 C K V KT S hj ht
      = stOf (Scalar.addi S.1.1 2#32) (pairStep i C K V KT S.1.1 hj (ksOf S)) := by
  have h1 := trip_car c i a4 h4 a6 h6 a11 h11 a13 h13 a5 h5 C K V KT S hj ht
  have h2 := trip_dk c i a4 h4 a6 h6 a11 h11 a13 h13 a5 h5 C K V KT S hj ht
  have h3 := trip_dv c i a4 h4 a6 h6 a11 h11 a13 h13 a5 h5 C K V KT S hj ht
  rw [h4.read_unread, h6.read_unread, h5.read_unread] at h1 h2 h3
  rw [h11.read_unread] at h2
  rw [h13.read_unread] at h3
  exact Prod.ext h1 (Prod.ext h2 h3)

end Cert.Proof.Attn

end
-- ==== Proof.Attn.BodyEq.lean ====
module

public import proofs.«01_k».proof.Proof.Attn.TripEq

@[expose] public section

set_option maxRecDepth 16384

noncomputable section

namespace Cert.Proof.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] loopN inMid

variable (c : Dev nD) (i : grid0.Coords)
  (a3 : Memref sig .tc .vmem S256x256 .bf16) (h3 : a3.IsWhole)
  (a4 : Memref sig .tc .vmem S4096x256 .bf16) (h4 : a4.IsWhole)
  (a5 : Memref sig .tc .vmem S1x2x128x4096 .bf16) (h5 : a5.IsWhole)
  (a6 : Memref sig .tc .vmem S4096x256 .bf16) (h6 : a6.IsWhole)
  (a7 : Memref sig .tc .vmem S1x4x1x8x256 .f32) (h7 : a7.IsWhole)
  (a8 : Memref sig .tc .smem S8x16 .f32) (h8 : a8.IsWhole)
  (a9 : Memref sig .tc .vmem S256x256 .f32) (h9 : a9.IsWhole)
  (a10 : Memref sig .tc .vmem S256x256 .f32) (h10 : a10.IsWhole)
  (a11 : Memref sig .tc .vmem S4096x256 .f32) (h11 : a11.IsWhole)
  (a12 : Memref sig .tc .vmem S4096x256 .bf16) (h12 : a12.IsWhole)
  (a13 : Memref sig .tc .vmem S4096x256 .f32) (h13 : a13.IsWhole)
  (X3 : Vec F S256x256 .bf16) (K V : Vec F S4096x256 .bf16) (KT : Vec F S1x2x128x4096 .bf16)
  (X7 : Vec F S1x4x1x8x256 .f32) (X8 : Vec F S8x16 .f32) (X9 : Vec F S256x256 .f32)

def offP (i : grid0.Coords) : Fin 4 → Fin 4 → ℕ
  | 0 => k0_off14 i
  | 1 => k0_off15 i
  | 2 => k0_off16 i
  | 3 => k0_off17 i

theorem offP_inb (i : grid0.Coords) : ∀ b a, offP i b a + S1x1x64x256.size a ≤ S1x2x128x4096.size a
  | 0 => k0_off14_inb i
  | 1 => k0_off15_inb i
  | 2 => k0_off16_inb i
  | 3 => k0_off17_inb i

def offD (i : grid0.Coords) : Fin 4 → Fin 4 → ℕ
  | 0 => k0_off18 i
  | 1 => k0_off19 i
  | 2 => k0_off20 i
  | 3 => k0_off21 i

theorem offD_inb (i : grid0.Coords) : ∀ b a, offD i b a + S1x1x64x256.size a ≤ S1x2x128x4096.size a
  | 0 => k0_off18_inb i
  | 1 => k0_off19_inb i
  | 2 => k0_off20_inb i
  | 3 => k0_off21_inb i

/-- Whether a query block has a predecessor. -/
def hasPrev (i : grid0.Coords) : BitVec 1 := Scalar.cmpi .sge (BitVec.ofNat 32 (i 2).val) 1#32

/-- The last two blocks of keys: the query block's predecessor, where there is one, and its own under the causal mask. -/
def lastStep (C : Con F) (S : KS F) : KS F :=
  blkStep (some k0_pay8) none C K V KT (k0_off13 i) (k0_off13_inb i) (offD i) (offD_inb i)
    (blkStep none (some (hasPrev i)) C K V KT (k0_off12 i) (k0_off12_inb i) (offP i) (offP_inb i) S)

/-- The gradient of the queries from the heads' transposed ones. -/
def dqOf (h : Fin 4 → Hd F) : Vec F S256x256 .f32 :=
  transpose S256x256 [1, 0] (concatenate S256x256 0 [⟨S64x256, (h 0).d⟩, ⟨S64x256, (h 1).d⟩, ⟨S64x256, (h 2).d⟩, ⟨S64x256, (h 3).d⟩]
    concatenates_S64x256_S64x256_S64x256_S64x256_S256x256_d0) transposes_S256x256_p1_0_S256x256

/-- The state after the loop. -/
abbrev mid (dk0 dv0 : Vec F S4096x256 .f32) : St F :=
  loopN c i a4 h4 a6 h6 a11 h11 a13 h13 a5 h5 (conOf a3 h3 a7 h7 a9 h9 X3 X7 X9) K V KT 8 (inMid i a8 h8 X8 dk0 dv0)

/-- The state once the predecessor's block is done, and the whole body's, over the buffers as they are read. -/
abbrev prevSt (dk0 dv0 : Vec F S4096x256 .f32) : KS F :=
  blkStep none (some (hasPrev i)) (conOf a3 h3 a7 h7 a9 h9 X3 X7 X9) (a4.view.read (Elt F) (h4.unread K)) (a6.view.read (Elt F) (h6.unread V))
    (a5.view.read (Elt F) (h5.unread KT)) (k0_off12 i) (k0_off12_inb i) (offP i) (offP_inb i)
    (ksOf (mid c i a3 h3 a4 h4 a5 h5 a6 h6 a7 h7 a8 h8 a9 h9 a11 h11 a13 h13 X3 K V KT X7 X8 X9 dk0 dv0))

abbrev lastSt (dk0 dv0 : Vec F S4096x256 .f32) : KS F :=
  lastStep i (a4.view.read (Elt F) (h4.unread K)) (a6.view.read (Elt F) (h6.unread V)) (a5.view.read (Elt F) (h5.unread KT))
    (conOf a3 h3 a7 h7 a9 h9 X3 X7 X9) (ksOf (mid c i a3 h3 a4 h4 a5 h5 a6 h6 a7 h7 a8 h8 a9 h9 a11 h11 a13 h13 X3 K V KT X7 X8 X9 dk0 dv0))

/-- The own block as a head reads it. -/
abbrev ownIn (a : Fin 4) : HIn F :=
  (conOf a3 h3 a7 h7 a9 h9 X3 X7 X9).inp (VecWindow.window (a4.view.read (Elt F) (h4.unread K)) (k0_off13 i) S256x256.size (k0_off13_inb i))
    (VecWindow.window (a6.view.read (Elt F) (h6.unread V)) (k0_off13 i) S256x256.size (k0_off13_inb i)) a

end Cert.Proof.Attn

end
-- ==== Proof.Attn.Step.lean ====
/- What one block of keys does to the running sums of a block of queries, over real numbers. -/
module

public import proofs.«01_k».proof.Proof.Attn.Block
public import proofs.«01_k».proof.Proof.Attn.Spec
public import Idealize.ShloMosaic.Lib.Pointwise

@[expose] public section

set_option maxRecDepth 16384

noncomputable section

namespace Cert.Proof.Attn

open Cert.Kernel2Ideal Cert.Kernel2Ideal.Gen Cert.Proof
open Idealize.ShloMosaic Idealize.ShloMosaic.TcCoe Idealize.ShloMosaic.Tactic

/-- A block of finite values. -/
abbrev up2 {a b : ℕ} (f : Fin a → Fin b → ℝ) : (⟨2, ![a, b]⟩ : Shape).Idx → EReal := fun i => up (f (i 0) (i 1))
/-- A row of finite values. -/
abbrev upr {b : ℕ} (f : Fin b → ℝ) : (⟨2, ![1, b]⟩ : Shape).Idx → EReal := fun i => up (f (i 1))

theorem up_ite (p : Prop) [Decidable p] (x : ℝ) : (if p then up x else (0 : EReal)) = up (if p then x else 0) := by
  split <;> rfl

/-- A head's reads at block `n` of the keys. -/
def blkIn (R : PR) (n : ℕ) (a : Fin 4) : HIn Ideal where
  before := up2 fun r c => if c.val < r.val then 1 else 0
  upto := up2 fun r c => if c.val < r.val + 1 then 1 else 0
  tot := upr (R.t a)
  q := up2 (R.q a)
  g := up2 (R.g a)
  k := up2 fun r l => R.k (256 * n + r.val) l
  v := up2 fun r l => R.v (256 * n + r.val) l

/-- A head's sums over the first `N` keys. -/
def hdAt (R : PR) (N : ℕ) (a : Fin 4) : Hd Ideal := ⟨upr (R.L a N), upr (R.E a N), up2 (R.D a N)⟩

variable (R : PR) (n : ℕ) (a : Fin 4) (m : Option (IVec S256x256 1))

theorem z_eq : (blkIn R n a).z = up2 fun r τ => R.z a (256 * n + r.val) τ := by
  funext i; pointwise [HIn.z, mmT, blkIn]
  simp only [up_mul, up_sum]; rfl

theorem dw_eq : (blkIn R n a).dw = up2 fun r τ => R.dw a (256 * n + r.val) τ := by
  funext i; pointwise [HIn.dw, mmT, blkIn]
  simp only [up_mul, up_sum]; rfl

theorem sp_stage (f : Fin 256 → Fin 256 → ℝ) : softp (F := Ideal) (up2 f) = up2 fun r c => sp (f r c) := by
  funext i; pointwise [softp]
  have ha : FloatOps.absf (F := Ideal) (φ := .f32) (up2 f i) = max (up (f (i 0) (i 1))) (-up (f (i 0) (i 1))) := rfl
  simp only [ha, up_zero, up_one, up_neg, up_max, up_sub, up_exp, up_add, up_log (one_add_exp_pos _), sp_eq]

theorem spz_eq : softp (F := Ideal) (blkIn R n a).z = up2 fun r τ => sp (R.z a (256 * n + r.val) τ) := by
  rw [z_eq]; exact sp_stage _

variable (hm : ∀ x : FVec Ideal S256x256 .f32, masked m x = fun i => if R.ok (256 * n + (i 0).val) (i 1).val then x i else (0 : EReal))
include hm

theorem lk_eq : (blkIn R n a).lk m = up2 fun r τ => R.lk a (256 * n + r.val) τ := by
  unfold HIn.lk
  rw [hm]
  funext i; pointwise [spz_eq]
  simp only [up_zero, up_sub]
  exact up_ite _ _

theorem lpre_eq : (blkIn R n a).lpre m = up2 fun r τ => R.L a (256 * n + r.val) τ - R.L a (256 * n) τ := by
  unfold HIn.lpre
  rw [lk_eq R n a m hm]
  funext i; pointwise [mm, blkIn]
  simp only [up_mul, up_sum]
  exact congrArg up (sum_tri (fun s => R.lk a s (i 1)) (256 * n) (i 0).val (i 0).isLt.le)

theorem w_eq : (blkIn R n a).w m (upr (R.L a (256 * n))) = up2 fun r τ => R.w a (256 * n + r.val) τ := by
  unfold HIn.w
  rw [hm, lpre_eq R n a m hm, z_eq]
  funext i; pointwise [blkIn]
  simp only [up_sub, up_add, up_exp]
  refine (up_ite _ _).trans (congrArg up ?_)
  unfold PR.w
  congr 3
  show R.t a (i 1) - R.L a (256 * n) (i 1) - (R.L a (256 * n + (i 0).val) (i 1) - R.L a (256 * n) (i 1))
    = R.t a (i 1) - R.L a (256 * n + (i 0).val) (i 1)
  ring

theorem e_eq : (blkIn R n a).e m (upr (R.L a (256 * n))) = up2 fun r τ => R.e a (256 * n + r.val) τ := by
  unfold HIn.e
  rw [w_eq R n a m hm, dw_eq]
  funext i; pointwise
  simp only [up_mul]; rfl

theorem epre_eq : (blkIn R n a).epre m (upr (R.L a (256 * n)))
    = up2 fun r τ => R.E a (256 * n + r.val + 1) τ - R.E a (256 * n) τ := by
  unfold HIn.epre
  rw [e_eq R n a m hm]
  funext i; pointwise [mm, blkIn]
  simp only [up_mul, up_sum]
  exact congrArg up (sum_tri (fun s => R.e a s (i 1)) (256 * n) ((i 0).val + 1) (i 0).isLt)

theorem dz_eq : (blkIn R n a).dz m (hdAt R (256 * n) a) = up2 fun r τ => R.dz a (256 * n + r.val) τ := by
  unfold HIn.dz
  rw [hm, spz_eq, z_eq]
  rw [show (hdAt R (256 * n) a).l = upr (R.L a (256 * n)) from rfl, e_eq R n a m hm, epre_eq R n a m hm]
  funext i; pointwise [hdAt]
  simp only [up_sub, up_add, up_exp, up_mul]
  refine (up_ite _ _).trans (congrArg up ?_)
  unfold PR.dz
  congr 3
  show R.E a (256 * n) (i 1) + (R.E a (256 * n + (i 0).val + 1) (i 1) - R.E a (256 * n) (i 1))
    = R.E a (256 * n + (i 0).val + 1) (i 1)
  ring

/-- The keys of block `n`, transposed, for one head. -/
def ktIn (R : PR) (n : ℕ) (a : Fin 4) : Vec Ideal S1x1x64x256 .bf16 := fun i => up (R.kt a (i 2) (256 * n + (i 3).val))

theorem step_eq : (blkIn R n a).step m none (ktIn R n a) (hdAt R (256 * n) a) = hdAt R (256 * n + 256) a := by
  unfold HIn.step
  rw [dz_eq R n a m hm, lpre_eq R n a m hm, lk_eq R n a m hm]
  rw [show (hdAt R (256 * n) a).l = upr (R.L a (256 * n)) from rfl, epre_eq R n a m hm]
  unfold hdAt
  congr 1
  · funext i; pointwise [gated, lastRow]
    simp only [up_add]
    refine congrArg up ?_
    have h : R.L a (256 * n + 256) (i 1) = R.L a (256 * n + 255) (i 1) + R.lk a (256 * n + 255) (i 1) := Finset.sum_range_succ _ _
    rw [h]
    show R.L a (256 * n) (i 1) + (R.L a (256 * n + 255) (i 1) - R.L a (256 * n) (i 1) + R.lk a (256 * n + 255) (i 1)) = _
    ring
  · funext i; pointwise [gated, lastRow]
    simp only [up_add]
    refine congrArg up ?_
    show R.E a (256 * n) (i 1) + (R.E a (256 * n + 255 + 1) (i 1) - R.E a (256 * n) (i 1)) = R.E a (256 * n + 255 + 1) (i 1)
    ring
  · funext i; pointwise [gated, ktIn]
    simp only [up_mul, up_sum, up_add]
    refine congrArg up ?_
    have h := sum_block (fun s => R.kt a (i 0) s * R.dz a s (i 1)) (256 * n)
    show R.D a (256 * n) (i 0) (i 1) + _ = R.D a (256 * n + 256) (i 0) (i 1)
    unfold PR.D
    rw [← add_sub_cancel (∑ s ∈ Finset.range (256 * n), R.kt a (i 0) s * R.dz a s (i 1)) (∑ s ∈ Finset.range (256 * n + 256), R.kt a (i 0) s * R.dz a s (i 1)), ← h]
    rfl

/-- The reads of a block of queries are `R`'s. -/
def Reads (R : PR) (C : Con Ideal) : Prop := ∀ k v a, C.inp k v a = { blkIn R 0 a with k := k, v := v }

omit hm in
theorem Reads.inp {R : PR} {C : Con Ideal} (h : Reads R C) (n : ℕ) (a : Fin 4) :
    C.inp (blkIn R n a).k (blkIn R n a).v a = blkIn R n a := h _ _ a

omit hm in
theorem Reads.q {R : PR} {C : Con Ideal} (h : Reads R C) (a : Fin 4) : C.q a = up2 (R.q a) :=
  congrArg HIn.q (h C.before C.before a)

omit hm in
theorem Reads.g {R : PR} {C : Con Ideal} (h : Reads R C) (a : Fin 4) : C.g a = up2 (R.g a) :=
  congrArg HIn.g (h C.before C.before a)

omit hm in
theorem mm_eq (x y : Fin 256 → Fin 256 → ℝ) : mm (F := Ideal) (up2 x) (up2 y) = up2 fun r l => ∑ τ, x r τ * y τ l := by
  funext i; pointwise [mm]
  simp only [up_mul, up_sum]; rfl

theorem dkAll_eq {C : Con Ideal} (hC : Reads R C) (b : FVec Ideal S256x256 .f32) :
    dkAll m none C (blkIn R n 0).k (blkIn R n 0).v (hdAt R (256 * n)) b
      = fun i => b i + up (R.addk (256 * n + (i 0).val) (i 1)) := by
  have e : ∀ a, (C.inp (blkIn R n 0).k (blkIn R n 0).v a).dz m (hdAt R (256 * n) a) = up2 fun r τ => R.dz a (256 * n + r.val) τ :=
    fun a => (congrArg (fun x : HIn Ideal => x.dz m (hdAt R (256 * n) a)) (hC.inp n a)).trans (dz_eq R n a m hm)
  have h4 : sum4 (fun a => (C.inp (blkIn R n 0).k (blkIn R n 0).v a).dz m (hdAt R (256 * n) a)) C.q
      = up2 fun r l => R.addk (256 * n + r.val) l := by
    have t : ∀ x : FVec Ideal S256x256 .f32, truncf (F := Ideal) .bf16 x bitsLt_bf16_f32 = x := fun x => rfl
    unfold sum4
    simp only [t, e, hC.q, mm_eq]
    funext i
    show up _ + up _ + up _ + up _ = _
    simp only [up_add]
    exact congrArg up (Fin.sum_univ_four fun a => ∑ τ, R.dz a (256 * n + (i 0).val) τ * R.q a τ (i 1)).symm
  unfold dkAll dkUp
  rw [h4]
  funext i; pointwise [gated]

theorem dvAll_eq {C : Con Ideal} (hC : Reads R C) (b : FVec Ideal S256x256 .f32) :
    dvAll m none C (blkIn R n 0).k (blkIn R n 0).v (hdAt R (256 * n)) b
      = fun i => b i + up (R.addv (256 * n + (i 0).val) (i 1)) := by
  have e : ∀ a, (C.inp (blkIn R n 0).k (blkIn R n 0).v a).w m (hdAt R (256 * n) a).l = up2 fun r τ => R.w a (256 * n + r.val) τ :=
    fun a => (congrArg (fun x : HIn Ideal => x.w m (upr (R.L a (256 * n)))) (hC.inp n a)).trans (w_eq R n a m hm)
  have h4 : sum4 (fun a => truncf .bf16 ((C.inp (blkIn R n 0).k (blkIn R n 0).v a).w m (hdAt R (256 * n) a).l) bitsLt_bf16_f32) C.g
      = up2 fun r l => R.addv (256 * n + r.val) l := by
    have t : ∀ x : FVec Ideal S256x256 .f32, truncf (F := Ideal) .bf16 x bitsLt_bf16_f32 = x := fun x => rfl
    unfold sum4
    simp only [t, e, hC.g, mm_eq]
    funext i
    show up _ + up _ + up _ + up _ = _
    simp only [up_add]
    exact congrArg up (Fin.sum_univ_four fun a => ∑ τ, R.w a (256 * n + (i 0).val) τ * R.g a τ (i 1)).symm
  unfold dvAll dvUp
  rw [h4]
  funext i; pointwise [gated]

/-- The state over the first `N` keys, where the two sums held `D0` and `V0` before. -/
def ksAt (R : PR) (D0 V0 : Fin 4096 → Fin 256 → ℝ) (N : ℕ) : KS Ideal where
  h := hdAt R N
  dk := up2 fun s l => D0 s l + if s.val < N then R.addk s.val l else 0
  dv := up2 fun s l => V0 s l + if s.val < N then R.addv s.val l else 0

omit hm in
theorem put_rows (D0 : Fin 4096 → Fin 256 → ℝ) (f : ℕ → Fin 256 → ℝ) (hn : n < 16) (off : Fin 2 → ℕ) (ho : off = ![256 * n, 0])
    (inb : ∀ a, off a + S256x256.size a ≤ S4096x256.size a) (w : FVec Ideal S256x256 .f32 → FVec Ideal S256x256 .f32)
    (hw : ∀ b, w b = fun i => b i + up (f (256 * n + (i 0).val) (i 1))) :
    VecWindow.put (s := S4096x256) (up2 fun s l => D0 s l + if s.val < 256 * n then f s.val l else 0) off S256x256.size
        (w (VecWindow.window (s := S4096x256) (up2 fun s l => D0 s l + if s.val < 256 * n then f s.val l else 0) off S256x256.size inb))
      = up2 fun s l => D0 s l + if s.val < 256 * n + 256 then f s.val l else 0 := by
  subst ho
  rw [hw]
  funext y
  unfold VecWindow.put
  have hy1 : (y 1).val < 256 := (y 1).isLt
  by_cases h : 256 * n ≤ (y 0).val ∧ (y 0).val < 256 * n + 256
  · have hh : ∀ a, (![256 * n, 0] : Fin 2 → ℕ) a ≤ (y a).val ∧ (y a).val < (![256 * n, 0] : Fin 2 → ℕ) a + S256x256.size a := by
      intro a
      match a with
      | 0 => exact h
      | 1 => exact ⟨Nat.zero_le _, by show (y 1).val < 0 + 256; omega⟩
    rw [dif_pos hh]
    have e : (Rect.unit (s := S4096x256) ![256 * n, 0] S256x256.size inb).emb (Rect.unitLocal (s := S4096x256) (off := ![256 * n, 0]) (size := S256x256.size) y hh) = y := by
      funext a
      apply Fin.ext
      show (![256 * n, 0] : Fin 2 → ℕ) a + 1 * ((y a).val - (![256 * n, 0] : Fin 2 → ℕ) a) = (y a).val
      have := (hh a).1
      omega
    have e0 : 256 * n + ((Rect.unitLocal (s := S4096x256) (off := ![256 * n, 0]) (size := S256x256.size) y hh) 0).val = (y 0).val := by
      show 256 * n + ((y 0).val - 256 * n) = (y 0).val
      omega
    have e1 : (Rect.unitLocal (s := S4096x256) (off := ![256 * n, 0]) (size := S256x256.size) y hh) 1 = y 1 := by
      apply Fin.ext
      show (y 1).val - 0 = (y 1).val
      omega
    unfold VecWindow.window
    show up2 (fun s l => D0 s l + if s.val < 256 * n then f s.val l else 0)
        ((Rect.unit (s := S4096x256) ![256 * n, 0] S256x256.size inb).emb (Rect.unitLocal (s := S4096x256) (off := ![256 * n, 0]) (size := S256x256.size) y hh))
        + up (f (256 * n + ((Rect.unitLocal (s := S4096x256) (off := ![256 * n, 0]) (size := S256x256.size) y hh) 0).val)
          ((Rect.unitLocal (s := S4096x256) (off := ![256 * n, 0]) (size := S256x256.size) y hh) 1)) = _
    rw [e, e0, e1]
    show up (D0 (y 0) (y 1) + if (y 0).val < 256 * n then f (y 0).val (y 1) else 0) + up (f (y 0).val (y 1))
      = up (D0 (y 0) (y 1) + if (y 0).val < 256 * n + 256 then f (y 0).val (y 1) else 0)
    rw [if_neg (by omega), if_pos (by omega), add_zero, up_add]
  · have hh : ¬∀ a, (![256 * n, 0] : Fin 2 → ℕ) a ≤ (y a).val ∧ (y a).val < (![256 * n, 0] : Fin 2 → ℕ) a + S256x256.size a :=
      fun q => h (q 0)
    rw [dif_neg hh]
    refine congrArg (fun x => up (D0 (y 0) (y 1) + x)) ?_
    by_cases h2 : (y 0).val < 256 * n
    · rw [if_pos h2, if_pos (by omega)]
    · rw [if_neg h2, if_neg (by omega)]

/-- The offsets of block `n` of the transposed keys. -/
def offK (n : ℕ) : Fin 4 → Fin 4 → ℕ
  | 0 => ![0, 0, 0, 256 * n]
  | 1 => ![0, 0, 64, 256 * n]
  | 2 => ![0, 1, 0, 256 * n]
  | 3 => ![0, 1, 64, 256 * n]

/-- The keys and values of `R` as the kernel holds them, and the keys transposed. -/
structure Holds (R : PR) (K V : Vec Ideal S4096x256 .bf16) (KT : Vec Ideal S1x2x128x4096 .bf16) : Prop where
  k : K = fun i => up (R.k (i 0).val (i 1))
  v : V = fun i => up (R.v (i 0).val (i 1))
  kt : ∀ (n : ℕ) (hn : n < 16) (off : Fin 4 → Fin 4 → ℕ) (ho : off = offK n)
    (iT : ∀ b a, off b a + S1x1x64x256.size a ≤ S1x2x128x4096.size a) (a : Fin 4),
    VecWindow.window KT (off a) S1x1x64x256.size (iT a) = ktIn R n a

omit hm in
theorem win_rows (f : ℕ → Fin 256 → ℝ) (off : Fin 2 → ℕ) (ho : off = ![256 * n, 0])
    (inb : ∀ a, off a + S256x256.size a ≤ S4096x256.size a) :
    VecWindow.window (s := S4096x256) (fun i => up (f (i 0).val (i 1))) off S256x256.size inb = up2 fun r l => f (256 * n + r.val) l := by
  subst ho
  funext y
  show up (f (256 * n + 1 * (y 0).val) _) = up (f (256 * n + (y 0).val) (y 1))
  rw [one_mul]
  refine congrArg (fun x => up (f _ x)) (Fin.ext ?_)
  show 0 + 1 * (y 1).val = (y 1).val
  omega

/-- A block counted in full moves the state over its keys. -/
theorem blk_eq {C : Con Ideal} (hC : Reads R C) {K V : Vec Ideal S4096x256 .bf16} {KT : Vec Ideal S1x2x128x4096 .bf16}
    (H : Holds R K V KT) (D0 V0 : Fin 4096 → Fin 256 → ℝ) (hn : n < 16) (o2 : Fin 2 → ℕ) (h2 : o2 = ![256 * n, 0])
    (i2 : ∀ a, o2 a + S256x256.size a ≤ S4096x256.size a) (oT : Fin 4 → Fin 4 → ℕ) (hT : oT = offK n)
    (iT : ∀ b a, oT b a + S1x1x64x256.size a ≤ S1x2x128x4096.size a) :
    blkStep m none C K V KT o2 i2 oT iT (ksAt R D0 V0 (256 * n)) = ksAt R D0 V0 (256 * n + 256) := by
  have hk : VecWindow.window K o2 S256x256.size i2 = (blkIn R n 0).k := by rw [H.k]; exact win_rows n _ _ h2 _
  have hv : VecWindow.window V o2 S256x256.size i2 = (blkIn R n 0).v := by rw [H.v]; exact win_rows n _ _ h2 _
  unfold blkStep
  rw [hk, hv]
  unfold ksAt
  congr 1
  · funext a
    show ((C.inp (blkIn R n 0).k (blkIn R n 0).v a).step m none (VecWindow.window KT (oT a) S1x1x64x256.size (iT a)) (hdAt R (256 * n) a)) = _
    rw [H.kt n hn oT hT iT a]
    exact (congrArg (fun x : HIn Ideal => x.step m none (ktIn R n a) (hdAt R (256 * n) a)) (hC.inp n a)).trans (step_eq R n a m hm)
  · exact put_rows n D0 R.addk hn o2 h2 i2 (dkAll m none C (blkIn R n 0).k (blkIn R n 0).v (hdAt R (256 * n))) (dkAll_eq R n m hm hC)
  · exact put_rows n V0 R.addv hn o2 h2 i2 (dvAll m none C (blkIn R n 0).k (blkIn R n 0).v (hdAt R (256 * n))) (dvAll_eq R n m hm hC)

omit hm in
theorem gated_one {s : Shape} (x : FVec Ideal s .f32) : gated (some 1#1) x = gated none x := rfl

omit hm in
theorem blk_one {C : Con Ideal} {K V : Vec Ideal S4096x256 .bf16} {KT : Vec Ideal S1x2x128x4096 .bf16} (o2 : Fin 2 → ℕ)
    (i2 : ∀ a, o2 a + S256x256.size a ≤ S4096x256.size a) (oT : Fin 4 → Fin 4 → ℕ)
    (iT : ∀ b a, oT b a + S1x1x64x256.size a ≤ S1x2x128x4096.size a) (S : KS Ideal) :
    blkStep m (some 1#1) C K V KT o2 i2 oT iT S = blkStep m none C K V KT o2 i2 oT iT S := rfl

omit hm in
theorem gated_zero {s : Shape} (x : FVec Ideal s .f32) : gated (some 0#1) x = fun _ => (0 : EReal) := by
  funext i; pointwise [gated]

omit hm in
theorem put_window (D : Vec Ideal S4096x256 .f32) (off : Fin 2 → ℕ) (inb : ∀ a, off a + S256x256.size a ≤ S4096x256.size a) :
    VecWindow.put D off S256x256.size (VecWindow.window D off S256x256.size inb) = D := by
  funext y
  unfold VecWindow.put VecWindow.window
  split
  · rename_i hh
    congr 1
    funext a
    apply Fin.ext
    show off a + 1 * ((y a).val - off a) = (y a).val
    have := (hh a).1
    omega
  · rfl

omit hm in
/-- A block that is not counted leaves the state. -/
theorem blk_zero {C : Con Ideal} {K V : Vec Ideal S4096x256 .bf16} {KT : Vec Ideal S1x2x128x4096 .bf16} (o2 : Fin 2 → ℕ)
    (i2 : ∀ a, o2 a + S256x256.size a ≤ S4096x256.size a) (oT : Fin 4 → Fin 4 → ℕ)
    (iT : ∀ b a, oT b a + S1x1x64x256.size a ≤ S1x2x128x4096.size a) (S : KS Ideal) :
    blkStep m (some 0#1) C K V KT o2 i2 oT iT S = S := by
  have az : ∀ {s : Shape} (x : FVec Ideal s .f32), addf x (fun _ => (0 : EReal)) = x := fun x => funext fun i => add_zero (x i)
  have hk : ∀ b, dkAll m (some 0#1) C (VecWindow.window K o2 S256x256.size i2) (VecWindow.window V o2 S256x256.size i2) S.h b = b := fun b => by
    unfold dkAll dkUp
    rw [gated_zero, az]
    funext i; pointwise
  have hv : ∀ b, dvAll m (some 0#1) C (VecWindow.window K o2 S256x256.size i2) (VecWindow.window V o2 S256x256.size i2) S.h b = b := fun b => by
    unfold dvAll dvUp
    rw [gated_zero, az]
    funext i; pointwise
  unfold blkStep
  rw [hk, hv, put_window, put_window]
  have hh : stepAll m (some 0#1) C (VecWindow.window K o2 S256x256.size i2) (VecWindow.window V o2 S256x256.size i2)
      (fun b => VecWindow.window KT (oT b) S1x1x64x256.size (iT b)) S.h = S.h := by
    funext a
    unfold stepAll HIn.step
    rw [gated_zero, gated_zero, gated_zero, az, az, az]
  rw [hh]

end Cert.Proof.Attn
end
-- ==== Proof.Attn.Point.lean ====
/- What one block of queries does, over real numbers: its loop over the blocks of keys, and the last two. -/
module

public import proofs.«01_k».proof.Proof.Attn.BodyEq
public import proofs.«01_k».proof.Proof.Attn.Step

@[expose] public section

set_option maxRecDepth 16384

noncomputable section

namespace Cert.Proof.Attn

open Cert.Kernel2Ideal Cert.Kernel2Ideal.Gen Cert.Proof
open Idealize.ShloMosaic Idealize.ShloMosaic.TcCoe Idealize.ShloMosaic.Tactic

theorem off2_aux : ∀ j : Fin 15, k0_off2 (BitVec.ofNat 32 j.val) = ![256 * j.val, 0] := by decide +kernel
theorem off3_aux : ∀ j : Fin 15, k0_off3 (BitVec.ofNat 32 j.val) = ![256 * (j.val + 1), 0] := by decide +kernel
theorem offT_aux : ∀ (j : Fin 15) (b : Fin 4), offT (BitVec.ofNat 32 j.val) b = offK j.val b := by decide +kernel
theorem offT'_aux : ∀ (j : Fin 15) (b : Fin 4), offT' (BitVec.ofNat 32 j.val) b = offK (j.val + 1) b := by decide +kernel
theorem second_aux : ∀ (a : Fin 16) (j : Fin 15),
    Scalar.cmpi .slt (Scalar.addi (BitVec.ofNat 32 j.val) 1#32) (Scalar.subi (BitVec.ofNat 32 a.val) 1#32) = if j.val + 2 < a.val then 1#1 else 0#1 := by
  decide
theorem prev_aux : ∀ a : Fin 16, Scalar.cmpi .sge (BitVec.ofNat 32 a.val) 1#32 = if 1 ≤ a.val then 1#1 else 0#1 := by decide

theorem offP_eq (i : grid0.Coords) : offP i = offK ((i 2).val - 1) := funext fun b => match b with
  | 0 => congrArg (fun x : ℕ => (![0, 0, 0, x] : Fin 4 → ℕ)) (off12_aux ⟨(i 2).val, (i 2).isLt⟩)
  | 1 => congrArg (fun x : ℕ => (![0, 0, 64, x] : Fin 4 → ℕ)) (off12_aux ⟨(i 2).val, (i 2).isLt⟩)
  | 2 => congrArg (fun x : ℕ => (![0, 1, 0, x] : Fin 4 → ℕ)) (off12_aux ⟨(i 2).val, (i 2).isLt⟩)
  | 3 => congrArg (fun x : ℕ => (![0, 1, 64, x] : Fin 4 → ℕ)) (off12_aux ⟨(i 2).val, (i 2).isLt⟩)

theorem offD_eq (i : grid0.Coords) : offD i = offK (i 2).val := funext fun b => match b with
  | 0 => congrArg (fun x : ℕ => (![0, 0, 0, x] : Fin 4 → ℕ)) (off13_aux ⟨(i 2).val, (i 2).isLt⟩)
  | 1 => congrArg (fun x : ℕ => (![0, 0, 64, x] : Fin 4 → ℕ)) (off13_aux ⟨(i 2).val, (i 2).isLt⟩)
  | 2 => congrArg (fun x : ℕ => (![0, 1, 0, x] : Fin 4 → ℕ)) (off13_aux ⟨(i 2).val, (i 2).isLt⟩)
  | 3 => congrArg (fun x : ℕ => (![0, 1, 64, x] : Fin 4 → ℕ)) (off13_aux ⟨(i 2).val, (i 2).isLt⟩)

variable (R : PR)

/-- Every key of an earlier block comes before every query. -/
theorem mask_none (n : ℕ) (hn : n < R.qi) (x : FVec Ideal S256x256 .f32) :
    masked none x = fun i => if R.ok (256 * n + (i 0).val) (i 1).val then x i else (0 : EReal) := by
  funext i
  have h0 : (i 0).val < 256 := (i 0).isLt
  have hok : R.ok (256 * n + (i 0).val) (i 1).val := by show _ < _; omega
  exact (if_pos hok).symm

theorem slt_small {a b : ℕ} (ha : a < 256) (hb : b < 256) : (BitVec.ofNat 32 a).slt (BitVec.ofNat 32 b) = decide (a < b) := by
  have e : ∀ {x : ℕ}, x < 256 → (BitVec.ofNat 32 x).toInt = x := fun {x} hx => by
    rw [BitVec.toInt_eq_toNat_of_lt (by rw [BitVec.toNat_ofNat]; omega), BitVec.toNat_ofNat, Nat.mod_eq_of_lt (by omega)]
  rw [BitVec.slt, e ha, e hb]
  simp

theorem mask_own (x : FVec Ideal S256x256 .f32) :
    masked (some k0_pay8) x = fun i => if R.ok (256 * R.qi + (i 0).val) (i 1).val then x i else (0 : EReal) := by
  funext i
  have h0 : (i 0).val < 256 := (i 0).isLt
  have h1 : (i 1).val < 256 := (i 1).isLt
  have e : k0_pay8 i = BitVec.ofBool (decide ((i 0).val < (i 1).val)) := by
    rw [← slt_small h0 h1]
    pointwise [k0_pay8]
    rfl
  have ez : broadcast S256x256 (Scalar.ofBits (F := Ideal) .f32 0x00000000#32) i = (0 : EReal) := by pointwise
  show (if k0_pay8 i = 1#1 then x i else _) = _
  rw [e, ez]
  by_cases h : (i 0).val < (i 1).val
  · have hok : R.ok (256 * R.qi + (i 0).val) (i 1).val := by show _ < _; omega
    exact (if_pos (by simp [h])).trans (if_pos hok).symm
  · have hok : ¬R.ok (256 * R.qi + (i 0).val) (i 1).val := by show ¬_ < _; omega
    exact (if_neg (by simp [h])).trans (if_neg hok).symm

variable {R} {C : Con Ideal} (hC : Reads R C) {K V : Vec Ideal S4096x256 .bf16} {KT : Vec Ideal S1x2x128x4096 .bf16}
  (H : Holds R K V KT) (i : grid0.Coords) (hi : R.qi = (i 2).val) (D0 V0 : Fin 4096 → Fin 256 → ℝ)
include hC H hi

theorem pair_eq (j : ℕ) (hj : k0_chk1 (BitVec.ofNat 32 j)) (hl : j + 1 < R.qi) :
    pairStep i C K V KT (BitVec.ofNat 32 j) hj (ksAt R D0 V0 (256 * j)) = ksAt R D0 V0 (256 * min (j + 2) (R.qi - 1)) := by
  have h16 : (i 2).val < 16 := (i 2).isLt
  have h15 : j < 15 := by omega
  unfold pairStep
  rw [blk_eq R j none (mask_none R j (by omega)) hC H D0 V0 (by omega) _ (off2_aux ⟨j, h15⟩) _ _ (funext (offT_aux ⟨j, h15⟩))]
  have hs : second i (BitVec.ofNat 32 j) = if j + 2 < (i 2).val then 1#1 else 0#1 := second_aux ⟨(i 2).val, h16⟩ ⟨j, h15⟩
  rw [hs]
  by_cases h : j + 2 < (i 2).val
  · rw [if_pos h, blk_one, show 256 * j + 256 = 256 * (j + 1) by ring]
    rw [blk_eq R (j + 1) none (mask_none R (j + 1) (by omega)) hC H D0 V0 (by omega) _ (off3_aux ⟨j, h15⟩) _ _ (funext (offT'_aux ⟨j, h15⟩))]
    congr 1
    omega
  · rw [if_neg h, blk_zero]
    congr 1
    omega

variable (c : Dev nD) (a4 : Memref sig .tc .vmem S4096x256 .bf16) (h4 : a4.IsWhole)
  (a6 : Memref sig .tc .vmem S4096x256 .bf16) (h6 : a6.IsWhole)
  (a11 : Memref sig .tc .vmem S4096x256 .f32) (h11 : a11.IsWhole) (a13 : Memref sig .tc .vmem S4096x256 .f32) (h13 : a13.IsWhole)
  (a5 : Memref sig .tc .vmem S1x2x128x4096 .bf16) (h5 : a5.IsWhole)

theorem ksOf_stOf (w : BitVec 32) (S : KS Ideal) : ksOf (stOf w S) = S := by
  unfold ksOf stOf
  obtain ⟨h, dk, dv⟩ := S
  have : headsOf (carOf w h) = h := funext fun a => match a with
    | 0 => rfl
    | 1 => rfl
    | 2 => rfl
    | 3 => rfl
  simp only [this]

/-- The loop goes over the blocks before the query block's predecessor. -/
theorem loop_eq : ∀ (n j : ℕ), j < 17 → R.qi ≤ j + 1 + 2 * n →
    ksOf (loopN c i a4 h4 a6 h6 a11 h11 a13 h13 a5 h5 C K V KT n (stOf (BitVec.ofNat 32 j) (ksAt R D0 V0 (256 * min j (R.qi - 1)))))
      = ksAt R D0 V0 (256 * (R.qi - 1)) := by
  have h16 : (i 2).val < 16 := (i 2).isLt
  intro n
  induction n with
  | zero =>
    intro j hj hq
    rw [loopN, ksOf_stOf hC H i hi]
    congr 1; omega
  | succ n ih =>
    intro j hj hq
    have hc1 : (stOf (BitVec.ofNat 32 j) (ksAt R D0 V0 (256 * min j (R.qi - 1)))).1.1 = BitVec.ofNat 32 j := rfl
    rw [loopN]
    by_cases ht : j + 1 < R.qi
    · have hT : Test i (BitVec.ofNat 32 j) := (test_iff i j (by omega)).mpr (by omega)
      have hk : k0_chk1 (BitVec.ofNat 32 j) := chk_of j (by omega)
      rw [dif_pos ⟨hk, hT⟩, tripOf_eq, ksOf_stOf hC H i hi]
      have e : min j (R.qi - 1) = j := by omega
      have e2 : Scalar.addi (BitVec.ofNat 32 j) 2#32 = BitVec.ofNat 32 (j + 2) := (BitVec.ofNat_add j 2).symm
      rw [← ih (j + 2) (by omega) (by omega), ← e2, ← pair_eq hC H i hi D0 V0 j hk ht, e]
      rfl
    · have hT : ¬Test i (BitVec.ofNat 32 j) := fun q => ht (by have := (test_iff i j (by omega)).mp q; omega)
      rw [dif_neg (fun q => hT q.2), ksOf_stOf hC H i hi]
      congr 1; omega

/-- The predecessor's block and the own one. -/
theorem last_eq : lastStep i K V KT C (ksAt R D0 V0 (256 * (R.qi - 1))) = ksAt R D0 V0 (256 * R.qi + 256) := by
  have h16 : (i 2).val < 16 := (i 2).isLt
  unfold lastStep
  have hs : hasPrev i = if 1 ≤ (i 2).val then 1#1 else 0#1 := prev_aux ⟨(i 2).val, h16⟩
  have e : blkStep none (some (hasPrev i)) C K V KT (k0_off12 i) (k0_off12_inb i) (offP i) (offP_inb i) (ksAt R D0 V0 (256 * (R.qi - 1)))
      = ksAt R D0 V0 (256 * R.qi) := by
    rw [hs]
    by_cases h : 1 ≤ (i 2).val
    · rw [if_pos h, blk_one]
      rw [blk_eq R (R.qi - 1) none (mask_none R (R.qi - 1) (by omega)) hC H D0 V0 (by omega) _ (by rw [off12_eq, hi]) _ _ (by rw [offP_eq, hi])]
      congr 1; omega
    · rw [if_neg h, blk_zero]
      congr 1; omega
  rw [e]
  exact blk_eq R R.qi (some k0_pay8) (mask_own R) hC H D0 V0 (by omega) (k0_off13 i) (by rw [off13_eq, hi]) _ (offD i) (by rw [offD_eq, hi]) _

end Cert.Proof.Attn
end
-- ==== Proof.Attn.Reads.lean ====
/- The blocks a grid point reads, as the parts of the whole arrays. -/
module

public import proofs.«01_k».proof.Proof.Attn.Args
public import proofs.«01_k».proof.Proof.Attn.Point
public import Idealize.ShloMosaic.Lib.VecWindow

@[expose] public section

set_option maxRecDepth 16384

noncomputable section

namespace Cert.Proof.Attn

open Cert.Kernel2Ideal Cert.Kernel2Ideal.Gen Cert.Proof
open Idealize.ShloMosaic Idealize.ShloMosaic.TcCoe Idealize.ShloMosaic.Tactic

/-- Head `a`'s lanes, as the kernel tests them. -/
theorem lane_test : ∀ (l : Fin 256) (a : Fin 4),
    IntOp.andi (IntOp.cmpi .sge (BitVec.ofNat 32 l.val) (BitVec.ofNat 32 (64 * a.val))) (IntOp.cmpi .slt (BitVec.ofNat 32 l.val) (BitVec.ofNat 32 (64 * a.val + 64)))
      = if la l = a then 1#1 else 0#1 := by decide +kernel

/-- A head's part of an array: its own lanes, zero elsewhere. -/
def part (a : Fin 4) (f : Fin 256 → Fin 256 → ℝ) : Fin 256 → Fin 256 → ℝ := fun τ l => if la l = a then f τ l else 0

theorem sel_lane (a : Fin 4) (l : Fin 256) (w : BitVec 1) (hw : w = if la l = a then 1#1 else 0#1) (x : ℝ) :
    (if w = 1#1 then up x else (0 : EReal)) = up (if la l = a then x else 0) := by
  subst hw
  by_cases h : la l = a
  · rw [if_pos h, if_pos h]; rfl
  · rw [if_neg h, if_neg h]; rfl

variable (f : Fin 256 → Fin 256 → ℝ)

theorem q0_eq : k0_pay9 (F := Ideal) (up2 f) = up2 (part 0 f) := by
  funext i; pointwise [k0_pay9]; exact sel_lane 0 (i 1) _ (lane_test (i 1) 0) _
theorem q1_eq : k0_pay10 (F := Ideal) (up2 f) = up2 (part 1 f) := by
  funext i; pointwise [k0_pay10]; exact sel_lane 1 (i 1) _ (lane_test (i 1) 1) _
theorem q2_eq : k0_pay12 (F := Ideal) (k0_pay11 (up2 f)) = up2 (part 2 f) := by
  funext i; pointwise [k0_pay12, k0_pay11]; exact sel_lane 2 (i 1) _ (lane_test (i 1) 2) _
theorem q3_eq : k0_pay13 (F := Ideal) (up2 f) = up2 (part 3 f) := by
  funext i; pointwise [k0_pay13]; exact sel_lane 3 (i 1) _ (lane_test (i 1) 3) _
theorem g0_eq : k0_pay14 (F := Ideal) (up2 f) = up2 (part 0 f) := by
  funext i; pointwise [k0_pay14]; exact sel_lane 0 (i 1) _ (lane_test (i 1) 0) _
theorem g1_eq : k0_pay15 (F := Ideal) (up2 f) = up2 (part 1 f) := by
  funext i; pointwise [k0_pay15]; exact sel_lane 1 (i 1) _ (lane_test (i 1) 1) _
theorem g2_eq : k0_pay16 (F := Ideal) (up2 f) = up2 (part 2 f) := by
  funext i; pointwise [k0_pay16]; exact sel_lane 2 (i 1) _ (lane_test (i 1) 2) _
theorem g3_eq : k0_pay17 (F := Ideal) (up2 f) = up2 (part 3 f) := by
  funext i; pointwise [k0_pay17]; exact sel_lane 3 (i 1) _ (lane_test (i 1) 3) _

theorem sel_word (p : Prop) [Decidable p] (w : BitVec 1) (hw : w = BitVec.ofBool (decide p)) :
    (if w = 1#1 then (1 : EReal) else 0) = up (if p then 1 else 0) := by
  subst hw
  by_cases h : p
  · simp [h, up]
  · simp [h, up]

theorem before_eq : k0_pay6 (F := Ideal) = up2 fun r c => if c.val < r.val then 1 else 0 := by
  funext i; pointwise [k0_pay6]
  refine sel_word _ _ ?_
  have h0 : (i 0).val < 256 := (i 0).isLt
  have h1 : (i 1).val < 256 := (i 1).isLt
  exact congrArg BitVec.ofBool (slt_small h1 h0)

theorem sle_small {a b : ℕ} (ha : a < 256) (hb : b < 256) : (BitVec.ofNat 32 a).sle (BitVec.ofNat 32 b) = decide (a < b + 1) := by
  rw [BitVec.sle_eq_not_slt, slt_small hb ha]
  by_cases h : b < a
  · simp [h] <;> omega
  · simp [h] <;> omega

theorem upto_eq : k0_pay7 (F := Ideal) = up2 fun r c => if c.val < r.val + 1 then 1 else 0 := by
  funext i; pointwise [k0_pay7]
  refine sel_word _ _ ?_
  have h0 : (i 0).val < 256 := (i 0).isLt
  have h1 : (i 1).val < 256 := (i 1).isLt
  exact congrArg BitVec.ofBool (sle_small h1 h0)

/-- The first row of a head's totals. -/
theorem tot_eq (T : Fin 4 → Fin 256 → ℝ) (a : Fin 4) (off : Fin 5 → ℕ) (ho : off = ![0, a.val, 0, 0, 0])
    (inb : ∀ x, off x + S1x1x1x8x256.size x ≤ S1x4x1x8x256.size x) :
    k0_pay18 (F := Ideal) (VecWindow.window (s := S1x4x1x8x256) (fun i => up (T (i 1) (i 4))) off S1x1x1x8x256.size inb) = upr (T a) := by
  subst ho
  funext i; pointwise [k0_pay18]
  refine congrArg up (congrArg₂ T (Fin.ext ?_) (Fin.ext ?_))
  · rfl
  · show 0 + 1 * (i 1).val = (i 1).val; omega

variable (a3 : Memref sig .tc .vmem S256x256 .bf16) (h3 : a3.IsWhole)
  (a7 : Memref sig .tc .vmem S1x4x1x8x256 .f32) (h7 : a7.IsWhole) (a9 : Memref sig .tc .vmem S256x256 .f32) (h9 : a9.IsWhole)
  (A : Args) (b : Fin 2) (g : Fin 4) (qi : ℕ)

theorem reads (X3 : Vec Ideal S256x256 .bf16) (X7 : Vec Ideal S1x4x1x8x256 .f32) (X9 : Vec Ideal S256x256 .f32)
    (e3 : X3 = up2 fun τ l => A.q b (256 * qi + τ.val) (hd g (la l)) (lo l) * (1 / 8))
    (e7 : X7 = fun i => up (A.T b (hd g (i 1)) (256 * qi + (i 4).val)))
    (e9 : X9 = up2 fun τ l => A.g b (256 * qi + τ.val) (hd g (la l)) (lo l)) :
    Reads (A.blk b g qi) (conOf a3 h3 a7 h7 a9 h9 X3 X7 X9) := by
  have w : ∀ (a : Fin 4) (off : Fin 5 → ℕ) (ho : off = ![0, a.val, 0, 0, 0]) (inb : ∀ x, off x + S1x1x1x8x256.size x ≤ S1x4x1x8x256.size x),
      k0_pay18 (F := Ideal) (a7.view.readAt (Elt Ideal) (Rect.unit (s := S1x4x1x8x256) off S1x1x1x8x256.size inb).toLoadRect (h7.unread X7))
        = upr ((A.blk b g qi).t a) := by
    intro a off ho inb
    rw [View.readAt_unit _ _ _ rfl inb, h7.read_unread, e7]
    exact tot_eq (fun a τ => A.T b (hd g a) (256 * qi + τ.val)) a off ho inb
  have wq : a3.view.readAt (Elt Ideal) (Rect.unit (s := S256x256) ![0, 0] S256x256.size inb_S256x256_S256x256_0_0).toLoadRect (h3.unread X3) = X3 := by
    rw [View.readAt_full, h3.read_unread]
  have wg : a9.view.readAt (Elt Ideal) (Rect.unit (s := S256x256) ![0, 0] S256x256.size inb_S256x256_S256x256_0_0).toLoadRect (h9.unread X9) = X9 := by
    rw [View.readAt_full, h9.read_unread]
  intro k v a
  unfold conOf
  dsimp only
  rw [wq, wg, before_eq, upto_eq, e3, e9, q0_eq, q1_eq, q2_eq, q3_eq, g0_eq, g1_eq, g2_eq, g3_eq]
  have t0 := w 0 _ rfl inb_S1x4x1x8x256_S1x1x1x8x256_0_0_0_0_0
  have t1 := w 1 _ rfl inb_S1x4x1x8x256_S1x1x1x8x256_0_1_0_0_0
  have t2 := w 2 _ rfl inb_S1x4x1x8x256_S1x1x1x8x256_0_2_0_0_0
  have t3 := w 3 _ rfl inb_S1x4x1x8x256_S1x1x1x8x256_0_3_0_0_0
  unfold Con.inp
  match a with
  | 0 => exact congrArg (fun t => (⟨_, _, t, _, _, k, v⟩ : HIn Ideal)) t0
  | 1 => exact congrArg (fun t => (⟨_, _, t, _, _, k, v⟩ : HIn Ideal)) t1
  | 2 => exact congrArg (fun t => (⟨_, _, t, _, _, k, v⟩ : HIn Ideal)) t2
  | 3 => exact congrArg (fun t => (⟨_, _, t, _, _, k, v⟩ : HIn Ideal)) t3

/-- The keys, the values and the transposed keys of the block's sequence and group. -/
theorem holds (K V : Vec Ideal S4096x256 .bf16) (KT : Vec Ideal S1x2x128x4096 .bf16)
    (eK : K = fun i => up (A.k b (i 0).val (hd g (la (i 1))) (lo (i 1))))
    (eV : V = fun i => up (A.v b (i 0).val (hd g (la (i 1))) (lo (i 1))))
    (eT : KT = fun i => up (A.k b (i 3).val ⟨4 * g.val + 2 * (i 1).val + (i 2).val / 64, by
        have h1 : (i 1).val < 2 := (i 1).isLt; have h2 : (i 2).val < 128 := (i 2).isLt; omega⟩ ⟨(i 2).val % 64, by omega⟩)) :
    Holds (A.blk b g qi) K V KT where
  k := eK
  v := eV
  kt n hn off ho iT a := by
    subst ho eT
    funext y
    have y1 : (y 1).val < 1 := (y 1).isLt
    have y2 : (y 2).val < 64 := (y 2).isLt
    have key : ∀ (s s' : ℕ) (h h' : Fin 16) (d d' : Fin 64), s = s' → h = h' → d = d' → up (A.k b s h d) = up (A.k b s' h' d') := by
      rintro s _ h _ d _ rfl rfl rfl; rfl
    match a with
    | 0 =>
      refine key _ (256 * n + (y 3).val) _ (hd g 0) _ (y 2) ?_ (Fin.ext ?_) (Fin.ext ?_)
      · show 256 * n + 1 * (y 3).val = _; omega
      · show 4 * g.val + 2 * (0 + 1 * (y 1).val) + (0 + 1 * (y 2).val) / 64 = 4 * g.val + 0; omega
      · show (0 + 1 * (y 2).val) % 64 = (y 2).val; omega
    | 1 =>
      refine key _ (256 * n + (y 3).val) _ (hd g 1) _ (y 2) ?_ (Fin.ext ?_) (Fin.ext ?_)
      · show 256 * n + 1 * (y 3).val = _; omega
      · show 4 * g.val + 2 * (0 + 1 * (y 1).val) + (64 + 1 * (y 2).val) / 64 = 4 * g.val + 1; omega
      · show (64 + 1 * (y 2).val) % 64 = (y 2).val; omega
    | 2 =>
      refine key _ (256 * n + (y 3).val) _ (hd g 2) _ (y 2) ?_ (Fin.ext ?_) (Fin.ext ?_)
      · show 256 * n + 1 * (y 3).val = _; omega
      · show 4 * g.val + 2 * (1 + 1 * (y 1).val) + (0 + 1 * (y 2).val) / 64 = 4 * g.val + 2; omega
      · show (0 + 1 * (y 2).val) % 64 = (y 2).val; omega
    | 3 =>
      refine key _ (256 * n + (y 3).val) _ (hd g 3) _ (y 2) ?_ (Fin.ext ?_) (Fin.ext ?_)
      · show 256 * n + 1 * (y 3).val = _; omega
      · show 4 * g.val + 2 * (1 + 1 * (y 1).val) + (64 + 1 * (y 2).val) / 64 = 4 * g.val + 3; omega
      · show (64 + 1 * (y 2).val) % 64 = (y 2).val; omega

end Cert.Proof.Attn
end
-- ==== Proof.Attn.Entry.lean ====
/- The arrays the attention's backward call is launched on, and the blocks its grid points read of them. -/
module

public import proofs.«01_k».proof.Proof.Attn.Reads
public import proofs.«01_k».proof.Proof.Attn.Frame
public import Idealize.ShloMosaic.Lib.Claim
public import Idealize.ShloMosaic.Lib.Pipeline.ValueKit.Geometry

@[expose] public section

set_option maxRecDepth 16384

noncomputable section

namespace Cert.Proof.Attn

open Cert.Kernel2Ideal Cert.Kernel2Ideal.Gen Cert.Proof
open Idealize.ShloMosaic Idealize.ShloMosaic.TcCoe Idealize.ShloMosaic.Tactic

variable (m : (ℓ : Loc nD τ sig) → Buf (Elt Ideal) ℓ)

/-- An array by sequence, position, head and lane. -/
abbrev up4 (f : Fin 2 → ℕ → Fin 16 → Fin 64 → ℝ) : (⟨4, ![2, 4096, 16, 64]⟩ : Shape).Idx → EReal :=
  fun i => up (f (i 0) (i 1).val (i 2) (i 3))

/-- The argument arrays hold `A`. -/
structure HoldsAt (c : Dev nD) (A : Args) : Prop where
  q : m ((c : Thread nD τ).loc main_arg0) = up4 A.q
  k : m ((c : Thread nD τ).loc main_arg1) = up4 A.k
  v : m ((c : Thread nD τ).loc main_arg2) = up4 A.v
  g : m ((c : Thread nD τ).loc main_arg3) = up4 A.g

/-- The sequence, position, head and lane of an entry of the flat arrays. -/
def fb (r : Fin 8192) : Fin 2 := ⟨r.val / 4096, by omega⟩
def fh (l : Fin 1024) : Fin 16 := ⟨l.val / 64, by omega⟩
def fd (l : Fin 1024) : Fin 64 := ⟨l.val % 64, by omega⟩

/-- A flat array. -/
abbrev flat (f : Fin 2 → ℕ → Fin 16 → Fin 64 → ℝ) : (⟨2, ![8192, 1024]⟩ : Shape).Idx → EReal :=
  fun i => up (f (fb (i 0)) ((i 0).val % 4096) (fh (i 1)) (fd (i 1)))

theorem flat_eq (f : Fin 2 → ℕ → Fin 16 → Fin 64 → ℝ) :
    shapeCast S8192x1024 (up4 f) shapeCasts_S2x4096x16x64_S8192x1024 = flat f := by
  funext i
  pointwise
  rfl

theorem word_eighth : Ideal.ofBits .f32 0x3E000000#32 = up (1 / 8) := by
  simp [Ideal.ofBits, Ideal.ieee, up]; rw [← EReal.coe_mul]; norm_num

/-- The queries scaled. -/
theorem scaled (f : Fin 2 → ℕ → Fin 16 → Fin 64 → ℝ) :
    (mulf (up4 f) (broadcastInDim S2x4096x16x64 ![] bcast_S_S2x4096x16x64 (constant (F := Ideal) S_ .f32 0x3E000000#32)) : FVec Ideal S2x4096x16x64 .f32)
      = up4 fun b s h d => f b s h d * (1 / 8) := by
  funext i; pointwise
  rw [word_eighth]
  exact up_mul _ _

/-- The totals as the host computes them, of the logits' negatives and the mask. -/
def lsig (x : FVec Ideal S2x16x4096x4096 .f32) : FVec Ideal S2x16x4096x4096 .f32 :=
  let n := Host.negf x
  let o := broadcastInDim S2x16x4096x4096 ![] bcast_S_S2x16x4096x4096 (constant (F := Ideal) S_ .f32 0x00000000#32)
  Host.negf (select (cmpf .une (subf n o) (subf n o)) (addf n o)
    (addf (maximumf n o) (Host.log1p (Host.exp (Host.negf (Host.absf (subf n o)))))))

/-- An array by sequence, head, query and key. -/
abbrev up4s (f : Fin 2 → Fin 16 → ℕ → ℕ → ℝ) : (⟨4, ![2, 16, 4096, 4096]⟩ : Shape).Idx → EReal :=
  fun i => up (f (i 0) (i 1) (i 2).val (i 3).val)

theorem neg_sp (x : ℝ) : -(max x 0 + Real.log (1 + Real.exp (-max x (-x)))) = 0 - sp x := by
  rw [← sp_eq, zero_sub, zero_sub]

theorem lsig_eq (f : Fin 2 → Fin 16 → ℕ → ℕ → ℝ) : lsig (Host.negf (F := Ideal) (φ := .f32) (up4s f)) = up4s fun b h t s => 0 - sp (f b h t s) := by
  funext i; pointwise [lsig]
  rw [if_neg (fun h => h rfl)]
  have ha : ∀ x : EReal, FloatOps.absf (F := Ideal) (φ := .f32) x = max x (-x) := fun _ => rfl
  have hl : ∀ x : EReal, Ideal.log1p x = Ideal.log (1 + x) := fun _ => rfl
  simp only [ha, hl, neg_neg, up_zero, up_one, up_neg, up_max, up_exp, up_add, up_log (one_add_exp_pos _)]
  exact congrArg up (neg_sp _)

theorem logit_eq (A : Args) : mulf (F := Ideal) (φ := .f32) (Host.dotGeneral (F := Ideal) (φ₁ := .f32) (φ₂ := .f32)
      dot_S2x4096x16x64_S2x4096x16x64_S2x16x4096x4096_3_3_1_1_02_02 none (up4 A.q) (up4 A.k))
    (broadcastInDim S2x16x4096x4096 ![] bcast_S_S2x16x4096x4096 (constant (F := Ideal) S_ .f32 0x3E000000#32)) = up4s A.z := by
  funext i; pointwise
  rw [word_eighth]
  simp only [up_mul, up_sum]
  refine congrArg up ?_
  unfold Args.z
  rw [Finset.sum_mul]
  refine Finset.sum_congr rfl fun d _ => ?_
  show A.q (i 0) (i 2).val (i 1) d * A.k (i 0) (i 3).val (i 1) d * (1 / 8) = A.q (i 0) (i 2).val (i 1) d * (1 / 8) * A.k (i 0) (i 3).val (i 1) d
  ring

theorem slt_4096 {a b : ℕ} (ha : a < 4096) (hb : b < 4096) : (BitVec.ofNat 32 a).slt (BitVec.ofNat 32 b) = decide (a < b) := by
  have e : ∀ {x : ℕ}, x < 4096 → (BitVec.ofNat 32 x).toInt = x := fun {x} hx => by
    rw [BitVec.toInt_eq_toNat_of_lt (by rw [BitVec.toNat_ofNat]; omega), BitVec.toNat_ofNat, Nat.mod_eq_of_lt (by omega)]
  rw [BitVec.slt, e ha, e hb]
  simp

/-- The causal mask. -/
theorem where_eq (f : Fin 2 → Fin 16 → ℕ → ℕ → ℝ) :
    (select (broadcastInDim S2x16x4096x4096 ![2, 3] bcast_S4096x4096_S2x16x4096x4096_2_3
        (cmpi .slt (broadcastInDim S4096x4096 ![0, 1] bcast_S1x4096_S4096x4096_0_1 (broadcastInDim S1x4096 ![1] bcast_S4096_S1x4096_1 (iotaInDim S4096 32 0)))
          (broadcastInDim S4096x4096 ![0, 1] bcast_S4096x1_S4096x4096_0_1 (broadcastInDim S4096x1 ![0] bcast_S4096_S4096x1_0 (iotaInDim S4096 32 0)))))
      (up4s f) (broadcastInDim S2x16x4096x4096 ![] bcast_S_S2x16x4096x4096 (constant (F := Ideal) S_ .f32 0x00000000#32)) : FVec Ideal S2x16x4096x4096 .f32)
      = up4s fun b h t s => if s < t then f b h t s else 0 := by
  funext i; pointwise
  have h2 : (i 2).val < 4096 := (i 2).isLt
  have h3 : (i 3).val < 4096 := (i 3).isLt
  show (if BitVec.ofBool ((BitVec.ofNat 32 (i 3).val).slt (BitVec.ofNat 32 (i 2).val)) = 1#1 then _ else (0 : EReal)) = _
  rw [slt_4096 h3 h2]
  by_cases h : (i 3).val < (i 2).val
  · exact (if_pos (by simp [h])).trans (congrArg up (if_pos h).symm)
  · exact (if_neg (by simp [h])).trans (congrArg up (if_neg h).symm)

theorem total_eq (f : Fin 2 → Fin 16 → ℕ → ℕ → ℝ) : broadcastInDim S2x16x16x8x256 ![0, 1, 2, 3, 4] bcast_S2x16x16x1x256_S2x16x16x8x256_0_1_2_3_4
    (shapeCast S2x16x16x1x256 (Host.reduceAdd (F := Ideal) (φ := .f32) (up4s f)
      (constant (F := Ideal) S_ .f32 0x00000000#32) reducesTo_S2x16x4096x4096_S2x16x4096_d3 h_S_) shapeCasts_S2x16x4096_S2x16x16x1x256)
      = fun i => up (∑ s ∈ Finset.range 4096, f (i 0) (i 1) (256 * (i 2).val + (i 4).val) s) := by
  funext i; pointwise
  simp only [up_sum]
  refine congrArg up ?_
  rw [← Fin.sum_univ_eq_sum_range]
  refine Finset.sum_congr rfl fun s _ => ?_
  show f (i 0) (i 1) ((i 2).val * 256 + (i 4).val) s.val = _
  rw [mul_comm]

variable {m} {c : Dev nD} {A : Args} (H : HoldsAt m c A)
include H

theorem entry_q : V m c main_v3 = flat fun b s h d => A.q b s h d * (1 / 8) := by
  have e : V m c main_v3 = truncf (F := Ideal) .bf16 (shapeCast S8192x1024 (mulf (m ((c : Thread nD τ).loc main_arg0))
      (broadcastInDim S2x4096x16x64 ![] bcast_S_S2x4096x16x64 (constant S_ .f32 0x3E000000#32))) shapeCasts_S2x4096x16x64_S8192x1024) bitsLt_bf16_f32 := by
    show StableHlo.after [hostOps0, hostOps0_1, hostOps0_2, hostOps0_3, hostOps0_4].flatten _ _ = _
    simp only [hostOps0, hostOps0_1, hostOps0_2, hostOps0_3, hostOps0_4, List.flatten_cons, List.flatten_nil, List.cons_append, List.nil_append,
      List.append_nil]
    after_results <;> rfl
  rw [e, H.q, ← flat_eq, scaled]
  rfl

theorem entry_kt : V m c main_v6 = transpose S2x8x128x4096 [0, 2, 3, 1] (shapeCast S2x4096x8x128 (up4 A.k) shapeCasts_S2x4096x16x64_S2x4096x8x128)
    transposes_S2x4096x8x128_S2x8x128x4096_0_2_3_1 := by
  rw [← H.k]
  show StableHlo.after [hostOps0, hostOps0_1, hostOps0_2, hostOps0_3, hostOps0_4].flatten _ _ = _
  simp only [hostOps0, hostOps0_1, hostOps0_2, hostOps0_3, hostOps0_4, List.flatten_cons, List.flatten_nil, List.cons_append, List.nil_append,
    List.append_nil]
  after_results <;> rfl

theorem entry_k : V m c main_v25 = flat A.k := by
  have e : V m c main_v25 = shapeCast S8192x1024 (m ((c : Thread nD τ).loc main_arg1)) shapeCasts_S2x4096x16x64_S8192x1024 := by
    show StableHlo.after [hostOps0, hostOps0_1, hostOps0_2, hostOps0_3, hostOps0_4].flatten _ _ = _
    simp only [hostOps0, hostOps0_1, hostOps0_2, hostOps0_3, hostOps0_4, List.flatten_cons, List.flatten_nil, List.cons_append, List.nil_append,
      List.append_nil]
    after_results <;> rfl
  rw [e, H.k, flat_eq]

theorem entry_v : V m c main_v27 = flat A.v := by
  have e : V m c main_v27 = shapeCast S8192x1024 (m ((c : Thread nD τ).loc main_arg2)) shapeCasts_S2x4096x16x64_S8192x1024 := by
    show StableHlo.after [hostOps0, hostOps0_1, hostOps0_2, hostOps0_3, hostOps0_4].flatten _ _ = _
    simp only [hostOps0, hostOps0_1, hostOps0_2, hostOps0_3, hostOps0_4, List.flatten_cons, List.flatten_nil, List.cons_append, List.nil_append,
      List.append_nil]
    after_results <;> rfl
  rw [e, H.v, flat_eq]

theorem entry_g : V m c main_v28 = flat A.g := by
  have e : V m c main_v28 = shapeCast S8192x1024 (m ((c : Thread nD τ).loc main_arg3)) shapeCasts_S2x4096x16x64_S8192x1024 := by
    show StableHlo.after [hostOps0, hostOps0_1, hostOps0_2, hostOps0_3, hostOps0_4].flatten _ _ = _
    simp only [hostOps0, hostOps0_1, hostOps0_2, hostOps0_3, hostOps0_4, List.flatten_cons, List.flatten_nil, List.cons_append, List.nil_append,
      List.append_nil]
    after_results <;> rfl
  rw [e, H.g, flat_eq]

omit H in
theorem entry_low : V m c main_v23 = fun _ => (0 : EReal) := by
  have e : V m c main_v23 = broadcastInDim S8x16 ![] bcast_S_S8x16 (constant (F := Ideal) S_ .f32 0x00000000#32) := by
    show StableHlo.after [hostOps0, hostOps0_1, hostOps0_2, hostOps0_3, hostOps0_4].flatten _ _ = _
    simp only [hostOps0, hostOps0_1, hostOps0_2, hostOps0_3, hostOps0_4, List.flatten_cons, List.flatten_nil, List.cons_append, List.nil_append,
      List.append_nil]
    after_results <;> rfl
  rw [e]; funext i; pointwise

theorem entry_tot : V m c main_v22 = broadcastInDim S2x16x16x8x256 ![0, 1, 2, 3, 4] bcast_S2x16x16x1x256_S2x16x16x8x256_0_1_2_3_4
    (shapeCast S2x16x16x1x256 (Host.reduceAdd (select (broadcastInDim S2x16x4096x4096 ![2, 3] bcast_S4096x4096_S2x16x4096x4096_2_3
        (cmpi .slt (broadcastInDim S4096x4096 ![0, 1] bcast_S1x4096_S4096x4096_0_1 (broadcastInDim S1x4096 ![1] bcast_S4096_S1x4096_1 (iotaInDim S4096 32 0)))
          (broadcastInDim S4096x4096 ![0, 1] bcast_S4096x1_S4096x4096_0_1 (broadcastInDim S4096x1 ![0] bcast_S4096_S4096x1_0 (iotaInDim S4096 32 0)))))
      (lsig (Host.negf (mulf (Host.dotGeneral (F := Ideal) (φ₁ := .f32) (φ₂ := .f32) dot_S2x4096x16x64_S2x4096x16x64_S2x16x4096x4096_3_3_1_1_02_02 none (up4 A.q) (up4 A.k))
        (broadcastInDim S2x16x4096x4096 ![] bcast_S_S2x16x4096x4096 (constant (F := Ideal) S_ .f32 0x3E000000#32)))))
      (broadcastInDim S2x16x4096x4096 ![] bcast_S_S2x16x4096x4096 (constant (F := Ideal) S_ .f32 0x00000000#32)))
      (constant (F := Ideal) S_ .f32 0x00000000#32) reducesTo_S2x16x4096x4096_S2x16x4096_d3 h_S_) shapeCasts_S2x16x4096_S2x16x16x1x256) := by
  rw [← H.q, ← H.k]
  show StableHlo.after [hostOps0, hostOps0_1, hostOps0_2, hostOps0_3, hostOps0_4].flatten _ _ = _
  simp only [hostOps0, hostOps0_1, hostOps0_2, hostOps0_3, hostOps0_4, List.flatten_cons, List.flatten_nil, List.cons_append, List.nil_append,
    List.append_nil]
  after_results <;> rfl

theorem entry_t : V m c main_v22 = fun i => up (A.T (i 0) (i 1) (256 * (i 2).val + (i 4).val)) := by
  rw [entry_tot H, logit_eq, lsig_eq, where_eq, total_eq]
  rfl

end Cert.Proof.Attn
end
-- ==== Proof.Attn.Blocks.lean ====
/- The blocks a grid point of the attention's backward call reads. -/
module

public import proofs.«01_k».proof.Proof.Attn.Entry

@[expose] public section

set_option maxRecDepth 16384

noncomputable section

namespace Cert.Proof.Attn

open Cert.Kernel2Ideal Cert.Kernel2Ideal.Gen Cert.Proof
open Idealize.ShloMosaic Idealize.ShloMosaic.TcCoe Idealize.ShloMosaic.Tactic

/-- The sequence, the group of heads and the block of queries of a grid point. -/
def pb (t : Fin grid0.N) : Fin 2 := ⟨t.val / 64, by have : t.val < 128 := t.isLt; omega⟩
def pg (t : Fin grid0.N) : Fin 4 := ⟨t.val / 16 % 4, by omega⟩
abbrev pq (t : Fin grid0.N) : ℕ := t.val % 16

/-- The rows and lanes of the flat arrays a point's blocks are of. -/
def qrow (t : Fin grid0.N) (τ : Fin 256) : Fin 8192 := ⟨4096 * (pb t).val + 256 * pq t + τ.val, by have := (pb t).isLt; have : pq t < 16 := Nat.mod_lt _ (by omega); omega⟩
def srow (t : Fin grid0.N) (s : Fin 4096) : Fin 8192 := ⟨4096 * (pb t).val + s.val, by have := (pb t).isLt; omega⟩
def lane (t : Fin grid0.N) (l : Fin 256) : Fin 1024 := ⟨256 * (pg t).val + l.val, by have := (pg t).isLt; omega⟩

theorem flat_qrow (f : Fin 2 → ℕ → Fin 16 → Fin 64 → ℝ) (t : Fin grid0.N) (τ l : Fin 256) :
    flat f (ix2 (qrow t τ) (lane t l)) = up (f (pb t) (256 * pq t + τ.val) (hd (pg t) (la l)) (lo l)) := by
  have hb := (pb t).isLt
  have hq : pq t < 16 := Nat.mod_lt _ (by omega)
  have e1 : fb (qrow t τ) = pb t := Fin.ext (by simp only [fb, qrow]; omega)
  have e2 : (qrow t τ).val % 4096 = 256 * pq t + τ.val := by simp only [qrow]; omega
  have e3 : fh (lane t l) = hd (pg t) (la l) := Fin.ext (by simp only [fh, lane, hd, la]; omega)
  have e4 : fd (lane t l) = lo l := Fin.ext (by simp only [fd, lane, lo]; omega)
  show up (f (fb (qrow t τ)) ((qrow t τ).val % 4096) (fh (lane t l)) (fd (lane t l))) = _
  rw [e1, e2, e3, e4]

theorem flat_srow (f : Fin 2 → ℕ → Fin 16 → Fin 64 → ℝ) (t : Fin grid0.N) (s : Fin 4096) (l : Fin 256) :
    flat f (ix2 (srow t s) (lane t l)) = up (f (pb t) s.val (hd (pg t) (la l)) (lo l)) := by
  have hb := (pb t).isLt
  have e1 : fb (srow t s) = pb t := Fin.ext (by simp only [fb, srow]; omega)
  have e2 : (srow t s).val % 4096 = s.val := by simp only [srow]; omega
  have e3 : fh (lane t l) = hd (pg t) (la l) := Fin.ext (by simp only [fh, lane, hd, la]; omega)
  have e4 : fd (lane t l) = lo l := Fin.ext (by simp only [fd, lane, lo]; omega)
  show up (f (fb (srow t s)) ((srow t s).val % 4096) (fh (lane t l)) (fd (lane t l))) = _
  rw [e1, e2, e3, e4]

variable {m : (ℓ : Loc nD τ sig) → Buf (Elt Ideal) ℓ} {c : Dev nD} {A : Args} (H : HoldsAt m c A)
include H

theorem blk0 (t : Fin grid0.N) : iblk m c 0 t = up2 fun τ l => A.q (pb t) (256 * pq t + τ.val) (hd (pg t) (la l)) (lo l) * (1 / 8) := by
  have idx : ∀ t : Fin grid0.N, win0_0.index t = ![16 * (t.val / 64) + t.val % 16, t.val / 16 % 4] := by decide +kernel
  funext y
  have e : (win0_0.blk t).view.emb y = ix2 (qrow t (y 0)) (lane t (y 1)) := by unfold qrow lane pb pg pq; blk_ext [idx t]
  show V m c main_v3 ((win0_0.blk t).view.emb y) = _
  rw [e, entry_q H]
  exact flat_qrow (fun b s h d => A.q b s h d * (1 / 8)) t (y 0) (y 1)

theorem blk6 (t : Fin grid0.N) : iblk m c 6 t = up2 fun τ l => A.g (pb t) (256 * pq t + τ.val) (hd (pg t) (la l)) (lo l) := by
  have idx : ∀ t : Fin grid0.N, win0_6.index t = ![16 * (t.val / 64) + t.val % 16, t.val / 16 % 4] := by decide +kernel
  funext y
  have e : (win0_6.blk t).view.emb y = ix2 (qrow t (y 0)) (lane t (y 1)) := by unfold qrow lane pb pg pq; blk_ext [idx t]
  show V m c main_v28 ((win0_6.blk t).view.emb y) = _
  rw [e, entry_g H]
  exact flat_qrow A.g t (y 0) (y 1)

theorem blk1 (t : Fin grid0.N) : iblk m c 1 t = fun i => up (A.k (pb t) (i 0).val (hd (pg t) (la (i 1))) (lo (i 1))) := by
  have idx : ∀ t : Fin grid0.N, win0_1.index t = ![t.val / 64, t.val / 16 % 4] := by decide +kernel
  funext y
  have e : (win0_1.blk t).view.emb y = ix2 (srow t (y 0)) (lane t (y 1)) := by unfold srow lane pb pg; blk_ext [idx t]
  show V m c main_v25 ((win0_1.blk t).view.emb y) = _
  rw [e, entry_k H]
  exact flat_srow A.k t (y 0) (y 1)

theorem blk3 (t : Fin grid0.N) : iblk m c 3 t = fun i => up (A.v (pb t) (i 0).val (hd (pg t) (la (i 1))) (lo (i 1))) := by
  have idx : ∀ t : Fin grid0.N, win0_3.index t = ![t.val / 64, t.val / 16 % 4] := by decide +kernel
  funext y
  have e : (win0_3.blk t).view.emb y = ix2 (srow t (y 0)) (lane t (y 1)) := by unfold srow lane pb pg; blk_ext [idx t]
  show V m c main_v27 ((win0_3.blk t).view.emb y) = _
  rw [e, entry_v H]
  exact flat_srow A.v t (y 0) (y 1)

theorem blk2 (t : Fin grid0.N) : iblk m c 2 t = fun i => up (A.k (pb t) (i 3).val ⟨4 * (pg t).val + 2 * (i 1).val + (i 2).val / 64, by
        have h1 : (i 1).val < 2 := (i 1).isLt; have h2 : (i 2).val < 128 := (i 2).isLt; have := (pg t).isLt; omega⟩ ⟨(i 2).val % 64, by omega⟩) := by
  have idx : ∀ t : Fin grid0.N, win0_2.index t = ![t.val / 64, t.val / 16 % 4, 0, 0] := by decide +kernel
  funext y
  have y0 : (y 0).val < 1 := (y 0).isLt
  have y1 : (y 1).val < 2 := (y 1).isLt
  have e : (win0_2.blk t).view.emb y = ix4 (pb t) ⟨2 * (pg t).val + (y 1).val, by have := (pg t).isLt; omega⟩ (y 2) (y 3) := by
    unfold pb pg; blk_ext [idx t]
  show V m c main_v6 ((win0_2.blk t).view.emb y) = _
  rw [e, entry_kt H]
  pointwise
  refine congrArg (fun x => up (A.k (pb t) (y 3).val x ⟨(y 2).val % 64, by omega⟩)) (Fin.ext ?_)
  show (2 * (pg t).val + (y 1).val) * 2 + (y 2).val / 64 = 4 * (pg t).val + 2 * (y 1).val + (y 2).val / 64
  omega

theorem blk4 (t : Fin grid0.N) : iblk m c 4 t = fun i => up (A.T (pb t) (hd (pg t) (i 1)) (256 * pq t + (i 4).val)) := by
  have idx : ∀ t : Fin grid0.N, win0_4.index t = ![t.val / 64, t.val / 16 % 4, t.val % 16, 0, 0] := by decide +kernel
  funext y
  have y0 : (y 0).val < 1 := (y 0).isLt
  have y1 : (y 1).val < 4 := (y 1).isLt
  have y2 : (y 2).val < 1 := (y 2).isLt
  have e : (win0_4.blk t).view.emb y = ix5 (pb t) (hd (pg t) (y 1)) ⟨pq t, Nat.mod_lt _ (by omega)⟩ (y 3) (y 4) := by
    unfold pb pg hd pq; blk_ext [idx t]
  show V m c main_v22 ((win0_4.blk t).view.emb y) = _
  rw [e, entry_t H]
  rfl

omit H in
theorem blk5 (t : Fin grid0.N) : iblk m c 5 t = fun _ => (0 : EReal) := by
  funext y
  show V m c main_v23 ((win0_5.blk t).view.emb y) = _
  rw [entry_low]

end Cert.Proof.Attn
end
-- ==== Proof.Attn.BodyDq.lean ====
module

public import proofs.«01_k».proof.Proof.Attn.BodyEq

@[expose] public section

set_option maxRecDepth 16384

noncomputable section

namespace Cert.Proof.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] loopN inMid

variable (c : Dev nD) (i : grid0.Coords)
  (a3 : Memref sig .tc .vmem S256x256 .bf16) (h3 : a3.IsWhole)
  (a4 : Memref sig .tc .vmem S4096x256 .bf16) (h4 : a4.IsWhole)
  (a5 : Memref sig .tc .vmem S1x2x128x4096 .bf16) (h5 : a5.IsWhole)
  (a6 : Memref sig .tc .vmem S4096x256 .bf16) (h6 : a6.IsWhole)
  (a7 : Memref sig .tc .vmem S1x4x1x8x256 .f32) (h7 : a7.IsWhole)
  (a8 : Memref sig .tc .smem S8x16 .f32) (h8 : a8.IsWhole)
  (a9 : Memref sig .tc .vmem S256x256 .f32) (h9 : a9.IsWhole)
  (a10 : Memref sig .tc .vmem S256x256 .f32) (h10 : a10.IsWhole)
  (a11 : Memref sig .tc .vmem S4096x256 .f32) (h11 : a11.IsWhole)
  (a12 : Memref sig .tc .vmem S4096x256 .bf16) (h12 : a12.IsWhole)
  (a13 : Memref sig .tc .vmem S4096x256 .f32) (h13 : a13.IsWhole)
  (X3 : Vec F S256x256 .bf16) (K V : Vec F S4096x256 .bf16) (KT : Vec F S1x2x128x4096 .bf16)
  (X7 : Vec F S1x4x1x8x256 .f32) (X8 : Vec F S8x16 .f32) (X9 : Vec F S256x256 .f32)

set_option maxHeartbeats 4000000 in
theorem body_dq (dk0 dv0 : Vec F S4096x256 .f32) :
    (bodyRun c i a3 h3 a4 h4 a5 h5 a6 h6 a7 h7 a8 h8 a9 h9 a10 h10 a11 h11 a12 h12 a13 h13 X3 K V KT X7 X8 X9 dk0 dv0).1
      = dqOf (lastSt c i a3 h3 a4 h4 a5 h5 a6 h6 a7 h7 a8 h8 a9 h9 a11 h11 a13 h13 X3 K V KT X7 X8 X9 dk0 dv0).h := by
  have e0 : bodyRun.sl.r_115 c i a3 h3 a4 h4 a5 h5 a6 h6 a7 h7 a8 h8 a9 h9 a11 h11 a13 h13 X3 K V KT X7 X8 X9 dk0 dv0 = ((lastSt c i a3 h3 a4 h4 a5 h5 a6 h6 a7 h7 a8 h8 a9 h9 a11 h11 a13 h13 X3 K V KT X7 X8 X9 dk0 dv0).h 0).d := rfl
  have e1 : bodyRun.sl.r_116 c i a3 h3 a4 h4 a5 h5 a6 h6 a7 h7 a8 h8 a9 h9 a11 h11 a13 h13 X3 K V KT X7 X8 X9 dk0 dv0 = ((lastSt c i a3 h3 a4 h4 a5 h5 a6 h6 a7 h7 a8 h8 a9 h9 a11 h11 a13 h13 X3 K V KT X7 X8 X9 dk0 dv0).h 1).d := rfl
  have e2 : bodyRun.sl.r_108 c i a3 h3 a4 h4 a5 h5 a6 h6 a7 h7 a8 h8 a9 h9 a11 h11 a13 h13 X3 K V KT X7 X8 X9 dk0 dv0 = ((prevSt c i a3 h3 a4 h4 a5 h5 a6 h6 a7 h7 a8 h8 a9 h9 a11 h11 a13 h13 X3 K V KT X7 X8 X9 dk0 dv0).h 2).d := rfl
  have e3 : bodyRun.sl.r_109 c i a3 h3 a4 h4 a5 h5 a6 h6 a7 h7 a8 h8 a9 h9 a11 h11 a13 h13 X3 K V KT X7 X8 X9 dk0 dv0 = ((prevSt c i a3 h3 a4 h4 a5 h5 a6 h6 a7 h7 a8 h8 a9 h9 a11 h11 a13 h13 X3 K V KT X7 X8 X9 dk0 dv0).h 3).d := rfl
  have e4 : bodyRun.sl.r_112 c i a3 h3 a4 h4 a5 h5 a6 h6 a7 h7 a8 h8 a9 h9 a11 h11 a13 h13 X3 K V KT X7 X8 X9 dk0 dv0
    = (ownIn i a3 h3 a4 h4 a6 h6 a7 h7 a9 h9 X3 K V X7 X9 2).dz (some k0_pay8) ((prevSt c i a3 h3 a4 h4 a5 h5 a6 h6 a7 h7 a8 h8 a9 h9 a11 h11 a13 h13 X3 K V KT X7 X8 X9 dk0 dv0).h 2) := rfl
  have e5 : bodyRun.sl.r_113 c i a3 h3 a4 h4 a5 h5 a6 h6 a7 h7 a8 h8 a9 h9 a11 h11 a13 h13 X3 K V KT X7 X8 X9 dk0 dv0
    = (ownIn i a3 h3 a4 h4 a6 h6 a7 h7 a9 h9 X3 K V X7 X9 3).dz (some k0_pay8) ((prevSt c i a3 h3 a4 h4 a5 h5 a6 h6 a7 h7 a8 h8 a9 h9 a11 h11 a13 h13 X3 K V KT X7 X8 X9 dk0 dv0).h 3) := rfl
  unfold bodyRun
  dsimp only
  rw [e0, e1, e2, e3, e4, e5]
  rfl

end Cert.Proof.Attn

end
-- ==== Proof.Attn.BodyDk.lean ====
module

public import proofs.«01_k».proof.Proof.Attn.BodyEq

@[expose] public section

set_option maxRecDepth 16384

noncomputable section

namespace Cert.Proof.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] loopN inMid

variable (c : Dev nD) (i : grid0.Coords)
  (a3 : Memref sig .tc .vmem S256x256 .bf16) (h3 : a3.IsWhole)
  (a4 : Memref sig .tc .vmem S4096x256 .bf16) (h4 : a4.IsWhole)
  (a5 : Memref sig .tc .vmem S1x2x128x4096 .bf16) (h5 : a5.IsWhole)
  (a6 : Memref sig .tc .vmem S4096x256 .bf16) (h6 : a6.IsWhole)
  (a7 : Memref sig .tc .vmem S1x4x1x8x256 .f32) (h7 : a7.IsWhole)
  (a8 : Memref sig .tc .smem S8x16 .f32) (h8 : a8.IsWhole)
  (a9 : Memref sig .tc .vmem S256x256 .f32) (h9 : a9.IsWhole)
  (a10 : Memref sig .tc .vmem S256x256 .f32) (h10 : a10.IsWhole)
  (a11 : Memref sig .tc .vmem S4096x256 .f32) (h11 : a11.IsWhole)
  (a12 : Memref sig .tc .vmem S4096x256 .bf16) (h12 : a12.IsWhole)
  (a13 : Memref sig .tc .vmem S4096x256 .f32) (h13 : a13.IsWhole)
  (X3 : Vec F S256x256 .bf16) (K V : Vec F S4096x256 .bf16) (KT : Vec F S1x2x128x4096 .bf16)
  (X7 : Vec F S1x4x1x8x256 .f32) (X8 : Vec F S8x16 .f32) (X9 : Vec F S256x256 .f32)

set_option maxHeartbeats 4000000 in
/-- The gradient of head 0's scores at the predecessor's block. -/
theorem prev_dz0 (dk0 dv0 : Vec F S4096x256 .f32) :
    (bodyRun.sl.r_95 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off12 i) S256x256.size (k0_off12_inb i)) (VecWindow.window (a6.view.read (Elt F) (h6.unread V)) (k0_off12 i) S256x256.size (k0_off12_inb i)) 0).dz none (headsOf (mid c i a3 h3 a4 h4 a5 h5 a6 h6 a7 h7 a8 h8 a9 h9 a11 h11 a13 h13 X3 K V KT X7 X8 X9 dk0 dv0).1 0) := rfl

set_option maxHeartbeats 4000000 in
/-- The gradient of head 1's scores at the predecessor's block. -/
theorem prev_dz1 (dk0 dv0 : Vec F S4096x256 .f32) :
    k0_pay96 (bodyRun.sl.r_72 c i a3 h3 a4 h4 a5 h5 a6 h6 a7 h7 a8 h8 a9 h9 a11 h11 a13 h13 X3 K V KT X7 X8 X9 dk0 dv0) (bodyRun.sl.r_96 c i a3 h3 a4 h4 X3 K) (bodyRun.sl.r_97 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off12 i) S256x256.size (k0_off12_inb i)) (VecWindow.window (a6.view.read (Elt F) (h6.unread V)) (k0_off12 i) S256x256.size (k0_off12_inb i)) 1).dz none (headsOf (mid c i a3 h3 a4 h4 a5 h5 a6 h6 a7 h7 a8 h8 a9 h9 a11 h11 a13 h13 X3 K V KT X7 X8 X9 dk0 dv0).1 1) := rfl

set_option maxHeartbeats 4000000 in
/-- The gradient of head 2's scores at the predecessor's block. -/
theorem prev_dz2 (dk0 dv0 : Vec F S4096x256 .f32) :
    k0_pay97 (bodyRun.sl.r_18 c i a3 h3 a4 h4 a5 h5 a6 h6 a7 h7 a8 h8 a9 h9 a11 h11 a13 h13 X3 K V KT X7 X8 X9 dk0 dv0) (bodyRun.sl.r_26 c i a3 h3 a4 h4 X3 K) (bodyRun.sl.r_44 c i a3 h3 a4 h4 X3 K) (bodyRun.sl.r_73 c i a3 h3 a4 h4 a5 h5 a6 h6 a7 h7 a8 h8 a9 h9 a11 h11 a13 h13 X3 K V KT X7 X8 X9 dk0 dv0) (bodyRun.sl.r_77 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off12 i) S256x256.size (k0_off12_inb i)) (VecWindow.window (a6.view.read (Elt F) (h6.unread V)) (k0_off12 i) S256x256.size (k0_off12_inb i)) 2).dz none (headsOf (mid c i a3 h3 a4 h4 a5 h5 a6 h6 a7 h7 a8 h8 a9 h9 a11 h11 a13 h13 X3 K V KT X7 X8 X9 dk0 dv0).1 2) := rfl

set_option maxHeartbeats 4000000 in
/-- The gradient of head 3's scores at the predecessor's block. -/
theorem prev_dz3 (dk0 dv0 : Vec F S4096x256 .f32) :
    k0_pay98 (bodyRun.sl.r_19 c i a3 h3 a4 h4 a5 h5 a6 h6 a7 h7 a8 h8 a9 h9 a11 h11 a13 h13 X3 K V KT X7 X8 X9 dk0 dv0) (bodyRun.sl.r_27 c i a3 h3 a4 h4 X3 K) (bodyRun.sl.r_47 c i a3 h3 a4 h4 X3 K) (bodyRun.sl.r_74 c i a3 h3 a4 h4 a5 h5 a6 h6 a7 h7 a8 h8 a9 h9 a11 h11 a13 h13 X3 K V KT X7 X8 X9 dk0 dv0) (bodyRun.sl.r_78 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off12 i) S256x256.size (k0_off12_inb i)) (VecWindow.window (a6.view.read (Elt F) (h6.unread V)) (k0_off12 i) S256x256.size (k0_off12_inb i)) 3).dz none (headsOf (mid c i a3 h3 a4 h4 a5 h5 a6 h6 a7 h7 a8 h8 a9 h9 a11 h11 a13 h13 X3 K V KT X7 X8 X9 dk0 dv0).1 3) := rfl

set_option maxHeartbeats 4000000 in
/-- The gradient of head 0's scores at the own block. -/
theorem own_dz0 (dk0 dv0 : Vec F S4096x256 .f32) :
    (bodyRun.sl.r_110 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off13 i) S256x256.size (k0_off13_inb i)) (VecWindow.window (a6.view.read (Elt F) (h6.unread V)) (k0_off13 i) S256x256.size (k0_off13_inb i)) 0).dz (some k0_pay8) ((prevSt c i a3 h3 a4 h4 a5 h5 a6 h6 a7 h7 a8 h8 a9 h9 a11 h11 a13 h13 X3 K V KT X7 X8 X9 dk0 dv0).h 0) := rfl

set_option maxHeartbeats 4000000 in
/-- The gradient of head 1's scores at the own block. -/
theorem own_dz1 (dk0 dv0 : Vec F S4096x256 .f32) :
    (bodyRun.sl.r_111 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off13 i) S256x256.size (k0_off13_inb i)) (VecWindow.window (a6.view.read (Elt F) (h6.unread V)) (k0_off13 i) S256x256.size (k0_off13_inb i)) 1).dz (some k0_pay8) ((prevSt c i a3 h3 a4 h4 a5 h5 a6 h6 a7 h7 a8 h8 a9 h9 a11 h11 a13 h13 X3 K V KT X7 X8 X9 dk0 dv0).h 1) := rfl

set_option maxHeartbeats 4000000 in
/-- The gradient of head 2's scores at the own block. -/
theorem own_dz2 (dk0 dv0 : Vec F S4096x256 .f32) :
    (bodyRun.sl.r_112 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off13 i) S256x256.size (k0_off13_inb i)) (VecWindow.window (a6.view.read (Elt F) (h6.unread V)) (k0_off13 i) S256x256.size (k0_off13_inb i)) 2).dz (some k0_pay8) ((prevSt c i a3 h3 a4 h4 a5 h5 a6 h6 a7 h7 a8 h8 a9 h9 a11 h11 a13 h13 X3 K V KT X7 X8 X9 dk0 dv0).h 2) := rfl

set_option maxHeartbeats 4000000 in
/-- The gradient of head 3's scores at the own block. -/
theorem own_dz3 (dk0 dv0 : Vec F S4096x256 .f32) :
    (bodyRun.sl.r_113 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off13 i) S256x256.size (k0_off13_inb i)) (VecWindow.window (a6.view.read (Elt F) (h6.unread V)) (k0_off13 i) S256x256.size (k0_off13_inb i)) 3).dz (some k0_pay8) ((prevSt c i a3 h3 a4 h4 a5 h5 a6 h6 a7 h7 a8 h8 a9 h9 a11 h11 a13 h13 X3 K V KT X7 X8 X9 dk0 dv0).h 3) := rfl

set_option maxHeartbeats 4000000 in
/-- The keys' gradient after the predecessor's block. -/
theorem prev_dk (dk0 dv0 : Vec F S4096x256 .f32) :
    a11.view.read (Elt F) (a11.view.writes (Elt F) (h11.unread (mid c i a3 h3 a4 h4 a5 h5 a6 h6 a7 h7 a8 h8 a9 h9 a11 h11 a13 h13 X3 K V KT X7 X8 X9 dk0 dv0).2.1) (bodyRun.sl.H11_1 c i a3 h3 a4 h4 a5 h5 a6 h6 a7 h7 a8 h8 a9 h9 a11 h11 a13 h13 X3 K V KT X7 X8 X9 dk0 dv0))
      = (blkStep none (some (hasPrev i)) (conOf a3 h3 a7 h7 a9 h9 X3 X7 X9) (a4.view.read (Elt F) (h4.unread K)) (a6.view.read (Elt F) (h6.unread V)) (a5.view.read (Elt F) (h5.unread KT)) (k0_off12 i) (k0_off12_inb i) (offP i) (offP_inb i) ⟨headsOf (mid c i a3 h3 a4 h4 a5 h5 a6 h6 a7 h7 a8 h8 a9 h9 a11 h11 a13 h13 X3 K V KT X7 X8 X9 dk0 dv0).1, a11.view.read (Elt F) (h11.unread (mid c i a3 h3 a4 h4 a5 h5 a6 h6 a7 h7 a8 h8 a9 h9 a11 h11 a13 h13 X3 K V KT X7 X8 X9 dk0 dv0).2.1), (mid c i a3 h3 a4 h4 a5 h5 a6 h6 a7 h7 a8 h8 a9 h9 a11 h11 a13 h13 X3 K V KT X7 X8 X9 dk0 dv0).2.2⟩).dk := by
  unfold bodyRun.sl.H11_1
  rw [View.read_writes_cons_put _ _ _ _ _ rfl]
  unfold k0_pay103
  dsimp only
  rw [prev_dz0 c i a3 h3 a4 h4 a5 h5 a6 h6 a7 h7 a8 h8 a9 h9 a11 h11 a13 h13 X3 K V KT X7 X8 X9 dk0 dv0, prev_dz1 c i a3 h3 a4 h4 a5 h5 a6 h6 a7 h7 a8 h8 a9 h9 a11 h11 a13 h13 X3 K V KT X7 X8 X9 dk0 dv0, prev_dz2 c i a3 h3 a4 h4 a5 h5 a6 h6 a7 h7 a8 h8 a9 h9 a11 h11 a13 h13 X3 K V KT X7 X8 X9 dk0 dv0, prev_dz3 c i a3 h3 a4 h4 a5 h5 a6 h6 a7 h7 a8 h8 a9 h9 a11 h11 a13 h13 X3 K V KT X7 X8 X9 dk0 dv0]
  rfl

set_option maxHeartbeats 4000000 in
/-- The keys' gradient after both blocks. -/
theorem body_dk (dk0 dv0 : Vec F S4096x256 .f32) :
    (bodyRun c i a3 h3 a4 h4 a5 h5 a6 h6 a7 h7 a8 h8 a9 h9 a10 h10 a11 h11 a12 h12 a13 h13 X3 K V KT X7 X8 X9 dk0 dv0).2.1
      = (lastStep i (a4.view.read (Elt F) (h4.unread K)) (a6.view.read (Elt F) (h6.unread V)) (a5.view.read (Elt F) (h5.unread KT))
          (conOf a3 h3 a7 h7 a9 h9 X3 X7 X9) ⟨headsOf (mid c i a3 h3 a4 h4 a5 h5 a6 h6 a7 h7 a8 h8 a9 h9 a11 h11 a13 h13 X3 K V KT X7 X8 X9 dk0 dv0).1, a11.view.read (Elt F) (h11.unread (mid c i a3 h3 a4 h4 a5 h5 a6 h6 a7 h7 a8 h8 a9 h9 a11 h11 a13 h13 X3 K V KT X7 X8 X9 dk0 dv0).2.1), (mid c i a3 h3 a4 h4 a5 h5 a6 h6 a7 h7 a8 h8 a9 h9 a11 h11 a13 h13 X3 K V KT X7 X8 X9 dk0 dv0).2.2⟩).dk := by
  unfold bodyRun
  dsimp only
  unfold bodyRun.sl.H11_2 bodyRun.sl.r_114 bodyRun.sl.v560
  rw [View.readAt_unit _ _ _ rfl (k0_off13_inb _), View.read_writes_cons_put _ _ _ _ _ rfl, prev_dk c i a3 h3 a4 h4 a5 h5 a6 h6 a7 h7 a8 h8 a9 h9 a11 h11 a13 h13 X3 K V KT X7 X8 X9 dk0 dv0]
  rw [own_dz0 c i a3 h3 a4 h4 a5 h5 a6 h6 a7 h7 a8 h8 a9 h9 a11 h11 a13 h13 X3 K V KT X7 X8 X9 dk0 dv0, own_dz1 c i a3 h3 a4 h4 a5 h5 a6 h6 a7 h7 a8 h8 a9 h9 a11 h11 a13 h13 X3 K V KT X7 X8 X9 dk0 dv0, own_dz2 c i a3 h3 a4 h4 a5 h5 a6 h6 a7 h7 a8 h8 a9 h9 a11 h11 a13 h13 X3 K V KT X7 X8 X9 dk0 dv0, own_dz3 c i a3 h3 a4 h4 a5 h5 a6 h6 a7 h7 a8 h8 a9 h9 a11 h11 a13 h13 X3 K V KT X7 X8 X9 dk0 dv0]
  rfl

end Cert.Proof.Attn

end
-- ==== Proof.Attn.BodyDv.lean ====
module

public import proofs.«01_k».proof.Proof.Attn.BodyEq

@[expose] public section

set_option maxRecDepth 16384

noncomputable section

namespace Cert.Proof.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] loopN inMid

variable (c : Dev nD) (i : grid0.Coords)
  (a3 : Memref sig .tc .vmem S256x256 .bf16) (h3 : a3.IsWhole)
  (a4 : Memref sig .tc .vmem S4096x256 .bf16) (h4 : a4.IsWhole)
  (a5 : Memref sig .tc .vmem S1x2x128x4096 .bf16) (h5 : a5.IsWhole)
  (a6 : Memref sig .tc .vmem S4096x256 .bf16) (h6 : a6.IsWhole)
  (a7 : Memref sig .tc .vmem S1x4x1x8x256 .f32) (h7 : a7.IsWhole)
  (a8 : Memref sig .tc .smem S8x16 .f32) (h8 : a8.IsWhole)
  (a9 : Memref sig .tc .vmem S256x256 .f32) (h9 : a9.IsWhole)
  (a10 : Memref sig .tc .vmem S256x256 .f32) (h10 : a10.IsWhole)
  (a11 : Memref sig .tc .vmem S4096x256 .f32) (h11 : a11.IsWhole)
  (a12 : Memref sig .tc .vmem S4096x256 .bf16) (h12 : a12.IsWhole)
  (a13 : Memref sig .tc .vmem S4096x256 .f32) (h13 : a13.IsWhole)
  (X3 : Vec F S256x256 .bf16) (K V : Vec F S4096x256 .bf16) (KT : Vec F S1x2x128x4096 .bf16)
  (X7 : Vec F S1x4x1x8x256 .f32) (X8 : Vec F S8x16 .f32) (X9 : Vec F S256x256 .f32)

set_option maxHeartbeats 4000000 in
/-- Head 0's weights at the predecessor's block. -/
theorem prev_w0 (dk0 dv0 : Vec F S4096x256 .f32) :
    (bodyRun.sl.r_66 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off12 i) S256x256.size (k0_off12_inb i)) (VecWindow.window (a6.view.read (Elt F) (h6.unread V)) (k0_off12 i) S256x256.size (k0_off12_inb i)) 0).w none (headsOf (mid c i a3 h3 a4 h4 a5 h5 a6 h6 a7 h7 a8 h8 a9 h9 a11 h11 a13 h13 X3 K V KT X7 X8 X9 dk0 dv0).1 0).l := rfl

set_option maxHeartbeats 4000000 in
/-- Head 1's weights at the predecessor's block. -/
theorem prev_w1 (dk0 dv0 : Vec F S4096x256 .f32) :
    (bodyRun.sl.r_68 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off12 i) S256x256.size (k0_off12_inb i)) (VecWindow.window (a6.view.read (Elt F) (h6.unread V)) (k0_off12 i) S256x256.size (k0_off12_inb i)) 1).w none (headsOf (mid c i a3 h3 a4 h4 a5 h5 a6 h6 a7 h7 a8 h8 a9 h9 a11 h11 a13 h13 X3 K V KT X7 X8 X9 dk0 dv0).1 1).l := rfl

set_option maxHeartbeats 4000000 in
/-- Head 2's weights at the predecessor's block. -/
theorem prev_w2 (dk0 dv0 : Vec F S4096x256 .f32) :
    (bodyRun.sl.r_69 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off12 i) S256x256.size (k0_off12_inb i)) (VecWindow.window (a6.view.read (Elt F) (h6.unread V)) (k0_off12 i) S256x256.size (k0_off12_inb i)) 2).w none (headsOf (mid c i a3 h3 a4 h4 a5 h5 a6 h6 a7 h7 a8 h8 a9 h9 a11 h11 a13 h13 X3 K V KT X7 X8 X9 dk0 dv0).1 2).l := rfl

set_option maxHeartbeats 4000000 in
/-- Head 3's weights at the predecessor's block. -/
theorem prev_w3 (dk0 dv0 : Vec F S4096x256 .f32) :
    (bodyRun.sl.r_70 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off12 i) S256x256.size (k0_off12_inb i)) (VecWindow.window (a6.view.read (Elt F) (h6.unread V)) (k0_off12 i) S256x256.size (k0_off12_inb i)) 3).w none (headsOf (mid c i a3 h3 a4 h4 a5 h5 a6 h6 a7 h7 a8 h8 a9 h9 a11 h11 a13 h13 X3 K V KT X7 X8 X9 dk0 dv0).1 3).l := rfl

set_option maxHeartbeats 4000000 in
/-- Head 0's weights at the own block. -/
theorem own_w0 (dk0 dv0 : Vec F S4096x256 .f32) :
    (bodyRun.sl.r_83 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off13 i) S256x256.size (k0_off13_inb i)) (VecWindow.window (a6.view.read (Elt F) (h6.unread V)) (k0_off13 i) S256x256.size (k0_off13_inb i)) 0).w (some k0_pay8) ((prevSt c i a3 h3 a4 h4 a5 h5 a6 h6 a7 h7 a8 h8 a9 h9 a11 h11 a13 h13 X3 K V KT X7 X8 X9 dk0 dv0).h 0).l := rfl

set_option maxHeartbeats 4000000 in
/-- Head 1's weights at the own block. -/
theorem own_w1 (dk0 dv0 : Vec F S4096x256 .f32) :
    (bodyRun.sl.r_84 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off13 i) S256x256.size (k0_off13_inb i)) (VecWindow.window (a6.view.read (Elt F) (h6.unread V)) (k0_off13 i) S256x256.size (k0_off13_inb i)) 1).w (some k0_pay8) ((prevSt c i a3 h3 a4 h4 a5 h5 a6 h6 a7 h7 a8 h8 a9 h9 a11 h11 a13 h13 X3 K V KT X7 X8 X9 dk0 dv0).h 1).l := rfl

set_option maxHeartbeats 4000000 in
/-- Head 2's weights at the own block. -/
theorem own_w2 (dk0 dv0 : Vec F S4096x256 .f32) :
    (bodyRun.sl.r_85 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off13 i) S256x256.size (k0_off13_inb i)) (VecWindow.window (a6.view.read (Elt F) (h6.unread V)) (k0_off13 i) S256x256.size (k0_off13_inb i)) 2).w (some k0_pay8) ((prevSt c i a3 h3 a4 h4 a5 h5 a6 h6 a7 h7 a8 h8 a9 h9 a11 h11 a13 h13 X3 K V KT X7 X8 X9 dk0 dv0).h 2).l := rfl

set_option maxHeartbeats 4000000 in
/-- Head 3's weights at the own block. -/
theorem own_w3 (dk0 dv0 : Vec F S4096x256 .f32) :
    (bodyRun.sl.r_86 c i a3 h3 a4 h4 a5 h5 a6 h6 a7 h7 a8 h8 a9 h9 a11 h11 a13 h13 X3 K V KT X7 X8 X9 dk0 dv0)
      = ((conOf a3 h3 a7 h7 a9 h9 X3 X7 X9).inp (VecWindow.window (a4.view.read (Elt F) (h4.unread K)) (k0_off13 i) S256x256.size (k0_off13_inb i)) (VecWindow.window (a6.view.read (Elt F) (h6.unread V)) (k0_off13 i) S256x256.size (k0_off13_inb i)) 3).w (some k0_pay8) ((prevSt c i a3 h3 a4 h4 a5 h5 a6 h6 a7 h7 a8 h8 a9 h9 a11 h11 a13 h13 X3 K V KT X7 X8 X9 dk0 dv0).h 3).l := rfl

set_option maxHeartbeats 4000000 in
/-- The values' gradient after the predecessor's block. -/
theorem prev_dv (dk0 dv0 : Vec F S4096x256 .f32) :
    a13.view.read (Elt F) (a13.view.writes (Elt F) (h13.unread (mid c i a3 h3 a4 h4 a5 h5 a6 h6 a7 h7 a8 h8 a9 h9 a11 h11 a13 h13 X3 K V KT X7 X8 X9 dk0 dv0).2.2) (bodyRun.sl.H13_1 c i a3 h3 a4 h4 a5 h5 a6 h6 a7 h7 a8 h8 a9 h9 a11 h11 a13 h13 X3 K V KT X7 X8 X9 dk0 dv0))
      = (blkStep none (some (hasPrev i)) (conOf a3 h3 a7 h7 a9 h9 X3 X7 X9) (a4.view.read (Elt F) (h4.unread K)) (a6.view.read (Elt F) (h6.unread V)) (a5.view.read (Elt F) (h5.unread KT)) (k0_off12 i) (k0_off12_inb i) (offP i) (offP_inb i) ⟨headsOf (mid c i a3 h3 a4 h4 a5 h5 a6 h6 a7 h7 a8 h8 a9 h9 a11 h11 a13 h13 X3 K V KT X7 X8 X9 dk0 dv0).1, (mid c i a3 h3 a4 h4 a5 h5 a6 h6 a7 h7 a8 h8 a9 h9 a11 h11 a13 h13 X3 K V KT X7 X8 X9 dk0 dv0).2.1, a13.view.read (Elt F) (h13.unread (mid c i a3 h3 a4 h4 a5 h5 a6 h6 a7 h7 a8 h8 a9 h9 a11 h11 a13 h13 X3 K V KT X7 X8 X9 dk0 dv0).2.2)⟩).dv := by
  unfold bodyRun.sl.H13_1
  rw [View.read_writes_cons_put _ _ _ _ _ rfl]
  rw [prev_w0 c i a3 h3 a4 h4 a5 h5 a6 h6 a7 h7 a8 h8 a9 h9 a11 h11 a13 h13 X3 K V KT X7 X8 X9 dk0 dv0, prev_w1 c i a3 h3 a4 h4 a5 h5 a6 h6 a7 h7 a8 h8 a9 h9 a11 h11 a13 h13 X3 K V KT X7 X8 X9 dk0 dv0, prev_w2 c i a3 h3 a4 h4 a5 h5 a6 h6 a7 h7 a8 h8 a9 h9 a11 h11 a13 h13 X3 K V KT X7 X8 X9 dk0 dv0, prev_w3 c i a3 h3 a4 h4 a5 h5 a6 h6 a7 h7 a8 h8 a9 h9 a11 h11 a13 h13 X3 K V KT X7 X8 X9 dk0 dv0]
  rfl

set_option maxHeartbeats 4000000 in
/-- The values' gradient after both blocks. -/
theorem body_dv (dk0 dv0 : Vec F S4096x256 .f32) :
    (bodyRun c i a3 h3 a4 h4 a5 h5 a6 h6 a7 h7 a8 h8 a9 h9 a10 h10 a11 h11 a12 h12 a13 h13 X3 K V KT X7 X8 X9 dk0 dv0).2.2.1
      = (lastStep i (a4.view.read (Elt F) (h4.unread K)) (a6.view.read (Elt F) (h6.unread V)) (a5.view.read (Elt F) (h5.unread KT))
          (conOf a3 h3 a7 h7 a9 h9 X3 X7 X9) ⟨headsOf (mid c i a3 h3 a4 h4 a5 h5 a6 h6 a7 h7 a8 h8 a9 h9 a11 h11 a13 h13 X3 K V KT X7 X8 X9 dk0 dv0).1, (mid c i a3 h3 a4 h4 a5 h5 a6 h6 a7 h7 a8 h8 a9 h9 a11 h11 a13 h13 X3 K V KT X7 X8 X9 dk0 dv0).2.1, a13.view.read (Elt F) (h13.unread (mid c i a3 h3 a4 h4 a5 h5 a6 h6 a7 h7 a8 h8 a9 h9 a11 h11 a13 h13 X3 K V KT X7 X8 X9 dk0 dv0).2.2)⟩).dv := by
  unfold bodyRun
  dsimp only
  unfold bodyRun.sl.H13_2 bodyRun.sl.v573
  rw [View.readAt_unit _ _ _ rfl (k0_off13_inb _), View.read_writes_cons_put _ _ _ _ _ rfl, prev_dv c i a3 h3 a4 h4 a5 h5 a6 h6 a7 h7 a8 h8 a9 h9 a11 h11 a13 h13 X3 K V KT X7 X8 X9 dk0 dv0]
  rw [own_w0 c i a3 h3 a4 h4 a5 h5 a6 h6 a7 h7 a8 h8 a9 h9 a11 h11 a13 h13 X3 K V KT X7 X8 X9 dk0 dv0, own_w1 c i a3 h3 a4 h4 a5 h5 a6 h6 a7 h7 a8 h8 a9 h9 a11 h11 a13 h13 X3 K V KT X7 X8 X9 dk0 dv0, own_w2 c i a3 h3 a4 h4 a5 h5 a6 h6 a7 h7 a8 h8 a9 h9 a11 h11 a13 h13 X3 K V KT X7 X8 X9 dk0 dv0, own_w3 c i a3 h3 a4 h4 a5 h5 a6 h6 a7 h7 a8 h8 a9 h9 a11 h11 a13 h13 X3 K V KT X7 X8 X9 dk0 dv0]
  rfl

end Cert.Proof.Attn

end
-- ==== Proof.Attn.Whole.lean ====
/- The body of one grid point, from its loop and its last two blocks. -/
module

public import proofs.«01_k».proof.Proof.Attn.BodyDq
public import proofs.«01_k».proof.Proof.Attn.BodyDk
public import proofs.«01_k».proof.Proof.Attn.BodyDv
public import proofs.«01_k».proof.Proof.Attn.Point

@[expose] public section

set_option maxRecDepth 16384

noncomputable section

namespace Cert.Proof.Attn

open Cert.Kernel2Ideal Cert.Kernel2Ideal.Gen Cert.Proof
open Idealize.ShloMosaic Idealize.ShloMosaic.TcCoe Idealize.ShloMosaic.Tactic

attribute [local irreducible] loopN inMid

variable {R : PR} (c : Dev nD) (i : grid0.Coords)
  (a3 : Memref sig .tc .vmem S256x256 .bf16) (h3 : a3.IsWhole)
  (a4 : Memref sig .tc .vmem S4096x256 .bf16) (h4 : a4.IsWhole)
  (a5 : Memref sig .tc .vmem S1x2x128x4096 .bf16) (h5 : a5.IsWhole)
  (a6 : Memref sig .tc .vmem S4096x256 .bf16) (h6 : a6.IsWhole)
  (a7 : Memref sig .tc .vmem S1x4x1x8x256 .f32) (h7 : a7.IsWhole)
  (a8 : Memref sig .tc .smem S8x16 .f32) (h8 : a8.IsWhole)
  (a9 : Memref sig .tc .vmem S256x256 .f32) (h9 : a9.IsWhole)
  (a10 : Memref sig .tc .vmem S256x256 .f32) (h10 : a10.IsWhole)
  (a11 : Memref sig .tc .vmem S4096x256 .f32) (h11 : a11.IsWhole)
  (a12 : Memref sig .tc .vmem S4096x256 .bf16) (h12 : a12.IsWhole)
  (a13 : Memref sig .tc .vmem S4096x256 .f32) (h13 : a13.IsWhole)
  {X3 : Vec Ideal S256x256 .bf16} {K V : Vec Ideal S4096x256 .bf16} {KT : Vec Ideal S1x2x128x4096 .bf16}
  {X7 : Vec Ideal S1x4x1x8x256 .f32} {X8 : Vec Ideal S8x16 .f32} {X9 : Vec Ideal S256x256 .f32}

theorem hdAt_zero (a : Fin 4) : hdAt R 0 a = ⟨k0_pay22, k0_pay22, k0_pay23⟩ := by
  have e1 : k0_pay22 (F := Ideal) = fun _ => (0 : EReal) := by funext i; pointwise [k0_pay22]
  have e2 : k0_pay23 (F := Ideal) = fun _ => (0 : EReal) := by funext i; pointwise [k0_pay23]
  rw [e1, e2]
  unfold hdAt PR.L PR.E PR.D
  simp only [Finset.range_zero, Finset.sum_empty]
  rfl

theorem inMid_eq (D0 V0 : Fin 4096 → Fin 256 → ℝ) (hs : startAt i (lowAt i a8 h8 X8) = 0#32) :
    inMid i a8 h8 X8 (up2 D0) (up2 V0) = stOf (BitVec.ofNat 32 0) (ksAt R D0 V0 0) := by
  unfold inMid stOf ksAt car0 carOf
  rw [hs]
  simp only [hdAt_zero, Nat.not_lt_zero, if_false, add_zero]

variable (hC : Reads R (conOf a3 h3 a7 h7 a9 h9 X3 X7 X9)) (H : Holds R K V KT) (hi : R.qi = (i 2).val)
  (D0 V0 : Fin 4096 → Fin 256 → ℝ) (hs : startAt i (lowAt i a8 h8 X8) = 0#32)
include hC H hi hs

theorem mid_eq : ksOf (mid c i a3 h3 a4 h4 a5 h5 a6 h6 a7 h7 a8 h8 a9 h9 a11 h11 a13 h13 X3 K V KT X7 X8 X9 (up2 D0) (up2 V0))
    = ksAt R D0 V0 (256 * (R.qi - 1)) := by
  have h16 : (i 2).val < 16 := (i 2).isLt
  unfold mid
  rw [inMid_eq (R := R) i a8 h8 D0 V0 hs]
  have h := loop_eq hC H i hi D0 V0 c a4 h4 a6 h6 a11 h11 a13 h13 a5 h5 8 0 (by omega) (by omega)
  rwa [Nat.zero_min, Nat.mul_zero] at h

theorem dq_point : (bodyRun c i a3 h3 a4 h4 a5 h5 a6 h6 a7 h7 a8 h8 a9 h9 a10 h10 a11 h11 a12 h12 a13 h13 X3 K V KT X7 X8 X9 (up2 D0) (up2 V0)).1
    = dqOf (hdAt R (256 * R.qi + 256)) := by
  have h := body_dq c i a3 h3 a4 h4 a5 h5 a6 h6 a7 h7 a8 h8 a9 h9 a10 h10 a11 h11 a12 h12 a13 h13 X3 K V KT X7 X8 X9 (up2 D0) (up2 V0)
  unfold lastSt at h
  rw [h4.read_unread, h6.read_unread, h5.read_unread,
    mid_eq c i a3 h3 a4 h4 a5 h5 a6 h6 a7 h7 a8 h8 a9 h9 a11 h11 a13 h13 hC H hi D0 V0 hs, last_eq hC H i hi D0 V0] at h
  exact h

theorem dk_point : (bodyRun c i a3 h3 a4 h4 a5 h5 a6 h6 a7 h7 a8 h8 a9 h9 a10 h10 a11 h11 a12 h12 a13 h13 X3 K V KT X7 X8 X9 (up2 D0) (up2 V0)).2.1
    = (ksAt R D0 V0 (256 * R.qi + 256)).dk := by
  have h := body_dk c i a3 h3 a4 h4 a5 h5 a6 h6 a7 h7 a8 h8 a9 h9 a10 h10 a11 h11 a12 h12 a13 h13 X3 K V KT X7 X8 X9 (up2 D0) (up2 V0)
  rw [h4.read_unread, h6.read_unread, h5.read_unread, h11.read_unread] at h
  have e := mid_eq c i a3 h3 a4 h4 a5 h5 a6 h6 a7 h7 a8 h8 a9 h9 a11 h11 a13 h13 hC H hi D0 V0 hs
  unfold ksOf at e
  rw [e, last_eq hC H i hi D0 V0] at h
  exact h

theorem dv_point : (bodyRun c i a3 h3 a4 h4 a5 h5 a6 h6 a7 h7 a8 h8 a9 h9 a10 h10 a11 h11 a12 h12 a13 h13 X3 K V KT X7 X8 X9 (up2 D0) (up2 V0)).2.2.1
    = (ksAt R D0 V0 (256 * R.qi + 256)).dv := by
  have h := body_dv c i a3 h3 a4 h4 a5 h5 a6 h6 a7 h7 a8 h8 a9 h9 a10 h10 a11 h11 a12 h12 a13 h13 X3 K V KT X7 X8 X9 (up2 D0) (up2 V0)
  rw [h4.read_unread, h6.read_unread, h5.read_unread, h13.read_unread] at h
  have e := mid_eq c i a3 h3 a4 h4 a5 h5 a6 h6 a7 h7 a8 h8 a9 h9 a11 h11 a13 h13 hC H hi D0 V0 hs
  unfold ksOf at e
  rw [e, last_eq hC H i hi D0 V0] at h
  exact h

/-- The three together, for sums that are known to be real. -/
theorem point_eq (Y Z : Vec Ideal S4096x256 .f32) (hY : Y = up2 D0) (hZ : Z = up2 V0) (n : ℕ) (hn : R.qi = n) :
    ((bodyRun c i a3 h3 a4 h4 a5 h5 a6 h6 a7 h7 a8 h8 a9 h9 a10 h10 a11 h11 a12 h12 a13 h13 X3 K V KT X7 X8 X9 Y Z).1, (bodyRun c i a3 h3 a4 h4 a5 h5 a6 h6 a7 h7 a8 h8 a9 h9 a10 h10 a11 h11 a12 h12 a13 h13 X3 K V KT X7 X8 X9 Y Z).2.1, (bodyRun c i a3 h3 a4 h4 a5 h5 a6 h6 a7 h7 a8 h8 a9 h9 a10 h10 a11 h11 a12 h12 a13 h13 X3 K V KT X7 X8 X9 Y Z).2.2.1)
    = (dqOf (hdAt R (256 * n + 256)), (ksAt R D0 V0 (256 * n + 256)).dk, (ksAt R D0 V0 (256 * n + 256)).dv) := by
  subst hY; subst hZ; subst hn
  exact Prod.ext (dq_point c i a3 h3 a4 h4 a5 h5 a6 h6 a7 h7 a8 h8 a9 h9 a10 h10 a11 h11 a12 h12 a13 h13 hC H hi D0 V0 hs)
    (Prod.ext (dk_point c i a3 h3 a4 h4 a5 h5 a6 h6 a7 h7 a8 h8 a9 h9 a10 h10 a11 h11 a12 h12 a13 h13 hC H hi D0 V0 hs) (dv_point c i a3 h3 a4 h4 a5 h5 a6 h6 a7 h7 a8 h8 a9 h9 a10 h10 a11 h11 a12 h12 a13 h13 hC H hi D0 V0 hs))

end Cert.Proof.Attn
end
-- ==== Proof.Attn.Sums.lean ====
/- What the grid's points leave: each block of queries' gradient, and the sums of the keys' and the values'. -/
module

public import proofs.«01_k».proof.Proof.Attn.Blocks
public import proofs.«01_k».proof.Proof.Attn.Whole

@[expose] public section

set_option maxRecDepth 16384

noncomputable section

namespace Cert.Proof.Attn

open Cert.Kernel2Ideal Cert.Kernel2Ideal.Gen Cert.Proof
open Idealize.ShloMosaic Idealize.ShloMosaic.TcCoe Idealize.ShloMosaic.Tactic

theorem start_zero_aux : ∀ a : Fin 16, Scalar.minsi (Scalar.maxsi (Scalar.subi (BitVec.ofNat 32 a.val) 1#32) 0#32) (Scalar.maxsi 0#32 0#32) = 0#32 := by decide

theorem start_zero (i : grid0.Coords) : startAt i 0#32 = 0#32 := start_zero_aux ⟨(i 2).val, (i 2).isLt⟩

theorem low_zero (i : grid0.Coords) (a8 : Memref sig .tc .smem S8x16 .f32) (h8 : a8.IsWhole) (X8 : Vec Ideal S8x16 .f32)
    (h : X8 = fun _ => (0 : EReal)) : lowAt i a8 h8 X8 = 0#32 := by
  unfold lowAt
  rw [View.readAt_unit _ _ _ rfl (k0_off1_inb i), h8.read_unread, h]
  show BitVec.ofInt 32 (max (-2147483648) (min 2147483647 (if (0 : ℝ) ≤ 0 then ⌊(0 : ℝ)⌋ else ⌈(0 : ℝ)⌉))) = 0#32
  simp

theorem dqOf_eq (h : Fin 4 → Hd Ideal) (f : Fin 4 → Fin 64 → Fin 256 → ℝ) (hf : ∀ a, (h a).d = up2 (f a)) :
    dqOf h = up2 fun τ l => f (la l) (lo l) τ := by
  unfold dqOf
  rw [hf, hf, hf, hf]
  funext i
  pointwise
  have h1 : (i 1).val < 256 := (i 1).isLt
  have key : ∀ (a a' : Fin 4) (d d' : Fin 64), a.val = a'.val → d.val = d'.val → up (f a d (i 0)) = up (f a' d' (i 0)) := by
    intro a a' d d' ha hd
    rw [Fin.ext ha, Fin.ext hd]
  split
  · rename_i h; exact key 0 (la (i 1)) ⟨(i 1).val, h⟩ (lo (i 1)) (by show 0 = (i 1).val / 64; omega) (by show (i 1).val = (i 1).val % 64; omega)
  split
  · rename_i h' h; exact key 1 (la (i 1)) ⟨(i 1).val - 64, h⟩ (lo (i 1)) (by show 1 = (i 1).val / 64; omega) (by show (i 1).val - 64 = (i 1).val % 64; omega)
  split
  · rename_i h'' h' h; exact key 2 (la (i 1)) ⟨(i 1).val - 64 - 64, h⟩ (lo (i 1)) (by show 2 = (i 1).val / 64; omega) (by show (i 1).val - 64 - 64 = (i 1).val % 64; omega)
  · exact key 3 (la (i 1)) ⟨(i 1).val - 64 - 64 - 64, by omega⟩ (lo (i 1)) (by show 3 = (i 1).val / 64; omega) (by show (i 1).val - 64 - 64 - 64 = (i 1).val % 64; omega)

variable {m : (ℓ : Loc nD τ sig) → Buf (Elt Ideal) ℓ} {c : Dev nD} {A : Args} (H : HoldsAt m c A)
include H

/-- The keys' sum once the first `n` queries have been counted, and the values'. -/
def kSum (A : Args) (t : Fin grid0.N) (n : ℕ) (s : Fin 4096) (l : Fin 256) : ℝ := A.dk (pb t) (hd (pg t) (la l)) n s.val (lo l)
def vSum (A : Args) (t : Fin grid0.N) (n : ℕ) (s : Fin 4096) (l : Fin 256) : ℝ := A.dv (pb t) (hd (pg t) (la l)) n s.val (lo l)

omit H in
/-- The point's three values as parts of the whole sums. -/
theorem vals (t : Fin grid0.N) :
    (dqOf (hdAt (A.blk (pb t) (pg t) (pq t)) (256 * pq t + 256)),
      (ksAt (A.blk (pb t) (pg t) (pq t)) (kSum A t (256 * pq t)) (vSum A t (256 * pq t)) (256 * pq t + 256)).dk,
      (ksAt (A.blk (pb t) (pg t) (pq t)) (kSum A t (256 * pq t)) (vSum A t (256 * pq t)) (256 * pq t + 256)).dv)
    = (up2 fun τ l => A.dq (pb t) (hd (pg t) (la l)) 4096 (256 * pq t + τ.val) (lo l),
      up2 (kSum A t (256 * pq t + 256)), up2 (vSum A t (256 * pq t + 256))) := by
  have hq : pq t < 16 := Nat.mod_lt _ (by omega)
  refine Prod.ext ?_ (Prod.ext ?_ ?_)
  · rw [dqOf_eq _ (fun a d τ => A.dq (pb t) (hd (pg t) a) 4096 (256 * pq t + τ.val) d)]
    intro a
    show up2 ((A.blk (pb t) (pg t) (pq t)).D a (256 * pq t + 256)) = _
    funext i
    have h1 : (i 1).val < 256 := (i 1).isLt
    exact congrArg up ((Args.blk_D _ _ _ _ _ _ _ _).trans (Args.dq_past _ _ _ _ _ _ (by omega) (by omega)))
  · funext i
    refine congrArg up ?_
    have h := A.blk_addk (pb t) (pg t) (pq t) (i 0).val (i 1)
    show kSum A t (256 * pq t) (i 0) (i 1) + (if (i 0).val < 256 * pq t + 256 then (A.blk (pb t) (pg t) (pq t)).addk (i 0).val (i 1) else 0) = _
    rw [h]; unfold kSum; ring
  · funext i
    refine congrArg up ?_
    have h := A.blk_addv (pb t) (pg t) (pq t) (i 0).val (i 1)
    show vSum A t (256 * pq t) (i 0) (i 1) + (if (i 0).val < 256 * pq t + 256 then (A.blk (pb t) (pg t) (pq t)).addv (i 0).val (i 1) else 0) = _
    rw [h]; unfold vSum; ring

theorem out_eq (t : Fin grid0.N) (S : Vec Ideal S4096x256 .f32 × Vec Ideal S4096x256 .f32)
    (hk : zeroed (grid0.coords t) S.1 (k0_pay4 (F := Ideal)) = up2 (kSum A t (256 * pq t)))
    (hv : zeroed (grid0.coords t) S.2 (k0_pay5 (F := Ideal)) = up2 (vSum A t (256 * pq t))) :
    outAt m c t S = (up2 fun τ l => A.dq (pb t) (hd (pg t) (la l)) 4096 (256 * pq t + τ.val) (lo l),
      up2 (kSum A t (256 * pq t + 256)), up2 (vSum A t (256 * pq t + 256))) := by
  have hq : pq t < 16 := Nat.mod_lt _ (by omega)
  have hi : (A.blk (pb t) (pg t) (pq t)).qi = (grid0.coords t 2).val := (coord2 (F := Ideal) t).symm
  have hC := reads (mb0 (F := Ideal) t) (hstage0_0 (((cfg0 (F := Ideal)).slots t 0).cast nbuf0_0)) (mb4 (F := Ideal) t) (hstage0_4 (((cfg0 (F := Ideal)).slots t 4).cast nbuf0_4))
    (mb6 (F := Ideal) t) (hstage0_6 (((cfg0 (F := Ideal)).slots t 6).cast nbuf0_6)) A (pb t) (pg t) (pq t) _ _ _ (blk0 H t) (blk4 H t) (blk6 H t)
  have hH := holds A (pb t) (pg t) (pq t) _ _ _ (blk1 H t) (blk3 H t) (blk2 H t)
  have hs : startAt (grid0.coords t) (lowAt (grid0.coords t) (mb5 (F := Ideal) t) (hstage0_5 (((cfg0 (F := Ideal)).slots t 5).cast nbuf0_5)) (iblk m c 5 t)) = 0#32 := by
    rw [low_zero _ _ _ _ (blk5 t)]; exact start_zero _
  have e := point_eq c (grid0.coords t) (mb0 (F := Ideal) t) (hstage0_0 (((cfg0 (F := Ideal)).slots t 0).cast nbuf0_0)) (mb1 (F := Ideal) t) (hstage0_1 (((cfg0 (F := Ideal)).slots t 1).cast nbuf0_1)) (mb2 (F := Ideal) t) (hstage0_2 (((cfg0 (F := Ideal)).slots t 2).cast nbuf0_2))
     (mb3 (F := Ideal) t) (hstage0_3 (((cfg0 (F := Ideal)).slots t 3).cast nbuf0_3)) (mb4 (F := Ideal) t) (hstage0_4 (((cfg0 (F := Ideal)).slots t 4).cast nbuf0_4)) (mb5 (F := Ideal) t) (hstage0_5 (((cfg0 (F := Ideal)).slots t 5).cast nbuf0_5))
     (mb6 (F := Ideal) t) (hstage0_6 (((cfg0 (F := Ideal)).slots t 6).cast nbuf0_6)) (mb7 (F := Ideal) t) (hstage0_7 (((cfg0 (F := Ideal)).slots t 7).cast nbuf0_7)) (mb8 (F := Ideal) t) (hstage0_8 (((cfg0 (F := Ideal)).slots t 8).cast nbuf0_8))
     (mb9 (F := Ideal) t) (hstage0_9 (((cfg0 (F := Ideal)).slots t 9).cast nbuf0_9)) scr (Memref.isWhole_whole _)
    hC hH hi (kSum A t (256 * pq t)) (vSum A t (256 * pq t)) hs _ _ hk hv (pq t) rfl
  rw [vals] at e
  unfold outAt runAt
  with_reducible exact e

omit H in
theorem zero_k : k0_pay4 (F := Ideal) = up2 fun _ _ => 0 := by funext i; pointwise [k0_pay4]; rfl
omit H in
theorem zero_v : k0_pay5 (F := Ideal) = up2 fun _ _ => 0 := by funext i; pointwise [k0_pay5]; rfl

/-- The sums a point starts from. -/
theorem enter (t : Fin grid0.N) : zeroed (grid0.coords t) (sums m c t.val).1 (k0_pay4 (F := Ideal)) = up2 (kSum A t (256 * pq t))
    ∧ zeroed (grid0.coords t) (sums m c t.val).2 (k0_pay5 (F := Ideal)) = up2 (vSum A t (256 * pq t)) := by
  obtain ⟨n, hn⟩ := t
  induction n with
  | zero =>
    have hf : isFirst (grid0.coords ⟨0, hn⟩) := (isFirst_iff (F := Ideal) ⟨0, hn⟩).mpr rfl
    unfold zeroed
    rw [if_pos hf, if_pos hf, zero_k, zero_v]
    constructor <;> rfl
  | succ n ih =>
    have hn' : n < grid0.N := by omega
    by_cases hf : isFirst (grid0.coords ⟨n + 1, hn⟩)
    · have h0 : pq ⟨n + 1, hn⟩ = 0 := (isFirst_iff (F := Ideal) ⟨n + 1, hn⟩).mp hf
      unfold zeroed
      rw [if_pos hf, if_pos hf, zero_k, zero_v, h0]
      constructor <;> rfl
    · have h0 : (n + 1) % 16 ≠ 0 := fun h => hf ((isFirst_iff (F := Ideal) ⟨n + 1, hn⟩).mpr h)
      obtain ⟨hk, hv⟩ := ih hn'
      have e := out_eq H ⟨n, hn'⟩ (sums m c n) hk hv
      have es : sums m c (n + 1) = _ := sums_succ m c ⟨n, hn'⟩
      rw [e] at es
      have eb : pb ⟨n, hn'⟩ = pb ⟨n + 1, hn⟩ := Fin.ext (by simp only [pb]; omega)
      have eg : pg ⟨n, hn'⟩ = pg ⟨n + 1, hn⟩ := Fin.ext (by simp only [pg]; omega)
      have eq : 256 * pq ⟨n, hn'⟩ + 256 = 256 * pq ⟨n + 1, hn⟩ := by show 256 * (n % 16) + 256 = 256 * ((n + 1) % 16); omega
      unfold zeroed
      rw [if_neg hf, if_neg hf]
      show (sums m c (n + 1)).1 = _ ∧ (sums m c (n + 1)).2 = _
      rw [es]
      unfold kSum vSum
      rw [eb, eg, eq]
      constructor <;> rfl

/-- What the point leaves. -/
theorem left (t : Fin grid0.N) : outAt m c t (sums m c t.val)
    = (up2 fun τ l => A.dq (pb t) (hd (pg t) (la l)) 4096 (256 * pq t + τ.val) (lo l),
      up2 (kSum A t (256 * pq t + 256)), up2 (vSum A t (256 * pq t + 256))) :=
  out_eq H t _ (enter H t).1 (enter H t).2

end Cert.Proof.Attn
end
-- ==== Proof.Attn.Arrays.lean ====
/- The arrays `_attn_bwd` leaves. -/
module

public import proofs.«01_k».proof.Proof.Attn.Sums
public import Idealize.ShloMosaic.Lib.Pipeline.ValueKit.Geometry

@[expose] public section

set_option maxRecDepth 16384

noncomputable section

namespace Cert.Proof.Attn

open Cert.Kernel2Ideal Cert.Kernel2Ideal.Gen Cert.Proof
open Idealize.ShloMosaic Idealize.ShloMosaic.TcCoe Idealize.ShloMosaic.Tactic

variable {m : (ℓ : Loc nD τ sig) → Buf (Elt Ideal) ℓ} {c : Dev nD} {A : Args} (H : HoldsAt m c A)
include H

/-- The sums after a point. -/
theorem sums_after (t : Fin grid0.N) :
    sums m c (t.val + 1) = (up2 (kSum A t (256 * pq t + 256)), up2 (vSum A t (256 * pq t + 256))) := by
  have es : sums m c (t.val + 1) = _ := sums_succ m c t
  rw [left H t] at es
  exact es

theorem arr7 : (dats m 0 c).arrAt 7 (cfg0 (F := Ideal)).N = flat fun b s h d => A.dq b h 4096 s d := by
  refine (dats m 0 c).arrAt_eq_of_covers 7 _ (by decide +kernel) fun t hf y => ?_
  have idx : ∀ t : Fin grid0.N, win0_7.index t = ![16 * (t.val / 64) + t.val % 16, t.val / 16 % 4] := by decide +kernel
  have e : (win0_7.blk t).view.emb y = ix2 (qrow t (y 0)) (lane t (y 1)) := by unfold qrow lane pb pg pq; blk_ext [idx t]
  blk_simp [idx t]
  rw [after7, left H t, e]
  exact (flat_qrow (fun b s h d => A.dq b h 4096 s d) t (y 0) (y 1)).symm

theorem arr8 : (dats m 0 c).arrAt 8 (cfg0 (F := Ideal)).N = flat fun b s h d => A.dk b h 4096 s d := by
  refine (dats m 0 c).arrAt_eq_of_covers 8 _ (by decide +kernel) fun t hf y => ?_
  have idx : ∀ t : Fin grid0.N, win0_8.index t = ![t.val / 64, t.val / 16 % 4] := by decide +kernel
  have fl : ∀ t : Fin grid0.N, win0_8.flush t = true → t.val % 16 = 15 := by decide +kernel
  have e : (win0_8.blk t).view.emb y = ix2 (srow t (y 0)) (lane t (y 1)) := by unfold srow lane pb pg; blk_ext [idx t]
  have hq : 256 * pq t + 256 = 4096 := by have := fl t hf; show 256 * (t.val % 16) + 256 = 4096; omega
  have hs := sums_after H t
  rw [hq] at hs
  blk_simp [idx t]
  rw [after8, hs, e]
  exact (flat_srow (fun b s h d => A.dk b h 4096 s d) t (y 0) (y 1)).symm

theorem arr9 : (dats m 0 c).arrAt 9 (cfg0 (F := Ideal)).N = flat fun b s h d => A.dv b h 4096 s d := by
  refine (dats m 0 c).arrAt_eq_of_covers 9 _ (by decide +kernel) fun t hf y => ?_
  have idx : ∀ t : Fin grid0.N, win0_9.index t = ![t.val / 64, t.val / 16 % 4] := by decide +kernel
  have fl : ∀ t : Fin grid0.N, win0_9.flush t = true → t.val % 16 = 15 := by decide +kernel
  have e : (win0_9.blk t).view.emb y = ix2 (srow t (y 0)) (lane t (y 1)) := by unfold srow lane pb pg; blk_ext [idx t]
  have hq : 256 * pq t + 256 = 4096 := by have := fl t hf; show 256 * (t.val % 16) + 256 = 4096; omega
  have hs := sums_after H t
  rw [hq] at hs
  blk_simp [idx t]
  rw [after9, hs, e]
  exact (flat_srow (fun b s h d => A.dv b h 4096 s d) t (y 0) (y 1)).symm

end Cert.Proof.Attn
end
-- ==== Proof.Attn.Window.lean ====
/- Running sums along the last axis, as the host writes them: a window of the axis's whole length, padded on one side. -/
module

public import proofs.«01_k».proof.Proof.Attn.Entry

@[expose] public section

set_option maxRecDepth 16384

noncomputable section

namespace Cert.Proof.Attn

open Cert.Proof Finset
open Idealize.ShloMosaic Idealize.ShloMosaic.TcCoe

abbrev SW : Shape := ⟨4, ![1, 1, 1, 4096]⟩
abbrev SX : Shape := ⟨4, ![2, 16, 4096, 4096]⟩

theorem foldl_sum {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window's positions are those of its last axis. -/
def winEquiv : SW.Idx ≃ Fin 4096 where
  toFun j := j 3
  invFun r := ix4 0 0 0 r
  left_inv j := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv r := rfl

theorem fold_sum {W : Shape} (g : W.Idx → EReal) (v : EReal) :
    (List.finRange W.numel).foldl (fun r n => r + g (W.rowMajor.symm n)) v = v + ∑ w : W.Idx, g w := by
  rw [foldl_sum (fun n => g (W.rowMajor.symm n)), ← Fin.sum_univ_def, Equiv.sum_comp W.rowMajor.symm g]

theorem window_sum (g : SW.Idx → EReal) : ∑ w : SW.Idx, g w = ∑ r : Fin 4096, g (ix4 0 0 0 r) :=
  Fintype.sum_equiv winEquiv _ _ fun j => congrArg g (winEquiv.left_inv j).symm

/-- A host's window sum at an entry. -/
theorem window_at {n : ℕ} {size : Fin n → ℕ} (window strides lo hi : Fin n → ℕ) (x : (⟨n, size⟩ : Shape).Idx → EReal)
    (init : (⟨0, ![]⟩ : Shape).Idx → EReal) (h : (⟨n, size⟩ : Shape).ReduceWindows window strides lo hi ⟨n, size⟩)
    (hu : 0 < (⟨0, ![]⟩ : Shape).numel) (j : (⟨n, size⟩ : Shape).Idx) :
    Host.reduceWindowAdd (F := Ideal) (φ := .f32) window strides lo hi x init h hu j
      = init (Shape.Idx.first hu) + ∑ w : (⟨n, window⟩ : Shape).Idx,
        if hin : ∀ a : Fin n, lo a ≤ (j a).val * strides a + (w a).val ∧ (j a).val * strides a + (w a).val - lo a < size a
        then x (fun a => ⟨(j a).val * strides a + (w a).val - lo a, (hin a).2⟩) else init (Shape.Idx.first hu) := by
  show Ideal.hostReduceWindowAdd window strides lo hi h x _ j = _
  unfold Ideal.hostReduceWindowAdd Host.reduceWindow
  refine Eq.trans ?_ (fold_sum (W := ⟨n, window⟩) (fun w =>
    if hin : ∀ a : Fin n, lo a ≤ (j a).val * strides a + (w a).val ∧ (j a).val * strides a + (w a).val - lo a < size a
    then x (fun a => ⟨(j a).val * strides a + (w a).val - lo a, (hin a).2⟩) else init (Shape.Idx.first hu)) _)
  refine congrArg (fun g => List.foldl g _ _) (funext fun r => funext fun k => congrArg (r + ·) ?_)
  by_cases hin : ∀ a : Fin n, lo a ≤ (j a).val * strides a + ((⟨n, window⟩ : Shape).rowMajor.symm k a).val
      ∧ (j a).val * strides a + ((⟨n, window⟩ : Shape).rowMajor.symm k a).val - lo a < size a
  · refine (dif_pos hin).trans ?_; rw [dif_pos hin]; rfl
  · refine (dif_neg hin).trans ?_; rw [dif_neg hin]

/-- A window sum along the last axis at an entry. -/
theorem windowAt (lo hi : Fin 4 → ℕ) (x : SX.Idx → EReal) (init : (⟨0, ![]⟩ : Shape).Idx → EReal)
    (hw : SX.ReduceWindows ![1, 1, 1, 4096] ![1, 1, 1, 1] lo hi SX) (hu : 0 < (⟨0, ![]⟩ : Shape).numel) (i : SX.Idx) :
    Host.reduceWindowAdd (F := Ideal) (φ := .f32) ![1, 1, 1, 4096] ![1, 1, 1, 1] lo hi x init hw hu i
      = init (Shape.Idx.first hu) + ∑ r : Fin 4096, if hin : ∀ a : Fin 4, lo a ≤ (i a).val * (![1, 1, 1, 1] : Fin 4 → ℕ) a + ((ix4 0 0 0 r : SW.Idx) a).val
          ∧ (i a).val * (![1, 1, 1, 1] : Fin 4 → ℕ) a + ((ix4 0 0 0 r : SW.Idx) a).val - lo a < (![2, 16, 4096, 4096] : Fin 4 → ℕ) a
        then x (fun a => ⟨(i a).val * (![1, 1, 1, 1] : Fin 4 → ℕ) a + ((ix4 0 0 0 r : SW.Idx) a).val - lo a, (hin a).2⟩) else init (Shape.Idx.first hu) := by
  rw [window_at, window_sum]

theorem sum_from (F : ℕ → ℝ) (s : ℕ) : ∑ r : Fin 4096, (if s + r.val < 4096 then F (s + r.val) else 0) = ∑ r ∈ Ico s 4096, F r := by
  rw [Fin.sum_univ_eq_sum_range (fun r => if s + r < 4096 then F (s + r) else 0) 4096, sum_Ico_eq_sum_range]
  refine (sum_subset_zero_on_sdiff (range_mono (by omega)) (fun r hr => ?_) fun r hr => ?_).symm
  · rw [mem_sdiff, mem_range, mem_range] at hr
    exact if_neg (by omega)
  · rw [mem_range] at hr
    exact (if_pos (by omega)).symm

theorem sum_upto (F : ℕ → ℝ) (s : ℕ) (hs : s < 4096) :
    ∑ r : Fin 4096, (if 4095 ≤ s + r.val then F (s + r.val - 4095) else 0) = ∑ r ∈ range (s + 1), F r := by
  rw [Fin.sum_univ_eq_sum_range (fun r => if 4095 ≤ s + r then F (s + r - 4095) else 0) 4096, ← sum_filter]
  refine sum_nbij' (fun r => s + r - 4095) (fun r => r + 4095 - s) ?_ ?_ ?_ ?_ ?_
  · intro r hr; simp only [mem_filter, mem_range] at hr ⊢; omega
  · intro r hr; simp only [mem_filter, mem_range] at hr ⊢; omega
  · intro r hr; simp only [mem_filter, mem_range] at hr ⊢; omega
  · intro r hr; simp only [mem_filter, mem_range] at hr ⊢; omega
  · intro r hr; rfl

/-- The sum over this and later positions. -/
theorem window_from (f : Fin 2 → Fin 16 → ℕ → ℕ → ℝ) (init : (⟨0, ![]⟩ : Shape).Idx → EReal) (h0 : ∀ i, init i = 0)
    (hw : SX.ReduceWindows ![1, 1, 1, 4096] ![1, 1, 1, 1] ![0, 0, 0, 0] ![0, 0, 0, 4095] SX) (hu : 0 < (⟨0, ![]⟩ : Shape).numel) :
    Host.reduceWindowAdd (F := Ideal) (φ := .f32) ![1, 1, 1, 4096] ![1, 1, 1, 1] ![0, 0, 0, 0] ![0, 0, 0, 4095] (up4s f) init hw hu
      = up4s fun b h t s => ∑ r ∈ Ico s 4096, f b h t r := by
  funext i
  have h3 : (i 3).val < 4096 := (i 3).isLt
  rw [windowAt]
  rw [h0, zero_add]
  refine Eq.trans ?_ (congrArg up (sum_from (f (i 0) (i 1) (i 2).val) (i 3).val))
  rw [← up_sum]
  refine sum_congr rfl fun r _ => ?_
  split
  · rename_i hin
    have h := (hin 3).2
    change (i 3).val * 1 + r.val - 0 < 4096 at h
    rw [if_pos (by omega)]
    refine congrArg up ?_
    have e0 : (⟨(i 0).val * 1 + 0 - 0, (hin 0).2⟩ : Fin 2) = i 0 := Fin.ext (by show (i 0).val * 1 + 0 - 0 = (i 0).val; omega)
    have e1 : (⟨(i 1).val * 1 + 0 - 0, (hin 1).2⟩ : Fin 16) = i 1 := Fin.ext (by show (i 1).val * 1 + 0 - 0 = (i 1).val; omega)
    show f ⟨(i 0).val * 1 + 0 - 0, _⟩ ⟨(i 1).val * 1 + 0 - 0, _⟩ ((i 2).val * 1 + 0 - 0) ((i 3).val * 1 + r.val - 0) = f (i 0) (i 1) (i 2).val ((i 3).val + r.val)
    rw [e0, e1]
    simp only [mul_one, add_zero, tsub_zero]
  · rename_i hin
    rw [if_neg fun h => hin fun a => ?_]
    · rfl
    · have i0 : (i 0).val < 2 := (i 0).isLt
      have i1 : (i 1).val < 16 := (i 1).isLt
      have i2 : (i 2).val < 4096 := (i 2).isLt
      match a with
      | ⟨0, _⟩ => show 0 ≤ (i 0).val * 1 + 0 ∧ (i 0).val * 1 + 0 - 0 < 2; omega
      | ⟨1, _⟩ => show 0 ≤ (i 1).val * 1 + 0 ∧ (i 1).val * 1 + 0 - 0 < 16; omega
      | ⟨2, _⟩ => show 0 ≤ (i 2).val * 1 + 0 ∧ (i 2).val * 1 + 0 - 0 < 4096; omega
      | ⟨3, _⟩ => show 0 ≤ (i 3).val * 1 + r.val ∧ (i 3).val * 1 + r.val - 0 < 4096; omega

/-- The sum over this and earlier positions. -/
theorem window_upto (f : Fin 2 → Fin 16 → ℕ → ℕ → ℝ) (init : (⟨0, ![]⟩ : Shape).Idx → EReal) (h0 : ∀ i, init i = 0)
    (hw : SX.ReduceWindows ![1, 1, 1, 4096] ![1, 1, 1, 1] ![0, 0, 0, 4095] ![0, 0, 0, 0] SX) (hu : 0 < (⟨0, ![]⟩ : Shape).numel) :
    Host.reduceWindowAdd (F := Ideal) (φ := .f32) ![1, 1, 1, 4096] ![1, 1, 1, 1] ![0, 0, 0, 4095] ![0, 0, 0, 0] (up4s f) init hw hu
      = up4s fun b h t s => ∑ r ∈ range (s + 1), f b h t r := by
  funext i
  have h3 : (i 3).val < 4096 := (i 3).isLt
  rw [windowAt]
  rw [h0, zero_add]
  refine Eq.trans ?_ (congrArg up (sum_upto (f (i 0) (i 1) (i 2).val) (i 3).val h3))
  rw [← up_sum]
  refine sum_congr rfl fun r _ => ?_
  split
  · rename_i hin
    have h := (hin 3).1
    change 4095 ≤ (i 3).val * 1 + r.val at h
    rw [if_pos (by omega)]
    refine congrArg up ?_
    have e0 : (⟨(i 0).val * 1 + 0 - 0, (hin 0).2⟩ : Fin 2) = i 0 := Fin.ext (by show (i 0).val * 1 + 0 - 0 = (i 0).val; omega)
    have e1 : (⟨(i 1).val * 1 + 0 - 0, (hin 1).2⟩ : Fin 16) = i 1 := Fin.ext (by show (i 1).val * 1 + 0 - 0 = (i 1).val; omega)
    show f ⟨(i 0).val * 1 + 0 - 0, _⟩ ⟨(i 1).val * 1 + 0 - 0, _⟩ ((i 2).val * 1 + 0 - 0) ((i 3).val * 1 + r.val - 4095) = f (i 0) (i 1) (i 2).val ((i 3).val + r.val - 4095)
    rw [e0, e1]
    simp only [mul_one, add_zero, tsub_zero]
  · rename_i hin
    rw [if_neg fun h => hin fun a => ?_]
    · rfl
    · have i0 : (i 0).val < 2 := (i 0).isLt
      have i1 : (i 1).val < 16 := (i 1).isLt
      have i2 : (i 2).val < 4096 := (i 2).isLt
      have hr := r.isLt
      match a with
      | ⟨0, _⟩ => show 0 ≤ (i 0).val * 1 + 0 ∧ (i 0).val * 1 + 0 - 0 < 2; omega
      | ⟨1, _⟩ => show 0 ≤ (i 1).val * 1 + 0 ∧ (i 1).val * 1 + 0 - 0 < 16; omega
      | ⟨2, _⟩ => show 0 ≤ (i 2).val * 1 + 0 ∧ (i 2).val * 1 + 0 - 0 < 4096; omega
      | ⟨3, _⟩ => show 4095 ≤ (i 3).val * 1 + r.val ∧ (i 3).val * 1 + r.val - 4095 < 4096; omega

end Cert.Proof.Attn
end
-- ==== Proof.Attn.Ref.lean ====
/- What the reference of `_attn_bwd` computes, operation by operation, on finite arguments. -/
module

public import proofs.«01_k».proof.Proof.Gen.Reference2Ideal.Read
public import proofs.«01_k».proof.Proof.Finite
public import proofs.«01_k».proof.Proof.Attn.Window
public import Idealize.ShloMosaic.Lib.Pointwise

@[expose] public section

set_option maxRecDepth 16384

noncomputable section

namespace Cert.Proof.Attn.Ref

open Idealize.ShloMosaic Idealize.ShloMosaic.TcCoe Idealize.ShloMosaic.Tactic Cert.Reference2Ideal Cert.Reference2Ideal.Gen
  Cert.Reference2Ideal.Read
open Cert.Proof Cert.Proof.Attn Finset

/-- A rank-zero word read at every entry. -/
abbrev all (w : BitVec 32) : FVec Ideal S2x16x4096x4096 .f32 :=
  broadcastInDim S2x16x4096x4096 ![] bcast_S_S2x16x4096x4096 (constant (F := Ideal) S_ .f32 w)

/-- The logarithm of one plus the exponential, and the exponential of a difference, as the host writes them. -/
def soft (n : FVec Ideal S2x16x4096x4096 .f32) : FVec Ideal S2x16x4096x4096 .f32 :=
  select (cmpf .une (subf n (all 0x00000000#32)) (subf n (all 0x00000000#32))) (addf n (all 0x00000000#32))
    (addf (maximumf n (all 0x00000000#32)) (Host.log1p (Host.exp (Host.negf (Host.absf (subf n (all 0x00000000#32)))))))
def ratio (n p : FVec Ideal S2x16x4096x4096 .f32) : FVec Ideal S2x16x4096x4096 .f32 :=
  Host.exp (subf (select (cmpf .oeq n (all 0x7F800000#32)) (all 0x00000000#32) n) (select (cmpf .oeq p (all 0x7F800000#32)) (all 0x00000000#32) p))

theorem soft_eq (f : Fin 2 → Fin 16 → ℕ → ℕ → ℝ) : soft (up4s f) = up4s fun b h t s => sp (f b h t s) := by
  funext i; pointwise [soft]
  rw [if_neg (fun h => h rfl)]
  have ha : ∀ x : EReal, FloatOps.absf (F := Ideal) (φ := .f32) x = max x (-x) := fun _ => rfl
  have hl : ∀ x : EReal, Ideal.log1p x = Ideal.log (1 + x) := fun _ => rfl
  simp only [ha, hl, up_zero, up_one, up_neg, up_max, up_exp, up_add, up_log (one_add_exp_pos _)]
  refine congrArg up ?_
  rw [← zero_sub]
  exact sp_eq _

theorem ratio_eq (f g : Fin 2 → Fin 16 → ℕ → ℕ → ℝ) : ratio (up4s f) (up4s g) = up4s fun b h t s => Real.exp (f b h t s - g b h t s) := by
  funext i; pointwise [ratio]
  rw [word_inf]
  rw [if_neg (EReal.coe_ne_top _), if_neg (EReal.coe_ne_top _), up_sub, up_exp]

/-- The causal mask. -/
theorem mask_at (i : S4096x4096.Idx) : val_main_v9 (F := Ideal) i = BitVec.ofBool (decide ((i 1).val < (i 0).val)) := by
  have h0 : (i 0).val < 4096 := (i 0).isLt
  have h1 : (i 1).val < 4096 := (i 1).isLt
  rw [← slt_4096 h1 h0]
  pointwise [val_main_v9, val_main_v7, val_main_v8, val_main_v4, val_main_v6, val_main_v3, val_main_v5]
  rfl

theorem masked (k : IVec S2x16x4096x4096 1) (hk : ∀ i, k i = BitVec.ofBool (decide ((i 3).val < (i 2).val))) (z : FVec Ideal S2x16x4096x4096 .f32)
    (hz : ∀ i, z i = 0) (f : Fin 2 → Fin 16 → ℕ → ℕ → ℝ) : (select k (up4s f) z : FVec Ideal S2x16x4096x4096 .f32) = up4s fun b h t s => if s < t then f b h t s else 0 := by
  funext i
  show (if k i = 1#1 then up4s f i else z i) = _
  rw [hk, hz]
  by_cases h : (i 3).val < (i 2).val
  · exact (if_pos (by simp [h])).trans (congrArg up (if_pos h).symm)
  · exact (if_neg (by simp [h])).trans (congrArg up (if_neg h).symm)

theorem mask12 (i : S2x16x4096x4096.Idx) : val_main_v12_1 (F := Ideal) i = BitVec.ofBool (decide ((i 3).val < (i 2).val)) := by
  rw [val_main_v12_1_apply, mask_at]
theorem mask18 (i : S2x16x4096x4096.Idx) : val_main_v18_1 (F := Ideal) i = BitVec.ofBool (decide ((i 3).val < (i 2).val)) := by
  rw [val_main_v18_1_apply, mask_at]

theorem word_zero : Ideal.ofBits .f32 0x00000000#32 = 0 := by simp [Ideal.ofBits, Ideal.ieee]

theorem zero1 (i : S2x16x4096x4096.Idx) : val_main_call1_v2 (F := Ideal) i = 0 := by pointwise [val_main_call1_v2, val_main_call1_v0, val_main_cst_0]; exact word_zero
theorem zero4 (i : S2x16x4096x4096.Idx) : val_main_call4_v2 (F := Ideal) i = 0 := by pointwise [val_main_call4_v2, val_main_call4_v0, val_main_cst_1]; exact word_zero
theorem zero5 (i : S2x16x4096x4096.Idx) : val_main_call5_v0 (F := Ideal) i = 0 := by pointwise [val_main_call5_v0, val_main_call5_cst]
theorem zero8 (i : S2x16x4096x4096.Idx) : val_main_call8_v0 (F := Ideal) i = 0 := by pointwise [val_main_call8_v0, val_main_call8_cst]
theorem zero2 (i : S_.Idx) : val_main_call2_v0 (F := Ideal) i = 0 := by exact word_zero
theorem zero7 (i : S_.Idx) : val_main_call7_v0 (F := Ideal) i = 0 := by exact word_zero

variable (A : Args)

/-- An array of negatives. -/
theorem neg_eq (f : Fin 2 → Fin 16 → ℕ → ℕ → ℝ) : Host.negf (F := Ideal) (φ := .f32) (up4s f) = up4s fun b h t s => -f b h t s := by
  funext i; pointwise; exact up_neg _
theorem mul_eq (f g : Fin 2 → Fin 16 → ℕ → ℕ → ℝ) : (mulf (up4s f) (up4s g) : FVec Ideal S2x16x4096x4096 .f32) = up4s fun b h t s => f b h t s * g b h t s := by
  funext i; pointwise; exact up_mul _ _
theorem add_eq (f g : Fin 2 → Fin 16 → ℕ → ℕ → ℝ) : (addf (up4s f) (up4s g) : FVec Ideal S2x16x4096x4096 .f32) = up4s fun b h t s => f b h t s + g b h t s := by
  funext i; pointwise; exact up_add _ _
theorem sub_eq (f g : Fin 2 → Fin 16 → ℕ → ℕ → ℝ) : (subf (up4s f) (up4s g) : FVec Ideal S2x16x4096x4096 .f32) = up4s fun b h t s => f b h t s - g b h t s := by
  funext i; pointwise; exact up_sub _ _
theorem exp_eq (f : Fin 2 → Fin 16 → ℕ → ℕ → ℝ) : Host.exp (F := Ideal) (φ := .f32) (up4s f) = up4s fun b h t s => Real.exp (f b h t s) := by
  funext i; pointwise; exact up_exp _

theorem v1 : val_main_v1 (F := Ideal) (up4 A.q) = up4 fun b s h d => A.q b s h d * (1 / 8) := by
  funext i; pointwise [val_main_v1, val_main_v0, val_main_cst]
  rw [word_eighth]; exact up_mul _ _

theorem v2 : val_main_v2 (F := Ideal) (up4 A.q) (up4 A.k) = up4s A.z := by
  unfold val_main_v2; rw [v1]
  funext i; pointwise
  simp only [up_mul, up_sum]; rfl

theorem v10 : val_main_v10 (F := Ideal) (up4 A.q) (up4 A.k) = up4s fun b h t s => -A.z b h t s := by
  unfold val_main_v10; rw [v2, neg_eq]
theorem c0 : val_main_call0_v0 (F := Ideal) (up4 A.q) (up4 A.k) = up4s A.z := by
  unfold val_main_call0_v0; rw [v10, neg_eq]; simp only [neg_neg]
theorem c0s : val_main_call0_v1_0 (F := Ideal) (up4 A.q) (up4 A.k) = up4s fun b h t s => sp (A.z b h t s) := by
  have e : val_main_call0_v1_0 (F := Ideal) (up4 A.q) (up4 A.k) = soft (val_main_call0_v0 (F := Ideal) (up4 A.q) (up4 A.k)) := rfl
  rw [e, c0, soft_eq]
theorem v11_1 : val_main_v11_1 (F := Ideal) (up4 A.q) (up4 A.k) = up4s fun b h t s => Real.exp (A.z b h t s - sp (A.z b h t s)) := by
  have e : val_main_v11_1 (F := Ideal) (up4 A.q) (up4 A.k) = ratio (val_main_call0_v0 (F := Ideal) (up4 A.q) (up4 A.k)) (val_main_call0_v1_0 (F := Ideal) (up4 A.q) (up4 A.k)) := rfl
  rw [e, c0, c0s, ratio_eq]
theorem v12 : val_main_v12_0 (F := Ideal) (up4 A.q) (up4 A.k) = up4s A.lk := by
  unfold val_main_v12_0 val_main_v11_0
  rw [c0s, neg_eq, masked _ mask12 _ zero1]
  simp only [← zero_sub]; rfl
theorem v14 : val_main_v14 (F := Ideal) (up4 A.q) (up4 A.k) = up4s fun b h t s => ∑ r ∈ Ico s 4096, A.lk b h t r - A.lk b h t s := by
  unfold val_main_v14 val_main_v13
  rw [v12, window_from _ _ zero2, sub_eq]
theorem c3 : val_main_call3_v0 (F := Ideal) (up4 A.q) (up4 A.k) = up4s fun b h t s => -A.z b h t s := by
  unfold val_main_call3_v0; rw [v2, neg_eq]
theorem c3s : val_main_call3_v1_0 (F := Ideal) (up4 A.q) (up4 A.k) = up4s fun b h t s => sp (-A.z b h t s) := by
  have e : val_main_call3_v1_0 (F := Ideal) (up4 A.q) (up4 A.k) = soft (val_main_call3_v0 (F := Ideal) (up4 A.q) (up4 A.k)) := rfl
  rw [e, c3, soft_eq]
theorem v15_1 : val_main_v15_1 (F := Ideal) (up4 A.q) (up4 A.k) = up4s fun b h t s => Real.exp (-A.z b h t s - sp (-A.z b h t s)) := by
  have e : val_main_v15_1 (F := Ideal) (up4 A.q) (up4 A.k) = ratio (val_main_call3_v0 (F := Ideal) (up4 A.q) (up4 A.k)) (val_main_call3_v1_0 (F := Ideal) (up4 A.q) (up4 A.k)) := rfl
  rw [e, c3, c3s, ratio_eq]

/-- The weight before the mask. -/
def W (b : Fin 2) (h : Fin 16) (t s : ℕ) : ℝ := Real.exp (-sp (-A.z b h t s) + (∑ r ∈ Ico s 4096, A.lk b h t r - A.lk b h t s))

theorem W_eq (b : Fin 2) (h : Fin 16) (t s : ℕ) (hs : s < t) (h4 : s < 4096) : W A b h t s = A.w b h t s := by
  rw [A.w_eq b h t s hs h4, zero_sub]; rfl

theorem v17 : val_main_v17 (F := Ideal) (up4 A.q) (up4 A.k) = up4s (W A) := by
  unfold val_main_v17 val_main_v16 val_main_v15_0
  rw [c3s, neg_eq, v14, add_eq, exp_eq]; rfl

/-- Two arrays that agree on the positions there are. -/
theorem up4s_congr {f g : Fin 2 → Fin 16 → ℕ → ℕ → ℝ} (e : ∀ b h t s, t < 4096 → s < 4096 → f b h t s = g b h t s) : up4s f = up4s g := by
  funext i; exact congrArg up (e _ _ _ _ (i 2).isLt (i 3).isLt)

theorem v18 : val_main_v18_0 (F := Ideal) (up4 A.q) (up4 A.k) = up4s A.w := by
  unfold val_main_v18_0
  rw [v17, masked _ mask18 _ zero4]
  refine up4s_congr fun b h t s _ h4 => ?_
  by_cases hs : s < t
  · rw [if_pos hs, W_eq A b h t s hs h4]
  · rw [if_neg hs]; exact (if_neg hs).symm

theorem v22 : val_main_v22 (F := Ideal) (up4 A.v) (up4 A.g) = up4s A.dw := by
  unfold val_main_v22 val_main_v21
  funext i; pointwise
  simp only [up_mul, up_sum]
  refine congrArg up (sum_congr rfl fun d _ => mul_comm _ _)

theorem v26 : val_main_v26 (F := Ideal) (up4 A.q) (up4 A.k) (up4 A.v) (up4 A.g) = up4s A.e := by
  unfold val_main_v26 val_main_v25
  rw [v22, v17, masked _ mask18 _ zero5, mul_eq]
  refine up4s_congr fun b h t s _ h4 => ?_
  unfold Args.e
  by_cases hs : s < t
  · rw [if_pos hs, W_eq A b h t s hs h4]
  · rw [if_neg hs, A.w_after b h (by omega)]; ring

theorem v31 : val_main_v31 (F := Ideal) (up4 A.q) (up4 A.k) (up4 A.v) (up4 A.g) = up4s fun b h t s => if s < t then -A.e b h t s + A.E b h t (s + 1) else 0 := by
  unfold val_main_v31 val_main_v30 val_main_v28 val_main_v29
  rw [v26, neg_eq, window_upto _ _ zero7, add_eq, masked _ mask12 _ zero8]; rfl

theorem dz_real (x e E : ℝ) (p : Prop) [Decidable p] (he : ¬p → e = 0) :
    -(-e * Real.exp (-x - sp (-x))) + -(-(-(if p then -e + E else 0) * Real.exp (x - sp x))) = if p then e - Real.exp (x - sp x) * E else 0 := by
  rw [Args.sig_add]
  by_cases h : p
  · rw [if_pos h, if_pos h]; ring
  · rw [if_neg h, if_neg h, he h]; ring

theorem v34 : val_main_v34 (F := Ideal) (up4 A.q) (up4 A.k) (up4 A.v) (up4 A.g) = up4s A.dz := by
  unfold val_main_v34 val_main_v33 val_main_v32 val_main_v27 val_main_call6_v1 val_main_call6_v0 val_main_call9_v1 val_main_call9_v0
  rw [v26, v31, v15_1, v11_1, neg_eq, neg_eq, mul_eq, mul_eq, neg_eq, neg_eq, neg_eq, add_eq]
  refine up4s_congr fun b h t s _ _ => dz_real _ _ _ _ fun hs => ?_
  unfold Args.e
  rw [A.w_after b h (by omega), mul_zero]

/-- The sums over the positions there are. -/
theorem dk_eq (b : Fin 2) (h : Fin 16) (s : ℕ) (d : Fin 64) : ∑ t : Fin 4096, A.dz b h t.val s * (A.q b t.val h d * (1 / 8)) = A.dk b h 4096 s d :=
  Fin.sum_univ_eq_sum_range (fun t => A.dz b h t s * (A.q b t h d * (1 / 8))) 4096
theorem dq_eq (b : Fin 2) (h : Fin 16) (t : ℕ) (d : Fin 64) : ∑ s : Fin 4096, A.dz b h t s.val * A.k b s.val h d = A.dq b h 4096 t d :=
  (Fin.sum_univ_eq_sum_range (fun s => A.dz b h t s * A.k b s h d) 4096).trans (sum_congr rfl fun _ _ => mul_comm _ _)
theorem dv_eq (b : Fin 2) (h : Fin 16) (s : ℕ) (d : Fin 64) : ∑ t : Fin 4096, A.g b t.val h d * A.w b h t.val s = A.dv b h 4096 s d :=
  (Fin.sum_univ_eq_sum_range (fun t => A.g b t h d * A.w b h t s) 4096).trans (sum_congr rfl fun _ _ => mul_comm _ _)

theorem v36 : val_main_v36 (F := Ideal) (up4 A.q) (up4 A.k) (up4 A.v) (up4 A.g) = up4 fun b s h d => A.dk b h 4096 s d := by
  unfold val_main_v36 val_main_v35
  rw [v34, v1]
  funext i; pointwise
  simp only [up_mul, up_sum]
  exact congrArg up (dk_eq A (i 0) (i 2) (i 1).val (i 3))

theorem v38 : val_main_v38 (F := Ideal) (up4 A.q) (up4 A.k) (up4 A.v) (up4 A.g) = up4 fun b s h d => A.dq b h 4096 s d := by
  unfold val_main_v38 val_main_v37
  rw [v34]
  funext i; pointwise
  simp only [up_mul, up_sum]
  exact congrArg up (dq_eq A (i 0) (i 2) (i 1).val (i 3))

theorem v24 : val_main_v24 (F := Ideal) (up4 A.q) (up4 A.k) (up4 A.g) = up4 fun b s h d => A.dv b h 4096 s d := by
  unfold val_main_v24 val_main_v23 val_main_v21
  rw [v18]
  funext i; pointwise
  simp only [up_mul, up_sum]
  exact congrArg up (dv_eq A (i 0) (i 2) (i 1).val (i 3))

/-- The three results. -/
theorem r0 : val_main_v39 (F := Ideal) (up4 A.q) (up4 A.k) (up4 A.v) (up4 A.g) = flat fun b s h d => A.dq b h 4096 s d := by
  unfold val_main_v39; rw [v38]; exact flat_eq _
theorem r1 : val_main_v40 (F := Ideal) (up4 A.q) (up4 A.k) (up4 A.v) (up4 A.g) = flat fun b s h d => A.dk b h 4096 s d := by
  unfold val_main_v40; rw [v36]; exact flat_eq _
theorem r2 : val_main_v42 (F := Ideal) (up4 A.q) (up4 A.k) (up4 A.g) = flat fun b s h d => A.dv b h 4096 s d := by
  unfold val_main_v42 val_main_v41; rw [v24]; funext i; pointwise; rfl

end Cert.Proof.Attn.Ref
end
-- ==== Proof.Attn.Claim.lean ====
/- The value claim of `_attn_bwd`: the gradients in the queries, the keys and the values are those of the reference, at
finite arguments. -/
module

public import proofs.«01_k».proof.Defs
public import proofs.«01_k».proof.Proof.Attn.Arrays
public import proofs.«01_k».proof.Proof.Attn.Ref
public import proofs.«01_k».proof.Proof.Gen.Pre_finite2
public import proofs.«01_k».proof.Proof.Gen.Reference2Ideal.Run

@[expose] public section

set_option maxRecDepth 16384

noncomputable section

namespace Cert.Proof.Attn

open Idealize.ShloMosaic Idealize.ShloMosaic.TcCoe Idealize.SL.Sem
open Cert.Proof

/-- The real array a finite argument holds; positions beyond the sequence read zero. -/
def realOf (a : (⟨4, ![2, 4096, 16, 64]⟩ : Shape).Idx → EReal) (b : Fin 2) (s : ℕ) (h : Fin 16) (d : Fin 64) : ℝ :=
  if hs : s < 4096 then (a (ix4 b ⟨s, hs⟩ h d)).toReal else 0

theorem up4_realOf (a : (⟨4, ![2, 4096, 16, 64]⟩ : Shape).Idx → EReal) (h : ∀ i, a i = up (a i).toReal) : a = up4 (realOf a) := by
  funext i
  have e : i = ix4 (i 0) (i 1) (i 2) (i 3) := by funext k; fin_cases k <;> rfl
  refine (h i).trans (congrArg up ?_)
  refine Eq.trans ?_ (dif_pos (i 1).isLt).symm
  exact congrArg (fun j => (a j).toReal) e

/-- The precondition gives the real arrays. -/
theorem exists_args (m : (ℓ : Loc Cert.Kernel2Ideal.nD Cert.Kernel2Ideal.τ Cert.Kernel2Ideal.sig) → Buf (Elt Ideal) ℓ)
    (h : Cert.Pre_Kernel2Ideal_finite2 (hPre_finite2 := Cert.Pre_finite2.Gen.facts) m) (c : Dev Cert.Kernel2Ideal.nD) :
    ∃ A, HoldsAt m c A :=
  have ⟨h0, h1, h2, h3⟩ := h c
  ⟨⟨_, _, _, _⟩, up4_realOf _ (real_of_finite h0), up4_realOf _ (real_of_finite h1), up4_realOf _ (real_of_finite h2),
    up4_realOf _ (real_of_finite h3)⟩

section
open Cert.Reference2Ideal Cert.Reference2Ideal.Gen Cert.Reference2Ideal.Read Idealize.ShloMosaic.StableHlo

/-- The reference's run leaves the gradients of the arrays its arguments hold. -/
theorem run_ref (m : (ℓ : Loc nD τ sig) → Buf (Elt Ideal) ℓ) (ρ : Dev nD → PrngReg) (A : Dev nD → Args)
    (H : ∀ c : Dev nD, m ((c : Thread nD τ).loc main_arg0) = up4 (A c).q ∧ m ((c : Thread nD τ).loc main_arg1) = up4 (A c).k
      ∧ m ((c : Thread nD τ).loc main_arg2) = up4 (A c).v ∧ m ((c : Thread nD τ).loc main_arg3) = up4 (A c).g) :
    θ_run defs (onTc (τ := τ) (main (F := Ideal))) ⟨m, fun _ => 0, ρ⟩ fun r => ∀ c : Dev nD,
      r.2.mem ((c : Thread nD τ).loc main_v39) = flat (fun b s h d => (A c).dq b h 4096 s d)
      ∧ r.2.mem ((c : Thread nD τ).loc main_v40) = flat (fun b s h d => (A c).dk b h 4096 s d)
      ∧ r.2.mem ((c : Thread nD τ).loc main_v42) = flat (fun b s h d => (A c).dv b h 4096 s d)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
    obtain ⟨h0, h1, h2, h3⟩ := H c
    refine ⟨(h c).1.trans ((val_main_v39_eq m c).trans ?_), (h c).2.1.trans ((val_main_v40_eq m c).trans ?_),
      (h c).2.2.1.trans ((val_main_v42_eq m c).trans ?_), (h c).2.2.2⟩
    · rw [h0, h1, h2, h3]; exact Ref.r0 (A c)
    · rw [h0, h1, h2, h3]; exact Ref.r1 (A c)
    · rw [h0, h1, h3]; exact Ref.r2 (A c))
    (Cert.Reference2Ideal.Value.run (F := Ideal) m ρ)
end

/-- The two programs leave the same results. -/
theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hp ha
  choose A H using exists_args m hp
  refine ⟨fun c => flat fun b s h d => (A c).dq b h 4096 s d, fun c => flat fun b s h d => (A c).dk b h 4096 s d,
    fun c => flat fun b s h d => (A c).dv b h 4096 s d,
    (θ_run _ _ _).mono (fun r h c => ?_) (θ_run_and (run_main m g) (frame m g)), run_ref m' g' A fun c => ?_⟩
  · exact ⟨((h.1 c).1 7).trans (arr7 (H c)), ((h.1 c).1 8).trans (arr8 (H c)), ((h.1 c).1 9).trans (arr9 (H c)), h.2.1 c⟩
  · obtain ⟨h0, h1, h2, h3⟩ := ha c
    exact ⟨h0.trans (H c).q, h1.trans (H c).k, h2.trans (H c).v, h3.trans (H c).g⟩

end Cert.Proof.Attn
end
-- ==== Proof.InX.Spec.lean ====
/- The gradient through the input projection and the first norm, over the reals. -/
module

public import proofs.«01_k».proof.Proof.MidSpec

@[expose] public section

noncomputable section

namespace Cert.Proof.InX

open Cert.Proof Cert.Proof.Mid

/-- The arguments: the token rows, the norm's weight, the projection, the gradient in the projected row, and the gradient
that reaches the rows by the residual. The last one need not be finite. -/
structure Args where
  x : Fin 8192 → Fin 1024 → ℝ
  w : Fin 1024 → ℝ
  W : Fin 1024 → Fin 6672 → ℝ
  p : Fin 8192 → Fin 6672 → ℝ
  D : Fin 8192 → Fin 1024 → EReal

variable (A : Args)

/-- The gradient in the norm's output. -/
def Args.dh (r : Fin 8192) (k : Fin 1024) : ℝ := ∑ c, A.p r c * A.W k c
/-- The gradient in the rows. -/
def Args.gx (r : Fin 8192) (k : Fin 1024) : EReal := A.D r k + up (dnorm A.x A.w A.dh r k)
/-- The gradient in the norm's weight. -/
def Args.gw (k : Fin 1024) : ℝ := ∑ r, A.dh r k * nrm A.x r k

/-- The gradient in the projected row and the projection's columns, with zeros after the last column. -/
def Args.pp (r : Fin 8192) (c : ℕ) : ℝ := if h : c < 6672 then A.p r ⟨c, h⟩ else 0
def Args.wp (c : ℕ) (k : Fin 1024) : ℝ := if h : c < 6672 then A.W k ⟨c, h⟩ else 0

/-- A sum over the padded columns, in five parts. -/
theorem sum_parts (f : ℕ → ℝ) (h : ∀ c, 6672 ≤ c → f c = 0) :
    ∑ c : Fin 1024, f (0 + c.val) + ∑ c : Fin 1024, f (1024 + c.val) + ∑ c : Fin 1024, f (2048 + c.val)
      + ∑ c : Fin 2048, f (3072 + c.val) + ∑ c : Fin 2048, f (5120 + c.val) = ∑ c : Fin 6672, f c.val := by
  rw [Fin.sum_univ_eq_sum_range (fun c => f (0 + c)), Fin.sum_univ_eq_sum_range (fun c => f (1024 + c)),
    Fin.sum_univ_eq_sum_range (fun c => f (2048 + c)), Fin.sum_univ_eq_sum_range (fun c => f (3072 + c)),
    Fin.sum_univ_eq_sum_range (fun c => f (5120 + c)), Fin.sum_univ_eq_sum_range f]
  simp only [zero_add]
  rw [← Finset.sum_range_add f 1024 1024, ← Finset.sum_range_add f 2048 1024, ← Finset.sum_range_add f 3072 2048,
    ← Finset.sum_range_add f 5120 2048]
  refine (Finset.sum_subset (Finset.range_subset_range.2 (by norm_num)) fun c _ hc => h c ?_).symm
  exact not_lt.1 fun hl => hc (Finset.mem_range.2 hl)

/-- The gradient in the norm's output, from the five parts of the padded columns. -/
theorem Args.dh_parts (r : Fin 8192) (k : Fin 1024) :
    ∑ c : Fin 1024, A.pp r (0 + c.val) * A.wp (0 + c.val) k + ∑ c : Fin 1024, A.pp r (1024 + c.val) * A.wp (1024 + c.val) k
      + ∑ c : Fin 1024, A.pp r (2048 + c.val) * A.wp (2048 + c.val) k
      + ∑ c : Fin 2048, A.pp r (3072 + c.val) * A.wp (3072 + c.val) k
      + ∑ c : Fin 2048, A.pp r (5120 + c.val) * A.wp (5120 + c.val) k = A.dh r k := by
  rw [sum_parts fun c => A.pp r c * A.wp c k]
  · refine Fintype.sum_congr _ _ fun c => ?_
    show (if h : c.val < 6672 then A.p r ⟨c.val, h⟩ else 0) * (if h : c.val < 6672 then A.W k ⟨c.val, h⟩ else 0) = _
    rw [dif_pos c.isLt, dif_pos c.isLt]
  · intro c hc
    show (if h : c < 6672 then A.p r ⟨c, h⟩ else 0) * _ = 0
    rw [dif_neg (not_lt.2 hc), zero_mul]

end Cert.Proof.InX
end
-- ==== Proof.InX.Blocks.lean ====
/- The arrays `_in_proj_bwd_x` is launched on, and the blocks its grid points read of them. -/
module

public import proofs.«01_k».proof.Proof.MidPay
public import proofs.«01_k».proof.Proof.MidRef
public import proofs.«01_k».proof.Proof.InX.Spec
public import proofs.«01_k».proof.Proof.Gen.Kernel3Ideal.Frame
public import Idealize.ShloMosaic.Lib.Claim
public import Idealize.ShloMosaic.Lib.KernelVsHost

@[expose] public section

set_option maxRecDepth 16384

noncomputable section

namespace Cert.Proof.InX

open Idealize.ShloMosaic Idealize.ShloMosaic.TcCoe Idealize.ShloMosaic.Tactic Cert.Kernel3Ideal Cert.Kernel3Ideal.Gen
open Cert.Proof
open Cert.Proof.Mid (tok up2 upr)
open Cert.Proof.Mid.Ref (up3 tok_div)

/-- The argument arrays hold `A`. -/
structure Holds (a0 : S2x4096x1024.Idx → EReal) (a1 : S1x1024.Idx → EReal) (a2 : S1x1024x6672.Idx → EReal)
    (a3 : S2x4096x6672.Idx → EReal) (a4 : S2x4096x1024.Idx → EReal) (A : Args) : Prop where
  x : a0 = up3 A.x
  w : a1 = upr A.w
  W : a2 = fun i => up (A.W (i 1) (i 2))
  p : a3 = up3 A.p
  D : a4 = fun i => A.D (tok (i 0) (i 1)) (i 2)

variable (m : (ℓ : Loc nD τ sig) → Buf (Elt Ideal) ℓ)

/-- The argument arrays of the launched memory hold `A`. -/
abbrev HoldsAt (c : Dev nD) (A : Args) : Prop :=
  Holds (m ((c : Thread nD τ).loc main_arg0)) (m ((c : Thread nD τ).loc main_arg1)) (m ((c : Thread nD τ).loc main_arg2))
    (m ((c : Thread nD τ).loc main_arg3)) (m ((c : Thread nD τ).loc main_arg4)) A

/-- The token rows laid flat. -/
theorem flat_rows (f : Fin 8192 → Fin 1024 → EReal) :
    shapeCast S8192x1024 (fun i : S2x4096x1024.Idx => f (tok (i 0) (i 1)) (i 2)) shapeCasts_S2x4096x1024_S8192x1024 =
      fun i => f (i 0) (i 1) := by
  funext i
  pointwise
  exact congrArg (fun r => f r (i 1)) (tok_div (i 0) _ _)

/-- The gradient in the projected row, laid flat, padded and cast. -/
theorem cols_eq (A : Args) : truncf (F := Ideal) .bf16 (pad S8192x7168 ![0, 0] ![0, 496] ![0, 0]
      (shapeCast S8192x6672 (up3 A.p) shapeCasts_S2x4096x6672_S8192x6672)
      (sitofp (F := Ideal) .f32 (constantI S_ 32 0#32)) pads_S8192x6672_S8192x7168_000_04960 h_S_) bitsLt_bf16_f32 =
    up2 fun r c => A.pp r c.val := by
  funext i
  obtain ⟨r, c, rfl⟩ : ∃ r c, i = ix2 r c := ⟨i 0, i 1, (ix2_eta i).symm⟩
  pointwise
  show _ = up (if h : c.val < 6672 then A.p r ⟨c.val, h⟩ else 0)
  by_cases hc : c.val < 6672
  · rw [dif_pos hc, dif_pos hc]
    exact congrArg (fun r => up (A.p r _)) (tok_div r _ _)
  · rw [dif_neg hc, dif_neg hc]
    exact (sitofp_zero (φ := .f32)).trans up_zero.symm

/-- The projection, cast, transposed and padded. -/
theorem proj_eq (A : Args) : pad S7168x1024 ![0, 0] ![496, 0] ![0, 0]
      (transpose S6672x1024 [1, 0] (truncf (F := Ideal) .bf16
        (shapeCast S1024x6672 (fun i : S1x1024x6672.Idx => up (A.W (i 1) (i 2))) shapeCasts_S1x1024x6672_S1024x6672)
        bitsLt_bf16_f32) transposes_S1024x6672_S6672x1024_1_0)
      (sitofp (F := Ideal) .bf16 (constantI S_ 32 0#32)) pads_S6672x1024_S7168x1024_04960_000 h_S_ =
    up2 fun c k => A.wp c.val k := by
  funext i
  obtain ⟨c, k, rfl⟩ : ∃ r c, i = ix2 r c := ⟨i 0, i 1, (ix2_eta i).symm⟩
  pointwise
  show _ = up (if h : c.val < 6672 then A.W k ⟨c.val, h⟩ else 0)
  by_cases hc : c.val < 6672
  · rw [dif_pos hc, dif_pos hc]
  · rw [dif_neg hc, dif_neg hc]
    exact (sitofp_zero (φ := .bf16)).trans up_zero.symm

/-- The token rows of point `t`. -/
def row (t : Fin cfg0.N) (p : Fin 512) : Fin 8192 :=
  ⟨512 * t.val + p.val, by have : t.val < 16 := t.isLt; omega⟩

/-- Point `t`'s rows of an array. -/
abbrev rows {α : Type} (t : Fin cfg0.N) (f : Fin 8192 → α) (p : Fin 512) : α := f (row t p)

/-- A sum over the rows, point by point. -/
theorem sum_rows (f : Fin 8192 → ℝ) : ∑ t : Fin 16, ∑ p : Fin 512, f (row t p) = ∑ r, f r := by
  rw [← Fintype.sum_prod_type' fun (t : Fin 16) (p : Fin 512) => f (row t p)]
  refine Fintype.sum_equiv (finProdFinEquiv (m := 16) (n := 512)) _ _ fun q => congrArg f (Fin.ext ?_)
  simp only [row, finProdFinEquiv_apply_val]; omega

variable {m} {c : Dev nD} {A : Args} (H : HoldsAt m c A)
include H

theorem entry_x : V m c main_v12 = up2 A.x := by
  refine Eq.trans ?_ ((congrArg (shapeCast S8192x1024 · shapeCasts_S2x4096x1024_S8192x1024) H.x).trans
    (flat_rows fun r k => up (A.x r k)))
  show StableHlo.after [hostOps0, hostOps0_1, hostOps0_2, hostOps0_3, hostOps0_4].flatten _ _ = _
  simp only [hostOps0, hostOps0_1, hostOps0_2, hostOps0_3, hostOps0_4, List.flatten_cons, List.flatten_nil,
    List.cons_append, List.nil_append, List.append_nil]
  after_results <;> rfl

theorem entry_D : V m c main_v13 = fun i => A.D (i 0) (i 1) := by
  refine Eq.trans ?_ ((congrArg (shapeCast S8192x1024 · shapeCasts_S2x4096x1024_S8192x1024) H.D).trans (flat_rows A.D))
  show StableHlo.after [hostOps0, hostOps0_1, hostOps0_2, hostOps0_3, hostOps0_4].flatten _ _ = _
  simp only [hostOps0, hostOps0_1, hostOps0_2, hostOps0_3, hostOps0_4, List.flatten_cons, List.flatten_nil,
    List.cons_append, List.nil_append, List.append_nil]
  after_results <;> rfl

theorem entry_W : V m c main_v3 = up2 fun j k => A.wp j.val k := by
  rw [← proj_eq A, ← H.W]
  show StableHlo.after [hostOps0, hostOps0_1, hostOps0_2, hostOps0_3, hostOps0_4].flatten _ _ = _
  simp only [hostOps0, hostOps0_1, hostOps0_2, hostOps0_3, hostOps0_4, List.flatten_cons, List.flatten_nil,
    List.cons_append, List.nil_append, List.append_nil]
  after_results <;> rfl

/-- The five parts of the padded columns. -/
theorem entry_p0 : V m c main_v7 = up2 fun r j => A.pp r (0 + j.val) := by
  have e : V m c main_v7 = extractStridedSlice S8192x1024 ![0, 0] (up2 fun r j => A.pp r j.val)
      slices_S8192x7168_S8192x1024_0_0 := by
    rw [← cols_eq A, ← H.p]
    show StableHlo.after [hostOps0, hostOps0_1, hostOps0_2, hostOps0_3, hostOps0_4].flatten _ _ = _
    simp only [hostOps0, hostOps0_1, hostOps0_2, hostOps0_3, hostOps0_4, List.flatten_cons, List.flatten_nil,
      List.cons_append, List.nil_append, List.append_nil]
    after_results <;> rfl
  rw [e]; funext i; pointwise; rfl

theorem entry_p1 : V m c main_v8 = up2 fun r j => A.pp r (1024 + j.val) := by
  have e : V m c main_v8 = extractStridedSlice S8192x1024 ![0, 1024] (up2 fun r j => A.pp r j.val)
      slices_S8192x7168_S8192x1024_0_1024 := by
    rw [← cols_eq A, ← H.p]
    show StableHlo.after [hostOps0, hostOps0_1, hostOps0_2, hostOps0_3, hostOps0_4].flatten _ _ = _
    simp only [hostOps0, hostOps0_1, hostOps0_2, hostOps0_3, hostOps0_4, List.flatten_cons, List.flatten_nil,
      List.cons_append, List.nil_append, List.append_nil]
    after_results <;> rfl
  rw [e]; funext i; pointwise; rfl

theorem entry_p2 : V m c main_v9 = up2 fun r j => A.pp r (2048 + j.val) := by
  have e : V m c main_v9 = extractStridedSlice S8192x1024 ![0, 2048] (up2 fun r j => A.pp r j.val)
      slices_S8192x7168_S8192x1024_0_2048 := by
    rw [← cols_eq A, ← H.p]
    show StableHlo.after [hostOps0, hostOps0_1, hostOps0_2, hostOps0_3, hostOps0_4].flatten _ _ = _
    simp only [hostOps0, hostOps0_1, hostOps0_2, hostOps0_3, hostOps0_4, List.flatten_cons, List.flatten_nil,
      List.cons_append, List.nil_append, List.append_nil]
    after_results <;> rfl
  rw [e]; funext i; pointwise; rfl

theorem entry_p3 : V m c main_v10 = up2 fun r j => A.pp r (3072 + j.val) := by
  have e : V m c main_v10 = extractStridedSlice S8192x2048 ![0, 3072] (up2 fun r j => A.pp r j.val)
      slices_S8192x7168_S8192x2048_0_3072 := by
    rw [← cols_eq A, ← H.p]
    show StableHlo.after [hostOps0, hostOps0_1, hostOps0_2, hostOps0_3, hostOps0_4].flatten _ _ = _
    simp only [hostOps0, hostOps0_1, hostOps0_2, hostOps0_3, hostOps0_4, List.flatten_cons, List.flatten_nil,
      List.cons_append, List.nil_append, List.append_nil]
    after_results <;> rfl
  rw [e]; funext i; pointwise; rfl

theorem entry_p4 : V m c main_v11 = up2 fun r j => A.pp r (5120 + j.val) := by
  have e : V m c main_v11 = extractStridedSlice S8192x2048 ![0, 5120] (up2 fun r j => A.pp r j.val)
      slices_S8192x7168_S8192x2048_0_5120 := by
    rw [← cols_eq A, ← H.p]
    show StableHlo.after [hostOps0, hostOps0_1, hostOps0_2, hostOps0_3, hostOps0_4].flatten _ _ = _
    simp only [hostOps0, hostOps0_1, hostOps0_2, hostOps0_3, hostOps0_4, List.flatten_cons, List.flatten_nil,
      List.cons_append, List.nil_append, List.append_nil]
    after_results <;> rfl
  rw [e]; funext i; pointwise; rfl

theorem blk0 (t : Fin cfg0.N) : iblk m c 0 t = up2 fun p j => A.pp (row t p) (0 + j.val) := by
  have idx : ∀ t : Fin grid0.N, win0_0.index t = ![t.val, 0] := by decide +kernel
  funext i
  refine Eq.trans ?_ (congrFun (entry_p0 H) (ix2 (row t (i 0)) (i 1)))
  unfold row; blk_ext [iblk, idx t]

theorem blk1 (t : Fin cfg0.N) : iblk m c 1 t = up2 fun p j => A.pp (row t p) (1024 + j.val) := by
  have idx : ∀ t : Fin grid0.N, win0_1.index t = ![t.val, 0] := by decide +kernel
  funext i
  refine Eq.trans ?_ (congrFun (entry_p1 H) (ix2 (row t (i 0)) (i 1)))
  unfold row; blk_ext [iblk, idx t]

theorem blk2 (t : Fin cfg0.N) : iblk m c 2 t = up2 fun p j => A.pp (row t p) (2048 + j.val) := by
  have idx : ∀ t : Fin grid0.N, win0_2.index t = ![t.val, 0] := by decide +kernel
  funext i
  refine Eq.trans ?_ (congrFun (entry_p2 H) (ix2 (row t (i 0)) (i 1)))
  unfold row; blk_ext [iblk, idx t]

theorem blk3 (t : Fin cfg0.N) : iblk m c 3 t = up2 fun p j => A.pp (row t p) (3072 + j.val) := by
  have idx : ∀ t : Fin grid0.N, win0_3.index t = ![t.val, 0] := by decide +kernel
  funext i
  refine Eq.trans ?_ (congrFun (entry_p3 H) (ix2 (row t (i 0)) (i 1)))
  unfold row; blk_ext [iblk, idx t]

theorem blk4 (t : Fin cfg0.N) : iblk m c 4 t = up2 fun p j => A.pp (row t p) (5120 + j.val) := by
  have idx : ∀ t : Fin grid0.N, win0_4.index t = ![t.val, 0] := by decide +kernel
  funext i
  refine Eq.trans ?_ (congrFun (entry_p4 H) (ix2 (row t (i 0)) (i 1)))
  unfold row; blk_ext [iblk, idx t]

theorem blk5 (t : Fin cfg0.N) : iblk m c 5 t = up2 fun j k => A.wp j.val k := by
  have idx : ∀ t : Fin grid0.N, win0_5.index t = ![0, 0] := by decide +kernel
  funext i
  refine Eq.trans ?_ (congrFun (entry_W H) (ix2 (i 0) (i 1)))
  blk_ext [iblk, idx t]

theorem blk6 (t : Fin cfg0.N) : iblk m c 6 t = up2 (rows t A.x) := by
  have idx : ∀ t : Fin grid0.N, win0_6.index t = ![t.val, 0] := by decide +kernel
  funext i
  refine Eq.trans ?_ (congrFun (entry_x H) (ix2 (row t (i 0)) (i 1)))
  unfold row; blk_ext [iblk, idx t]

theorem blk7 (t : Fin cfg0.N) : iblk m c 7 t = fun i => A.D (row t (i 0)) (i 1) := by
  have idx : ∀ t : Fin grid0.N, win0_7.index t = ![t.val, 0] := by decide +kernel
  funext i
  refine Eq.trans ?_ (congrFun (entry_D H) (ix2 (row t (i 0)) (i 1)))
  unfold row; blk_ext [iblk, idx t]

theorem blk8 (t : Fin cfg0.N) : iblk m c 8 t = upr A.w := by
  have idx : ∀ t : Fin grid0.N, win0_8.index t = ![0, 0] := by decide +kernel
  funext i
  obtain ⟨p, k, rfl⟩ : ∃ p k, i = ix2 p k := ⟨i 0, i 1, (ix2_eta i).symm⟩
  refine Eq.trans ?_ ((congrFun (V_main_arg1 m c) (ix2 0 k)).trans (congrFun H.w (ix2 0 k)))
  blk_ext [iblk, idx t]

end Cert.Proof.InX
end
-- ==== Proof.InX.Points.lean ====
/- What the grid points of `_in_proj_bwd_x` leave in its output windows, and the arrays it leaves. -/
module

public import proofs.«01_k».proof.Proof.InX.Blocks
public import Idealize.ShloMosaic.Lib.Pipeline.ReadBack
public import Idealize.ShloMosaic.Lib.Pipeline.ValueKit.Geometry

@[expose] public section

set_option maxRecDepth 16384

noncomputable section

namespace Cert.Proof.InX

open Idealize.ShloMosaic Idealize.ShloMosaic.TcCoe Idealize.ShloMosaic.Tactic Cert.Kernel3Ideal Cert.Kernel3Ideal.Gen
open Cert.Proof
open Cert.Proof.Mid (up2 upr rn nrm dnorm)

/-! ## The body's values -/

section
variable (a b x : Fin 512 → Fin 1024 → ℝ) (w : Fin 1024 → ℝ)

/-- Rows of the padded projection from row `o` on. -/
theorem ld_rows (f : ℕ → Fin 1024 → ℝ) (o n : ℕ) (h) :
    View.ld (Val := Elt Ideal) (S := S7168x1024) (e' := .bf16) (up2 fun j k => f j.val k) (Rect.unit ![o, 0] ![n, 1024] h) =
      up2 fun (j : Fin n) k => f (o + j.val) k := by
  funext i
  refine congrArg up (congrArg₂ f ?_ (Fin.ext ?_))
  · simp [Rect.emb, Rect.unit]
  · simp [Rect.emb, Rect.unit]

theorem pay8 (p₀ p₁ p₂ : Fin 512 → Fin 1024 → ℝ) (w₀ w₁ w₂ : Fin 1024 → Fin 1024 → ℝ) (p₃ : Fin 512 → Fin 2048 → ℝ)
    (w₃ : Fin 2048 → Fin 1024 → ℝ) :
    k0_pay8 (F := Ideal) (up2 p₀) (up2 w₀) (up2 p₁) (up2 w₁) (up2 p₂) (up2 w₂) (up2 p₃) (up2 w₃) = up2 fun r k =>
      ∑ c, p₀ r c * w₀ c k + ∑ c, p₁ r c * w₁ c k + ∑ c, p₂ r c * w₂ c k + ∑ c, p₃ r c * w₃ c k := by
  funext i; pointwise [k0_pay8]
  simp only [up_mul, up_sum, up_add]; rfl

theorem pay9 (p₄ : Fin 512 → Fin 2048 → ℝ) (w₄ : Fin 2048 → Fin 1024 → ℝ) :
    k0_pay9 (F := Ideal) (up2 p₄) (up2 w₄) = up2 fun r k => ∑ c, p₄ r c * w₄ c k := by
  funext i; pointwise [k0_pay9]
  simp only [up_mul, up_sum]; rfl

theorem pay3 : k0_pay3 (F := Ideal) (up2 x) = fun i => up (rn x (i 0)) := by
  funext i; pointwise [k0_pay3, k0_pay2]
  simp only [word_1024, word_eps, up_mul, up_zero, up_add, up_sum, up_div_1024, up_rsqrt_meansq]
  rfl

theorem pay4 : k0_pay4 (F := Ideal) (up2 x) = up2 (nrm x) := by
  funext i; pointwise [k0_pay4, k0_pay2, pay3]
  simp only [up_mul]; rfl

theorem pay5 (D : S512x1024.Idx → EReal) : k0_pay5 (F := Ideal) (up2 a) (up2 b) (up2 x) (upr w) D =
    fun i => D i + up (dnorm x w (fun r k => a r k + b r k) (i 0) (i 1)) := by
  funext i; pointwise [k0_pay5, k0_pay1, pay3, pay4]
  simp only [word_1024, up_mul, up_zero, up_add, up_sum, up_div_1024, up_sub]
  rfl

theorem pay6 (s : Fin 1024 → ℝ) : k0_pay6 (F := Ideal) (up2 a) (up2 b) (up2 x) (upr s) =
    upr fun k => s k + ∑ r, (a r k + b r k) * nrm x r k := by
  funext i; pointwise [k0_pay6, k0_pay1, pay4]
  simp only [up_mul, up_zero, up_add, up_sum]
  rfl

theorem pay7 : k0_pay7 (F := Ideal) = upr fun _ => 0 := by
  funext i; pointwise [k0_pay7]; exact up_zero.symm
end

/-! ## The points -/

/-- The sum over the rows of the points up to `n`. -/
def part (f : Fin 8192 → ℝ) (n : ℕ) : ℝ :=
  ∑ s ∈ Finset.range (n + 1), ∑ p : Fin 512, f ⟨(512 * s + p.val) % 8192, Nat.mod_lt _ (by norm_num)⟩

theorem rows_eq (f : Fin 8192 → ℝ) (t : Fin cfg0.N) :
    ∑ p : Fin 512, f ⟨(512 * t.val + p.val) % 8192, Nat.mod_lt _ (by norm_num)⟩ = ∑ p, rows t f p :=
  Finset.sum_congr rfl fun p _ => congrArg f (Fin.ext (Nat.mod_eq_of_lt (by have : t.val < 16 := t.isLt; omega)))

theorem part_zero (f : Fin 8192 → ℝ) (t : Fin cfg0.N) (h : t.val = 0) : part f t.val = ∑ p, rows t f p := by
  rw [← rows_eq, part, h, Finset.sum_range_one]

theorem part_step (f : Fin 8192 → ℝ) (t : Fin cfg0.N) (h : t.val ≠ 0) :
    part f t.val = part f (t.val - 1) + ∑ p, rows t f p := by
  rw [← rows_eq, part, part, Finset.sum_range_succ, Nat.sub_add_cancel (Nat.pos_of_ne_zero h)]

theorem part_all (f : Fin 8192 → ℝ) : part f 15 = ∑ r, f r := by
  rw [← sum_rows, part, Finset.sum_range]
  exact Finset.sum_congr rfl fun t _ => rows_eq f t

variable {m : (ℓ : Loc nD τ sig) → Buf (Elt Ideal) ℓ} {c : Dev nD} {A : Args} (H : HoldsAt m c A)
include H

theorem at9 (t : Fin cfg0.N) : (outsAt0 m c t.val t.isLt).1 = fun i => A.gx (row t (i 0)) (i 1) := by
  have e : (fun (r : Fin 512) (k : Fin 1024) => _) = rows t A.dh := funext fun r => funext fun k => A.dh_parts (row t r) k
  by_cases h : t.val % 16 = 0
  · rw [outsAt0_A m c t h]
    frame_out
    rw [blk0 H, blk1 H, blk2 H, blk3 H, blk4 H, blk5 H, blk6 H, blk7 H, blk8 H, ld_rows, ld_rows, ld_rows, ld_rows, ld_rows,
      pay8, pay9, pay5, e]
    rfl
  · rw [outsAt0_B m c t h]
    frame_out
    rw [blk0 H, blk1 H, blk2 H, blk3 H, blk4 H, blk5 H, blk6 H, blk7 H, blk8 H, ld_rows, ld_rows, ld_rows, ld_rows, ld_rows,
      pay8, pay9, pay5, e]
    rfl

theorem at10_A (t : Fin cfg0.N) (h : t.val % 16 = 0) : (outsAt0 m c t.val t.isLt).2 =
    upr fun k => ∑ p, rows t (fun r => A.dh r k * nrm A.x r k) p := by
  rw [outsAt0_A m c t h]
  frame_out
  rw [blk0 H, blk1 H, blk2 H, blk3 H, blk4 H, blk5 H, blk6 H, ld_rows, ld_rows, ld_rows, ld_rows, ld_rows,
    pay8, pay9, pay7, pay6]
  funext i
  refine congrArg up ((zero_add _).trans (Fintype.sum_congr _ _ fun p => ?_))
  exact congrArg (· * nrm A.x (row t p) (i 1)) (A.dh_parts (row t p) (i 1))

theorem at10_B (t : Fin cfg0.N) (h : ¬t.val % 16 = 0) (f : Fin 1024 → ℝ)
    (e : (outsAt0 m c (t.val - 1) (by have := t.isLt; omega)).2 = upr f) : (outsAt0 m c t.val t.isLt).2 =
    upr fun k => f k + ∑ p, rows t (fun r => A.dh r k * nrm A.x r k) p := by
  rw [outsAt0_B m c t h]
  frame_out
  rw [e, blk0 H, blk1 H, blk2 H, blk3 H, blk4 H, blk5 H, blk6 H, ld_rows, ld_rows, ld_rows, ld_rows, ld_rows,
    pay8, pay9, pay6]
  funext i
  refine congrArg (fun s => up (f (i 1) + s)) (Fintype.sum_congr _ _ fun p => ?_)
  exact congrArg (· * nrm A.x (row t p) (i 1)) (A.dh_parts (row t p) (i 1))

/-! ## The arrays -/

theorem arr9 : (dats m 0 c).arrAt 9 cfg0.N = fun i => A.gx (i 0) (i 1) := by
  refine (dats m 0 c).arrAt_eq_of_covers 9 _ (by decide +kernel) fun t hf y => ?_
  have idx : ∀ t : Fin grid0.N, win0_9.index t = ![t.val, 0] := by decide +kernel
  have e : (win0_9.blk t).view.emb y = ix2 (row t (y 0)) (y 1) := by unfold row; blk_ext [idx t]
  blk_simp [idx t]
  rw [after0_9, at9 H, e]
  rfl

theorem all10 (t : Fin cfg0.N) : (outsAt0 m c t.val t.isLt).2 =
    upr fun k => part (fun r => A.dh r k * nrm A.x r k) t.val := by
  obtain ⟨n, hn⟩ := t
  induction n with
  | zero =>
    rw [at10_A H _ (by rfl)]
    funext i; exact congrArg up (part_zero _ _ rfl).symm
  | succ n ih =>
    have hn' : n + 1 < 16 := hn
    rw [at10_B H ⟨n + 1, hn⟩ (by show ¬ (n + 1) % 16 = 0; omega) _ (ih (by omega))]
    funext i; exact congrArg up (part_step _ ⟨n + 1, hn⟩ (Nat.succ_ne_zero n)).symm

theorem arr10 : (dats m 0 c).arrAt 10 cfg0.N = upr A.gw := by
  refine (dats m 0 c).arrAt_eq_of_covers 10 _ (by decide +kernel) fun t hf y => ?_
  have idx : ∀ t : Fin grid0.N, win0_10.index t = ![0, 0] := by decide +kernel
  have fl : ∀ t : Fin grid0.N, win0_10.flush t = true → t.val = 15 := by decide +kernel
  have e : (win0_10.blk t).view.emb y = ix2 0 (y 1) := by blk_ext [idx t]
  blk_simp [idx t]
  rw [after0_10, all10 H, fl t hf, e]
  exact congrArg up (part_all _)

end Cert.Proof.InX
end
-- ==== Proof.InX.Ref.lean ====
/- What the reference of `_in_proj_bwd_x` computes, operation by operation. -/
module

public import proofs.«01_k».proof.Proof.Gen.Reference3Ideal.Read
public import proofs.«01_k».proof.Proof.MidRef
public import proofs.«01_k».proof.Proof.MidPay
public import proofs.«01_k».proof.Proof.InX.Spec

@[expose] public section

set_option maxRecDepth 16384

noncomputable section

namespace Cert.Proof.InX.Ref

open Idealize.ShloMosaic Idealize.ShloMosaic.TcCoe Idealize.ShloMosaic.Tactic Cert.Reference3Ideal Cert.Reference3Ideal.Gen
  Cert.Reference3Ideal.Read
open Cert.Proof Cert.Proof.Mid
open Cert.Proof.Mid.Ref (up3 tok_div sum_lead wsum dnorm_eq)

variable (A : Args) (D : FVec Ideal S2x4096x1024 .f32)

/-- The argument arrays, read off `A`. -/
abbrev xs : FVec Ideal S2x4096x1024 .f32 := up3 A.x
abbrev ws : FVec Ideal S1x1024 .f32 := upr A.w
abbrev Ws : FVec Ideal S1x1024x6672 .f32 := fun i => up (A.W (i 1) (i 2))
abbrev ps : FVec Ideal S2x4096x6672 .f32 := up3 A.p
abbrev Ds : FVec Ideal S2x4096x1024 .f32 := fun i => A.D (tok (i 0) (i 1)) (i 2)

/-- The mean squares of the rows, with the small constant. -/
theorem ms : val_main_v7 (F := Ideal) (xs A)
    = fun i => up ((∑ k, A.x (tok (i 0) (i 1)) k * A.x (tok (i 0) (i 1)) k) / 1024 + eps) := by
  funext i
  pointwise [val_main_v7, val_main_v6, val_main_v5, val_main_v4, val_main_v3, val_main_v2, val_main_v1, val_main_cst,
    val_main_cst_0, val_main_cst_1]
  simp only [up3, word_1024, word_eps, up_mul, up_sum, up_div_1024, up_add]
  rfl

/-- One over the root mean squares. -/
theorem rs : val_main_v8 (F := Ideal) (xs A) = fun i => up (rn A.x (tok (i 0) (i 1))) := by
  funext i; pointwise [val_main_v8, ms A]; exact up_rsqrt_meansq _

/-- Minus half of those over the mean squares. -/
theorem hs : val_main_v11 (F := Ideal) (xs A) = fun i => up (-(1 / 2) * (rn A.x (tok (i 0) (i 1))
    / ((∑ k, A.x (tok (i 0) (i 1)) k * A.x (tok (i 0) (i 1)) k) / 1024 + eps))) := by
  funext i
  pointwise [val_main_v11, val_main_v10, val_main_cst_2, val_main_v9, ms A, rs A]
  rw [word_neg_half, up_div _ (meansq_pos _).ne', up_mul]

/-- The normalised rows. -/
theorem ns : val_main_v13 (F := Ideal) (xs A) = up3 (nrm A.x) := by
  funext i; pointwise [val_main_v13, val_main_v12, rs A]; simp only [up3, up_mul]; rfl

/-- The gradient in the norm's output. -/
theorem dh : val_main_v19 (F := Ideal) (Ws A) (ps A) = up3 A.dh := by
  funext i
  pointwise [val_main_v19, val_main_v17]
  simp only [up3, up_mul, up_sum]
  rfl

/-- The gradient in the normalised rows. -/
theorem dn : val_main_v24 (F := Ideal) (ws A) (Ws A) (ps A) = up3 fun r k => A.dh r k * A.w k := by
  funext i; pointwise [val_main_v24, val_main_v23, val_main_v14, val_main_v0, dh A]; simp only [up3, upr, up_mul]; rfl

/-- The gradient in the rows, before they are laid flat. -/
theorem gx : val_main_v40 (F := Ideal) (xs A) (ws A) (Ws A) (ps A) (Ds A) = fun i => A.gx (tok (i 0) (i 1)) (i 2) := by
  funext i
  pointwise [val_main_v40, val_main_v39, val_main_v38, val_main_v37, val_main_v36, val_main_v35, val_main_v34,
    val_main_v33, val_main_v32, val_main_v31, val_main_v30, val_main_v29, val_main_v28, val_main_v27, val_main_v26,
    val_main_cst_5, val_main_cst_6, val_main_cst_7, dn A, rs A, hs A]
  simp only [up3, Finset.univ_unique, Finset.sum_singleton, word_1024, up_mul, up_sum, up_div_1024, up_add, add_assoc]
  refine congrArg (fun s => A.D (tok (i 0) (i 1)) (i 2) + up s) ?_
  rw [← add_assoc]
  exact dnorm_eq _ _ _ _ _

/-- The two results. -/
theorem r0 : val_main_v42 (F := Ideal) (xs A) (ws A) (Ws A) (ps A) (Ds A) = fun i => A.gx (i 0) (i 1) := by
  funext i
  pointwise [val_main_v42, gx A]
  exact congrArg (fun r => A.gx r (i 1)) (tok_div (i 0) _ _)

theorem r1 : val_main_v41 (F := Ideal) (xs A) (Ws A) (ps A) = upr A.gw := by
  funext i
  pointwise [val_main_v41, val_main_v25, val_main_v22, val_main_v21, val_main_v20, val_main_cst_3, val_main_cst_4, sum_lead]
  simp only [Finset.univ_unique, Finset.sum_singleton]
  refine (wsum (ns A) (dh A) (i 1)).trans (congrArg up ?_)
  exact Fintype.sum_congr _ _ fun r => mul_comm _ _

end Cert.Proof.InX.Ref
end
-- ==== Proof.InX.Claim.lean ====
/- The value claim of `_in_proj_bwd_x`: the gradients in the rows and in the norm's weight are those of the reference. -/
module

public import proofs.«01_k».proof.Defs
public import proofs.«01_k».proof.Proof.Finite
public import proofs.«01_k».proof.Proof.InX.Points
public import proofs.«01_k».proof.Proof.InX.Ref
public import proofs.«01_k».proof.Proof.Gen.Pre_finite3
public import proofs.«01_k».proof.Proof.Gen.Kernel3Ideal.Value
public import proofs.«01_k».proof.Proof.Gen.Reference3Ideal.Run

@[expose] public section

set_option maxRecDepth 16384

noncomputable section

namespace Cert.Proof.InX

open Idealize.ShloMosaic Idealize.ShloMosaic.TcCoe Idealize.SL.Sem
open Cert.Proof
open Cert.Proof.Mid (tok up2 upr)
open Cert.Proof.Mid.Ref (up3)

/-- The row of a flat array, as a sequence and a position. -/
abbrev seqOf (r : Fin 8192) : Fin 2 := ⟨r.val / 4096, by omega⟩
abbrev posOf (r : Fin 8192) : Fin 4096 := ⟨r.val % 4096, by omega⟩

/-- An array over sequences and positions, read at the token of a sequence and a position. -/
theorem at_tok {n : ℕ} {α : Type} (a : (⟨3, ![2, 4096, n]⟩ : Shape).Idx → α) (i : (⟨3, ![2, 4096, n]⟩ : Shape).Idx) :
    a i = a (ix3 (seqOf (tok (i 0) (i 1))) (posOf (tok (i 0) (i 1))) (i 2)) := by
  obtain ⟨b, s, k, rfl⟩ : ∃ b s k, i = ix3 b s k := ⟨i 0, i 1, i 2, (ix3_eta i).symm⟩
  show _ = a (ix3 (seqOf (tok b s)) (posOf (tok b s)) k)
  rw [show seqOf (tok b s) = b from Fin.ext (by simp only [seqOf, tok]; omega),
    show posOf (tok b s) = s from Fin.ext (by simp only [posOf, tok]; omega)]

/-- The precondition gives the real arrays. -/
theorem exists_args (m : (ℓ : Loc Cert.Kernel3Ideal.nD Cert.Kernel3Ideal.τ Cert.Kernel3Ideal.sig) → Buf (Elt Ideal) ℓ)
    (h : Cert.Pre_Kernel3Ideal_finite3 (hPre_finite3 := Cert.Pre_finite3.Gen.facts) m) (c : Dev Cert.Kernel3Ideal.nD) :
    ∃ A, HoldsAt m c A :=
  have ⟨h0, h1, h2, h3⟩ := h c
  ⟨{ x := fun r k => (m ((c : Thread Cert.Kernel3Ideal.nD Cert.Kernel3Ideal.τ).loc Cert.Kernel3Ideal.main_arg0) (ix3 (seqOf r) (posOf r) k)).toReal
     w := fun k => (m ((c : Thread Cert.Kernel3Ideal.nD Cert.Kernel3Ideal.τ).loc Cert.Kernel3Ideal.main_arg1) (ix2 0 k)).toReal
     W := fun k j => (m ((c : Thread Cert.Kernel3Ideal.nD Cert.Kernel3Ideal.τ).loc Cert.Kernel3Ideal.main_arg2) (ix3 0 k j)).toReal
     p := fun r k => (m ((c : Thread Cert.Kernel3Ideal.nD Cert.Kernel3Ideal.τ).loc Cert.Kernel3Ideal.main_arg3) (ix3 (seqOf r) (posOf r) k)).toReal
     D := fun r k => m ((c : Thread Cert.Kernel3Ideal.nD Cert.Kernel3Ideal.τ).loc Cert.Kernel3Ideal.main_arg4) (ix3 (seqOf r) (posOf r) k) },
   { x := funext fun i => (at_tok _ i).trans (real_of_finite h0 _)
     w := funext fun i => by
       obtain ⟨z, k, rfl⟩ : ∃ z k, i = ix2 z k := ⟨i 0, i 1, (ix2_eta i).symm⟩
       obtain rfl : z = 0 := Subsingleton.elim _ _
       exact real_of_finite h1 _
     W := funext fun i => by
       obtain ⟨z, k, j, rfl⟩ : ∃ z k j, i = ix3 z k j := ⟨i 0, i 1, i 2, (ix3_eta i).symm⟩
       obtain rfl : z = 0 := Subsingleton.elim _ _
       exact real_of_finite h2 _
     p := funext fun i => (at_tok _ i).trans (real_of_finite h3 _)
     D := funext fun i => at_tok _ i }⟩

section
open Cert.Reference3Ideal Cert.Reference3Ideal.Gen Cert.Reference3Ideal.Read Idealize.ShloMosaic.StableHlo

/-- The reference's run leaves the gradients of the arrays its arguments hold. -/
theorem run_ref (m : (ℓ : Loc nD τ sig) → Buf (Elt Ideal) ℓ) (ρ : Dev nD → PrngReg) (A : Dev nD → Args)
    (H : ∀ c : Dev nD, Holds (m ((c : Thread nD τ).loc main_arg0)) (m ((c : Thread nD τ).loc main_arg1))
      (m ((c : Thread nD τ).loc main_arg2)) (m ((c : Thread nD τ).loc main_arg3)) (m ((c : Thread nD τ).loc main_arg4)) (A c)) :
    θ_run defs (onTc (τ := τ) (main (F := Ideal))) ⟨m, fun _ => 0, ρ⟩ fun r => ∀ c : Dev nD,
      r.2.mem ((c : Thread nD τ).loc main_v42) = (fun i => (A c).gx (i 0) (i 1))
      ∧ r.2.mem ((c : Thread nD τ).loc main_v41) = upr (A c).gw
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨hx, hw, hW, hp, hD⟩ := H c
    refine ⟨(h c).1.trans ((val_main_v42_eq m c).trans ?_), (h c).2.1.trans ((val_main_v41_eq _ _ _).trans ?_),
      (h c).2.2⟩
    · rw [hx, hw, hW, hp, hD]; exact Ref.r0 (A c)
    · show val_main_v41 (F := Ideal) (m ((c : Thread nD τ).loc main_arg0)) (m ((c : Thread nD τ).loc main_arg2))
        (m ((c : Thread nD τ).loc main_arg3)) = _
      rw [hx, hW, hp]; exact Ref.r1 (A c))
    (Cert.Reference3Ideal.Value.run (F := Ideal) m ρ)

/-- The reference's frame. -/
theorem frame_reference : Cert.quiescent_Reference3Ideal (hReference3Ideal := facts) := fun m ρ _ =>
  (θ_run defs _ _).mono (fun r h => ⟨fun c => (h c).2.2, sem_eq_zero_of_no_sems (by decide) r.2⟩)
    (Cert.Reference3Ideal.Value.run (F := Ideal) m ρ)
end

/-- The two programs leave the same results. -/
theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hp ha
  choose A H using exists_args m hp
  refine ⟨fun c i => (A c).gx (i 0) (i 1), fun c => upr (A c).gw,
    (θ_run _ _ _).mono (fun _ h c => ?_) (Cert.Kernel3Ideal.Value.run_blocks m g), run_ref m' g' A fun c => ?_⟩
  · obtain ⟨h0, h1, h⟩ := h c
    exact ⟨h0.trans (arr9 (H c)), h1.trans (arr10 (H c)), h⟩
  · obtain ⟨h0, h1, h2, h3, h4⟩ := ha c
    have := H c
    unfold HoldsAt at this
    rwa [← h0, ← h1, ← h2, ← h3, ← h4] at this

end Cert.Proof.InX
end
-- ==== Proof.QK.Spec.lean ====
/- The gradient of the norms of the heads of q and k, over the reals. -/
module

public import proofs.«01_k».proof.Proof.MidSpec

@[expose] public section

noncomputable section

namespace Cert.Proof.QK

open Cert.Proof

/-- The arguments: the projected rows, the two norms' weights, and the gradients in the normed heads. -/
structure Args where
  p : Fin 8192 → Fin 6672 → ℝ
  wq : Fin 64 → ℝ
  wk : Fin 64 → ℝ
  dq : Fin 8192 → Fin 16 → Fin 64 → ℝ
  dk : Fin 8192 → Fin 16 → Fin 64 → ℝ

section
variable (x w d : Fin 64 → ℝ)

/-- One over the root mean square of a head. -/
def rh : ℝ := (Real.sqrt ((∑ j, x j * x j) * (1 / 64) + eps))⁻¹
/-- A head, normed. -/
def nh (j : Fin 64) : ℝ := x j * rh x
/-- The gradient in a head, from the one in the normed and weighted head. -/
def dh (j : Fin 64) : ℝ := rh x * (d j * w j - nh x j * ((∑ i, d i * w i * nh x i) * (1 / 64)))

theorem meansq_pos : 0 < (∑ j, x j * x j) * (1 / 64) + eps :=
  add_pos_of_nonneg_of_pos (mul_nonneg (Finset.sum_nonneg fun j _ => mul_self_nonneg (x j)) (by norm_num)) eps_pos

/-- The gradient in a head, as the derivative of the root, the square and the product gives it. -/
theorem dh_eq (j : Fin 64) : d j * w j * rh x
    + x j * ((∑ i, x i * (d i * w i)) * (-(1 / 2) * (rh x / ((∑ i, x i * x i) * (1 / 64) + eps))) * (1 / 64))
    + (∑ i, x i * (d i * w i)) * (-(1 / 2) * (rh x / ((∑ i, x i * x i) * (1 / 64) + eps))) * (1 / 64) * x j = dh x w d j := by
  have h := meansq_pos x
  have e : rh x / ((∑ i, x i * x i) * (1 / 64) + eps) = rh x * (rh x * rh x) := by
    rw [div_eq_mul_inv]
    congr 1
    unfold rh
    rw [← mul_inv, Real.mul_self_sqrt h.le]
  have s : ∑ i, d i * w i * nh x i = (∑ i, x i * (d i * w i)) * rh x := by
    rw [Finset.sum_mul]
    exact Finset.sum_congr rfl fun i _ => by unfold nh; ring
  unfold dh
  rw [e, s]
  unfold nh
  ring
end

variable (A : Args)

/-- The heads of q and k in the projected rows, and the gradient in q's head before the scale. -/
def Args.q (r : Fin 8192) (h : Fin 16) (j : Fin 64) : ℝ := A.p r ⟨64 * h.val + j.val, by omega⟩
def Args.k (r : Fin 8192) (h : Fin 16) (j : Fin 64) : ℝ := A.p r ⟨1024 + (64 * h.val + j.val), by omega⟩
def Args.sq (r : Fin 8192) (h : Fin 16) (j : Fin 64) : ℝ := A.dq r h j * (1 / 8)

/-- The head and the lane of a column. -/
def hd (c : Fin 1024) : Fin 16 := ⟨c.val / 64, by omega⟩
def ln (c : Fin 1024) : Fin 64 := ⟨c.val % 64, by omega⟩

/-- The gradients in the rows of q and of k, and in the two weights. -/
def Args.gq (r : Fin 8192) (c : Fin 1024) : ℝ := dh (A.q r (hd c)) A.wq (A.sq r (hd c)) (ln c)
def Args.gk (r : Fin 8192) (c : Fin 1024) : ℝ := dh (A.k r (hd c)) A.wk (A.dk r (hd c)) (ln c)
def Args.gwq (j : Fin 64) : ℝ := ∑ r, ∑ h, A.sq r h j * nh (A.q r h) j
def Args.gwk (j : Fin 64) : ℝ := ∑ r, ∑ h, A.dk r h j * nh (A.k r h) j

open Idealize.ShloMosaic Cert.Proof.Mid in
/-- Heads laid in an array over sequences and positions. -/
abbrev up5 (f : Fin 8192 → Fin 16 → Fin 64 → ℝ) : (⟨4, ![2, 4096, 16, 64]⟩ : Shape).Idx → EReal :=
  fun i => up (f (tok (i 0) (i 1)) (i 2) (i 3))

/-- The half and the lane of a column of a pair of heads. -/
def hi (l : Fin 128) : Fin 2 := ⟨l.val / 64, by omega⟩
def lo (l : Fin 128) : Fin 64 := ⟨l.val % 64, by omega⟩
/-- The head of a half of a pair. -/
def at2 (p : Fin 8) (a : Fin 2) : Fin 16 := ⟨2 * p.val + a.val, by omega⟩

/-- A sum over the columns of a pair that belong to one head. -/
theorem sum_head (f : Fin 2 → Fin 64 → ℝ) (a : Fin 2) :
    ∑ l : Fin 128, f (hi l) (lo l) * (if hi l = a then 1 else 0) = ∑ j, f a j := by
  rw [← (finProdFinEquiv (m := 2) (n := 64)).sum_comp, Fintype.sum_prod_type]
  have e : ∀ (b : Fin 2) (j : Fin 64), hi (finProdFinEquiv (b, j)) = b ∧ lo (finProdFinEquiv (b, j)) = j := fun b j =>
    ⟨Fin.ext (by simp only [hi, finProdFinEquiv_apply_val]; omega), Fin.ext (by simp only [lo, finProdFinEquiv_apply_val]; omega)⟩
  refine (Fintype.sum_eq_single a fun b hb => Finset.sum_eq_zero fun j _ => ?_).trans (Fintype.sum_congr _ _ fun j => ?_)
  · rw [(e b j).1, if_neg hb, mul_zero]
  · rw [(e a j).1, (e a j).2, if_pos rfl, mul_one]

/-- A sum over the heads, half by half and pair by pair. -/
theorem sum_pairs (f : Fin 16 → ℝ) : ∑ p : Fin 8, f (at2 p 0) + ∑ p : Fin 8, f (at2 p 1) = ∑ h, f h := by
  rw [← (finProdFinEquiv (m := 8) (n := 2)).sum_comp, Fintype.sum_prod_type, ← Finset.sum_add_distrib]
  refine Fintype.sum_congr _ _ fun p => ?_
  rw [Fin.sum_univ_two]
  exact congrArg₂ (· + ·) (congrArg f (Fin.ext (by simp [at2, finProdFinEquiv])))
    (congrArg f (Fin.ext (by simp [at2, finProdFinEquiv]; omega)))

end Cert.Proof.QK
end
-- ==== Proof.QK.Blocks.lean ====
/- The arrays `_qk_bwd` is launched on, and the blocks its grid points read of them. -/
module

public import proofs.«01_k».proof.Proof.MidPay
public import proofs.«01_k».proof.Proof.MidRef
public import proofs.«01_k».proof.Proof.QK.Spec
public import proofs.«01_k».proof.Proof.Gen.Kernel4Ideal.Frame
public import Idealize.ShloMosaic.Lib.Claim
public import Idealize.ShloMosaic.Lib.KernelVsHost

@[expose] public section

set_option maxRecDepth 16384

noncomputable section

namespace Cert.Proof.QK

open Idealize.ShloMosaic Idealize.ShloMosaic.TcCoe Idealize.ShloMosaic.Tactic Cert.Kernel4Ideal Cert.Kernel4Ideal.Gen
open Cert.Proof
open Cert.Proof.Mid (tok up2 upr)
open Cert.Proof.Mid.Ref (up3 tok_div)

/-- Heads laid in the columns of the rows. -/
abbrev laid {n : ℕ} (f : Fin n → Fin 16 → Fin 64 → ℝ) : (⟨2, ![n, 1024]⟩ : Shape).Idx → EReal := up2 fun r c => f r (hd c) (ln c)

/-- The argument arrays hold `A`. -/
structure Holds (a0 : S2x4096x6672.Idx → EReal) (a1 a2 : S1x64.Idx → EReal) (a3 a4 : S2x4096x16x64.Idx → EReal) (A : Args) : Prop where
  p : a0 = up3 A.p
  wq : a1 = upr A.wq
  wk : a2 = upr A.wk
  dq : a3 = up5 A.dq
  dk : a4 = up5 A.dk

variable (m : (ℓ : Loc nD τ sig) → Buf (Elt Ideal) ℓ)

/-- The argument arrays of the launched memory hold `A`. -/
abbrev HoldsAt (c : Dev nD) (A : Args) : Prop :=
  Holds (m ((c : Thread nD τ).loc main_arg0)) (m ((c : Thread nD τ).loc main_arg1)) (m ((c : Thread nD τ).loc main_arg2))
    (m ((c : Thread nD τ).loc main_arg3)) (m ((c : Thread nD τ).loc main_arg4)) A

/-- The projected rows, laid flat and padded. -/
theorem pad_eq (A : Args) (r : Fin 8192) (j : Fin 7168) (h : j.val < 6672) : pad (α := Ideal .f32) S8192x7168 ![0, 0] ![0, 496] ![0, 0]
      (shapeCast S8192x6672 (up3 A.p) shapeCasts_S2x4096x6672_S8192x6672)
      (sitofp (F := Ideal) .f32 (constantI S_ 32 0#32)) pads_S8192x6672_S8192x7168_000_04960 h_S_ (ix2 r j) = up (A.p r ⟨j.val, h⟩) := by
  pointwise
  refine (dif_pos h).trans ?_
  exact congrArg (fun r => up (A.p r _)) (tok_div r _ _)

/-- A weight, once for each head of a pair. -/
theorem tile_eq (w : Fin 64 → ℝ) : shapeCast S1x128 (broadcastInDim S1x1x2x64 ![0, 1, 2, 3] bcast_S1x1x1x64_S1x1x2x64_0_1_2_3
      (shapeCast S1x1x1x64 (upr w) shapeCasts_S1x64_S1x1x1x64)) shapeCasts_S1x1x2x64_S1x128 = upr fun l => w (lo l) := by
  funext i
  pointwise
  rfl

/-- Heads laid flat. -/
theorem flat_eq (f : Fin 8192 → Fin 16 → Fin 64 → ℝ) :
    shapeCast S8192x1024 (up5 f) shapeCasts_S2x4096x16x64_S8192x1024 = laid f := by
  funext i
  pointwise
  exact congrArg (fun r => up (f r (hd (i 1)) (ln (i 1)))) (tok_div (i 0) _ _)

/-- The token rows of point `t`. -/
def row (t : Fin cfg0.N) (p : Fin 512) : Fin 8192 :=
  ⟨512 * t.val + p.val, by have : t.val < 16 := t.isLt; omega⟩

/-- Point `t`'s rows of an array. -/
abbrev rows {α : Type} (t : Fin cfg0.N) (f : Fin 8192 → α) (p : Fin 512) : α := f (row t p)

/-- A sum over the rows, point by point. -/
theorem sum_rows (f : Fin 8192 → ℝ) : ∑ t : Fin 16, ∑ p : Fin 512, f (row t p) = ∑ r, f r := by
  rw [← Fintype.sum_prod_type' fun (t : Fin 16) (p : Fin 512) => f (row t p)]
  refine Fintype.sum_equiv (finProdFinEquiv (m := 16) (n := 512)) _ _ fun q => congrArg f (Fin.ext ?_)
  simp only [row, finProdFinEquiv_apply_val]; omega

variable {m} {c : Dev nD} {A : Args} (H : HoldsAt m c A)
include H

theorem entry_p (r : Fin 8192) (j : Fin 7168) (h : j.val < 6672) : V m c main_v1 (ix2 r j) = up (A.p r ⟨j.val, h⟩) := by
  rw [← pad_eq A r j h, ← H.p]
  refine congrFun (?_ : V m c main_v1 = _) (ix2 r j)
  show StableHlo.after [hostOps0, hostOps0_1, hostOps0_2].flatten _ _ = _
  simp only [hostOps0, hostOps0_1, hostOps0_2, List.flatten_cons, List.flatten_nil, List.cons_append, List.nil_append, List.append_nil]
  after_results <;> rfl

theorem entry_wq : V m c main_v4 = upr fun l => A.wq (lo l) := by
  rw [← tile_eq, ← H.wq]
  show StableHlo.after [hostOps0, hostOps0_1, hostOps0_2].flatten _ _ = _
  simp only [hostOps0, hostOps0_1, hostOps0_2, List.flatten_cons, List.flatten_nil, List.cons_append, List.nil_append, List.append_nil]
  after_results <;> rfl

theorem entry_wk : V m c main_v7 = upr fun l => A.wk (lo l) := by
  rw [← tile_eq, ← H.wk]
  show StableHlo.after [hostOps0, hostOps0_1, hostOps0_2].flatten _ _ = _
  simp only [hostOps0, hostOps0_1, hostOps0_2, List.flatten_cons, List.flatten_nil, List.cons_append, List.nil_append, List.append_nil]
  after_results <;> rfl

theorem entry_dq : V m c main_v8 = laid A.dq := by
  rw [← flat_eq, ← H.dq]
  show StableHlo.after [hostOps0, hostOps0_1, hostOps0_2].flatten _ _ = _
  simp only [hostOps0, hostOps0_1, hostOps0_2, List.flatten_cons, List.flatten_nil, List.cons_append, List.nil_append, List.append_nil]
  after_results <;> rfl

theorem entry_dk : V m c main_v9 = laid A.dk := by
  rw [← flat_eq, ← H.dk]
  show StableHlo.after [hostOps0, hostOps0_1, hostOps0_2].flatten _ _ = _
  simp only [hostOps0, hostOps0_1, hostOps0_2, List.flatten_cons, List.flatten_nil, List.cons_append, List.nil_append, List.append_nil]
  after_results <;> rfl

theorem blk0 (t : Fin cfg0.N) : iblk m c 0 t = laid (rows t A.q) := by
  have idx : ∀ t : Fin grid0.N, win0_0.index t = ![t.val, 0] := by decide +kernel
  funext i
  have hi : (i 1).val < 1024 := (i 1).isLt
  refine Eq.trans ?_ ((entry_p H (row t (i 0)) ⟨(i 1).val, by omega⟩ (by show (i 1).val < 6672; omega)).trans ?_)
  · unfold row; blk_ext [iblk, idx t]
  · exact congrArg (fun j => up (A.p (row t (i 0)) j)) (Fin.ext (by simp only [hd, ln]; omega))

theorem blk1 (t : Fin cfg0.N) : iblk m c 1 t = laid (rows t A.k) := by
  have idx : ∀ t : Fin grid0.N, win0_1.index t = ![t.val, 1] := by decide +kernel
  funext i
  have hi : (i 1).val < 1024 := (i 1).isLt
  refine Eq.trans ?_ ((entry_p H (row t (i 0)) ⟨1024 + (i 1).val, by omega⟩ (by show 1024 + (i 1).val < 6672; omega)).trans ?_)
  · unfold row; blk_ext [iblk, idx t]
  · exact congrArg (fun j => up (A.p (row t (i 0)) j)) (Fin.ext (by simp only [hd, ln]; omega))

theorem blk2 (t : Fin cfg0.N) : iblk m c 2 t = laid (rows t A.dq) := by
  have idx : ∀ t : Fin grid0.N, win0_2.index t = ![t.val, 0] := by decide +kernel
  funext i
  refine Eq.trans ?_ (congrFun (entry_dq H) (ix2 (row t (i 0)) (i 1)))
  unfold row; blk_ext [iblk, idx t]

theorem blk3 (t : Fin cfg0.N) : iblk m c 3 t = laid (rows t A.dk) := by
  have idx : ∀ t : Fin grid0.N, win0_3.index t = ![t.val, 0] := by decide +kernel
  funext i
  refine Eq.trans ?_ (congrFun (entry_dk H) (ix2 (row t (i 0)) (i 1)))
  unfold row; blk_ext [iblk, idx t]

theorem blk4 (t : Fin cfg0.N) : iblk m c 4 t = upr fun l => A.wq (lo l) := by
  have idx : ∀ t : Fin grid0.N, win0_4.index t = ![0, 0] := by decide +kernel
  funext i
  refine Eq.trans ?_ (congrFun (entry_wq H) (ix2 (i 0) (i 1)))
  blk_ext [iblk, idx t]

theorem blk5 (t : Fin cfg0.N) : iblk m c 5 t = upr fun l => A.wk (lo l) := by
  have idx : ∀ t : Fin grid0.N, win0_5.index t = ![0, 0] := by decide +kernel
  funext i
  refine Eq.trans ?_ (congrFun (entry_wk H) (ix2 (i 0) (i 1)))
  blk_ext [iblk, idx t]

end Cert.Proof.QK
end
-- ==== Proof.QK.Body.lean ====
/- What a grid point of `_qk_bwd` stores, written once for the eight pairs of heads. -/
module

public import proofs.«01_k».proof.Proof.Gen.Kernel4Ideal.Frame
public import Idealize.ShloMosaic.Lib.Pipeline.ValueKit.Tiles
public import Idealize.ShloMosaic.Lib.Pipeline.ReadBack

@[expose] public section

set_option maxRecDepth 16384

noncomputable section

namespace Cert.Proof.QK

open Idealize.ShloMosaic Idealize.ShloMosaic.TcCoe Idealize.ShloMosaic.Tactic Cert.Kernel4Ideal Cert.Kernel4Ideal.Gen

variable {F : FTy → Type} [FloatOps F]

/-- Lane numbers divided by 64, rounded down. -/
def half (x : IVec S128x128 32) : IVec S128x128 32 :=
  have n : IVec S128x128 32 := broadcast S128x128 64#32
  have z : IVec S128x128 32 := broadcast S128x128 0#32
  select (andi (cmpi .ne (subi (extui 32 (cmpi .sgt x z) natLt_1_32) (extui 32 (cmpi .slt x z) natLt_1_32))
      (broadcast S128x128 (Scalar.subi (Scalar.extui (Scalar.cmpi .sgt 64#32 0#32)) (Scalar.extui (Scalar.cmpi .slt 64#32 0#32)))))
    (cmpi .ne (remsi x n) z)) (subi (divsi x n) (broadcast S128x128 1#32)) (divsi x n)

/-- One where two lanes are of the same head. -/
def same : FVec F S128x128 .bf16 :=
  truncf .bf16 (select (cmpi .eq (half (iota .tc S128x128 32 [0] iota_S128x128_d0_w32)) (half (iota .tc S128x128 32 [1] iota_S128x128_d1_w32)))
    (broadcast S128x128 (Scalar.ofBits .f32 0x3F800000#32)) (broadcast S128x128 (Scalar.ofBits .f32 0x00000000#32))) bitsLt_bf16_f32

/-- The mean over each head, from the value's upper and lower parts. -/
def heads (x : FVec F S512x128 .f32) : FVec F S512x128 .f32 :=
  mulf (addf (matmul dot_S512x128_S128x128_S512x128_1_0_0_1_n_n none (truncf .bf16 x bitsLt_bf16_f32) same (constant S512x128 .f32 0x00000000#32))
    (matmul dot_S512x128_S128x128_S512x128_1_0_0_1_n_n none
      (truncf .bf16 (subf x (extf .f32 (truncf .bf16 x bitsLt_bf16_f32) bitsLt_bf16_f32)) bitsLt_bf16_f32) same (constant S512x128 .f32 0x00000000#32)))
    (broadcast S512x128 (Scalar.ofBits .f32 0x3C800000#32))

/-- One over the root mean square of each head. -/
def rs (x : FVec F S512x128 .f32) : FVec F S512x128 .f32 :=
  rsqrt (addf (heads (mulf x x)) (broadcast S512x128 (Scalar.ofBits .f32 0x358637BD#32)))

/-- The normed heads. -/
def xh (x : FVec F S512x128 .f32) : FVec F S512x128 .f32 := mulf x (rs x)

/-- The gradient in the normed heads. -/
def wd (w : Vec F S1x128 .f32) (d : FVec F S512x128 .f32) : FVec F S512x128 .f32 :=
  mulf d (broadcastTo S512x128 w broadcasts_S1x128_S512x128)

/-- The gradient in the heads. -/
def dx (w : Vec F S1x128 .f32) (x d : FVec F S512x128 .f32) : FVec F S512x128 .bf16 :=
  truncf .bf16 (mulf (rs x) (subf (wd w d) (mulf (xh x) (heads (mulf (wd w d) (xh x)))))) bitsLt_bf16_f32

/-- The rows' share of the gradient in the weight. -/
def dw (x d : FVec F S512x128 .f32) : FVec F S1x128 .f32 :=
  shapeCast S1x128 (multiReduction .add [0] S128 (mulf d (xh x)) 0x00000000#32 reduces_S512x128_S128 (.inl rfl) rfl) shapeCasts_S128_S1x128

theorem pair_in (p : Fin 8) : ∀ a, (![0, 128 * p.val] : Fin 2 → ℕ) a + S512x128.size a ≤ S512x1024.size a := by
  revert p; decide

/-- The columns of pair `p`. -/
abbrev cols (x : Vec F S512x1024 .f32) (p : Fin 8) : FVec F S512x128 .f32 :=
  shapeCast S512x128 (View.ld (Val := Elt F) (S := S512x1024) (e' := .f32) x (Rect.unit ![0, 128 * p.val] S512x128.size (pair_in p)))
    shapeCasts_S512x128_S512x128

/-- The columns of pair `p`, times the scale. -/
abbrev scaled (x : Vec F S512x1024 .f32) (p : Fin 8) : FVec F S512x128 .f32 :=
  mulf (cols x p) (broadcast S512x128 (Scalar.ofBits .f32 0x3E000000#32))

/-- The eight pairs' shares, one after the other, and what was there before. -/
abbrev total (z : FVec F S1x128 .f32) (G : Fin 8 → FVec F S1x128 .f32) : FVec F S1x128 .f32 :=
  addf (shapeCast S1x128 z shapeCasts_S1x128_S1x128) (addf (addf (addf (addf (addf (addf (addf (addf k0_pay3 (G 0)) (G 1)) (G 2)) (G 3)) (G 4)) (G 5)) (G 6)) (G 7))

variable (m : (ℓ : Loc nD τ sig) → Buf (Elt F) ℓ) (c : Dev nD)

/-- What is left in the first window: each pair's gradient in q's heads. -/
theorem stored6 (t : Fin cfg0.N) (y : S512x1024.Idx) (v : Elt F .bf16)
    (e : ∀ (p : Fin 8) (x : S512x128.Idx), (y 0 : ℕ) = x 0 → (y 1 : ℕ) = 128 * p.val + x 1 →
      dx (iblk m c 4 t) (cols (iblk m c 0 t) p) (scaled (iblk m c 2 t) p) x = v) :
    (outsAt0 m c t.val t.isLt).1 y = v := by
  by_cases h : t.val % 16 = 0
  · rw [outsAt0_A m c t h]
    frame_out
    canon_tiles x h
    all_goals first
      | refine (congrFun ?_ x).trans (e 0 x h0 (h1.trans (Nat.zero_add _).symm)) | refine (congrFun ?_ x).trans (e 1 x h0 h1)
      | refine (congrFun ?_ x).trans (e 2 x h0 h1) | refine (congrFun ?_ x).trans (e 3 x h0 h1)
      | refine (congrFun ?_ x).trans (e 4 x h0 h1) | refine (congrFun ?_ x).trans (e 5 x h0 h1)
      | refine (congrFun ?_ x).trans (e 6 x h0 h1) | refine (congrFun ?_ x).trans (e 7 x h0 h1)
    all_goals sl_kernel_rfl
  · rw [outsAt0_B m c t h]
    frame_out
    canon_tiles x h
    all_goals first
      | refine (congrFun ?_ x).trans (e 0 x h0 (h1.trans (Nat.zero_add _).symm)) | refine (congrFun ?_ x).trans (e 1 x h0 h1)
      | refine (congrFun ?_ x).trans (e 2 x h0 h1) | refine (congrFun ?_ x).trans (e 3 x h0 h1)
      | refine (congrFun ?_ x).trans (e 4 x h0 h1) | refine (congrFun ?_ x).trans (e 5 x h0 h1)
      | refine (congrFun ?_ x).trans (e 6 x h0 h1) | refine (congrFun ?_ x).trans (e 7 x h0 h1)
    all_goals sl_kernel_rfl

/-- What is left in the second window: each pair's gradient in k's heads. -/
theorem stored7 (t : Fin cfg0.N) (y : S512x1024.Idx) (v : Elt F .bf16)
    (e : ∀ (p : Fin 8) (x : S512x128.Idx), (y 0 : ℕ) = x 0 → (y 1 : ℕ) = 128 * p.val + x 1 →
      dx (iblk m c 5 t) (cols (iblk m c 1 t) p) (cols (iblk m c 3 t) p) x = v) :
    (outsAt0 m c t.val t.isLt).2.1 y = v := by
  by_cases h : t.val % 16 = 0
  · rw [outsAt0_A m c t h]
    frame_out
    canon_tiles x h
    all_goals first
      | refine (congrFun ?_ x).trans (e 0 x h0 (h1.trans (Nat.zero_add _).symm)) | refine (congrFun ?_ x).trans (e 1 x h0 h1)
      | refine (congrFun ?_ x).trans (e 2 x h0 h1) | refine (congrFun ?_ x).trans (e 3 x h0 h1)
      | refine (congrFun ?_ x).trans (e 4 x h0 h1) | refine (congrFun ?_ x).trans (e 5 x h0 h1)
      | refine (congrFun ?_ x).trans (e 6 x h0 h1) | refine (congrFun ?_ x).trans (e 7 x h0 h1)
    all_goals sl_kernel_rfl
  · rw [outsAt0_B m c t h]
    frame_out
    canon_tiles x h
    all_goals first
      | refine (congrFun ?_ x).trans (e 0 x h0 (h1.trans (Nat.zero_add _).symm)) | refine (congrFun ?_ x).trans (e 1 x h0 h1)
      | refine (congrFun ?_ x).trans (e 2 x h0 h1) | refine (congrFun ?_ x).trans (e 3 x h0 h1)
      | refine (congrFun ?_ x).trans (e 4 x h0 h1) | refine (congrFun ?_ x).trans (e 5 x h0 h1)
      | refine (congrFun ?_ x).trans (e 6 x h0 h1) | refine (congrFun ?_ x).trans (e 7 x h0 h1)
    all_goals sl_kernel_rfl

/-- What is left in the windows of the weights' gradients: at the first point the pairs' shares, later those and what
was there. -/
theorem stored8_A (t : Fin cfg0.N) (h : t.val % 16 = 0) : (outsAt0 m c t.val t.isLt).2.2.1 =
    total k0_pay1 fun p => dw (cols (iblk m c 0 t) p) (scaled (iblk m c 2 t) p) := by
  rw [outsAt0_A m c t h]
  frame_out
  sl_kernel_rfl

theorem stored8_B (t : Fin cfg0.N) (h : ¬t.val % 16 = 0) (z)
    (hz : (outsAt0 m c (t.val - 1) (by have := t.isLt; omega)).2.2.1 = z) : (outsAt0 m c t.val t.isLt).2.2.1 =
    total z fun p => dw (cols (iblk m c 0 t) p) (scaled (iblk m c 2 t) p) := by
  rw [outsAt0_B m c t h]
  frame_out
  rw [hz]
  sl_kernel_rfl

theorem stored9_A (t : Fin cfg0.N) (h : t.val % 16 = 0) : (outsAt0 m c t.val t.isLt).2.2.2 =
    total k0_pay1 fun p => dw (cols (iblk m c 1 t) p) (cols (iblk m c 3 t) p) := by
  rw [outsAt0_A m c t h]
  frame_out
  sl_kernel_rfl

theorem stored9_B (t : Fin cfg0.N) (h : ¬t.val % 16 = 0) (z)
    (hz : (outsAt0 m c (t.val - 1) (by have := t.isLt; omega)).2.2.2 = z) : (outsAt0 m c t.val t.isLt).2.2.2 =
    total z fun p => dw (cols (iblk m c 1 t) p) (cols (iblk m c 3 t) p) := by
  rw [outsAt0_B m c t h]
  frame_out
  rw [hz]
  sl_kernel_rfl

end Cert.Proof.QK
end
-- ==== Proof.QK.Pay.lean ====
/- The values of `_qk_bwd`'s body at the ideal instance. -/
module

public import proofs.«01_k».proof.Proof.MidPay
public import proofs.«01_k».proof.Proof.QK.Spec
public import proofs.«01_k».proof.Proof.QK.Body

@[expose] public section

set_option maxRecDepth 16384

noncomputable section

namespace Cert.Proof.QK

open Idealize.ShloMosaic Idealize.ShloMosaic.TcCoe Idealize.ShloMosaic.Tactic Cert.Kernel4Ideal Cert.Kernel4Ideal.Gen
open Cert.Proof
open Cert.Proof.Mid (up2 upr)

theorem word_inv_64 : Ideal.ofBits .f32 0x3C800000#32 = up (1 / 64) := by
  simp [Ideal.ofBits, Ideal.ieee, up]; rw [← EReal.coe_mul]; norm_num
theorem word_inv_8 : Ideal.ofBits .f32 0x3E000000#32 = up (1 / 8) := by
  simp [Ideal.ofBits, Ideal.ieee, up]; rw [← EReal.coe_mul]; norm_num

theorem half0 (a b : Fin 128) : half (iota .tc S128x128 32 [0] iota_S128x128_d0_w32) (ix2 a b) = BitVec.ofNat 32 (hi a).val := by
  have e : ∀ a : Fin 128, half (iota .tc S128x128 32 [0] iota_S128x128_d0_w32) (ix2 a 0) = BitVec.ofNat 32 (hi a).val := by
    decide +kernel
  exact Eq.trans (by rfl) (e a)
theorem half1 (a b : Fin 128) : half (iota .tc S128x128 32 [1] iota_S128x128_d1_w32) (ix2 a b) = BitVec.ofNat 32 (hi b).val := by
  have e : ∀ b : Fin 128, half (iota .tc S128x128 32 [1] iota_S128x128_d1_w32) (ix2 0 b) = BitVec.ofNat 32 (hi b).val := by
    decide +kernel
  exact Eq.trans (by rfl) (e b)

theorem same_eq : same (F := Ideal) = fun i => up (if hi (i 0) = hi (i 1) then 1 else 0) := by
  funext i
  obtain ⟨a, b, rfl⟩ : ∃ a b, i = ix2 a b := ⟨i 0, i 1, (ix2_eta i).symm⟩
  have e : ∀ a b : Fin 2, IntOp.cmpi .eq (BitVec.ofNat 32 a.val) (BitVec.ofNat 32 b.val) = if a = b then 1#1 else 0#1 := by
    decide
  pointwise [same, word_one]
  show Scalar.select (IntOp.cmpi .eq (half _ (ix2 a b)) (half _ (ix2 a b))) (up 1) (up 0) = up (if hi a = hi b then 1 else 0)
  rw [half0, half1, e]
  by_cases h : hi a = hi b
  · rw [if_pos h, if_pos h]; rfl
  · rw [if_neg h, if_neg h]; rfl

/-- Heads laid in the columns of a pair. -/
abbrev up4 (x : Fin 512 → Fin 2 → Fin 64 → ℝ) : S512x128.Idx → EReal := up2 fun r l => x r (hi l) (lo l)

variable (x d : Fin 512 → Fin 2 → Fin 64 → ℝ) (w : Fin 64 → ℝ)

theorem heads_eq : heads (F := Ideal) (up4 x) = up2 fun r l => (∑ j, x r (hi l) j) * (1 / 64) := by
  funext i
  pointwise [heads, same_eq]
  simp only [up_sub, sub_self, up_mul, up_sum, up_add, word_inv_64, zero_mul, Finset.sum_const_zero, add_zero]
  exact congrArg (fun s => up (s * (1 / 64))) (sum_head (x (i 0)) (hi (i 1)))

theorem rs_eq : rs (F := Ideal) (up4 x) = up2 fun r l => rh (x r (hi l)) := by
  have e : mulf (F := Ideal) (φ := .f32) (up4 x) (up4 x) = up4 fun r a j => x r a j * x r a j := by
    funext i; pointwise; simp only [up_mul]
  funext i
  pointwise [rs, e, heads_eq]
  simp only [word_eps, up_add]
  exact up_rsqrt (meansq_pos _)

theorem xh_eq : xh (F := Ideal) (up4 x) = up4 fun r a => nh (x r a) := by
  funext i; pointwise [xh, rs_eq]; simp only [up_mul]; rfl

theorem wd_eq : wd (F := Ideal) (upr fun l => w (lo l)) (up4 d) = up4 fun r a j => d r a j * w j := by
  funext i; pointwise [wd]; simp only [up_mul]; rfl

theorem dx_eq : dx (F := Ideal) (upr fun l => w (lo l)) (up4 x) (up4 d) = up4 fun r a => dh (x r a) w (d r a) := by
  have e : mulf (F := Ideal) (φ := .f32) (up4 fun r a j => d r a j * w j) (up4 fun r a => nh (x r a)) =
      up4 fun r a j => d r a j * w j * nh (x r a) j := by
    funext i; pointwise; simp only [up_mul]
  funext i
  pointwise [dx, wd_eq, rs_eq, xh_eq, e, heads_eq]
  simp only [up_mul, up_sub]; rfl

theorem dw_eq : dw (F := Ideal) (up4 x) (up4 d) = upr fun l => ∑ r, d r (hi l) (lo l) * nh (x r (hi l)) (lo l) := by
  funext i
  pointwise [dw, xh_eq]
  simp only [up_mul, up_zero, up_sum, up_add]
  rfl

theorem cols_eq (f : Fin 512 → Fin 16 → Fin 64 → ℝ) (p : Fin 8) :
    cols (F := Ideal) (up2 fun r c => f r (hd c) (ln c)) p = up4 fun r a => f r (at2 p a) := by
  funext i
  pointwise
  have h : (i 1).val < 128 := (i 1).isLt
  have e₁ : hd ⟨128 * p.val + (i 1).val, by omega⟩ = at2 p (hi (i 1)) := Fin.ext (by simp only [hd, at2, hi]; omega)
  have e₂ : ln ⟨128 * p.val + (i 1).val, by omega⟩ = lo (i 1) := Fin.ext (by simp only [ln, lo]; omega)
  exact congrArg up ((congrArg (f (i 0) · _) e₁).trans (congrArg (f (i 0) _) e₂))

theorem scaled_eq (f : Fin 512 → Fin 16 → Fin 64 → ℝ) (p : Fin 8) :
    scaled (F := Ideal) (up2 fun r c => f r (hd c) (ln c)) p = up4 fun r a j => f r (at2 p a) j * (1 / 8) := by
  funext i
  pointwise [scaled, cols_eq, word_inv_8]
  simp only [up_mul]

theorem total_eq (z : Fin 128 → ℝ) (G : Fin 8 → Fin 128 → ℝ) :
    total (F := Ideal) (upr z) (fun p => upr (G p)) = upr fun l => z l + ∑ p, G p l := by
  funext i
  pointwise [k0_pay3]
  simp only [up_zero, up_add, Fin.sum_univ_eight, zero_add]

theorem zero_eq : k0_pay1 (F := Ideal) = upr fun _ => 0 := by
  funext i; pointwise [k0_pay1]; exact up_zero.symm

end Cert.Proof.QK
end
-- ==== Proof.QK.Points.lean ====
/- What the grid points of `_qk_bwd` leave in its output windows, the arrays it leaves, and the sums the host takes of them. -/
module

public import proofs.«01_k».proof.Proof.QK.Blocks
public import proofs.«01_k».proof.Proof.QK.Pay
public import Idealize.ShloMosaic.Lib.Pipeline.ValueKit.Geometry

@[expose] public section

set_option maxRecDepth 16384

noncomputable section

namespace Cert.Proof.QK

open Idealize.ShloMosaic Idealize.ShloMosaic.TcCoe Idealize.ShloMosaic.Tactic Cert.Kernel4Ideal Cert.Kernel4Ideal.Gen
open Cert.Proof
open Cert.Proof.Mid (up2 upr)

/-! ## The points -/

/-- The sum over the rows of the points up to `n`. -/
def part (f : Fin 8192 → ℝ) (n : ℕ) : ℝ :=
  ∑ s ∈ Finset.range (n + 1), ∑ p : Fin 512, f ⟨(512 * s + p.val) % 8192, Nat.mod_lt _ (by norm_num)⟩

theorem rows_eq (f : Fin 8192 → ℝ) (t : Fin cfg0.N) :
    ∑ p : Fin 512, f ⟨(512 * t.val + p.val) % 8192, Nat.mod_lt _ (by norm_num)⟩ = ∑ p, rows t f p :=
  Finset.sum_congr rfl fun p _ => congrArg f (Fin.ext (Nat.mod_eq_of_lt (by have : t.val < 16 := t.isLt; omega)))

theorem part_zero (f : Fin 8192 → ℝ) (t : Fin cfg0.N) (h : t.val = 0) : part f t.val = ∑ p, rows t f p := by
  rw [← rows_eq, part, h, Finset.sum_range_one]

theorem part_step (f : Fin 8192 → ℝ) (t : Fin cfg0.N) (h : t.val ≠ 0) :
    part f t.val = part f (t.val - 1) + ∑ p, rows t f p := by
  rw [← rows_eq, part, part, Finset.sum_range_succ, Nat.sub_add_cancel (Nat.pos_of_ne_zero h)]

theorem part_all (f : Fin 8192 → ℝ) : part f 15 = ∑ r, f r := by
  rw [← sum_rows, part, Finset.sum_range]
  exact Finset.sum_congr rfl fun t _ => rows_eq f t

/-- A row's part of the weights' gradients, over the pairs. -/
def Args.eq (A : Args) (l : Fin 128) (r : Fin 8192) : ℝ :=
  ∑ p : Fin 8, A.sq r (at2 p (hi l)) (lo l) * nh (A.q r (at2 p (hi l))) (lo l)
def Args.ek (A : Args) (l : Fin 128) (r : Fin 8192) : ℝ :=
  ∑ p : Fin 8, A.dk r (at2 p (hi l)) (lo l) * nh (A.k r (at2 p (hi l))) (lo l)

theorem at_pair (p : Fin 8) (l : Fin 128) (k : Fin 1024) (h : k.val = 128 * p.val + l.val) :
    at2 p (hi l) = hd k ∧ lo l = ln k :=
  ⟨Fin.ext (by simp only [at2, hi, hd]; omega), Fin.ext (by simp only [lo, ln]; omega)⟩

variable {m : (ℓ : Loc nD τ sig) → Buf (Elt Ideal) ℓ} {c : Dev nD} {A : Args} (H : HoldsAt m c A)
include H

theorem at6 (t : Fin cfg0.N) : (outsAt0 m c t.val t.isLt).1 = up2 (rows t A.gq) := by
  funext y
  refine stored6 m c t y _ fun p x h0 h1 => ?_
  rw [blk0 H, blk2 H, blk4 H, cols_eq, scaled_eq, dx_eq]
  obtain ⟨e₁, e₂⟩ := at_pair p (x 1) (y 1) h1
  show up (dh (A.q (row t (x 0)) (at2 p (hi (x 1)))) A.wq (A.sq (row t (x 0)) (at2 p (hi (x 1)))) (lo (x 1))) = up (A.gq (row t (y 0)) (y 1))
  rw [e₁, e₂, show x 0 = y 0 from Fin.ext h0.symm]
  rfl

theorem at7 (t : Fin cfg0.N) : (outsAt0 m c t.val t.isLt).2.1 = up2 (rows t A.gk) := by
  funext y
  refine stored7 m c t y _ fun p x h0 h1 => ?_
  rw [blk1 H, blk3 H, blk5 H, cols_eq, cols_eq, dx_eq]
  obtain ⟨e₁, e₂⟩ := at_pair p (x 1) (y 1) h1
  show up (dh (A.k (row t (x 0)) (at2 p (hi (x 1)))) A.wk (A.dk (row t (x 0)) (at2 p (hi (x 1)))) (lo (x 1))) = up (A.gk (row t (y 0)) (y 1))
  rw [e₁, e₂, show x 0 = y 0 from Fin.ext h0.symm]
  rfl

theorem add8 (t : Fin cfg0.N) (z : Fin 128 → ℝ) :
    total (upr z) (fun p => dw (cols (iblk m c 0 t) p) (scaled (iblk m c 2 t) p)) = upr fun l => z l + ∑ p, rows t (A.eq l) p := by
  rw [blk0 H, blk2 H]
  simp only [cols_eq, scaled_eq, dw_eq]
  rw [total_eq]
  funext i
  exact congrArg (fun s => up (z (i 1) + s)) Finset.sum_comm

theorem add9 (t : Fin cfg0.N) (z : Fin 128 → ℝ) :
    total (upr z) (fun p => dw (cols (iblk m c 1 t) p) (cols (iblk m c 3 t) p)) = upr fun l => z l + ∑ p, rows t (A.ek l) p := by
  rw [blk1 H, blk3 H]
  simp only [cols_eq, dw_eq]
  rw [total_eq]
  funext i
  exact congrArg (fun s => up (z (i 1) + s)) Finset.sum_comm

theorem all8 (t : Fin cfg0.N) : (outsAt0 m c t.val t.isLt).2.2.1 = upr fun l => part (A.eq l) t.val := by
  obtain ⟨n, hn⟩ := t
  induction n with
  | zero =>
    rw [stored8_A m c _ (by rfl), zero_eq, add8 H]
    funext i; exact congrArg up ((zero_add _).trans (part_zero _ _ rfl).symm)
  | succ n ih =>
    have hn' : n + 1 < 16 := hn
    rw [stored8_B m c ⟨n + 1, hn⟩ (by show ¬ (n + 1) % 16 = 0; omega) _ (ih (by omega)), add8 H]
    funext i; exact congrArg up (part_step _ ⟨n + 1, hn⟩ (Nat.succ_ne_zero n)).symm

theorem all9 (t : Fin cfg0.N) : (outsAt0 m c t.val t.isLt).2.2.2 = upr fun l => part (A.ek l) t.val := by
  obtain ⟨n, hn⟩ := t
  induction n with
  | zero =>
    rw [stored9_A m c _ (by rfl), zero_eq, add9 H]
    funext i; exact congrArg up ((zero_add _).trans (part_zero _ _ rfl).symm)
  | succ n ih =>
    have hn' : n + 1 < 16 := hn
    rw [stored9_B m c ⟨n + 1, hn⟩ (by show ¬ (n + 1) % 16 = 0; omega) _ (ih (by omega)), add9 H]
    funext i; exact congrArg up (part_step _ ⟨n + 1, hn⟩ (Nat.succ_ne_zero n)).symm

/-! ## The arrays -/

theorem arr6 : (dats m 0 c).arrAt 6 cfg0.N = up2 A.gq := by
  refine (dats m 0 c).arrAt_eq_of_covers 6 _ (by decide +kernel) fun t hf y => ?_
  have idx : ∀ t : Fin grid0.N, win0_6.index t = ![t.val, 0] := by decide +kernel
  have e : (win0_6.blk t).view.emb y = ix2 (row t (y 0)) (y 1) := by unfold row; blk_ext [idx t]
  blk_simp [idx t]
  rw [after0_6, at6 H, e]
  rfl

theorem arr7 : (dats m 0 c).arrAt 7 cfg0.N = up2 A.gk := by
  refine (dats m 0 c).arrAt_eq_of_covers 7 _ (by decide +kernel) fun t hf y => ?_
  have idx : ∀ t : Fin grid0.N, win0_7.index t = ![t.val, 0] := by decide +kernel
  have e : (win0_7.blk t).view.emb y = ix2 (row t (y 0)) (y 1) := by unfold row; blk_ext [idx t]
  blk_simp [idx t]
  rw [after0_7, at7 H, e]
  rfl

theorem arr8 : (dats m 0 c).arrAt 8 cfg0.N = upr fun l => ∑ r, A.eq l r := by
  refine (dats m 0 c).arrAt_eq_of_covers 8 _ (by decide +kernel) fun t hf y => ?_
  have idx : ∀ t : Fin grid0.N, win0_8.index t = ![0, 0] := by decide +kernel
  have fl : ∀ t : Fin grid0.N, win0_8.flush t = true → t.val = 15 := by decide +kernel
  have e : (win0_8.blk t).view.emb y = ix2 0 (y 1) := by blk_ext [idx t]
  blk_simp [idx t]
  rw [after0_8, all8 H, fl t hf, e]
  exact congrArg up (part_all _)

theorem arr9 : (dats m 0 c).arrAt 9 cfg0.N = upr fun l => ∑ r, A.ek l r := by
  refine (dats m 0 c).arrAt_eq_of_covers 9 _ (by decide +kernel) fun t hf y => ?_
  have idx : ∀ t : Fin grid0.N, win0_9.index t = ![0, 0] := by decide +kernel
  have fl : ∀ t : Fin grid0.N, win0_9.flush t = true → t.val = 15 := by decide +kernel
  have e : (win0_9.blk t).view.emb y = ix2 0 (y 1) := by blk_ext [idx t]
  blk_simp [idx t]
  rw [after0_9, all9 H, fl t hf, e]
  exact congrArg up (part_all _)

end Cert.Proof.QK
end
-- ==== Proof.QK.Ref.lean ====
/- What the reference of `_qk_bwd` computes, operation by operation. -/
module

public import proofs.«01_k».proof.Proof.Gen.Reference4Ideal.Read
public import proofs.«01_k».proof.Proof.MidRef
public import proofs.«01_k».proof.Proof.MidPay
public import proofs.«01_k».proof.Proof.QK.Spec

@[expose] public section

set_option maxRecDepth 16384

noncomputable section

namespace Cert.Proof.QK.Ref

open Idealize.ShloMosaic Idealize.ShloMosaic.TcCoe Idealize.ShloMosaic.Tactic Cert.Reference4Ideal Cert.Reference4Ideal.Gen
  Cert.Reference4Ideal.Read
open Cert.Proof Cert.Proof.Mid
open Cert.Proof.Mid.Ref (up3 tok_div sum_tok)

theorem word_64 : Ideal.ofBits .f32 0x42800000#32 = up 64 := by
  simp [Ideal.ofBits, Ideal.ieee, up]; rw [← EReal.coe_mul]; norm_num
theorem word_eighth : Ideal.ofBits .f32 0x3e000000#32 = up (1 / 8) := by
  simp [Ideal.ofBits, Ideal.ieee, up]; rw [← EReal.coe_mul]; norm_num
theorem up_div_64 (a : ℝ) : Ideal.div (up a) (up 64) = up (a * (1 / 64)) := by
  rw [up_div _ (by norm_num), div_eq_mul_one_div]

/-- The host's sum over the three leading axes of a rank-four array. -/
theorem sum_lead3 {n₀ n₁ n₂ n : ℕ} (h : (⟨4, ![n₀, n₁, n₂, n]⟩ : Shape).ReducesTo [0, 1, 2] ⟨1, ![n]⟩)
    (u : (⟨4, ![n₀, n₁, n₂, n]⟩ : Shape).Idx → EReal) (z : EReal) (k : Fin n) :
    Ideal.hostReduceAdd h u z (ix1 k) = z + ∑ b : Fin n₀, ∑ s : Fin n₁, ∑ e : Fin n₂, u (ix4 b s e k) := by
  unfold Ideal.hostReduceAdd
  congr 1
  rw [← Fintype.sum_prod_type' (f := fun b s => ∑ e : Fin n₂, u (ix4 b s e k)),
    ← Fintype.sum_prod_type' (f := fun (q : Fin n₀ × Fin n₁) e => u (ix4 q.1 q.2 e k))]
  symm
  refine Finset.sum_bij (fun (p : (Fin n₀ × Fin n₁) × Fin n₂) _ =>
    (ix4 p.1.1 p.1.2 p.2 k : (⟨4, ![n₀, n₁, n₂, n]⟩ : Shape).Idx)) ?_ ?_ ?_ ?_
  · intro p _
    rw [Finset.mem_filter]
    refine ⟨Finset.mem_univ _, funext fun a => Fin.ext ?_⟩
    match a with
    | ⟨0, _⟩ => exact (h.drop_apply_val (ix4 p.1.1 p.1.2 p.2 k) 0).trans rfl
  · intro p _ q _ e
    exact Prod.ext (Prod.ext (congrFun e 0) (congrFun e 1)) (congrFun e 2)
  · intro i hi
    rw [Finset.mem_filter] at hi
    refine ⟨((i 0, i 1), i 2), Finset.mem_univ _, ?_⟩
    have hk : k = i 3 := Fin.ext ((congrArg Fin.val (congrFun hi.2.symm 0)).trans ((h.drop_apply_val i 0).trans rfl))
    rw [hk]
    exact ix4_eta i
  · intro p _; rfl

/-- The gradient of a norm's weight, summed over sequences, positions and heads. -/
theorem wsum (f : Fin 8192 → Fin 16 → ℝ) :
    ∑ b : Fin 2, ∑ s : Fin 4096, ∑ e : Fin 16, up (f (tok b s) e) = up (∑ r, ∑ e, f r e) := by
  simp only [up_sum]
  exact congrArg up (sum_tok fun r => ∑ e, f r e)

variable (A : Args)

/-- The argument arrays, read off `A`. -/
abbrev ps : FVec Ideal S2x4096x6672 .f32 := up3 A.p
abbrev wqs : FVec Ideal S1x64 .f32 := upr A.wq
abbrev wks : FVec Ideal S1x64 .f32 := upr A.wk
abbrev dqs : FVec Ideal S2x4096x16x64 .f32 := up5 A.dq
abbrev dks : FVec Ideal S2x4096x16x64 .f32 := up5 A.dk

/-- The rows of q and of k, by heads. -/
theorem q0 : val_main_v2 (F := Ideal) (ps A) = up5 A.q := by
  funext i
  pointwise [val_main_v2, val_main_v0]
  exact congrArg (fun j => up (A.p (tok (i 0) (i 1)) j)) (Fin.ext (show (i 2).val * 64 + (i 3).val = 64 * (i 2).val + (i 3).val by omega))
theorem k0 : val_main_v20 (F := Ideal) (ps A) = up5 A.k := by
  funext i
  pointwise [val_main_v20, val_main_v1]
  exact congrArg (fun j => up (A.p (tok (i 0) (i 1)) j)) (Fin.ext (show 1024 + ((i 2).val * 64 + (i 3).val) = 1024 + (64 * (i 2).val + (i 3).val) by omega))

/-- The mean squares of the heads, with the small constant. -/
theorem qm : val_main_v10 (F := Ideal) (ps A) = fun i => up ((∑ j, A.q (tok (i 0) (i 1)) (i 2) j * A.q (tok (i 0) (i 1)) (i 2) j) * (1 / 64) + eps) := by
  funext i
  pointwise [val_main_v10, val_main_v9, val_main_v8, val_main_v7, val_main_v6, val_main_v5, val_main_v4, val_main_cst,
    val_main_cst_0, val_main_cst_1, q0 A]
  simp only [up5, word_64, word_eps, up_mul, up_sum, up_div_64, up_add]
  rfl
theorem km : val_main_v28 (F := Ideal) (ps A) = fun i => up ((∑ j, A.k (tok (i 0) (i 1)) (i 2) j * A.k (tok (i 0) (i 1)) (i 2) j) * (1 / 64) + eps) := by
  funext i
  pointwise [val_main_v28, val_main_v27, val_main_v26, val_main_v25, val_main_v24, val_main_v23, val_main_v22, val_main_cst_3,
    val_main_cst_4, val_main_cst_5, k0 A]
  simp only [up5, word_64, word_eps, up_mul, up_sum, up_div_64, up_add]
  rfl

/-- One over the root mean squares. -/
theorem qr : val_main_v11 (F := Ideal) (ps A) = fun i => up (rh (A.q (tok (i 0) (i 1)) (i 2))) := by
  funext i; pointwise [val_main_v11, qm A]; exact up_rsqrt (meansq_pos _)
theorem kr : val_main_v29 (F := Ideal) (ps A) = fun i => up (rh (A.k (tok (i 0) (i 1)) (i 2))) := by
  funext i; pointwise [val_main_v29, km A]; exact up_rsqrt (meansq_pos _)

/-- Minus half of those over the mean squares. -/
theorem qs : val_main_v14 (F := Ideal) (ps A) = fun i => up (-(1 / 2) * (rh (A.q (tok (i 0) (i 1)) (i 2))
    / ((∑ j, A.q (tok (i 0) (i 1)) (i 2) j * A.q (tok (i 0) (i 1)) (i 2) j) * (1 / 64) + eps))) := by
  funext i
  pointwise [val_main_v14, val_main_v13, val_main_cst_2, val_main_v12, qm A, qr A]
  rw [word_neg_half, up_div _ (meansq_pos _).ne', up_mul]
theorem ks : val_main_v32 (F := Ideal) (ps A) = fun i => up (-(1 / 2) * (rh (A.k (tok (i 0) (i 1)) (i 2))
    / ((∑ j, A.k (tok (i 0) (i 1)) (i 2) j * A.k (tok (i 0) (i 1)) (i 2) j) * (1 / 64) + eps))) := by
  funext i
  pointwise [val_main_v32, val_main_v31, val_main_cst_6, val_main_v30, km A, kr A]
  rw [word_neg_half, up_div _ (meansq_pos _).ne', up_mul]

/-- The normalised heads. -/
theorem qn : val_main_v16 (F := Ideal) (ps A) = up5 fun r h => nh (A.q r h) := by
  funext i; pointwise [val_main_v16, val_main_v15, q0 A, qr A]; simp only [up5, up_mul]; rfl
theorem kn : val_main_v34 (F := Ideal) (ps A) = up5 fun r h => nh (A.k r h) := by
  funext i; pointwise [val_main_v34, val_main_v33, k0 A, kr A]; simp only [up5, up_mul]; rfl

/-- The cotangent of q with the attention's factor. -/
theorem sq : val_main_v41 (F := Ideal) (dqs A) = up5 A.sq := by
  funext i; pointwise [val_main_v41, val_main_v40, val_main_cst_8]; simp only [up5, word_eighth, up_mul]; rfl

/-- The gradients in the normalised heads. -/
theorem qe : val_main_v68 (F := Ideal) (wqs A) (dqs A) = up5 fun r h j => A.sq r h j * A.wq j := by
  funext i; pointwise [val_main_v68, val_main_v67, val_main_v17, val_main_v3, sq A]; simp only [up5, upr, up_mul]; rfl
theorem ke : val_main_v46 (F := Ideal) (wks A) (dks A) = up5 fun r h j => A.dk r h j * A.wk j := by
  funext i; pointwise [val_main_v46, val_main_v45, val_main_v35, val_main_v21]; simp only [up5, upr, up_mul]; rfl

/-- The gradients in the heads. -/
theorem qg : val_main_v83 (F := Ideal) (ps A) (wqs A) (dqs A) = up5 fun r h => dh (A.q r h) A.wq (A.sq r h) := by
  funext i
  pointwise [val_main_v83, val_main_v82, val_main_v81, val_main_v80, val_main_v79, val_main_v78, val_main_v77, val_main_v76,
    val_main_v75, val_main_v74, val_main_v73, val_main_v72, val_main_v71, val_main_v70, val_main_cst_16, val_main_cst_17,
    val_main_cst_18, q0 A, qe A, qr A, qs A]
  simp only [up5, Finset.univ_unique, Finset.sum_singleton, word_64, up_mul, up_sum, up_div_64, up_add]
  exact congrArg up (dh_eq _ _ _ _)
theorem kg : val_main_v61 (F := Ideal) (ps A) (wks A) (dks A) = up5 fun r h => dh (A.k r h) A.wk (A.dk r h) := by
  funext i
  pointwise [val_main_v61, val_main_v60, val_main_v59, val_main_v58, val_main_v57, val_main_v56, val_main_v55, val_main_v54,
    val_main_v53, val_main_v52, val_main_v51, val_main_v50, val_main_v49, val_main_v48, val_main_cst_11, val_main_cst_12,
    val_main_cst_13, k0 A, ke A, kr A, ks A]
  simp only [up5, Finset.univ_unique, Finset.sum_singleton, word_64, up_mul, up_sum, up_div_64, up_add]
  exact congrArg up (dh_eq _ _ _ _)

/-- The four results. -/
theorem r0 : val_main_v87 (F := Ideal) (ps A) (wqs A) (dqs A) = up2 A.gq := by
  funext i
  pointwise [val_main_v87, val_main_v86, val_main_v85, qg A]
  exact congrArg (fun r => up (dh (A.q r (hd (i 1))) A.wq (A.sq r (hd (i 1))) (ln (i 1)))) (tok_div (i 0) _ _)

theorem r1 : val_main_v89 (F := Ideal) (ps A) (wks A) (dks A) = up2 A.gk := by
  funext i
  pointwise [val_main_v89, val_main_v88, val_main_v63, kg A]
  exact congrArg (fun r => up (dh (A.k r (hd (i 1))) A.wk (A.dk r (hd (i 1))) (ln (i 1)))) (tok_div (i 0) _ _)

theorem r2 : val_main_v84 (F := Ideal) (ps A) (dqs A) = upr A.gwq := by
  funext i
  pointwise [val_main_v84, val_main_v69, val_main_v66, val_main_v65, val_main_v64, val_main_cst_14, val_main_cst_15, qn A, sq A, sum_lead3]
  simp only [Finset.univ_unique, Finset.sum_singleton, up_mul]
  refine (wsum fun r h => nh (A.q r h) (i 1) * A.sq r h (i 1)).trans (congrArg up ?_)
  exact Fintype.sum_congr _ _ fun r => Fintype.sum_congr _ _ fun h => mul_comm _ _

theorem r3 : val_main_v62 (F := Ideal) (ps A) (dks A) = upr A.gwk := by
  funext i
  pointwise [val_main_v62, val_main_v47, val_main_v44, val_main_v43, val_main_v42, val_main_cst_9, val_main_cst_10, kn A, sum_lead3]
  simp only [Finset.univ_unique, Finset.sum_singleton, up_mul]
  refine (wsum fun r h => nh (A.k r h) (i 1) * A.dk r h (i 1)).trans (congrArg up ?_)
  exact Fintype.sum_congr _ _ fun r => Fintype.sum_congr _ _ fun h => mul_comm _ _

end Cert.Proof.QK.Ref
end
-- ==== Proof.QK.Claim.lean ====
/- The value claim of `_qk_bwd`: the gradients in q, in k and in the weights of their norms are those of the reference. -/
module

public import proofs.«01_k».proof.Defs
public import proofs.«01_k».proof.Proof.Finite
public import proofs.«01_k».proof.Proof.QK.Points
public import proofs.«01_k».proof.Proof.QK.Ref
public import proofs.«01_k».proof.Proof.InX.Claim
public import proofs.«01_k».proof.Proof.Gen.Pre_finite4
public import proofs.«01_k».proof.Proof.Gen.Reference4Ideal.Run

@[expose] public section

set_option maxRecDepth 16384

noncomputable section

namespace Cert.Proof.QK

open Idealize.ShloMosaic Idealize.ShloMosaic.TcCoe Idealize.ShloMosaic.Tactic Idealize.SL.Sem
open Cert.Proof
open Cert.Proof.Mid (tok up2 upr)
open Cert.Proof.Mid.Ref (up3)
open Cert.Proof.InX (seqOf posOf at_tok)

/-- A rank-four array read at the token of a sequence and a position. -/
theorem at_tok4 {n k : ℕ} {α : Type} (a : (⟨4, ![2, 4096, n, k]⟩ : Shape).Idx → α) (i : (⟨4, ![2, 4096, n, k]⟩ : Shape).Idx) :
    a i = a (ix4 (seqOf (tok (i 0) (i 1))) (posOf (tok (i 0) (i 1))) (i 2) (i 3)) := by
  obtain ⟨b, s, h, j, rfl⟩ : ∃ b s h j, i = ix4 b s h j := ⟨i 0, i 1, i 2, i 3, (ix4_eta i).symm⟩
  show _ = a (ix4 (seqOf (tok b s)) (posOf (tok b s)) h j)
  rw [show seqOf (tok b s) = b from Fin.ext (by simp only [seqOf, tok]; omega),
    show posOf (tok b s) = s from Fin.ext (by simp only [posOf, tok]; omega)]

/-- The precondition gives the real arrays. -/
theorem exists_args (m : (ℓ : Loc Cert.Kernel4Ideal.nD Cert.Kernel4Ideal.τ Cert.Kernel4Ideal.sig) → Buf (Elt Ideal) ℓ)
    (h : Cert.Pre_Kernel4Ideal_finite4 (hPre_finite4 := Cert.Pre_finite4.Gen.facts) m) (c : Dev Cert.Kernel4Ideal.nD) :
    ∃ A, HoldsAt m c A :=
  have ⟨h0, h1, h2, h3, h4⟩ := h c
  ⟨{ p := fun r k => (m ((c : Thread Cert.Kernel4Ideal.nD Cert.Kernel4Ideal.τ).loc Cert.Kernel4Ideal.main_arg0) (ix3 (seqOf r) (posOf r) k)).toReal
     wq := fun k => (m ((c : Thread Cert.Kernel4Ideal.nD Cert.Kernel4Ideal.τ).loc Cert.Kernel4Ideal.main_arg1) (ix2 0 k)).toReal
     wk := fun k => (m ((c : Thread Cert.Kernel4Ideal.nD Cert.Kernel4Ideal.τ).loc Cert.Kernel4Ideal.main_arg2) (ix2 0 k)).toReal
     dq := fun r h k => (m ((c : Thread Cert.Kernel4Ideal.nD Cert.Kernel4Ideal.τ).loc Cert.Kernel4Ideal.main_arg3) (ix4 (seqOf r) (posOf r) h k)).toReal
     dk := fun r h k => (m ((c : Thread Cert.Kernel4Ideal.nD Cert.Kernel4Ideal.τ).loc Cert.Kernel4Ideal.main_arg4) (ix4 (seqOf r) (posOf r) h k)).toReal },
   { p := funext fun i => (at_tok _ i).trans (real_of_finite h0 _)
     wq := funext fun i => by
       obtain ⟨z, k, rfl⟩ : ∃ z k, i = ix2 z k := ⟨i 0, i 1, (ix2_eta i).symm⟩
       obtain rfl : z = 0 := Subsingleton.elim _ _
       exact real_of_finite h1 _
     wk := funext fun i => by
       obtain ⟨z, k, rfl⟩ : ∃ z k, i = ix2 z k := ⟨i 0, i 1, (ix2_eta i).symm⟩
       obtain rfl : z = 0 := Subsingleton.elim _ _
       exact real_of_finite h2 _
     dq := funext fun i => (at_tok4 _ i).trans (real_of_finite h3 _)
     dk := funext fun i => (at_tok4 _ i).trans (real_of_finite h4 _) }⟩

section
open Cert.Reference4Ideal Cert.Reference4Ideal.Gen Cert.Reference4Ideal.Read Idealize.ShloMosaic.StableHlo

/-- The reference's run leaves the gradients of the arrays its arguments hold. -/
theorem run_ref (m : (ℓ : Loc nD τ sig) → Buf (Elt Ideal) ℓ) (ρ : Dev nD → PrngReg) (A : Dev nD → Args)
    (H : ∀ c : Dev nD, Holds (m ((c : Thread nD τ).loc main_arg0)) (m ((c : Thread nD τ).loc main_arg1))
      (m ((c : Thread nD τ).loc main_arg2)) (m ((c : Thread nD τ).loc main_arg3)) (m ((c : Thread nD τ).loc main_arg4)) (A c)) :
    θ_run defs (onTc (τ := τ) (main (F := Ideal))) ⟨m, fun _ => 0, ρ⟩ fun r => ∀ c : Dev nD,
      r.2.mem ((c : Thread nD τ).loc main_v87) = up2 (A c).gq
      ∧ r.2.mem ((c : Thread nD τ).loc main_v89) = up2 (A c).gk
      ∧ r.2.mem ((c : Thread nD τ).loc main_v84) = upr (A c).gwq
      ∧ r.2.mem ((c : Thread nD τ).loc main_v62) = upr (A c).gwk
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => by
    obtain ⟨hp, hwq, hwk, hdq, hdk⟩ := H c
    refine ⟨(h c).1.trans ((val_main_v87_eq m c).trans ?_), (h c).2.1.trans ((val_main_v89_eq m c).trans ?_),
      (h c).2.2.1.trans ((val_main_v84_eq _ _).trans ?_), (h c).2.2.2.1.trans ((val_main_v62_eq _ _).trans ?_), (h c).2.2.2.2⟩
    · rw [hp, hwq, hdq]; exact Ref.r0 (A c)
    · rw [hp, hwk, hdk]; exact Ref.r1 (A c)
    · show val_main_v84 (F := Ideal) (m ((c : Thread nD τ).loc main_arg0)) (m ((c : Thread nD τ).loc main_arg3)) = _
      rw [hp, hdq]; exact Ref.r2 (A c)
    · show val_main_v62 (F := Ideal) (m ((c : Thread nD τ).loc main_arg0)) (m ((c : Thread nD τ).loc main_arg4)) = _
      rw [hp, hdk]; exact Ref.r3 (A c))
    (Cert.Reference4Ideal.Value.run (F := Ideal) m ρ)

/-- The reference's frame. -/
theorem frame_reference : Cert.quiescent_Reference4Ideal (hReference4Ideal := facts) := fun m ρ _ =>
  (θ_run defs _ _).mono (fun r h => ⟨fun c => (h c).2.2.2.2, sem_eq_zero_of_no_sems (by decide) r.2⟩)
    (Cert.Reference4Ideal.Value.run (F := Ideal) m ρ)
end

section
open Cert.Kernel4Ideal Cert.Kernel4Ideal.Gen Idealize.ShloMosaic.StableHlo

/-- The two heads of every pair, summed, are all the heads. -/
theorem halves (e : Fin 128 → Fin 8192 → ℝ) (f : Fin 8192 → Fin 16 → Fin 64 → ℝ)
    (he : ∀ l r, e l r = ∑ p : Fin 8, f r (at2 p (hi l)) (lo l)) :
    (addf (φ := .f32) (extractStridedSlice S1x64 ![0, 0] (upr fun l => ∑ r, e l r) slices_S1x128_S1x64_0_0)
      (extractStridedSlice S1x64 ![0, 64] (upr fun l => ∑ r, e l r) slices_S1x128_S1x64_0_64) : FVec Ideal S1x64 .f32)
      = upr fun j => ∑ r, ∑ h, f r h j := by
  funext i
  pointwise
  simp only [upr, up_add]
  refine congrArg up ?_
  rw [← Finset.sum_add_distrib]
  refine Fintype.sum_congr _ _ fun r => ?_
  have hj : (i 1).val < 64 := (i 1).isLt
  have low : e ⟨(i 1).val, by omega⟩ r = ∑ p : Fin 8, f r (at2 p 0) (i 1) := by
    refine (he _ r).trans (Fintype.sum_congr _ _ fun p => congrArg₂ (fun a j => f r (at2 p a) j) (Fin.ext ?_) (Fin.ext ?_))
    · show (i 1).val / 64 = 0; omega
    · show (i 1).val % 64 = (i 1).val; omega
  have high : e ⟨64 + (i 1).val, by omega⟩ r = ∑ p : Fin 8, f r (at2 p 1) (i 1) := by
    refine (he _ r).trans (Fintype.sum_congr _ _ fun p => congrArg₂ (fun a j => f r (at2 p a) j) (Fin.ext ?_) (Fin.ext ?_))
    · show (64 + (i 1).val) / 64 = 1; omega
    · show (64 + (i 1).val) % 64 = (i 1).val; omega
  exact (congrArg₂ (· + ·) low high).trans (sum_pairs fun h => f r h (i 1))

variable {m : (ℓ : Loc nD τ sig) → Buf (Elt Ideal) ℓ} {c : Dev nD} {A : Args} (H : HoldsAt m c A)
include H

/-- The sums over the two halves that the host lines after the launch read. -/
theorem left8 : Pipeline.withArrays (cfgs 0).spec c (V0 m c) (fun w => (dats m 0 c).arrAt w (cfgs 0).N)
    (Proc.devRef .tc main_v10_2) = upr fun l => ∑ r, A.eq l r :=
  ((dats m 0 c).withArrays_arrAt sharedIn0 (V0 m c) (A_eq m c) 8).trans (arr8 H)
theorem left9 : Pipeline.withArrays (cfgs 0).spec c (V0 m c) (fun w => (dats m 0 c).arrAt w (cfgs 0).N)
    (Proc.devRef .tc main_v10_3) = upr fun l => ∑ r, A.ek l r :=
  ((dats m 0 c).withArrays_arrAt sharedIn0 (V0 m c) (A_eq m c) 9).trans (arr9 H)

/-- The gradients of the two weights, as the host lines after the launch leave them. -/
theorem tail13 : Pipeline.afterTail₀ cfgs (dats m) 0 (V0 m) [hostOps1] c main_v13 = upr A.gwq := by
  refine Eq.trans ?_ (halves A.eq (fun r h j => A.sq r h j * nh (A.q r h) j) fun _ _ => rfl)
  rw [← left8 H]
  unfold Pipeline.afterTail₀
  simp only [hostOps1, List.flatten_cons, List.flatten_nil, List.cons_append, List.nil_append, List.append_nil]
  after_results <;> rfl
theorem tail16 : Pipeline.afterTail₀ cfgs (dats m) 0 (V0 m) [hostOps1] c main_v16 = upr A.gwk := by
  refine Eq.trans ?_ (halves A.ek (fun r h j => A.dk r h j * nh (A.k r h) j) fun _ _ => rfl)
  rw [← left9 H]
  unfold Pipeline.afterTail₀
  simp only [hostOps1, List.flatten_cons, List.flatten_nil, List.cons_append, List.nil_append, List.append_nil]
  after_results <;> rfl
end

/-- The two programs leave the same results. -/
theorem algebraic : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m g m' g' hp ha
  choose A H using exists_args m hp
  refine ⟨fun c => up2 (A c).gq, fun c => up2 (A c).gk, fun c => upr (A c).gwq, fun c => upr (A c).gwk,
    (θ_run _ _ _).mono (fun _ h c => ⟨?_, ?_, ?_, ?_, h.2 c⟩)
      (θ_run_and (Cert.Kernel4Ideal.Gen.run_main m g) (Cert.Kernel4Ideal.Gen.unchanged m g)), run_ref m' g' A fun c => ?_⟩
  · exact ((h.1 c).1 6).trans (arr6 (H c))
  · exact ((h.1 c).1 7).trans (arr7 (H c))
  · exact ((h.1 c).2 Cert.Kernel4Ideal.main_v13 (Pipeline.mem_restRefs_of _ (by decide) (by decide))).trans (tail13 (H c))
  · exact ((h.1 c).2 Cert.Kernel4Ideal.main_v16 (Pipeline.mem_restRefs_of _ (by decide) (by decide))).trans (tail16 (H c))
  · obtain ⟨h0, h1, h2, h3, h4⟩ := ha c
    have := H c
    unfold HoldsAt at this
    rwa [← h0, ← h1, ← h2, ← h3, ← h4] at this

end Cert.Proof.QK
end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.MidClaim
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Attn.Frames
public import proofs.«01_k».proof.Proof.Attn.Claim
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite3
public import proofs.«01_k».proof.Proof.InX.Claim
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Pre_finite4
public import proofs.«01_k».proof.Proof.QK.Claim
public import proofs.«01_k».proof.Proof.Gen.Kernel5.Frame
public import proofs.«01_k».proof.Proof.Gen.Kernel5Ideal.Frame

@[expose] public section

noncomputable section

namespace Cert.Proof

open Idealize.ShloMosaic Idealize.SL.Sem

/-- The reference runs and leaves its arguments; it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2.2.2.2, sem_eq_zero_of_no_sems (by decide) r.2⟩) (Cert.ReferenceIdeal.Value.run (F := Ideal) m ρ)

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts,
    Cert.Pre_finite.Gen.facts, Cert.Pre_finite2.Gen.facts, Cert.Pre_finite3.Gen.facts, Cert.Pre_finite4.Gen.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    Attn.frame_kernel, Attn.frame_kernelIdeal, fun m ρ _ => Attn.frame_kernelIdeal m ρ trivial,
    Attn.frame_reference, fun m ρ _ => Attn.frame_reference m ρ trivial,
    fun m ρ _ => Cert.Kernel3.Gen.frame m ρ, fun m ρ _ => Cert.Kernel3Ideal.Gen.frame m ρ,
    fun m ρ _ => Cert.Kernel3Ideal.Gen.frame m ρ, InX.frame_reference, fun m ρ _ => InX.frame_reference m ρ trivial,
    fun m ρ _ => Cert.Kernel4.Gen.frame m ρ, fun m ρ _ => Cert.Kernel4Ideal.Gen.frame m ρ,
    fun m ρ _ => Cert.Kernel4Ideal.Gen.frame m ρ, QK.frame_reference, fun m ρ _ => QK.frame_reference m ρ trivial,
    fun m ρ _ => Cert.Kernel5.Gen.frame m ρ, fun m ρ _ => Cert.Kernel5Ideal.Gen.frame m ρ,
    trivial, Mid.algebraic, trivial, Attn.algebraic, trivial, InX.algebraic, trivial, QK.algebraic, trivial⟩

end Cert.Proof

end
